-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x8192 .f32) (main_arg2 : FVec F S2x512x8x64 .f32) (main_arg3 : FVec F S2x512x8x64 .f32) (main_arg4 : FVec F S8192x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x8192 .f32 := Host.absf main_arg1
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x128x64 : S_.BroadcastsInDim S2x512x128x64 (![] : Fin 0 → Fin S2x512x128x64.rank)
  reducesTo_S2x512x128x64_S_d0_1_2_3 : S2x512x128x64.ReducesTo [0, 1, 2, 3] S_

variable [Facts]

def fn {F : FTy → Type} [FloatOps F] (main_arg0 : FVec F S2x512x768 .f32) (main_arg1 : FVec F S768x8192 .f32) (main_arg2 : FVec F S2x512x128x64 .f32) (main_arg3 : FVec F S2x512x128x64 .f32) (main_arg4 : FVec F S8192x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x8192 .f32 := Host.absf main_arg1
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_v9 : FVec F S2x512x128x64 .f32 := Host.absf main_arg2
  let main_cst_2 : FVec F S_ .f32 := constant S_ .f32 0x7F800000#32
  let main_v10 : FVec F S2x512x128x64 .f32 := broadcastInDim S2x512x128x64 ![] bcast_S_S2x512x128x64 main_cst_2
  let main_v11 : IVec S2x512x128x64 1 := cmpf .olt main_v9 main_v10
  let main_c_3 : IVec S_ 1 := constantI S_ 1 1#1
  let main_v12 : IVec S_ 1 := (fun x v => Host.reduce IntOp.andi x v reducesTo_S2x512x128x64_S_d0_1_2_3 h_S_) main_v11 main_c_3
  let main_v13 : IVec S_ 1 := andi main_v8 main_v12
  main_v13
-- ==== Kernel.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S768x512 : Shape := ⟨2, ![768, 512]⟩
abbrev S512x768 : Shape := ⟨2, ![512, 768]⟩
abbrev S2x512x512 : Shape := ⟨3, ![2, 512, 512]⟩
abbrev S4x64x768 : Shape := ⟨3, ![4, 64, 768]⟩
abbrev S16x64x768 : Shape := ⟨3, ![16, 64, 768]⟩
abbrev S16x16x768 : Shape := ⟨3, ![16, 16, 768]⟩
abbrev S512x512 : Shape := ⟨2, ![512, 512]⟩
abbrev S2 : Shape := ⟨1, ![2]⟩
abbrev S4 : Shape := ⟨1, ![4]⟩
abbrev S1 : Shape := ⟨1, ![1]⟩
abbrev S_ : Shape := ⟨0, ![]⟩
abbrev S1024x768 : Shape := ⟨2, ![1024, 768]⟩
abbrev S1024x512 : Shape := ⟨2, ![1024, 512]⟩
abbrev S512x1 : Shape := ⟨2, ![512, 1]⟩
abbrev S1x512x8x64 : Shape := ⟨4, ![1, 512, 8, 64]⟩
abbrev S512x8x64 : Shape := ⟨3, ![512, 8, 64]⟩
abbrev S1x512x64 : Shape := ⟨3, ![1, 512, 64]⟩
abbrev S512x64 : Shape := ⟨2, ![512, 64]⟩
abbrev S64x512 : Shape := ⟨2, ![64, 512]⟩
abbrev S512x65 : Shape := ⟨2, ![512, 65]⟩
abbrev S1x128x512 : Shape := ⟨3, ![1, 128, 512]⟩
abbrev S128x512 : Shape := ⟨2, ![128, 512]⟩
abbrev S128x768 : Shape := ⟨2, ![128, 768]⟩
abbrev S1x128x768 : Shape := ⟨3, ![1, 128, 768]⟩
abbrev S1x64x768 : Shape := ⟨3, ![1, 64, 768]⟩
abbrev S64x768 : Shape := ⟨2, ![64, 768]⟩
abbrev S1x16x768 : Shape := ⟨3, ![1, 16, 768]⟩
abbrev S16x768 : Shape := ⟨2, ![16, 768]⟩
abbrev S4x16x768 : Shape := ⟨3, ![4, 16, 768]⟩

abbrev nBuf : Space → Nat
  | .hbm => 6
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x8x64, .f32⟩
  | .hbm, ⟨3, _⟩ => ⟨S2x512x8x64, .f32⟩
  | .hbm, ⟨4, _⟩ => ⟨S8192x768, .f32⟩
  | .hbm, ⟨5, _⟩ => ⟨S2x512x768, .bf16⟩
  | .local _ .vmem, ⟨0, _⟩ => ⟨S2x512x768, .f32⟩
  | .local _ .vmem, ⟨1, _⟩ => ⟨S2x512x8x64, .f32⟩
  | .local _ .vmem, ⟨2, _⟩ => ⟨S2x512x8x64, .f32⟩
  | .local _ .vmem, ⟨3, _⟩ => ⟨S2x512x768, .bf16⟩
  | .local _ .vmem, ⟨4, _⟩ => ⟨S768x512, .f32⟩
  | .local _ .vmem, ⟨5, _⟩ => ⟨S512x768, .f32⟩
  | .local _ .vmem, ⟨6, _⟩ => ⟨S2x512x512, .bf16⟩
  | .local _ .vmem, ⟨7, _⟩ => ⟨S2x512x512, .bf16⟩
  | .local _ .vmem, ⟨8, _⟩ => ⟨S2x512x768, .bf16⟩
  | .local _ .vmem, ⟨9, _⟩ => ⟨S4x64x768, .bf16⟩
  | .local _ .vmem, ⟨10, _⟩ => ⟨S16x64x768, .bf16⟩
  | .local _ .vmem, ⟨11, _⟩ => ⟨S16x16x768, .bf16⟩
  | .local _ .vmem, ⟨12, _⟩ => ⟨S512x512, .bf16⟩
  | .local _ .vmem, ⟨13, _⟩ => ⟨S512x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v29 : BitVec 32 := Scalar.muli v2 c512_i32
  ![0, v29.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_14 : BitVec 32 := 512#32
  let v33 : BitVec 32 := Scalar.muli v2 c512_i32_14
  let c0_i32_16 : BitVec 32 := 0#32
  ![v33.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_17 : BitVec 32 := 0#32
  let v38 : BitVec 1 := Scalar.cmpi .ne v20 c0_i32_17
  let v39 : BitVec 32 := Scalar.extui v38
  let c0_i32_18 : BitVec 32 := 0#32
  let v40 : BitVec 1 := Scalar.cmpi .ne v39 c0_i32_18
  v40

def k0_dev1 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.muli c4_i32_748 v19
  let c0_i32_749 : BitVec 32 := 0#32
  let v1104 : BitVec 32 := Scalar.addi v1103 c0_i32_749
  let c1_i32_751 : BitVec 32 := 1#32
  let v1105 : BitVec 32 := Scalar.muli v1104 c1_i32_751
  let v1106 : BitVec 32 := Scalar.addi c0_i32_752 v1105
  v1106.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_19 : BitVec 32 := 1#32
  let v41 : BitVec 1 := Scalar.cmpi .ne v20 c1_i32_19
  let v42 : BitVec 32 := Scalar.extui v41
  let c0_i32_20 : BitVec 32 := 0#32
  let v43 : BitVec 1 := Scalar.cmpi .ne v42 c0_i32_20
  v43

def k0_dev2 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.muli c4_i32_748 v19
  let c1_i32_749 : BitVec 32 := 1#32
  let v1104 : BitVec 32 := Scalar.addi v1103 c1_i32_749
  let c1_i32_751 : BitVec 32 := 1#32
  let v1105 : BitVec 32 := Scalar.muli v1104 c1_i32_751
  let v1106 : BitVec 32 := Scalar.addi c0_i32_752 v1105
  v1106.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32 : BitVec 32 := 2#32
  let v44 : BitVec 1 := Scalar.cmpi .ne v20 c2_i32
  let v45 : BitVec 32 := Scalar.extui v44
  let c0_i32_21 : BitVec 32 := 0#32
  let v46 : BitVec 1 := Scalar.cmpi .ne v45 c0_i32_21
  v46

def k0_dev3 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.muli c4_i32_748 v19
  let c2_i32_749 : BitVec 32 := 2#32
  let v1104 : BitVec 32 := Scalar.addi v1103 c2_i32_749
  let c1_i32_751 : BitVec 32 := 1#32
  let v1105 : BitVec 32 := Scalar.muli v1104 c1_i32_751
  let v1106 : BitVec 32 := Scalar.addi c0_i32_752 v1105
  v1106.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32 : BitVec 32 := 3#32
  let v47 : BitVec 1 := Scalar.cmpi .ne v20 c3_i32
  let v48 : BitVec 32 := Scalar.extui v47
  let c0_i32_22 : BitVec 32 := 0#32
  let v49 : BitVec 1 := Scalar.cmpi .ne v48 c0_i32_22
  v49

def k0_dev4 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.muli c4_i32_748 v19
  let c3_i32_749 : BitVec 32 := 3#32
  let v1104 : BitVec 32 := Scalar.addi v1103 c3_i32_749
  let c1_i32_751 : BitVec 32 := 1#32
  let v1105 : BitVec 32 := Scalar.muli v1104 c1_i32_751
  let v1106 : BitVec 32 := Scalar.addi c0_i32_752 v1105
  v1106.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_23 : BitVec 32 := 0#32
  let v50 : BitVec 1 := Scalar.cmpi .ne v19 c0_i32_23
  let v51 : BitVec 32 := Scalar.extui v50
  let c0_i32_24 : BitVec 32 := 0#32
  let v52 : BitVec 1 := Scalar.cmpi .ne v51 c0_i32_24
  v52

def k0_dev5 (d0 : Dev nD) : Nat :=
  let c0_i32_751 : BitVec 32 := 0#32
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c0_i32_748 v20
  let c1_i32_750 : BitVec 32 := 1#32
  let v1104 : BitVec 32 := Scalar.muli v1103 c1_i32_750
  let v1105 : BitVec 32 := Scalar.addi c0_i32_751 v1104
  v1105.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_25 : BitVec 32 := 1#32
  let v53 : BitVec 1 := Scalar.cmpi .ne v19 c1_i32_25
  let v54 : BitVec 32 := Scalar.extui v53
  let c0_i32_26 : BitVec 32 := 0#32
  let v55 : BitVec 1 := Scalar.cmpi .ne v54 c0_i32_26
  v55

def k0_dev6 (d0 : Dev nD) : Nat :=
  let c0_i32_751 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c4_i32_748 v20
  let c1_i32_750 : BitVec 32 := 1#32
  let v1104 : BitVec 32 := Scalar.muli v1103 c1_i32_750
  let v1105 : BitVec 32 := Scalar.addi c0_i32_751 v1104
  v1105.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_27 : BitVec 32 := 2#32
  let v56 : BitVec 1 := Scalar.cmpi .ne v19 c2_i32_27
  let v57 : BitVec 32 := Scalar.extui v56
  let c0_i32_28 : BitVec 32 := 0#32
  let v58 : BitVec 1 := Scalar.cmpi .ne v57 c0_i32_28
  v58

def k0_dev7 (d0 : Dev nD) : Nat :=
  let c0_i32_750 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c8_i32 v20
  let c1_i32_749 : BitVec 32 := 1#32
  let v1104 : BitVec 32 := Scalar.muli v1103 c1_i32_749
  let v1105 : BitVec 32 := Scalar.addi c0_i32_750 v1104
  v1105.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_29 : BitVec 32 := 3#32
  let v59 : BitVec 1 := Scalar.cmpi .ne v19 c3_i32_29
  let v60 : BitVec 32 := Scalar.extui v59
  let c0_i32_30 : BitVec 32 := 0#32
  let v61 : BitVec 1 := Scalar.cmpi .ne v60 c0_i32_30
  v61

def k0_dev8 (d0 : Dev nD) : Nat :=
  let c0_i32_750 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c12_i32 v20
  let c1_i32_749 : BitVec 32 := 1#32
  let v1104 : BitVec 32 := Scalar.muli v1103 c1_i32_749
  let v1105 : BitVec 32 := Scalar.addi c0_i32_750 v1104
  v1105.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_164 : BitVec 32 := 0#32
  let v265 : BitVec 1 := Scalar.cmpi .ne v20 c0_i32_164
  let v266 : BitVec 32 := Scalar.extui v265
  let c0_i32_165 : BitVec 32 := 0#32
  let v267 : BitVec 1 := Scalar.cmpi .ne v266 c0_i32_165
  v267

def k0_off3 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c0_i32_748 v20
  let c0_i32_755 : BitVec 32 := 0#32
  let c0_i32_756 : BitVec 32 := 0#32
  ![v1103.toNat, 0, 0]
def k0_dev9 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c0_i32_750 : BitVec 32 := 0#32
  let v1105 : BitVec 32 := Scalar.addi v1104 c0_i32_750
  let c1_i32_753 : BitVec 32 := 1#32
  let v1106 : BitVec 32 := Scalar.muli v1105 c1_i32_753
  let v1107 : BitVec 32 := Scalar.addi c0_i32_754 v1106
  v1107.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_166 : BitVec 32 := 0#32
  let v268 : BitVec 1 := Scalar.cmpi .ne v20 c0_i32_166
  let v269 : BitVec 32 := Scalar.extui v268
  let c0_i32_167 : BitVec 32 := 0#32
  let v270 : BitVec 1 := Scalar.cmpi .ne v269 c0_i32_167
  v270

def k0_off4 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c4_i32_748 v20
  let c0_i32_755 : BitVec 32 := 0#32
  let c0_i32_756 : BitVec 32 := 0#32
  ![v1103.toNat, 0, 0]
def k0_dev10 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c0_i32_750 : BitVec 32 := 0#32
  let v1105 : BitVec 32 := Scalar.addi v1104 c0_i32_750
  let c1_i32_753 : BitVec 32 := 1#32
  let v1106 : BitVec 32 := Scalar.muli v1105 c1_i32_753
  let v1107 : BitVec 32 := Scalar.addi c0_i32_754 v1106
  v1107.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_177 : BitVec 32 := 1#32
  let v280 : BitVec 1 := Scalar.cmpi .ne v20 c1_i32_177
  let v281 : BitVec 32 := Scalar.extui v280
  let c0_i32_178 : BitVec 32 := 0#32
  let v282 : BitVec 1 := Scalar.cmpi .ne v281 c0_i32_178
  v282

def k0_off5 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c0_i32_748 v20
  let c0_i32_755 : BitVec 32 := 0#32
  let c0_i32_756 : BitVec 32 := 0#32
  ![v1103.toNat, 0, 0]
def k0_dev11 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c1_i32_750 : BitVec 32 := 1#32
  let v1105 : BitVec 32 := Scalar.addi v1104 c1_i32_750
  let c1_i32_753 : BitVec 32 := 1#32
  let v1106 : BitVec 32 := Scalar.muli v1105 c1_i32_753
  let v1107 : BitVec 32 := Scalar.addi c0_i32_754 v1106
  v1107.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_179 : BitVec 32 := 1#32
  let v283 : BitVec 1 := Scalar.cmpi .ne v20 c1_i32_179
  let v284 : BitVec 32 := Scalar.extui v283
  let c0_i32_180 : BitVec 32 := 0#32
  let v285 : BitVec 1 := Scalar.cmpi .ne v284 c0_i32_180
  v285

def k0_off6 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c4_i32_748 v20
  let c0_i32_755 : BitVec 32 := 0#32
  let c0_i32_756 : BitVec 32 := 0#32
  ![v1103.toNat, 0, 0]
def k0_dev12 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c1_i32_750 : BitVec 32 := 1#32
  let v1105 : BitVec 32 := Scalar.addi v1104 c1_i32_750
  let c1_i32_753 : BitVec 32 := 1#32
  let v1106 : BitVec 32 := Scalar.muli v1105 c1_i32_753
  let v1107 : BitVec 32 := Scalar.addi c0_i32_754 v1106
  v1107.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_190 : BitVec 32 := 2#32
  let v295 : BitVec 1 := Scalar.cmpi .ne v20 c2_i32_190
  let v296 : BitVec 32 := Scalar.extui v295
  let c0_i32_191 : BitVec 32 := 0#32
  let v297 : BitVec 1 := Scalar.cmpi .ne v296 c0_i32_191
  v297

def k0_off7 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c0_i32_748 v20
  let c0_i32_755 : BitVec 32 := 0#32
  let c0_i32_756 : BitVec 32 := 0#32
  ![v1103.toNat, 0, 0]
def k0_dev13 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c2_i32_750 : BitVec 32 := 2#32
  let v1105 : BitVec 32 := Scalar.addi v1104 c2_i32_750
  let c1_i32_753 : BitVec 32 := 1#32
  let v1106 : BitVec 32 := Scalar.muli v1105 c1_i32_753
  let v1107 : BitVec 32 := Scalar.addi c0_i32_754 v1106
  v1107.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_192 : BitVec 32 := 2#32
  let v298 : BitVec 1 := Scalar.cmpi .ne v20 c2_i32_192
  let v299 : BitVec 32 := Scalar.extui v298
  let c0_i32_193 : BitVec 32 := 0#32
  let v300 : BitVec 1 := Scalar.cmpi .ne v299 c0_i32_193
  v300

def k0_off8 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c4_i32_748 v20
  let c0_i32_755 : BitVec 32 := 0#32
  let c0_i32_756 : BitVec 32 := 0#32
  ![v1103.toNat, 0, 0]
def k0_dev14 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c2_i32_750 : BitVec 32 := 2#32
  let v1105 : BitVec 32 := Scalar.addi v1104 c2_i32_750
  let c1_i32_753 : BitVec 32 := 1#32
  let v1106 : BitVec 32 := Scalar.muli v1105 c1_i32_753
  let v1107 : BitVec 32 := Scalar.addi c0_i32_754 v1106
  v1107.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_203 : BitVec 32 := 3#32
  let v310 : BitVec 1 := Scalar.cmpi .ne v20 c3_i32_203
  let v311 : BitVec 32 := Scalar.extui v310
  let c0_i32_204 : BitVec 32 := 0#32
  let v312 : BitVec 1 := Scalar.cmpi .ne v311 c0_i32_204
  v312

def k0_off9 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c0_i32_748 v20
  let c0_i32_755 : BitVec 32 := 0#32
  let c0_i32_756 : BitVec 32 := 0#32
  ![v1103.toNat, 0, 0]
def k0_dev15 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c3_i32_750 : BitVec 32 := 3#32
  let v1105 : BitVec 32 := Scalar.addi v1104 c3_i32_750
  let c1_i32_753 : BitVec 32 := 1#32
  let v1106 : BitVec 32 := Scalar.muli v1105 c1_i32_753
  let v1107 : BitVec 32 := Scalar.addi c0_i32_754 v1106
  v1107.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_205 : BitVec 32 := 3#32
  let v313 : BitVec 1 := Scalar.cmpi .ne v20 c3_i32_205
  let v314 : BitVec 32 := Scalar.extui v313
  let c0_i32_206 : BitVec 32 := 0#32
  let v315 : BitVec 1 := Scalar.cmpi .ne v314 c0_i32_206
  v315

def k0_off10 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c4_i32_748 v20
  let c0_i32_755 : BitVec 32 := 0#32
  let c0_i32_756 : BitVec 32 := 0#32
  ![v1103.toNat, 0, 0]
def k0_dev16 (d0 : Dev nD) : Nat :=
  let c0_i32_754 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_749 v19
  let c3_i32_750 : BitVec 32 := 3#32
  let v1105 : BitVec 32 := Scalar.addi v1104 c3_i32_750
  let c1_i32_753 : BitVec 32 := 1#32
  let v1106 : BitVec 32 := Scalar.muli v1105 c1_i32_753
  let v1107 : BitVec 32 := Scalar.addi c0_i32_754 v1106
  v1107.toNat
def k0_off11 (d0 : Dev nD) (c0_i32_331 : BitVec 32) : Fin 3 → Nat :=
  let c0_332 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_330 : BitVec 32 := 128#32
  let v495 : BitVec 32 := Scalar.muli v20 c128_i32_330
  let v496 : BitVec 32 := Scalar.addi v495 c0_i32_331
  let v497 : Index := Scalar.indexCast v496
  let c0_333 : Index := 0#32
  ![0, v497.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_341 : BitVec 32 := 0#32
  let v509 : BitVec 1 := Scalar.cmpi .ne v19 c0_i32_341
  let v510 : BitVec 32 := Scalar.extui v509
  let c0_i32_342 : BitVec 32 := 0#32
  let v511 : BitVec 1 := Scalar.cmpi .ne v510 c0_i32_342
  v511

def k0_off12 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c0_i32_748 v19
  let c0_i32_754 : BitVec 32 := 0#32
  let c0_i32_755 : BitVec 32 := 0#32
  ![v1103.toNat, 0, 0]
def k0_dev17 (d0 : Dev nD) : Nat :=
  let c0_i32_753 : BitVec 32 := 0#32
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c0_i32_749 v20
  let c1_i32_752 : BitVec 32 := 1#32
  let v1105 : BitVec 32 := Scalar.muli v1104 c1_i32_752
  let v1106 : BitVec 32 := Scalar.addi c0_i32_753 v1105
  v1106.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_343 : BitVec 32 := 1#32
  let v512 : BitVec 1 := Scalar.cmpi .ne v19 c1_i32_343
  let v513 : BitVec 32 := Scalar.extui v512
  let c0_i32_344 : BitVec 32 := 0#32
  let v514 : BitVec 1 := Scalar.cmpi .ne v513 c0_i32_344
  v514

def k0_off13 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c0_i32_748 v19
  let c0_i32_754 : BitVec 32 := 0#32
  let c0_i32_755 : BitVec 32 := 0#32
  ![v1103.toNat, 0, 0]
def k0_dev18 (d0 : Dev nD) : Nat :=
  let c0_i32_753 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c4_i32_749 v20
  let c1_i32_752 : BitVec 32 := 1#32
  let v1105 : BitVec 32 := Scalar.muli v1104 c1_i32_752
  let v1106 : BitVec 32 := Scalar.addi c0_i32_753 v1105
  v1106.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_345 : BitVec 32 := 2#32
  let v515 : BitVec 1 := Scalar.cmpi .ne v19 c2_i32_345
  let v516 : BitVec 32 := Scalar.extui v515
  let c0_i32_346 : BitVec 32 := 0#32
  let v517 : BitVec 1 := Scalar.cmpi .ne v516 c0_i32_346
  v517

def k0_off14 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c0_i32_748 v19
  let c0_i32_753 : BitVec 32 := 0#32
  let c0_i32_754 : BitVec 32 := 0#32
  ![v1103.toNat, 0, 0]
def k0_dev19 (d0 : Dev nD) : Nat :=
  let c0_i32_752 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c8_i32 v20
  let c1_i32_751 : BitVec 32 := 1#32
  let v1105 : BitVec 32 := Scalar.muli v1104 c1_i32_751
  let v1106 : BitVec 32 := Scalar.addi c0_i32_752 v1105
  v1106.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_347 : BitVec 32 := 3#32
  let v518 : BitVec 1 := Scalar.cmpi .ne v19 c3_i32_347
  let v519 : BitVec 32 := Scalar.extui v518
  let c0_i32_348 : BitVec 32 := 0#32
  let v520 : BitVec 1 := Scalar.cmpi .ne v519 c0_i32_348
  v520

def k0_off15 (d0 : Dev nD) : Fin 3 → Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c0_i32_748 v19
  let c0_i32_753 : BitVec 32 := 0#32
  let c0_i32_754 : BitVec 32 := 0#32
  ![v1103.toNat, 0, 0]
def k0_dev20 (d0 : Dev nD) : Nat :=
  let c0_i32_752 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c12_i32 v20
  let c1_i32_751 : BitVec 32 := 1#32
  let v1105 : BitVec 32 := Scalar.muli v1104 c1_i32_751
  let v1106 : BitVec 32 := Scalar.addi c0_i32_752 v1105
  v1106.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_366 : BitVec 32 := 0#32
  let v547 : BitVec 1 := Scalar.cmpi .ne v19 c0_i32_366
  let v548 : BitVec 32 := Scalar.extui v547
  let c0_i32_367 : BitVec 32 := 0#32
  let v549 : BitVec 1 := Scalar.cmpi .ne v548 c0_i32_367
  v549

def k0_off16 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c4_i32_748 v19
  let c0_i32_754 : BitVec 32 := 0#32
  let c0_i32_755 : BitVec 32 := 0#32
  ![v1103.toNat, 0, 0]
def k0_dev21 (d0 : Dev nD) : Nat :=
  let c0_i32_753 : BitVec 32 := 0#32
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c0_i32_749 v20
  let c1_i32_752 : BitVec 32 := 1#32
  let v1105 : BitVec 32 := Scalar.muli v1104 c1_i32_752
  let v1106 : BitVec 32 := Scalar.addi c0_i32_753 v1105
  v1106.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_368 : BitVec 32 := 1#32
  let v550 : BitVec 1 := Scalar.cmpi .ne v19 c1_i32_368
  let v551 : BitVec 32 := Scalar.extui v550
  let c0_i32_369 : BitVec 32 := 0#32
  let v552 : BitVec 1 := Scalar.cmpi .ne v551 c0_i32_369
  v552

def k0_off17 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c4_i32_748 v19
  let c0_i32_754 : BitVec 32 := 0#32
  let c0_i32_755 : BitVec 32 := 0#32
  ![v1103.toNat, 0, 0]
def k0_dev22 (d0 : Dev nD) : Nat :=
  let c0_i32_753 : BitVec 32 := 0#32
  let c4_i32_749 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c4_i32_749 v20
  let c1_i32_752 : BitVec 32 := 1#32
  let v1105 : BitVec 32 := Scalar.muli v1104 c1_i32_752
  let v1106 : BitVec 32 := Scalar.addi c0_i32_753 v1105
  v1106.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_370 : BitVec 32 := 2#32
  let v553 : BitVec 1 := Scalar.cmpi .ne v19 c2_i32_370
  let v554 : BitVec 32 := Scalar.extui v553
  let c0_i32_371 : BitVec 32 := 0#32
  let v555 : BitVec 1 := Scalar.cmpi .ne v554 c0_i32_371
  v555

def k0_off18 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c4_i32_748 v19
  let c0_i32_753 : BitVec 32 := 0#32
  let c0_i32_754 : BitVec 32 := 0#32
  ![v1103.toNat, 0, 0]
def k0_dev23 (d0 : Dev nD) : Nat :=
  let c0_i32_752 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c8_i32 v20
  let c1_i32_751 : BitVec 32 := 1#32
  let v1105 : BitVec 32 := Scalar.muli v1104 c1_i32_751
  let v1106 : BitVec 32 := Scalar.addi c0_i32_752 v1105
  v1106.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_372 : BitVec 32 := 3#32
  let v556 : BitVec 1 := Scalar.cmpi .ne v19 c3_i32_372
  let v557 : BitVec 32 := Scalar.extui v556
  let c0_i32_373 : BitVec 32 := 0#32
  let v558 : BitVec 1 := Scalar.cmpi .ne v557 c0_i32_373
  v558

def k0_off19 (d0 : Dev nD) : Fin 3 → Nat :=
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c4_i32_748 v19
  let c0_i32_753 : BitVec 32 := 0#32
  let c0_i32_754 : BitVec 32 := 0#32
  ![v1103.toNat, 0, 0]
def k0_dev24 (d0 : Dev nD) : Nat :=
  let c0_i32_752 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c12_i32 v20
  let c1_i32_751 : BitVec 32 := 1#32
  let v1105 : BitVec 32 := Scalar.muli v1104 c1_i32_751
  let v1106 : BitVec 32 := Scalar.addi c0_i32_752 v1105
  v1106.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_383 : BitVec 32 := 0#32
  let v568 : BitVec 1 := Scalar.cmpi .ne v20 c0_i32_383
  let v569 : BitVec 32 := Scalar.extui v568
  let c0_i32_384 : BitVec 32 := 0#32
  let v570 : BitVec 1 := Scalar.cmpi .ne v569 c0_i32_384
  v570

def k0_off20 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c8_i32 v20
  let c0_i32_754 : BitVec 32 := 0#32
  let c0_i32_755 : BitVec 32 := 0#32
  ![v1103.toNat, 0, 0]
def k0_dev25 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c0_i32_749 : BitVec 32 := 0#32
  let v1105 : BitVec 32 := Scalar.addi v1104 c0_i32_749
  let c1_i32_752 : BitVec 32 := 1#32
  let v1106 : BitVec 32 := Scalar.muli v1105 c1_i32_752
  let v1107 : BitVec 32 := Scalar.addi c0_i32_753 v1106
  v1107.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_385 : BitVec 32 := 0#32
  let v571 : BitVec 1 := Scalar.cmpi .ne v20 c0_i32_385
  let v572 : BitVec 32 := Scalar.extui v571
  let c0_i32_386 : BitVec 32 := 0#32
  let v573 : BitVec 1 := Scalar.cmpi .ne v572 c0_i32_386
  v573

def k0_off21 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c12_i32 v20
  let c0_i32_754 : BitVec 32 := 0#32
  let c0_i32_755 : BitVec 32 := 0#32
  ![v1103.toNat, 0, 0]
def k0_dev26 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c0_i32_749 : BitVec 32 := 0#32
  let v1105 : BitVec 32 := Scalar.addi v1104 c0_i32_749
  let c1_i32_752 : BitVec 32 := 1#32
  let v1106 : BitVec 32 := Scalar.muli v1105 c1_i32_752
  let v1107 : BitVec 32 := Scalar.addi c0_i32_753 v1106
  v1107.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_396 : BitVec 32 := 1#32
  let v583 : BitVec 1 := Scalar.cmpi .ne v20 c1_i32_396
  let v584 : BitVec 32 := Scalar.extui v583
  let c0_i32_397 : BitVec 32 := 0#32
  let v585 : BitVec 1 := Scalar.cmpi .ne v584 c0_i32_397
  v585

def k0_off22 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c8_i32 v20
  let c0_i32_754 : BitVec 32 := 0#32
  let c0_i32_755 : BitVec 32 := 0#32
  ![v1103.toNat, 0, 0]
def k0_dev27 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c1_i32_749 : BitVec 32 := 1#32
  let v1105 : BitVec 32 := Scalar.addi v1104 c1_i32_749
  let c1_i32_752 : BitVec 32 := 1#32
  let v1106 : BitVec 32 := Scalar.muli v1105 c1_i32_752
  let v1107 : BitVec 32 := Scalar.addi c0_i32_753 v1106
  v1107.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_398 : BitVec 32 := 1#32
  let v586 : BitVec 1 := Scalar.cmpi .ne v20 c1_i32_398
  let v587 : BitVec 32 := Scalar.extui v586
  let c0_i32_399 : BitVec 32 := 0#32
  let v588 : BitVec 1 := Scalar.cmpi .ne v587 c0_i32_399
  v588

def k0_off23 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c12_i32 v20
  let c0_i32_754 : BitVec 32 := 0#32
  let c0_i32_755 : BitVec 32 := 0#32
  ![v1103.toNat, 0, 0]
def k0_dev28 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c1_i32_749 : BitVec 32 := 1#32
  let v1105 : BitVec 32 := Scalar.addi v1104 c1_i32_749
  let c1_i32_752 : BitVec 32 := 1#32
  let v1106 : BitVec 32 := Scalar.muli v1105 c1_i32_752
  let v1107 : BitVec 32 := Scalar.addi c0_i32_753 v1106
  v1107.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_409 : BitVec 32 := 2#32
  let v598 : BitVec 1 := Scalar.cmpi .ne v20 c2_i32_409
  let v599 : BitVec 32 := Scalar.extui v598
  let c0_i32_410 : BitVec 32 := 0#32
  let v600 : BitVec 1 := Scalar.cmpi .ne v599 c0_i32_410
  v600

def k0_off24 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c8_i32 v20
  let c0_i32_754 : BitVec 32 := 0#32
  let c0_i32_755 : BitVec 32 := 0#32
  ![v1103.toNat, 0, 0]
def k0_dev29 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c2_i32_749 : BitVec 32 := 2#32
  let v1105 : BitVec 32 := Scalar.addi v1104 c2_i32_749
  let c1_i32_752 : BitVec 32 := 1#32
  let v1106 : BitVec 32 := Scalar.muli v1105 c1_i32_752
  let v1107 : BitVec 32 := Scalar.addi c0_i32_753 v1106
  v1107.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_411 : BitVec 32 := 2#32
  let v601 : BitVec 1 := Scalar.cmpi .ne v20 c2_i32_411
  let v602 : BitVec 32 := Scalar.extui v601
  let c0_i32_412 : BitVec 32 := 0#32
  let v603 : BitVec 1 := Scalar.cmpi .ne v602 c0_i32_412
  v603

def k0_off25 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c12_i32 v20
  let c0_i32_754 : BitVec 32 := 0#32
  let c0_i32_755 : BitVec 32 := 0#32
  ![v1103.toNat, 0, 0]
def k0_dev30 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c2_i32_749 : BitVec 32 := 2#32
  let v1105 : BitVec 32 := Scalar.addi v1104 c2_i32_749
  let c1_i32_752 : BitVec 32 := 1#32
  let v1106 : BitVec 32 := Scalar.muli v1105 c1_i32_752
  let v1107 : BitVec 32 := Scalar.addi c0_i32_753 v1106
  v1107.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_422 : BitVec 32 := 3#32
  let v613 : BitVec 1 := Scalar.cmpi .ne v20 c3_i32_422
  let v614 : BitVec 32 := Scalar.extui v613
  let c0_i32_423 : BitVec 32 := 0#32
  let v615 : BitVec 1 := Scalar.cmpi .ne v614 c0_i32_423
  v615

def k0_off26 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c8_i32 v20
  let c0_i32_754 : BitVec 32 := 0#32
  let c0_i32_755 : BitVec 32 := 0#32
  ![v1103.toNat, 0, 0]
def k0_dev31 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c3_i32_749 : BitVec 32 := 3#32
  let v1105 : BitVec 32 := Scalar.addi v1104 c3_i32_749
  let c1_i32_752 : BitVec 32 := 1#32
  let v1106 : BitVec 32 := Scalar.muli v1105 c1_i32_752
  let v1107 : BitVec 32 := Scalar.addi c0_i32_753 v1106
  v1107.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_424 : BitVec 32 := 3#32
  let v616 : BitVec 1 := Scalar.cmpi .ne v20 c3_i32_424
  let v617 : BitVec 32 := Scalar.extui v616
  let c0_i32_425 : BitVec 32 := 0#32
  let v618 : BitVec 1 := Scalar.cmpi .ne v617 c0_i32_425
  v618

def k0_off27 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1103 : BitVec 32 := Scalar.addi c12_i32 v20
  let c0_i32_754 : BitVec 32 := 0#32
  let c0_i32_755 : BitVec 32 := 0#32
  ![v1103.toNat, 0, 0]
def k0_dev32 (d0 : Dev nD) : Nat :=
  let c0_i32_753 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1104 : BitVec 32 := Scalar.muli c4_i32_748 v19
  let c3_i32_749 : BitVec 32 := 3#32
  let v1105 : BitVec 32 := Scalar.addi v1104 c3_i32_749
  let c1_i32_752 : BitVec 32 := 1#32
  let v1106 : BitVec 32 := Scalar.muli v1105 c1_i32_752
  let v1107 : BitVec 32 := Scalar.addi c0_i32_753 v1106
  v1107.toNat
def k0_off28 (d0 : Dev nD) : Fin 3 → Nat :=
  let c0_435 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_434 : BitVec 32 := 16#32
  let v631 : BitVec 32 := Scalar.muli v19 c16_i32_434
  let v632 : Index := Scalar.indexCast v631
  let c0_436 : Index := 0#32
  ![0, v632.toNat, 0]
def k0_off29 (d0 : Dev nD) (c0_i32_442 : BitVec 32) : Fin 3 → Nat :=
  let c0_444 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_441 : BitVec 32 := 128#32
  let v641 : BitVec 32 := Scalar.muli v20 c128_i32_441
  let v642 : BitVec 32 := Scalar.addi v641 c0_i32_442
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_443 : BitVec 32 := 16#32
  let v643 : BitVec 32 := Scalar.muli v19 c16_i32_443
  let v644 : BitVec 32 := Scalar.addi v642 v643
  let v645 : Index := Scalar.indexCast v644
  let c0_445 : Index := 0#32
  ![0, v645.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_446 : BitVec 32 := 0#32
  let v649 : BitVec 1 := Scalar.cmpi .ne v19 c0_i32_446
  let v650 : BitVec 32 := Scalar.extui v649
  let c0_i32_447 : BitVec 32 := 0#32
  let v651 : BitVec 1 := Scalar.cmpi .ne v650 c0_i32_447
  v651

def k0_off30 (d0 : Dev nD) : Fin 3 → Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![0, v1110.toNat, 0]
def k0_dev33 (d0 : Dev nD) : Nat :=
  let c0_i32_758 : BitVec 32 := 0#32
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c0_i32_754 v20
  let c1_i32_757 : BitVec 32 := 1#32
  let v1112 : BitVec 32 := Scalar.muli v1111 c1_i32_757
  let v1113 : BitVec 32 := Scalar.addi c0_i32_758 v1112
  v1113.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_448 : BitVec 32 := 1#32
  let v652 : BitVec 1 := Scalar.cmpi .ne v19 c1_i32_448
  let v653 : BitVec 32 := Scalar.extui v652
  let c0_i32_449 : BitVec 32 := 0#32
  let v654 : BitVec 1 := Scalar.cmpi .ne v653 c0_i32_449
  v654

def k0_off31 (d0 : Dev nD) : Fin 3 → Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![0, v1110.toNat, 0]
def k0_dev34 (d0 : Dev nD) : Nat :=
  let c0_i32_758 : BitVec 32 := 0#32
  let c4_i32_754 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c4_i32_754 v20
  let c1_i32_757 : BitVec 32 := 1#32
  let v1112 : BitVec 32 := Scalar.muli v1111 c1_i32_757
  let v1113 : BitVec 32 := Scalar.addi c0_i32_758 v1112
  v1113.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_450 : BitVec 32 := 2#32
  let v655 : BitVec 1 := Scalar.cmpi .ne v19 c2_i32_450
  let v656 : BitVec 32 := Scalar.extui v655
  let c0_i32_451 : BitVec 32 := 0#32
  let v657 : BitVec 1 := Scalar.cmpi .ne v656 c0_i32_451
  v657

def k0_off32 (d0 : Dev nD) : Fin 3 → Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![0, v1110.toNat, 0]
def k0_dev35 (d0 : Dev nD) : Nat :=
  let c0_i32_757 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c8_i32 v20
  let c1_i32_756 : BitVec 32 := 1#32
  let v1112 : BitVec 32 := Scalar.muli v1111 c1_i32_756
  let v1113 : BitVec 32 := Scalar.addi c0_i32_757 v1112
  v1113.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_452 : BitVec 32 := 3#32
  let v658 : BitVec 1 := Scalar.cmpi .ne v19 c3_i32_452
  let v659 : BitVec 32 := Scalar.extui v658
  let c0_i32_453 : BitVec 32 := 0#32
  let v660 : BitVec 1 := Scalar.cmpi .ne v659 c0_i32_453
  v660

def k0_off33 (d0 : Dev nD) : Fin 3 → Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![0, v1110.toNat, 0]
def k0_dev36 (d0 : Dev nD) : Nat :=
  let c0_i32_757 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c12_i32 v20
  let c1_i32_756 : BitVec 32 := 1#32
  let v1112 : BitVec 32 := Scalar.muli v1111 c1_i32_756
  let v1113 : BitVec 32 := Scalar.addi c0_i32_757 v1112
  v1113.toNat
def k0_off34 (d0 : Dev nD) : Fin 3 → Nat :=
  let c1_463 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_462 : BitVec 32 := 16#32
  let v673 : BitVec 32 := Scalar.muli v19 c16_i32_462
  let v674 : Index := Scalar.indexCast v673
  let c0_464 : Index := 0#32
  ![1, v674.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_474 : BitVec 32 := 0#32
  let v691 : BitVec 1 := Scalar.cmpi .ne v19 c0_i32_474
  let v692 : BitVec 32 := Scalar.extui v691
  let c0_i32_475 : BitVec 32 := 0#32
  let v693 : BitVec 1 := Scalar.cmpi .ne v692 c0_i32_475
  v693

def k0_off35 (d0 : Dev nD) : Fin 3 → Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![0, v1110.toNat, 0]
def k0_dev37 (d0 : Dev nD) : Nat :=
  let c0_i32_758 : BitVec 32 := 0#32
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c0_i32_754 v20
  let c1_i32_757 : BitVec 32 := 1#32
  let v1112 : BitVec 32 := Scalar.muli v1111 c1_i32_757
  let v1113 : BitVec 32 := Scalar.addi c0_i32_758 v1112
  v1113.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_476 : BitVec 32 := 1#32
  let v694 : BitVec 1 := Scalar.cmpi .ne v19 c1_i32_476
  let v695 : BitVec 32 := Scalar.extui v694
  let c0_i32_477 : BitVec 32 := 0#32
  let v696 : BitVec 1 := Scalar.cmpi .ne v695 c0_i32_477
  v696

def k0_off36 (d0 : Dev nD) : Fin 3 → Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![0, v1110.toNat, 0]
def k0_dev38 (d0 : Dev nD) : Nat :=
  let c0_i32_758 : BitVec 32 := 0#32
  let c4_i32_754 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c4_i32_754 v20
  let c1_i32_757 : BitVec 32 := 1#32
  let v1112 : BitVec 32 := Scalar.muli v1111 c1_i32_757
  let v1113 : BitVec 32 := Scalar.addi c0_i32_758 v1112
  v1113.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_478 : BitVec 32 := 2#32
  let v697 : BitVec 1 := Scalar.cmpi .ne v19 c2_i32_478
  let v698 : BitVec 32 := Scalar.extui v697
  let c0_i32_479 : BitVec 32 := 0#32
  let v699 : BitVec 1 := Scalar.cmpi .ne v698 c0_i32_479
  v699

def k0_off37 (d0 : Dev nD) : Fin 3 → Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![0, v1110.toNat, 0]
def k0_dev39 (d0 : Dev nD) : Nat :=
  let c0_i32_757 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c8_i32 v20
  let c1_i32_756 : BitVec 32 := 1#32
  let v1112 : BitVec 32 := Scalar.muli v1111 c1_i32_756
  let v1113 : BitVec 32 := Scalar.addi c0_i32_757 v1112
  v1113.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_480 : BitVec 32 := 3#32
  let v700 : BitVec 1 := Scalar.cmpi .ne v19 c3_i32_480
  let v701 : BitVec 32 := Scalar.extui v700
  let c0_i32_481 : BitVec 32 := 0#32
  let v702 : BitVec 1 := Scalar.cmpi .ne v701 c0_i32_481
  v702

def k0_off38 (d0 : Dev nD) : Fin 3 → Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![0, v1110.toNat, 0]
def k0_dev40 (d0 : Dev nD) : Nat :=
  let c0_i32_757 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c12_i32 v20
  let c1_i32_756 : BitVec 32 := 1#32
  let v1112 : BitVec 32 := Scalar.muli v1111 c1_i32_756
  let v1113 : BitVec 32 := Scalar.addi c0_i32_757 v1112
  v1113.toNat
def k0_off39 (d0 : Dev nD) (c0_i32_491 : BitVec 32) : Fin 3 → Nat :=
  let c1_492 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_490 : BitVec 32 := 128#32
  let v715 : BitVec 32 := Scalar.muli v20 c128_i32_490
  let v716 : BitVec 32 := Scalar.addi v715 c0_i32_491
  let v717 : Index := Scalar.indexCast v716
  let c0_493 : Index := 0#32
  ![1, v717.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_499 : BitVec 32 := 0#32
  let v729 : BitVec 1 := Scalar.cmpi .ne v19 c0_i32_499
  let v730 : BitVec 32 := Scalar.extui v729
  let c0_i32_500 : BitVec 32 := 0#32
  let v731 : BitVec 1 := Scalar.cmpi .ne v730 c0_i32_500
  v731

def k0_off40 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c8_i32 v19
  let c0_i32_753 : BitVec 32 := 0#32
  let c0_i32_754 : BitVec 32 := 0#32
  ![v1103.toNat, 0, 0]
def k0_dev41 (d0 : Dev nD) : Nat :=
  let c0_i32_752 : BitVec 32 := 0#32
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c0_i32_748 v20
  let c1_i32_751 : BitVec 32 := 1#32
  let v1105 : BitVec 32 := Scalar.muli v1104 c1_i32_751
  let v1106 : BitVec 32 := Scalar.addi c0_i32_752 v1105
  v1106.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_501 : BitVec 32 := 1#32
  let v732 : BitVec 1 := Scalar.cmpi .ne v19 c1_i32_501
  let v733 : BitVec 32 := Scalar.extui v732
  let c0_i32_502 : BitVec 32 := 0#32
  let v734 : BitVec 1 := Scalar.cmpi .ne v733 c0_i32_502
  v734

def k0_off41 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c8_i32 v19
  let c0_i32_753 : BitVec 32 := 0#32
  let c0_i32_754 : BitVec 32 := 0#32
  ![v1103.toNat, 0, 0]
def k0_dev42 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c4_i32_748 v20
  let c1_i32_751 : BitVec 32 := 1#32
  let v1105 : BitVec 32 := Scalar.muli v1104 c1_i32_751
  let v1106 : BitVec 32 := Scalar.addi c0_i32_752 v1105
  v1106.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_503 : BitVec 32 := 2#32
  let v735 : BitVec 1 := Scalar.cmpi .ne v19 c2_i32_503
  let v736 : BitVec 32 := Scalar.extui v735
  let c0_i32_504 : BitVec 32 := 0#32
  let v737 : BitVec 1 := Scalar.cmpi .ne v736 c0_i32_504
  v737

def k0_off42 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c8_i32 v19
  let c0_i32_753 : BitVec 32 := 0#32
  let c0_i32_754 : BitVec 32 := 0#32
  ![v1103.toNat, 0, 0]
def k0_dev43 (d0 : Dev nD) : Nat :=
  let c0_i32_752 : BitVec 32 := 0#32
  let c8_i32_748 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c8_i32_748 v20
  let c1_i32_751 : BitVec 32 := 1#32
  let v1105 : BitVec 32 := Scalar.muli v1104 c1_i32_751
  let v1106 : BitVec 32 := Scalar.addi c0_i32_752 v1105
  v1106.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_505 : BitVec 32 := 3#32
  let v738 : BitVec 1 := Scalar.cmpi .ne v19 c3_i32_505
  let v739 : BitVec 32 := Scalar.extui v738
  let c0_i32_506 : BitVec 32 := 0#32
  let v740 : BitVec 1 := Scalar.cmpi .ne v739 c0_i32_506
  v740

def k0_off43 (d0 : Dev nD) : Fin 3 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c8_i32 v19
  let c0_i32_752 : BitVec 32 := 0#32
  let c0_i32_753 : BitVec 32 := 0#32
  ![v1103.toNat, 0, 0]
def k0_dev44 (d0 : Dev nD) : Nat :=
  let c0_i32_751 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c12_i32 v20
  let c1_i32_750 : BitVec 32 := 1#32
  let v1105 : BitVec 32 := Scalar.muli v1104 c1_i32_750
  let v1106 : BitVec 32 := Scalar.addi c0_i32_751 v1105
  v1106.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_507 : BitVec 32 := 0#32
  let v741 : BitVec 1 := Scalar.cmpi .ne v19 c0_i32_507
  let v742 : BitVec 32 := Scalar.extui v741
  let c0_i32_508 : BitVec 32 := 0#32
  let v743 : BitVec 1 := Scalar.cmpi .ne v742 c0_i32_508
  v743

def k0_off44 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_750 : BitVec 32 := 0#32
  let v1105 : BitVec 32 := Scalar.addi v1104 c0_i32_750
  let c0_i32_757 : BitVec 32 := 0#32
  ![0, v1105.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_509 : BitVec 32 := 1#32
  let v744 : BitVec 1 := Scalar.cmpi .ne v19 c1_i32_509
  let v745 : BitVec 32 := Scalar.extui v744
  let c0_i32_510 : BitVec 32 := 0#32
  let v746 : BitVec 1 := Scalar.cmpi .ne v745 c0_i32_510
  v746

def k0_off45 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c16_i32_750 : BitVec 32 := 16#32
  let v1105 : BitVec 32 := Scalar.addi v1104 c16_i32_750
  let c0_i32_757 : BitVec 32 := 0#32
  ![0, v1105.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_511 : BitVec 32 := 2#32
  let v747 : BitVec 1 := Scalar.cmpi .ne v19 c2_i32_511
  let v748 : BitVec 32 := Scalar.extui v747
  let c0_i32_512 : BitVec 32 := 0#32
  let v749 : BitVec 1 := Scalar.cmpi .ne v748 c0_i32_512
  v749

def k0_off46 (d0 : Dev nD) : Fin 3 → Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c32_i32 : BitVec 32 := 32#32
  let v1105 : BitVec 32 := Scalar.addi v1104 c32_i32
  let c0_i32_755 : BitVec 32 := 0#32
  ![0, v1105.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_513 : BitVec 32 := 3#32
  let v750 : BitVec 1 := Scalar.cmpi .ne v19 c3_i32_513
  let v751 : BitVec 32 := Scalar.extui v750
  let c0_i32_514 : BitVec 32 := 0#32
  let v752 : BitVec 1 := Scalar.cmpi .ne v751 c0_i32_514
  v752

def k0_off47 (d0 : Dev nD) : Fin 3 → Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c48_i32 : BitVec 32 := 48#32
  let v1105 : BitVec 32 := Scalar.addi v1104 c48_i32
  let c0_i32_755 : BitVec 32 := 0#32
  ![0, v1105.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_515 : BitVec 32 := 0#32
  let v753 : BitVec 1 := Scalar.cmpi .ne v20 c0_i32_515
  let v754 : BitVec 32 := Scalar.extui v753
  let c0_i32_516 : BitVec 32 := 0#32
  let v755 : BitVec 1 := Scalar.cmpi .ne v754 c0_i32_516
  v755

def k0_off48 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![0, v1104.toNat, 0]
def k0_dev45 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c0_i32_751 : BitVec 32 := 0#32
  let v1106 : BitVec 32 := Scalar.addi v1105 c0_i32_751
  let c1_i32_754 : BitVec 32 := 1#32
  let v1107 : BitVec 32 := Scalar.muli v1106 c1_i32_754
  let v1108 : BitVec 32 := Scalar.addi c0_i32_755 v1107
  v1108.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_517 : BitVec 32 := 1#32
  let v756 : BitVec 1 := Scalar.cmpi .ne v20 c1_i32_517
  let v757 : BitVec 32 := Scalar.extui v756
  let c0_i32_518 : BitVec 32 := 0#32
  let v758 : BitVec 1 := Scalar.cmpi .ne v757 c0_i32_518
  v758

def k0_off49 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![0, v1104.toNat, 0]
def k0_dev46 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c1_i32_751 : BitVec 32 := 1#32
  let v1106 : BitVec 32 := Scalar.addi v1105 c1_i32_751
  let c1_i32_754 : BitVec 32 := 1#32
  let v1107 : BitVec 32 := Scalar.muli v1106 c1_i32_754
  let v1108 : BitVec 32 := Scalar.addi c0_i32_755 v1107
  v1108.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_519 : BitVec 32 := 2#32
  let v759 : BitVec 1 := Scalar.cmpi .ne v20 c2_i32_519
  let v760 : BitVec 32 := Scalar.extui v759
  let c0_i32_520 : BitVec 32 := 0#32
  let v761 : BitVec 1 := Scalar.cmpi .ne v760 c0_i32_520
  v761

def k0_off50 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![0, v1104.toNat, 0]
def k0_dev47 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c2_i32_751 : BitVec 32 := 2#32
  let v1106 : BitVec 32 := Scalar.addi v1105 c2_i32_751
  let c1_i32_754 : BitVec 32 := 1#32
  let v1107 : BitVec 32 := Scalar.muli v1106 c1_i32_754
  let v1108 : BitVec 32 := Scalar.addi c0_i32_755 v1107
  v1108.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_521 : BitVec 32 := 3#32
  let v762 : BitVec 1 := Scalar.cmpi .ne v20 c3_i32_521
  let v763 : BitVec 32 := Scalar.extui v762
  let c0_i32_522 : BitVec 32 := 0#32
  let v764 : BitVec 1 := Scalar.cmpi .ne v763 c0_i32_522
  v764

def k0_off51 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![0, v1104.toNat, 0]
def k0_dev48 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c3_i32_751 : BitVec 32 := 3#32
  let v1106 : BitVec 32 := Scalar.addi v1105 c3_i32_751
  let c1_i32_754 : BitVec 32 := 1#32
  let v1107 : BitVec 32 := Scalar.muli v1106 c1_i32_754
  let v1108 : BitVec 32 := Scalar.addi c0_i32_755 v1107
  v1108.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_540 : BitVec 32 := 0#32
  let v791 : BitVec 1 := Scalar.cmpi .ne v19 c0_i32_540
  let v792 : BitVec 32 := Scalar.extui v791
  let c0_i32_541 : BitVec 32 := 0#32
  let v793 : BitVec 1 := Scalar.cmpi .ne v792 c0_i32_541
  v793

def k0_off52 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c12_i32 v19
  let c0_i32_753 : BitVec 32 := 0#32
  let c0_i32_754 : BitVec 32 := 0#32
  ![v1103.toNat, 0, 0]
def k0_dev49 (d0 : Dev nD) : Nat :=
  let c0_i32_752 : BitVec 32 := 0#32
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c0_i32_748 v20
  let c1_i32_751 : BitVec 32 := 1#32
  let v1105 : BitVec 32 := Scalar.muli v1104 c1_i32_751
  let v1106 : BitVec 32 := Scalar.addi c0_i32_752 v1105
  v1106.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_542 : BitVec 32 := 1#32
  let v794 : BitVec 1 := Scalar.cmpi .ne v19 c1_i32_542
  let v795 : BitVec 32 := Scalar.extui v794
  let c0_i32_543 : BitVec 32 := 0#32
  let v796 : BitVec 1 := Scalar.cmpi .ne v795 c0_i32_543
  v796

def k0_off53 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c12_i32 v19
  let c0_i32_753 : BitVec 32 := 0#32
  let c0_i32_754 : BitVec 32 := 0#32
  ![v1103.toNat, 0, 0]
def k0_dev50 (d0 : Dev nD) : Nat :=
  let c0_i32_752 : BitVec 32 := 0#32
  let c4_i32_748 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c4_i32_748 v20
  let c1_i32_751 : BitVec 32 := 1#32
  let v1105 : BitVec 32 := Scalar.muli v1104 c1_i32_751
  let v1106 : BitVec 32 := Scalar.addi c0_i32_752 v1105
  v1106.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_544 : BitVec 32 := 2#32
  let v797 : BitVec 1 := Scalar.cmpi .ne v19 c2_i32_544
  let v798 : BitVec 32 := Scalar.extui v797
  let c0_i32_545 : BitVec 32 := 0#32
  let v799 : BitVec 1 := Scalar.cmpi .ne v798 c0_i32_545
  v799

def k0_off54 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c12_i32 v19
  let c0_i32_752 : BitVec 32 := 0#32
  let c0_i32_753 : BitVec 32 := 0#32
  ![v1103.toNat, 0, 0]
def k0_dev51 (d0 : Dev nD) : Nat :=
  let c0_i32_751 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c8_i32 v20
  let c1_i32_750 : BitVec 32 := 1#32
  let v1105 : BitVec 32 := Scalar.muli v1104 c1_i32_750
  let v1106 : BitVec 32 := Scalar.addi c0_i32_751 v1105
  v1106.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_546 : BitVec 32 := 3#32
  let v800 : BitVec 1 := Scalar.cmpi .ne v19 c3_i32_546
  let v801 : BitVec 32 := Scalar.extui v800
  let c0_i32_547 : BitVec 32 := 0#32
  let v802 : BitVec 1 := Scalar.cmpi .ne v801 c0_i32_547
  v802

def k0_off55 (d0 : Dev nD) : Fin 3 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1103 : BitVec 32 := Scalar.addi c12_i32 v19
  let c0_i32_753 : BitVec 32 := 0#32
  let c0_i32_754 : BitVec 32 := 0#32
  ![v1103.toNat, 0, 0]
def k0_dev52 (d0 : Dev nD) : Nat :=
  let c0_i32_752 : BitVec 32 := 0#32
  let c12_i32_748 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1104 : BitVec 32 := Scalar.addi c12_i32_748 v20
  let c1_i32_751 : BitVec 32 := 1#32
  let v1105 : BitVec 32 := Scalar.muli v1104 c1_i32_751
  let v1106 : BitVec 32 := Scalar.addi c0_i32_752 v1105
  v1106.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_548 : BitVec 32 := 0#32
  let v803 : BitVec 1 := Scalar.cmpi .ne v19 c0_i32_548
  let v804 : BitVec 32 := Scalar.extui v803
  let c0_i32_549 : BitVec 32 := 0#32
  let v805 : BitVec 1 := Scalar.cmpi .ne v804 c0_i32_549
  v805

def k0_off56 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_750 : BitVec 32 := 0#32
  let v1105 : BitVec 32 := Scalar.addi v1104 c0_i32_750
  let c0_i32_757 : BitVec 32 := 0#32
  ![0, v1105.toNat, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_550 : BitVec 32 := 1#32
  let v806 : BitVec 1 := Scalar.cmpi .ne v19 c1_i32_550
  let v807 : BitVec 32 := Scalar.extui v806
  let c0_i32_551 : BitVec 32 := 0#32
  let v808 : BitVec 1 := Scalar.cmpi .ne v807 c0_i32_551
  v808

def k0_off57 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c16_i32_750 : BitVec 32 := 16#32
  let v1105 : BitVec 32 := Scalar.addi v1104 c16_i32_750
  let c0_i32_757 : BitVec 32 := 0#32
  ![0, v1105.toNat, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_552 : BitVec 32 := 2#32
  let v809 : BitVec 1 := Scalar.cmpi .ne v19 c2_i32_552
  let v810 : BitVec 32 := Scalar.extui v809
  let c0_i32_553 : BitVec 32 := 0#32
  let v811 : BitVec 1 := Scalar.cmpi .ne v810 c0_i32_553
  v811

def k0_off58 (d0 : Dev nD) : Fin 3 → Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c32_i32 : BitVec 32 := 32#32
  let v1105 : BitVec 32 := Scalar.addi v1104 c32_i32
  let c0_i32_755 : BitVec 32 := 0#32
  ![0, v1105.toNat, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_554 : BitVec 32 := 3#32
  let v812 : BitVec 1 := Scalar.cmpi .ne v19 c3_i32_554
  let v813 : BitVec 32 := Scalar.extui v812
  let c0_i32_555 : BitVec 32 := 0#32
  let v814 : BitVec 1 := Scalar.cmpi .ne v813 c0_i32_555
  v814

def k0_off59 (d0 : Dev nD) : Fin 3 → Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c48_i32 : BitVec 32 := 48#32
  let v1105 : BitVec 32 := Scalar.addi v1104 c48_i32
  let c0_i32_755 : BitVec 32 := 0#32
  ![0, v1105.toNat, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_556 : BitVec 32 := 0#32
  let v815 : BitVec 1 := Scalar.cmpi .ne v20 c0_i32_556
  let v816 : BitVec 32 := Scalar.extui v815
  let c0_i32_557 : BitVec 32 := 0#32
  let v817 : BitVec 1 := Scalar.cmpi .ne v816 c0_i32_557
  v817

def k0_off60 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![0, v1104.toNat, 0]
def k0_dev53 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c0_i32_751 : BitVec 32 := 0#32
  let v1106 : BitVec 32 := Scalar.addi v1105 c0_i32_751
  let c1_i32_754 : BitVec 32 := 1#32
  let v1107 : BitVec 32 := Scalar.muli v1106 c1_i32_754
  let v1108 : BitVec 32 := Scalar.addi c0_i32_755 v1107
  v1108.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_558 : BitVec 32 := 1#32
  let v818 : BitVec 1 := Scalar.cmpi .ne v20 c1_i32_558
  let v819 : BitVec 32 := Scalar.extui v818
  let c0_i32_559 : BitVec 32 := 0#32
  let v820 : BitVec 1 := Scalar.cmpi .ne v819 c0_i32_559
  v820

def k0_off61 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![0, v1104.toNat, 0]
def k0_dev54 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c1_i32_751 : BitVec 32 := 1#32
  let v1106 : BitVec 32 := Scalar.addi v1105 c1_i32_751
  let c1_i32_754 : BitVec 32 := 1#32
  let v1107 : BitVec 32 := Scalar.muli v1106 c1_i32_754
  let v1108 : BitVec 32 := Scalar.addi c0_i32_755 v1107
  v1108.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_560 : BitVec 32 := 2#32
  let v821 : BitVec 1 := Scalar.cmpi .ne v20 c2_i32_560
  let v822 : BitVec 32 := Scalar.extui v821
  let c0_i32_561 : BitVec 32 := 0#32
  let v823 : BitVec 1 := Scalar.cmpi .ne v822 c0_i32_561
  v823

def k0_off62 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![0, v1104.toNat, 0]
def k0_dev55 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c2_i32_751 : BitVec 32 := 2#32
  let v1106 : BitVec 32 := Scalar.addi v1105 c2_i32_751
  let c1_i32_754 : BitVec 32 := 1#32
  let v1107 : BitVec 32 := Scalar.muli v1106 c1_i32_754
  let v1108 : BitVec 32 := Scalar.addi c0_i32_755 v1107
  v1108.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_562 : BitVec 32 := 3#32
  let v824 : BitVec 1 := Scalar.cmpi .ne v20 c3_i32_562
  let v825 : BitVec 32 := Scalar.extui v824
  let c0_i32_563 : BitVec 32 := 0#32
  let v826 : BitVec 1 := Scalar.cmpi .ne v825 c0_i32_563
  v826

def k0_off63 (d0 : Dev nD) : Fin 3 → Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![0, v1104.toNat, 0]
def k0_dev56 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c3_i32_751 : BitVec 32 := 3#32
  let v1106 : BitVec 32 := Scalar.addi v1105 c3_i32_751
  let c1_i32_754 : BitVec 32 := 1#32
  let v1107 : BitVec 32 := Scalar.muli v1106 c1_i32_754
  let v1108 : BitVec 32 := Scalar.addi c0_i32_755 v1107
  v1108.toNat
def k0_off64 (d0 : Dev nD) : Fin 3 → Nat :=
  let c2_573 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_572 : BitVec 32 := 16#32
  let v839 : BitVec 32 := Scalar.muli v19 c16_i32_572
  let v840 : Index := Scalar.indexCast v839
  let c0_574 : Index := 0#32
  ![2, v840.toNat, 0]
def k0_off65 (d0 : Dev nD) (c0_i32_580 : BitVec 32) : Fin 3 → Nat :=
  let c1_582 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_579 : BitVec 32 := 128#32
  let v849 : BitVec 32 := Scalar.muli v20 c128_i32_579
  let v850 : BitVec 32 := Scalar.addi v849 c0_i32_580
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_581 : BitVec 32 := 16#32
  let v851 : BitVec 32 := Scalar.muli v19 c16_i32_581
  let v852 : BitVec 32 := Scalar.addi v850 v851
  let v853 : Index := Scalar.indexCast v852
  let c0_583 : Index := 0#32
  ![1, v853.toNat, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_584 : BitVec 32 := 0#32
  let v857 : BitVec 1 := Scalar.cmpi .ne v19 c0_i32_584
  let v858 : BitVec 32 := Scalar.extui v857
  let c0_i32_585 : BitVec 32 := 0#32
  let v859 : BitVec 1 := Scalar.cmpi .ne v858 c0_i32_585
  v859

def k0_off66 (d0 : Dev nD) : Fin 3 → Nat :=
  let c1_i32_759 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![1, v1110.toNat, 0]
def k0_dev57 (d0 : Dev nD) : Nat :=
  let c0_i32_758 : BitVec 32 := 0#32
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c0_i32_754 v20
  let c1_i32_757 : BitVec 32 := 1#32
  let v1112 : BitVec 32 := Scalar.muli v1111 c1_i32_757
  let v1113 : BitVec 32 := Scalar.addi c0_i32_758 v1112
  v1113.toNat
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_586 : BitVec 32 := 1#32
  let v860 : BitVec 1 := Scalar.cmpi .ne v19 c1_i32_586
  let v861 : BitVec 32 := Scalar.extui v860
  let c0_i32_587 : BitVec 32 := 0#32
  let v862 : BitVec 1 := Scalar.cmpi .ne v861 c0_i32_587
  v862

def k0_off67 (d0 : Dev nD) : Fin 3 → Nat :=
  let c1_i32_759 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![1, v1110.toNat, 0]
def k0_dev58 (d0 : Dev nD) : Nat :=
  let c0_i32_758 : BitVec 32 := 0#32
  let c4_i32_754 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c4_i32_754 v20
  let c1_i32_757 : BitVec 32 := 1#32
  let v1112 : BitVec 32 := Scalar.muli v1111 c1_i32_757
  let v1113 : BitVec 32 := Scalar.addi c0_i32_758 v1112
  v1113.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_588 : BitVec 32 := 2#32
  let v863 : BitVec 1 := Scalar.cmpi .ne v19 c2_i32_588
  let v864 : BitVec 32 := Scalar.extui v863
  let c0_i32_589 : BitVec 32 := 0#32
  let v865 : BitVec 1 := Scalar.cmpi .ne v864 c0_i32_589
  v865

def k0_off68 (d0 : Dev nD) : Fin 3 → Nat :=
  let c1_i32_758 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![1, v1110.toNat, 0]
def k0_dev59 (d0 : Dev nD) : Nat :=
  let c0_i32_757 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c8_i32 v20
  let c1_i32_756 : BitVec 32 := 1#32
  let v1112 : BitVec 32 := Scalar.muli v1111 c1_i32_756
  let v1113 : BitVec 32 := Scalar.addi c0_i32_757 v1112
  v1113.toNat
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_590 : BitVec 32 := 3#32
  let v866 : BitVec 1 := Scalar.cmpi .ne v19 c3_i32_590
  let v867 : BitVec 32 := Scalar.extui v866
  let c0_i32_591 : BitVec 32 := 0#32
  let v868 : BitVec 1 := Scalar.cmpi .ne v867 c0_i32_591
  v868

def k0_off69 (d0 : Dev nD) : Fin 3 → Nat :=
  let c1_i32_758 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c0_i32_752 : BitVec 32 := 0#32
  let v1108 : BitVec 32 := Scalar.addi v1107 c0_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![1, v1110.toNat, 0]
def k0_dev60 (d0 : Dev nD) : Nat :=
  let c0_i32_757 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c12_i32 v20
  let c1_i32_756 : BitVec 32 := 1#32
  let v1112 : BitVec 32 := Scalar.muli v1111 c1_i32_756
  let v1113 : BitVec 32 := Scalar.addi c0_i32_757 v1112
  v1113.toNat
def k0_off70 (d0 : Dev nD) : Fin 3 → Nat :=
  let c3_601 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_600 : BitVec 32 := 16#32
  let v881 : BitVec 32 := Scalar.muli v19 c16_i32_600
  let v882 : Index := Scalar.indexCast v881
  let c0_602 : Index := 0#32
  ![3, v882.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_612 : BitVec 32 := 0#32
  let v899 : BitVec 1 := Scalar.cmpi .ne v19 c0_i32_612
  let v900 : BitVec 32 := Scalar.extui v899
  let c0_i32_613 : BitVec 32 := 0#32
  let v901 : BitVec 1 := Scalar.cmpi .ne v900 c0_i32_613
  v901

def k0_off71 (d0 : Dev nD) : Fin 3 → Nat :=
  let c1_i32_759 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![1, v1110.toNat, 0]
def k0_dev61 (d0 : Dev nD) : Nat :=
  let c0_i32_758 : BitVec 32 := 0#32
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c0_i32_754 v20
  let c1_i32_757 : BitVec 32 := 1#32
  let v1112 : BitVec 32 := Scalar.muli v1111 c1_i32_757
  let v1113 : BitVec 32 := Scalar.addi c0_i32_758 v1112
  v1113.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_614 : BitVec 32 := 1#32
  let v902 : BitVec 1 := Scalar.cmpi .ne v19 c1_i32_614
  let v903 : BitVec 32 := Scalar.extui v902
  let c0_i32_615 : BitVec 32 := 0#32
  let v904 : BitVec 1 := Scalar.cmpi .ne v903 c0_i32_615
  v904

def k0_off72 (d0 : Dev nD) : Fin 3 → Nat :=
  let c1_i32_759 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_760 : BitVec 32 := 0#32
  ![1, v1110.toNat, 0]
def k0_dev62 (d0 : Dev nD) : Nat :=
  let c0_i32_758 : BitVec 32 := 0#32
  let c4_i32_754 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c4_i32_754 v20
  let c1_i32_757 : BitVec 32 := 1#32
  let v1112 : BitVec 32 := Scalar.muli v1111 c1_i32_757
  let v1113 : BitVec 32 := Scalar.addi c0_i32_758 v1112
  v1113.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_616 : BitVec 32 := 2#32
  let v905 : BitVec 1 := Scalar.cmpi .ne v19 c2_i32_616
  let v906 : BitVec 32 := Scalar.extui v905
  let c0_i32_617 : BitVec 32 := 0#32
  let v907 : BitVec 1 := Scalar.cmpi .ne v906 c0_i32_617
  v907

def k0_off73 (d0 : Dev nD) : Fin 3 → Nat :=
  let c1_i32_758 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![1, v1110.toNat, 0]
def k0_dev63 (d0 : Dev nD) : Nat :=
  let c0_i32_757 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c8_i32 v20
  let c1_i32_756 : BitVec 32 := 1#32
  let v1112 : BitVec 32 := Scalar.muli v1111 c1_i32_756
  let v1113 : BitVec 32 := Scalar.addi c0_i32_757 v1112
  v1113.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_618 : BitVec 32 := 3#32
  let v908 : BitVec 1 := Scalar.cmpi .ne v19 c3_i32_618
  let v909 : BitVec 32 := Scalar.extui v908
  let c0_i32_619 : BitVec 32 := 0#32
  let v910 : BitVec 1 := Scalar.cmpi .ne v909 c0_i32_619
  v910

def k0_off74 (d0 : Dev nD) : Fin 3 → Nat :=
  let c1_i32_758 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_751 : BitVec 32 := 128#32
  let v1107 : BitVec 32 := Scalar.muli v20 c128_i32_751
  let c64_i32_752 : BitVec 32 := 64#32
  let v1108 : BitVec 32 := Scalar.addi v1107 c64_i32_752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_753 : BitVec 32 := 16#32
  let v1109 : BitVec 32 := Scalar.muli v19 c16_i32_753
  let v1110 : BitVec 32 := Scalar.addi v1108 v1109
  let c0_i32_759 : BitVec 32 := 0#32
  ![1, v1110.toNat, 0]
def k0_dev64 (d0 : Dev nD) : Nat :=
  let c0_i32_757 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1111 : BitVec 32 := Scalar.addi c12_i32 v20
  let c1_i32_756 : BitVec 32 := 1#32
  let v1112 : BitVec 32 := Scalar.muli v1111 c1_i32_756
  let v1113 : BitVec 32 := Scalar.addi c0_i32_757 v1112
  v1113.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_620 : BitVec 32 := 0#32
  let v911 : BitVec 1 := Scalar.cmpi .ne v19 c0_i32_620
  let v912 : BitVec 32 := Scalar.extui v911
  let c0_i32_621 : BitVec 32 := 0#32
  let v913 : BitVec 1 := Scalar.cmpi .ne v912 c0_i32_621
  v913

def k0_off75 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_750 : BitVec 32 := 0#32
  let v1105 : BitVec 32 := Scalar.addi v1104 c0_i32_750
  let c0_i32_757 : BitVec 32 := 0#32
  ![1, v1105.toNat, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_622 : BitVec 32 := 1#32
  let v914 : BitVec 1 := Scalar.cmpi .ne v19 c1_i32_622
  let v915 : BitVec 32 := Scalar.extui v914
  let c0_i32_623 : BitVec 32 := 0#32
  let v916 : BitVec 1 := Scalar.cmpi .ne v915 c0_i32_623
  v916

def k0_off76 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c16_i32_750 : BitVec 32 := 16#32
  let v1105 : BitVec 32 := Scalar.addi v1104 c16_i32_750
  let c0_i32_757 : BitVec 32 := 0#32
  ![1, v1105.toNat, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_624 : BitVec 32 := 2#32
  let v917 : BitVec 1 := Scalar.cmpi .ne v19 c2_i32_624
  let v918 : BitVec 32 := Scalar.extui v917
  let c0_i32_625 : BitVec 32 := 0#32
  let v919 : BitVec 1 := Scalar.cmpi .ne v918 c0_i32_625
  v919

def k0_off77 (d0 : Dev nD) : Fin 3 → Nat :=
  let c1_i32_754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c32_i32 : BitVec 32 := 32#32
  let v1105 : BitVec 32 := Scalar.addi v1104 c32_i32
  let c0_i32_755 : BitVec 32 := 0#32
  ![1, v1105.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_626 : BitVec 32 := 3#32
  let v920 : BitVec 1 := Scalar.cmpi .ne v19 c3_i32_626
  let v921 : BitVec 32 := Scalar.extui v920
  let c0_i32_627 : BitVec 32 := 0#32
  let v922 : BitVec 1 := Scalar.cmpi .ne v921 c0_i32_627
  v922

def k0_off78 (d0 : Dev nD) : Fin 3 → Nat :=
  let c1_i32_754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c48_i32 : BitVec 32 := 48#32
  let v1105 : BitVec 32 := Scalar.addi v1104 c48_i32
  let c0_i32_755 : BitVec 32 := 0#32
  ![1, v1105.toNat, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_628 : BitVec 32 := 0#32
  let v923 : BitVec 1 := Scalar.cmpi .ne v20 c0_i32_628
  let v924 : BitVec 32 := Scalar.extui v923
  let c0_i32_629 : BitVec 32 := 0#32
  let v925 : BitVec 1 := Scalar.cmpi .ne v924 c0_i32_629
  v925

def k0_off79 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![1, v1104.toNat, 0]
def k0_dev65 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c0_i32_751 : BitVec 32 := 0#32
  let v1106 : BitVec 32 := Scalar.addi v1105 c0_i32_751
  let c1_i32_754 : BitVec 32 := 1#32
  let v1107 : BitVec 32 := Scalar.muli v1106 c1_i32_754
  let v1108 : BitVec 32 := Scalar.addi c0_i32_755 v1107
  v1108.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_630 : BitVec 32 := 1#32
  let v926 : BitVec 1 := Scalar.cmpi .ne v20 c1_i32_630
  let v927 : BitVec 32 := Scalar.extui v926
  let c0_i32_631 : BitVec 32 := 0#32
  let v928 : BitVec 1 := Scalar.cmpi .ne v927 c0_i32_631
  v928

def k0_off80 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![1, v1104.toNat, 0]
def k0_dev66 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c1_i32_751 : BitVec 32 := 1#32
  let v1106 : BitVec 32 := Scalar.addi v1105 c1_i32_751
  let c1_i32_754 : BitVec 32 := 1#32
  let v1107 : BitVec 32 := Scalar.muli v1106 c1_i32_754
  let v1108 : BitVec 32 := Scalar.addi c0_i32_755 v1107
  v1108.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_632 : BitVec 32 := 2#32
  let v929 : BitVec 1 := Scalar.cmpi .ne v20 c2_i32_632
  let v930 : BitVec 32 := Scalar.extui v929
  let c0_i32_633 : BitVec 32 := 0#32
  let v931 : BitVec 1 := Scalar.cmpi .ne v930 c0_i32_633
  v931

def k0_off81 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![1, v1104.toNat, 0]
def k0_dev67 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c2_i32_751 : BitVec 32 := 2#32
  let v1106 : BitVec 32 := Scalar.addi v1105 c2_i32_751
  let c1_i32_754 : BitVec 32 := 1#32
  let v1107 : BitVec 32 := Scalar.muli v1106 c1_i32_754
  let v1108 : BitVec 32 := Scalar.addi c0_i32_755 v1107
  v1108.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_634 : BitVec 32 := 3#32
  let v932 : BitVec 1 := Scalar.cmpi .ne v20 c3_i32_634
  let v933 : BitVec 32 := Scalar.extui v932
  let c0_i32_635 : BitVec 32 := 0#32
  let v934 : BitVec 1 := Scalar.cmpi .ne v933 c0_i32_635
  v934

def k0_off82 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c0_i32_749 : BitVec 32 := 0#32
  let v1104 : BitVec 32 := Scalar.addi v1103 c0_i32_749
  let c0_i32_757 : BitVec 32 := 0#32
  ![1, v1104.toNat, 0]
def k0_dev68 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c3_i32_751 : BitVec 32 := 3#32
  let v1106 : BitVec 32 := Scalar.addi v1105 c3_i32_751
  let c1_i32_754 : BitVec 32 := 1#32
  let v1107 : BitVec 32 := Scalar.muli v1106 c1_i32_754
  let v1108 : BitVec 32 := Scalar.addi c0_i32_755 v1107
  v1108.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_636 : BitVec 32 := 0#32
  let v935 : BitVec 1 := Scalar.cmpi .ne v19 c0_i32_636
  let v936 : BitVec 32 := Scalar.extui v935
  let c0_i32_637 : BitVec 32 := 0#32
  let v937 : BitVec 1 := Scalar.cmpi .ne v936 c0_i32_637
  v937

def k0_off83 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_750 : BitVec 32 := 0#32
  let v1105 : BitVec 32 := Scalar.addi v1104 c0_i32_750
  let c0_i32_757 : BitVec 32 := 0#32
  ![1, v1105.toNat, 0]
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_638 : BitVec 32 := 1#32
  let v938 : BitVec 1 := Scalar.cmpi .ne v19 c1_i32_638
  let v939 : BitVec 32 := Scalar.extui v938
  let c0_i32_639 : BitVec 32 := 0#32
  let v940 : BitVec 1 := Scalar.cmpi .ne v939 c0_i32_639
  v940

def k0_off84 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c16_i32_750 : BitVec 32 := 16#32
  let v1105 : BitVec 32 := Scalar.addi v1104 c16_i32_750
  let c0_i32_757 : BitVec 32 := 0#32
  ![1, v1105.toNat, 0]
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_640 : BitVec 32 := 2#32
  let v941 : BitVec 1 := Scalar.cmpi .ne v19 c2_i32_640
  let v942 : BitVec 32 := Scalar.extui v941
  let c0_i32_641 : BitVec 32 := 0#32
  let v943 : BitVec 1 := Scalar.cmpi .ne v942 c0_i32_641
  v943

def k0_off85 (d0 : Dev nD) : Fin 3 → Nat :=
  let c1_i32_754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c32_i32 : BitVec 32 := 32#32
  let v1105 : BitVec 32 := Scalar.addi v1104 c32_i32
  let c0_i32_755 : BitVec 32 := 0#32
  ![1, v1105.toNat, 0]
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_642 : BitVec 32 := 3#32
  let v944 : BitVec 1 := Scalar.cmpi .ne v19 c3_i32_642
  let v945 : BitVec 32 := Scalar.extui v944
  let c0_i32_643 : BitVec 32 := 0#32
  let v946 : BitVec 1 := Scalar.cmpi .ne v945 c0_i32_643
  v946

def k0_off86 (d0 : Dev nD) : Fin 3 → Nat :=
  let c1_i32_754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c48_i32 : BitVec 32 := 48#32
  let v1105 : BitVec 32 := Scalar.addi v1104 c48_i32
  let c0_i32_755 : BitVec 32 := 0#32
  ![1, v1105.toNat, 0]
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_644 : BitVec 32 := 0#32
  let v947 : BitVec 1 := Scalar.cmpi .ne v20 c0_i32_644
  let v948 : BitVec 32 := Scalar.extui v947
  let c0_i32_645 : BitVec 32 := 0#32
  let v949 : BitVec 1 := Scalar.cmpi .ne v948 c0_i32_645
  v949

def k0_off87 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![1, v1104.toNat, 0]
def k0_dev69 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c0_i32_751 : BitVec 32 := 0#32
  let v1106 : BitVec 32 := Scalar.addi v1105 c0_i32_751
  let c1_i32_754 : BitVec 32 := 1#32
  let v1107 : BitVec 32 := Scalar.muli v1106 c1_i32_754
  let v1108 : BitVec 32 := Scalar.addi c0_i32_755 v1107
  v1108.toNat
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_646 : BitVec 32 := 1#32
  let v950 : BitVec 1 := Scalar.cmpi .ne v20 c1_i32_646
  let v951 : BitVec 32 := Scalar.extui v950
  let c0_i32_647 : BitVec 32 := 0#32
  let v952 : BitVec 1 := Scalar.cmpi .ne v951 c0_i32_647
  v952

def k0_off88 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![1, v1104.toNat, 0]
def k0_dev70 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c1_i32_751 : BitVec 32 := 1#32
  let v1106 : BitVec 32 := Scalar.addi v1105 c1_i32_751
  let c1_i32_754 : BitVec 32 := 1#32
  let v1107 : BitVec 32 := Scalar.muli v1106 c1_i32_754
  let v1108 : BitVec 32 := Scalar.addi c0_i32_755 v1107
  v1108.toNat
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_648 : BitVec 32 := 2#32
  let v953 : BitVec 1 := Scalar.cmpi .ne v20 c2_i32_648
  let v954 : BitVec 32 := Scalar.extui v953
  let c0_i32_649 : BitVec 32 := 0#32
  let v955 : BitVec 1 := Scalar.cmpi .ne v954 c0_i32_649
  v955

def k0_off89 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![1, v1104.toNat, 0]
def k0_dev71 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c2_i32_751 : BitVec 32 := 2#32
  let v1106 : BitVec 32 := Scalar.addi v1105 c2_i32_751
  let c1_i32_754 : BitVec 32 := 1#32
  let v1107 : BitVec 32 := Scalar.muli v1106 c1_i32_754
  let v1108 : BitVec 32 := Scalar.addi c0_i32_755 v1107
  v1108.toNat
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_650 : BitVec 32 := 3#32
  let v956 : BitVec 1 := Scalar.cmpi .ne v20 c3_i32_650
  let v957 : BitVec 32 := Scalar.extui v956
  let c0_i32_651 : BitVec 32 := 0#32
  let v958 : BitVec 1 := Scalar.cmpi .ne v957 c0_i32_651
  v958

def k0_off90 (d0 : Dev nD) : Fin 3 → Nat :=
  let c1_i32_756 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_748 : BitVec 32 := 128#32
  let v1103 : BitVec 32 := Scalar.muli v20 c128_i32_748
  let c64_i32_749 : BitVec 32 := 64#32
  let v1104 : BitVec 32 := Scalar.addi v1103 c64_i32_749
  let c0_i32_757 : BitVec 32 := 0#32
  ![1, v1104.toNat, 0]
def k0_dev72 (d0 : Dev nD) : Nat :=
  let c0_i32_755 : BitVec 32 := 0#32
  let c4_i32_750 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1105 : BitVec 32 := Scalar.muli c4_i32_750 v19
  let c3_i32_751 : BitVec 32 := 3#32
  let v1106 : BitVec 32 := Scalar.addi v1105 c3_i32_751
  let c1_i32_754 : BitVec 32 := 1#32
  let v1107 : BitVec 32 := Scalar.muli v1106 c1_i32_754
  let v1108 : BitVec 32 := Scalar.addi c0_i32_755 v1107
  v1108.toNat
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_684 : BitVec 32 := 0#32
  let v1007 : BitVec 1 := Scalar.cmpi .ne v20 c0_i32_684
  let v1008 : BitVec 32 := Scalar.extui v1007
  let c0_i32_685 : BitVec 32 := 0#32
  let v1009 : BitVec 1 := Scalar.cmpi .ne v1008 c0_i32_685
  v1009

def k0_off91 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_759 : BitVec 32 := 128#32
  let v1109 : BitVec 32 := Scalar.muli v20 c128_i32_759
  let c0_i32_760 : BitVec 32 := 0#32
  let v1110 : BitVec 32 := Scalar.addi v1109 c0_i32_760
  let c0_i32_767 : BitVec 32 := 0#32
  ![0, v1110.toNat, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_686 : BitVec 32 := 1#32
  let v1010 : BitVec 1 := Scalar.cmpi .ne v20 c1_i32_686
  let v1011 : BitVec 32 := Scalar.extui v1010
  let c0_i32_687 : BitVec 32 := 0#32
  let v1012 : BitVec 1 := Scalar.cmpi .ne v1011 c0_i32_687
  v1012

def k0_off92 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_759 : BitVec 32 := 128#32
  let v1109 : BitVec 32 := Scalar.muli v20 c128_i32_759
  let c0_i32_760 : BitVec 32 := 0#32
  let v1110 : BitVec 32 := Scalar.addi v1109 c0_i32_760
  let c0_i32_767 : BitVec 32 := 0#32
  ![0, v1110.toNat, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_688 : BitVec 32 := 2#32
  let v1013 : BitVec 1 := Scalar.cmpi .ne v20 c2_i32_688
  let v1014 : BitVec 32 := Scalar.extui v1013
  let c0_i32_689 : BitVec 32 := 0#32
  let v1015 : BitVec 1 := Scalar.cmpi .ne v1014 c0_i32_689
  v1015

def k0_off93 (d0 : Dev nD) : Fin 3 → Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c0_i32_759 : BitVec 32 := 0#32
  let v1110 : BitVec 32 := Scalar.addi v1109 c0_i32_759
  let c0_i32_766 : BitVec 32 := 0#32
  ![0, v1110.toNat, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_690 : BitVec 32 := 3#32
  let v1016 : BitVec 1 := Scalar.cmpi .ne v20 c3_i32_690
  let v1017 : BitVec 32 := Scalar.extui v1016
  let c0_i32_691 : BitVec 32 := 0#32
  let v1018 : BitVec 1 := Scalar.cmpi .ne v1017 c0_i32_691
  v1018

def k0_off94 (d0 : Dev nD) : Fin 3 → Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c0_i32_759 : BitVec 32 := 0#32
  let v1110 : BitVec 32 := Scalar.addi v1109 c0_i32_759
  let c0_i32_766 : BitVec 32 := 0#32
  ![0, v1110.toNat, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_692 : BitVec 32 := 0#32
  let v1019 : BitVec 1 := Scalar.cmpi .ne v19 c0_i32_692
  let v1020 : BitVec 32 := Scalar.extui v1019
  let c0_i32_693 : BitVec 32 := 0#32
  let v1021 : BitVec 1 := Scalar.cmpi .ne v1020 c0_i32_693
  v1021

def k0_off95 (d0 : Dev nD) : Fin 3 → Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1108 : BitVec 32 := Scalar.muli v20 c128_i32_758
  let c0_i32_759 : BitVec 32 := 0#32
  let v1109 : BitVec 32 := Scalar.addi v1108 c0_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_760 : BitVec 32 := 16#32
  let v1110 : BitVec 32 := Scalar.muli v19 c16_i32_760
  let v1111 : BitVec 32 := Scalar.addi v1109 v1110
  let c0_i32_769 : BitVec 32 := 0#32
  ![0, v1111.toNat, 0]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_694 : BitVec 32 := 1#32
  let v1022 : BitVec 1 := Scalar.cmpi .ne v19 c1_i32_694
  let v1023 : BitVec 32 := Scalar.extui v1022
  let c0_i32_695 : BitVec 32 := 0#32
  let v1024 : BitVec 1 := Scalar.cmpi .ne v1023 c0_i32_695
  v1024

def k0_off96 (d0 : Dev nD) : Fin 3 → Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1108 : BitVec 32 := Scalar.muli v20 c128_i32_758
  let c0_i32_759 : BitVec 32 := 0#32
  let v1109 : BitVec 32 := Scalar.addi v1108 c0_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_760 : BitVec 32 := 16#32
  let v1110 : BitVec 32 := Scalar.muli v19 c16_i32_760
  let v1111 : BitVec 32 := Scalar.addi v1109 v1110
  let c0_i32_769 : BitVec 32 := 0#32
  ![0, v1111.toNat, 0]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_696 : BitVec 32 := 2#32
  let v1025 : BitVec 1 := Scalar.cmpi .ne v19 c2_i32_696
  let v1026 : BitVec 32 := Scalar.extui v1025
  let c0_i32_697 : BitVec 32 := 0#32
  let v1027 : BitVec 1 := Scalar.cmpi .ne v1026 c0_i32_697
  v1027

def k0_off97 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_756 : BitVec 32 := 128#32
  let v1108 : BitVec 32 := Scalar.muli v20 c128_i32_756
  let c0_i32_757 : BitVec 32 := 0#32
  let v1109 : BitVec 32 := Scalar.addi v1108 c0_i32_757
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_758 : BitVec 32 := 16#32
  let v1110 : BitVec 32 := Scalar.muli v19 c16_i32_758
  let v1111 : BitVec 32 := Scalar.addi v1109 v1110
  let c0_i32_767 : BitVec 32 := 0#32
  ![0, v1111.toNat, 0]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_698 : BitVec 32 := 3#32
  let v1028 : BitVec 1 := Scalar.cmpi .ne v19 c3_i32_698
  let v1029 : BitVec 32 := Scalar.extui v1028
  let c0_i32_699 : BitVec 32 := 0#32
  let v1030 : BitVec 1 := Scalar.cmpi .ne v1029 c0_i32_699
  v1030

def k0_off98 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_756 : BitVec 32 := 128#32
  let v1108 : BitVec 32 := Scalar.muli v20 c128_i32_756
  let c0_i32_757 : BitVec 32 := 0#32
  let v1109 : BitVec 32 := Scalar.addi v1108 c0_i32_757
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_758 : BitVec 32 := 16#32
  let v1110 : BitVec 32 := Scalar.muli v19 c16_i32_758
  let v1111 : BitVec 32 := Scalar.addi v1109 v1110
  let c0_i32_767 : BitVec 32 := 0#32
  ![0, v1111.toNat, 0]
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_700 : BitVec 32 := 0#32
  let v1031 : BitVec 1 := Scalar.cmpi .ne v20 c0_i32_700
  let v1032 : BitVec 32 := Scalar.extui v1031
  let c0_i32_701 : BitVec 32 := 0#32
  let v1033 : BitVec 1 := Scalar.cmpi .ne v1032 c0_i32_701
  v1033

def k0_off99 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_759 : BitVec 32 := 128#32
  let v1109 : BitVec 32 := Scalar.muli v20 c128_i32_759
  let c64_i32_760 : BitVec 32 := 64#32
  let v1110 : BitVec 32 := Scalar.addi v1109 c64_i32_760
  let c0_i32_767 : BitVec 32 := 0#32
  ![0, v1110.toNat, 0]
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_702 : BitVec 32 := 1#32
  let v1034 : BitVec 1 := Scalar.cmpi .ne v20 c1_i32_702
  let v1035 : BitVec 32 := Scalar.extui v1034
  let c0_i32_703 : BitVec 32 := 0#32
  let v1036 : BitVec 1 := Scalar.cmpi .ne v1035 c0_i32_703
  v1036

def k0_off100 (d0 : Dev nD) : Fin 3 → Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c64_i32_758 : BitVec 32 := 64#32
  let v1110 : BitVec 32 := Scalar.addi v1109 c64_i32_758
  let c0_i32_765 : BitVec 32 := 0#32
  ![0, v1110.toNat, 0]
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_704 : BitVec 32 := 2#32
  let v1037 : BitVec 1 := Scalar.cmpi .ne v20 c2_i32_704
  let v1038 : BitVec 32 := Scalar.extui v1037
  let c0_i32_705 : BitVec 32 := 0#32
  let v1039 : BitVec 1 := Scalar.cmpi .ne v1038 c0_i32_705
  v1039

def k0_off101 (d0 : Dev nD) : Fin 3 → Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c64_i32_759 : BitVec 32 := 64#32
  let v1110 : BitVec 32 := Scalar.addi v1109 c64_i32_759
  let c0_i32_766 : BitVec 32 := 0#32
  ![0, v1110.toNat, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_706 : BitVec 32 := 3#32
  let v1040 : BitVec 1 := Scalar.cmpi .ne v20 c3_i32_706
  let v1041 : BitVec 32 := Scalar.extui v1040
  let c0_i32_707 : BitVec 32 := 0#32
  let v1042 : BitVec 1 := Scalar.cmpi .ne v1041 c0_i32_707
  v1042

def k0_off102 (d0 : Dev nD) : Fin 3 → Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c64_i32_758 : BitVec 32 := 64#32
  let v1110 : BitVec 32 := Scalar.addi v1109 c64_i32_758
  let c0_i32_765 : BitVec 32 := 0#32
  ![0, v1110.toNat, 0]
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_708 : BitVec 32 := 0#32
  let v1043 : BitVec 1 := Scalar.cmpi .ne v19 c0_i32_708
  let v1044 : BitVec 32 := Scalar.extui v1043
  let c0_i32_709 : BitVec 32 := 0#32
  let v1045 : BitVec 1 := Scalar.cmpi .ne v1044 c0_i32_709
  v1045

def k0_off103 (d0 : Dev nD) : Fin 3 → Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1108 : BitVec 32 := Scalar.muli v20 c128_i32_758
  let c64_i32_759 : BitVec 32 := 64#32
  let v1109 : BitVec 32 := Scalar.addi v1108 c64_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_760 : BitVec 32 := 16#32
  let v1110 : BitVec 32 := Scalar.muli v19 c16_i32_760
  let v1111 : BitVec 32 := Scalar.addi v1109 v1110
  let c0_i32_769 : BitVec 32 := 0#32
  ![0, v1111.toNat, 0]
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_710 : BitVec 32 := 1#32
  let v1046 : BitVec 1 := Scalar.cmpi .ne v19 c1_i32_710
  let v1047 : BitVec 32 := Scalar.extui v1046
  let c0_i32_711 : BitVec 32 := 0#32
  let v1048 : BitVec 1 := Scalar.cmpi .ne v1047 c0_i32_711
  v1048

def k0_off104 (d0 : Dev nD) : Fin 3 → Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1108 : BitVec 32 := Scalar.muli v20 c128_i32_757
  let c64_i32_758 : BitVec 32 := 64#32
  let v1109 : BitVec 32 := Scalar.addi v1108 c64_i32_758
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_759 : BitVec 32 := 16#32
  let v1110 : BitVec 32 := Scalar.muli v19 c16_i32_759
  let v1111 : BitVec 32 := Scalar.addi v1109 v1110
  let c0_i32_768 : BitVec 32 := 0#32
  ![0, v1111.toNat, 0]
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_712 : BitVec 32 := 2#32
  let v1049 : BitVec 1 := Scalar.cmpi .ne v19 c2_i32_712
  let v1050 : BitVec 32 := Scalar.extui v1049
  let c0_i32_713 : BitVec 32 := 0#32
  let v1051 : BitVec 1 := Scalar.cmpi .ne v1050 c0_i32_713
  v1051

def k0_off105 (d0 : Dev nD) : Fin 3 → Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_756 : BitVec 32 := 128#32
  let v1108 : BitVec 32 := Scalar.muli v20 c128_i32_756
  let c64_i32_757 : BitVec 32 := 64#32
  let v1109 : BitVec 32 := Scalar.addi v1108 c64_i32_757
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_758 : BitVec 32 := 16#32
  let v1110 : BitVec 32 := Scalar.muli v19 c16_i32_758
  let v1111 : BitVec 32 := Scalar.addi v1109 v1110
  let c0_i32_767 : BitVec 32 := 0#32
  ![0, v1111.toNat, 0]
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_714 : BitVec 32 := 3#32
  let v1052 : BitVec 1 := Scalar.cmpi .ne v19 c3_i32_714
  let v1053 : BitVec 32 := Scalar.extui v1052
  let c0_i32_715 : BitVec 32 := 0#32
  let v1054 : BitVec 1 := Scalar.cmpi .ne v1053 c0_i32_715
  v1054

def k0_off106 (d0 : Dev nD) : Fin 3 → Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_755 : BitVec 32 := 128#32
  let v1108 : BitVec 32 := Scalar.muli v20 c128_i32_755
  let c64_i32_756 : BitVec 32 := 64#32
  let v1109 : BitVec 32 := Scalar.addi v1108 c64_i32_756
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_757 : BitVec 32 := 16#32
  let v1110 : BitVec 32 := Scalar.muli v19 c16_i32_757
  let v1111 : BitVec 32 := Scalar.addi v1109 v1110
  let c0_i32_766 : BitVec 32 := 0#32
  ![0, v1111.toNat, 0]
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_716 : BitVec 32 := 0#32
  let v1055 : BitVec 1 := Scalar.cmpi .ne v20 c0_i32_716
  let v1056 : BitVec 32 := Scalar.extui v1055
  let c0_i32_717 : BitVec 32 := 0#32
  let v1057 : BitVec 1 := Scalar.cmpi .ne v1056 c0_i32_717
  v1057

def k0_off107 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c0_i32_759 : BitVec 32 := 0#32
  let v1110 : BitVec 32 := Scalar.addi v1109 c0_i32_759
  let c0_i32_766 : BitVec 32 := 0#32
  ![1, v1110.toNat, 0]
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_718 : BitVec 32 := 1#32
  let v1058 : BitVec 1 := Scalar.cmpi .ne v20 c1_i32_718
  let v1059 : BitVec 32 := Scalar.extui v1058
  let c0_i32_719 : BitVec 32 := 0#32
  let v1060 : BitVec 1 := Scalar.cmpi .ne v1059 c0_i32_719
  v1060

def k0_off108 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c0_i32_759 : BitVec 32 := 0#32
  let v1110 : BitVec 32 := Scalar.addi v1109 c0_i32_759
  let c0_i32_766 : BitVec 32 := 0#32
  ![1, v1110.toNat, 0]
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_720 : BitVec 32 := 2#32
  let v1061 : BitVec 1 := Scalar.cmpi .ne v20 c2_i32_720
  let v1062 : BitVec 32 := Scalar.extui v1061
  let c0_i32_721 : BitVec 32 := 0#32
  let v1063 : BitVec 1 := Scalar.cmpi .ne v1062 c0_i32_721
  v1063

def k0_off109 (d0 : Dev nD) : Fin 3 → Nat :=
  let c1_i32_764 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c0_i32_758 : BitVec 32 := 0#32
  let v1110 : BitVec 32 := Scalar.addi v1109 c0_i32_758
  let c0_i32_765 : BitVec 32 := 0#32
  ![1, v1110.toNat, 0]
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_722 : BitVec 32 := 3#32
  let v1064 : BitVec 1 := Scalar.cmpi .ne v20 c3_i32_722
  let v1065 : BitVec 32 := Scalar.extui v1064
  let c0_i32_723 : BitVec 32 := 0#32
  let v1066 : BitVec 1 := Scalar.cmpi .ne v1065 c0_i32_723
  v1066

def k0_off110 (d0 : Dev nD) : Fin 3 → Nat :=
  let c1_i32_764 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c0_i32_758 : BitVec 32 := 0#32
  let v1110 : BitVec 32 := Scalar.addi v1109 c0_i32_758
  let c0_i32_765 : BitVec 32 := 0#32
  ![1, v1110.toNat, 0]
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_724 : BitVec 32 := 0#32
  let v1067 : BitVec 1 := Scalar.cmpi .ne v19 c0_i32_724
  let v1068 : BitVec 32 := Scalar.extui v1067
  let c0_i32_725 : BitVec 32 := 0#32
  let v1069 : BitVec 1 := Scalar.cmpi .ne v1068 c0_i32_725
  v1069

def k0_off111 (d0 : Dev nD) : Fin 3 → Nat :=
  let c1_i32_767 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1108 : BitVec 32 := Scalar.muli v20 c128_i32_757
  let c0_i32_758 : BitVec 32 := 0#32
  let v1109 : BitVec 32 := Scalar.addi v1108 c0_i32_758
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_759 : BitVec 32 := 16#32
  let v1110 : BitVec 32 := Scalar.muli v19 c16_i32_759
  let v1111 : BitVec 32 := Scalar.addi v1109 v1110
  let c0_i32_768 : BitVec 32 := 0#32
  ![1, v1111.toNat, 0]
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_726 : BitVec 32 := 1#32
  let v1070 : BitVec 1 := Scalar.cmpi .ne v19 c1_i32_726
  let v1071 : BitVec 32 := Scalar.extui v1070
  let c0_i32_727 : BitVec 32 := 0#32
  let v1072 : BitVec 1 := Scalar.cmpi .ne v1071 c0_i32_727
  v1072

def k0_off112 (d0 : Dev nD) : Fin 3 → Nat :=
  let c1_i32_767 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1108 : BitVec 32 := Scalar.muli v20 c128_i32_757
  let c0_i32_758 : BitVec 32 := 0#32
  let v1109 : BitVec 32 := Scalar.addi v1108 c0_i32_758
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_759 : BitVec 32 := 16#32
  let v1110 : BitVec 32 := Scalar.muli v19 c16_i32_759
  let v1111 : BitVec 32 := Scalar.addi v1109 v1110
  let c0_i32_768 : BitVec 32 := 0#32
  ![1, v1111.toNat, 0]
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_728 : BitVec 32 := 2#32
  let v1073 : BitVec 1 := Scalar.cmpi .ne v19 c2_i32_728
  let v1074 : BitVec 32 := Scalar.extui v1073
  let c0_i32_729 : BitVec 32 := 0#32
  let v1075 : BitVec 1 := Scalar.cmpi .ne v1074 c0_i32_729
  v1075

def k0_off113 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_755 : BitVec 32 := 128#32
  let v1108 : BitVec 32 := Scalar.muli v20 c128_i32_755
  let c0_i32_756 : BitVec 32 := 0#32
  let v1109 : BitVec 32 := Scalar.addi v1108 c0_i32_756
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_757 : BitVec 32 := 16#32
  let v1110 : BitVec 32 := Scalar.muli v19 c16_i32_757
  let v1111 : BitVec 32 := Scalar.addi v1109 v1110
  let c0_i32_766 : BitVec 32 := 0#32
  ![1, v1111.toNat, 0]
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_730 : BitVec 32 := 3#32
  let v1076 : BitVec 1 := Scalar.cmpi .ne v19 c3_i32_730
  let v1077 : BitVec 32 := Scalar.extui v1076
  let c0_i32_731 : BitVec 32 := 0#32
  let v1078 : BitVec 1 := Scalar.cmpi .ne v1077 c0_i32_731
  v1078

def k0_off114 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_755 : BitVec 32 := 128#32
  let v1108 : BitVec 32 := Scalar.muli v20 c128_i32_755
  let c0_i32_756 : BitVec 32 := 0#32
  let v1109 : BitVec 32 := Scalar.addi v1108 c0_i32_756
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_757 : BitVec 32 := 16#32
  let v1110 : BitVec 32 := Scalar.muli v19 c16_i32_757
  let v1111 : BitVec 32 := Scalar.addi v1109 v1110
  let c0_i32_766 : BitVec 32 := 0#32
  ![1, v1111.toNat, 0]
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_732 : BitVec 32 := 0#32
  let v1079 : BitVec 1 := Scalar.cmpi .ne v20 c0_i32_732
  let v1080 : BitVec 32 := Scalar.extui v1079
  let c0_i32_733 : BitVec 32 := 0#32
  let v1081 : BitVec 1 := Scalar.cmpi .ne v1080 c0_i32_733
  v1081

def k0_off115 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_758 : BitVec 32 := 128#32
  let v1109 : BitVec 32 := Scalar.muli v20 c128_i32_758
  let c64_i32_759 : BitVec 32 := 64#32
  let v1110 : BitVec 32 := Scalar.addi v1109 c64_i32_759
  let c0_i32_766 : BitVec 32 := 0#32
  ![1, v1110.toNat, 0]
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_734 : BitVec 32 := 1#32
  let v1082 : BitVec 1 := Scalar.cmpi .ne v20 c1_i32_734
  let v1083 : BitVec 32 := Scalar.extui v1082
  let c0_i32_735 : BitVec 32 := 0#32
  let v1084 : BitVec 1 := Scalar.cmpi .ne v1083 c0_i32_735
  v1084

def k0_off116 (d0 : Dev nD) : Fin 3 → Nat :=
  let c1_i32_764 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c64_i32_758 : BitVec 32 := 64#32
  let v1110 : BitVec 32 := Scalar.addi v1109 c64_i32_758
  let c0_i32_765 : BitVec 32 := 0#32
  ![1, v1110.toNat, 0]
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_736 : BitVec 32 := 2#32
  let v1085 : BitVec 1 := Scalar.cmpi .ne v20 c2_i32_736
  let v1086 : BitVec 32 := Scalar.extui v1085
  let c0_i32_737 : BitVec 32 := 0#32
  let v1087 : BitVec 1 := Scalar.cmpi .ne v1086 c0_i32_737
  v1087

def k0_off117 (d0 : Dev nD) : Fin 3 → Nat :=
  let c1_i32_764 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c64_i32_758 : BitVec 32 := 64#32
  let v1110 : BitVec 32 := Scalar.addi v1109 c64_i32_758
  let c0_i32_765 : BitVec 32 := 0#32
  ![1, v1110.toNat, 0]
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_738 : BitVec 32 := 3#32
  let v1088 : BitVec 1 := Scalar.cmpi .ne v20 c3_i32_738
  let v1089 : BitVec 32 := Scalar.extui v1088
  let c0_i32_739 : BitVec 32 := 0#32
  let v1090 : BitVec 1 := Scalar.cmpi .ne v1089 c0_i32_739
  v1090

def k0_off118 (d0 : Dev nD) : Fin 3 → Nat :=
  let c1_i32_764 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1109 : BitVec 32 := Scalar.muli v20 c128_i32_757
  let c64_i32_758 : BitVec 32 := 64#32
  let v1110 : BitVec 32 := Scalar.addi v1109 c64_i32_758
  let c0_i32_765 : BitVec 32 := 0#32
  ![1, v1110.toNat, 0]
def k0_cond165 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_740 : BitVec 32 := 0#32
  let v1091 : BitVec 1 := Scalar.cmpi .ne v19 c0_i32_740
  let v1092 : BitVec 32 := Scalar.extui v1091
  let c0_i32_741 : BitVec 32 := 0#32
  let v1093 : BitVec 1 := Scalar.cmpi .ne v1092 c0_i32_741
  v1093

def k0_off119 (d0 : Dev nD) : Fin 3 → Nat :=
  let c1_i32_767 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1108 : BitVec 32 := Scalar.muli v20 c128_i32_757
  let c64_i32_758 : BitVec 32 := 64#32
  let v1109 : BitVec 32 := Scalar.addi v1108 c64_i32_758
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_759 : BitVec 32 := 16#32
  let v1110 : BitVec 32 := Scalar.muli v19 c16_i32_759
  let v1111 : BitVec 32 := Scalar.addi v1109 v1110
  let c0_i32_768 : BitVec 32 := 0#32
  ![1, v1111.toNat, 0]
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_742 : BitVec 32 := 1#32
  let v1094 : BitVec 1 := Scalar.cmpi .ne v19 c1_i32_742
  let v1095 : BitVec 32 := Scalar.extui v1094
  let c0_i32_743 : BitVec 32 := 0#32
  let v1096 : BitVec 1 := Scalar.cmpi .ne v1095 c0_i32_743
  v1096

def k0_off120 (d0 : Dev nD) : Fin 3 → Nat :=
  let c1_i32_767 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_757 : BitVec 32 := 128#32
  let v1108 : BitVec 32 := Scalar.muli v20 c128_i32_757
  let c64_i32_758 : BitVec 32 := 64#32
  let v1109 : BitVec 32 := Scalar.addi v1108 c64_i32_758
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_759 : BitVec 32 := 16#32
  let v1110 : BitVec 32 := Scalar.muli v19 c16_i32_759
  let v1111 : BitVec 32 := Scalar.addi v1109 v1110
  let c0_i32_768 : BitVec 32 := 0#32
  ![1, v1111.toNat, 0]
def k0_cond167 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_744 : BitVec 32 := 2#32
  let v1097 : BitVec 1 := Scalar.cmpi .ne v19 c2_i32_744
  let v1098 : BitVec 32 := Scalar.extui v1097
  let c0_i32_745 : BitVec 32 := 0#32
  let v1099 : BitVec 1 := Scalar.cmpi .ne v1098 c0_i32_745
  v1099

def k0_off121 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_755 : BitVec 32 := 128#32
  let v1108 : BitVec 32 := Scalar.muli v20 c128_i32_755
  let c64_i32_756 : BitVec 32 := 64#32
  let v1109 : BitVec 32 := Scalar.addi v1108 c64_i32_756
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_757 : BitVec 32 := 16#32
  let v1110 : BitVec 32 := Scalar.muli v19 c16_i32_757
  let v1111 : BitVec 32 := Scalar.addi v1109 v1110
  let c0_i32_766 : BitVec 32 := 0#32
  ![1, v1111.toNat, 0]
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_746 : BitVec 32 := 3#32
  let v1100 : BitVec 1 := Scalar.cmpi .ne v19 c3_i32_746
  let v1101 : BitVec 32 := Scalar.extui v1100
  let c0_i32_747 : BitVec 32 := 0#32
  let v1102 : BitVec 1 := Scalar.cmpi .ne v1101 c0_i32_747
  v1102

def k0_off122 (d0 : Dev nD) : Fin 3 → Nat :=
  let c1_i32_765 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c128_i32_755 : BitVec 32 := 128#32
  let v1108 : BitVec 32 := Scalar.muli v20 c128_i32_755
  let c64_i32_756 : BitVec 32 := 64#32
  let v1109 : BitVec 32 := Scalar.addi v1108 c64_i32_756
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_757 : BitVec 32 := 16#32
  let v1110 : BitVec 32 := Scalar.muli v19 c16_i32_757
  let v1111 : BitVec 32 := Scalar.addi v1109 v1110
  let c0_i32_766 : BitVec 32 := 0#32
  ![1, v1111.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S2x128x512x512, .f32⟩
  | .hbm, ⟨19, _⟩ => ⟨S_, .f32⟩
  | .hbm, ⟨20, _⟩ => ⟨S2x128x512x512, .f32⟩
  | .hbm, ⟨21, _⟩ => ⟨S2x128x512x512, .f32⟩
  | .hbm, ⟨22, _⟩ => ⟨S1x1x512x512, .i1⟩
  | .hbm, ⟨23, _⟩ => ⟨S_, .f32⟩
  | .hbm, ⟨24, _⟩ => ⟨S_, .f32⟩
  | .hbm, ⟨25, _⟩ => ⟨S2x128x512x512, .i1⟩
  | .hbm, ⟨26, _⟩ => ⟨S2x128x512x512, .f32⟩
  | .hbm, ⟨27, _⟩ => ⟨S2x128x512x512, .f32⟩
  | .hbm, ⟨28, _⟩ => ⟨S_, .f32⟩
  | .hbm, ⟨29, _⟩ => ⟨S2x128x512, .f32⟩
  | .hbm, ⟨30, _⟩ => ⟨S2x128x512x1, .f32⟩
  | .hbm, ⟨31, _⟩ => ⟨S2x128x512x512, .f32⟩
  | .hbm, ⟨32, _⟩ => ⟨S2x128x512x512, .f32⟩
  | .hbm, ⟨33, _⟩ => ⟨S2x128x512x512, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S2x128x512, .f32⟩
  | .hbm, ⟨39, _⟩ => ⟨S2x128x512x1, .f32⟩
  | .hbm, ⟨40, _⟩ => ⟨S_, .f32⟩
  | .hbm, ⟨41, _⟩ => ⟨S_, .f32⟩
  | .hbm, ⟨42, _⟩ => ⟨S2x128x512x1, .i1⟩
  | .hbm, ⟨43, _⟩ => ⟨S2x128x512x1, .f32⟩
  | .hbm, ⟨44, _⟩ => ⟨S2x128x512x1, .f32⟩
  | .hbm, ⟨45, _⟩ => ⟨S2x128x512x512, .f32⟩
  | .hbm, ⟨46, _⟩ => ⟨S2x128x512x512, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S2x128x512x512, .i1⟩
  | .hbm, ⟨51, _⟩ => ⟨S2x128x512x512, .f32⟩
  | .hbm, ⟨52, _⟩ => ⟨S2x128x512x512, .f32⟩
  | .hbm, ⟨53, _⟩ => ⟨S2x128x64x512, .f32⟩
  | .hbm, ⟨54, _⟩ => ⟨S2x512x128x64, .f32⟩
  | .hbm, ⟨55, _⟩ => ⟨S2x512x8192, .f32⟩
  | .hbm, ⟨56, _⟩ => ⟨S2x512x768, .f32⟩
  | .hbm, ⟨57, _⟩ => ⟨S2x512x768, .bf16⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Proto.lean ====
module

public import proofs.«01_k».proof.Proof.Gen.KernelIdeal.Frame
public import Idealize.ShloMosaic.Lib.Pipeline.Launch
public import Idealize.ShloMosaic.Lib.Pipeline.Kit
public import Idealize.ShloMosaic.Lib.Rounds
public import Idealize.ShloMosaic.Lib.Tactic

/-!
# The protocol of the kernel

Sixteen devices stand on a 4 x 4 grid: device `c` has the row index `zOf c = c / 4` and the column index
`pOf c = c % 4`. Every device sends four kinds of messages, each in four rounds `r`:

* kind 0: a slab of its partial result to the devices of its row (`p`-peers);
* kind 1: a quarter of the row's sum to the devices of its column (`z`-peers);
* kind 2: its finished rows of the result to the devices of its column;
* kind 3: a finished slab of the result to the devices of its row.

This module names the devices, the semaphore cells, the pieces of memory that travel, the duties of every cell and
what each duty hands over, and the order in which a device pays what it owes.
-/

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

/-- The column index of a device. -/
def pOf (c : Dev nD) : Fin 4 := ⟨c.val % 4, Nat.mod_lt _ (by decide)⟩
/-- The row index of a device. -/
def zOf (c : Dev nD) : Fin 4 := ⟨c.val / 4, Nat.div_lt_of_lt_mul c.isLt⟩
/-- The device at a row and a column. -/
def devAt (z p : Fin 4) : Dev nD := ⟨4 * z.val + p.val, by have := z.isLt; have := p.isLt; show _ < 16; omega⟩

/-- Whether the messages of kind `k` stay in a row of the grid. -/
def inRow (k : Fin 4) : Bool := k = 0 || k = 3

/-- A device's own index among the four that exchange messages of kind `k`. -/
def own (k : Fin 4) (c : Dev nD) : Fin 4 := if inRow k then pOf c else zOf c
/-- The device with index `j` among the four that exchange messages of kind `k` with `c`. -/
def peer (k : Fin 4) (c : Dev nD) (j : Fin 4) : Dev nD := if inRow k then devAt (zOf c) j else devAt j (pOf c)

theorem own_peer : ∀ k c j, own k (peer k c j) = j := by decide
theorem peer_own : ∀ k c j, peer k (peer k c j) (own k c) = c := by decide
theorem devAt_self : ∀ c, devAt (zOf c) (pOf c) = c := by decide
theorem pOf_devAt : ∀ z p, pOf (devAt z p) = p := by decide
theorem zOf_devAt : ∀ z p, zOf (devAt z p) = z := by decide

/-! ## Semaphore cells -/

/-- The cells of one device. -/
inductive Cell where
  /-- the barrier -/
  | bar
  /-- the two loads of weights -/
  | ld (i : Fin 2)
  /-- the departures of kind `k`, round `r` -/
  | snd (k r : Fin 4)
  /-- the arrivals of kind `k`, round `r` -/
  | rcv (k r : Fin 4)
deriving DecidableEq

/-- The cells, listed. -/
def cellEquiv : Cell ≃ Unit ⊕ Fin 2 ⊕ (Fin 4 × Fin 4) ⊕ (Fin 4 × Fin 4) where
  toFun | .bar => .inl () | .ld i => .inr (.inl i) | .snd k r => .inr (.inr (.inl (k, r))) | .rcv k r => .inr (.inr (.inr (k, r)))
  invFun | .inl _ => .bar | .inr (.inl i) => .ld i | .inr (.inr (.inl (k, r))) => .snd k r | .inr (.inr (.inr (k, r))) => .rcv k r
  left_inv x := by cases x <;> rfl
  right_inv x := by rcases x with _ | _ | _ | _ <;> rfl

instance : Fintype Cell := Fintype.ofEquiv _ cellEquiv.symm

/-- The semaphore of a cell. -/
def csem : Cell → SemLoc sig
  | .bar => .reg barrier0
  | .ld i => .dma ⟨4 + i.val, by have := i.isLt; show _ < 38; omega⟩
  | .snd k r => .dma ⟨6 + 8 * k.val + r.val, by have := k.isLt; have := r.isLt; show _ < 38; omega⟩
  | .rcv k r => .dma ⟨10 + 8 * k.val + r.val, by have := k.isLt; have := r.isLt; show _ < 38; omega⟩

theorem csem_inj : ∀ x y, csem x = csem y → x = y := by decide +kernel

/-- The cell of a semaphore, if it is one of the kernel's. -/
def decode (s : SemLoc sig) : Option Cell :=
  match s with
  | .reg q => some .bar
  | .dma q =>
    if q.val < 4 then none
    else if q.val < 6 then some (.ld ⟨q.val % 2, Nat.mod_lt _ (by decide)⟩)
    else if (q.val - 6) % 8 < 4 then some (.snd ⟨(q.val - 6) / 8 % 4, Nat.mod_lt _ (by decide)⟩ ⟨(q.val - 6) % 4, Nat.mod_lt _ (by decide)⟩)
    else some (.rcv ⟨(q.val - 6) / 8 % 4, Nat.mod_lt _ (by decide)⟩ ⟨(q.val - 6) % 4, Nat.mod_lt _ (by decide)⟩)

theorem decode_csem : ∀ x, decode (csem x) = some x := by decide +kernel

/-- Cell `x` of device `c`. -/
abbrev gc (c : Dev nD) (x : Cell) : GSem nD τ sig := ((c : Thread nD τ), csem x)

theorem gc_inj {c c' : Dev nD} {x x' : Cell} (h : gc c x = gc c' x') : c = c' ∧ x = x' :=
  ⟨congrArg (fun g : GSem nD τ sig => g.1.1) h, csem_inj _ _ (congrArg Prod.snd h)⟩

/-! ## Pieces of memory -/

/-- The rectangle of `s` at `off` of extents `size`, as a set of places. -/
def bx (s : Shape) (off size : Fin s.rank → ℕ) : Finset s.Idx :=
  Finset.univ.filter fun i => ∀ a, off a ≤ (i a).val ∧ (i a).val < off a + size a

theorem mem_bx {s : Shape} {off size : Fin s.rank → ℕ} {i : s.Idx} :
    i ∈ bx s off size ↔ ∀ a, off a ≤ (i a).val ∧ (i a).val < off a + size a := by
  unfold bx; rw [Finset.mem_filter]; exact ⟨fun h => h.2, fun h => ⟨Finset.mem_univ _, h⟩⟩

theorem unit_set {s : Shape} (off size : Fin s.rank → ℕ) (inb) : (Rect.unit (s := s) off size inb).set = bx s off size := by
  ext i; rw [Rect.mem_set_unit, mem_bx]

/-- The rows of round `r`, column `p`, in a `2 x 512 x 768` buffer. -/
def slab (r p : Fin 4) : Finset S2x512x768.Idx := bx S2x512x768 ![r.val / 2, 128 * p.val + 64 * (r.val % 2), 0] S1x64x768.size
/-- The sixteen rows of row index `z` in that slab. -/
def rows (r p z : Fin 4) : Finset S2x512x768.Idx := bx S2x512x768 ![r.val / 2, 128 * p.val + 64 * (r.val % 2) + 16 * z.val, 0] S1x16x768.size
/-- Quarter `j` of slot `r` of the row-sum buffer. -/
def quarter (r j : Fin 4) : Finset S4x64x768.Idx := bx S4x64x768 ![r.val, 16 * j.val, 0] S1x16x768.size
/-- Slot `4 r + s` of the buffer for messages of kind 0. -/
def pslot (r s : Fin 4) : Finset S16x64x768.Idx := bx S16x64x768 ![4 * r.val + s.val, 0, 0] S1x64x768.size
/-- Slot `4 r + s` of the buffer for messages of kind 1. -/
def zslot (r s : Fin 4) : Finset S16x16x768.Idx := bx S16x16x768 ![4 * r.val + s.val, 0, 0] S1x16x768.size

/-- The half, then the quarters of the half, that a device lends of a piece that it sends to several peers at once. -/
def qtr (q : PosShare TreeShare) (j : Fin 4) : PosShare TreeShare :=
  match j with
  | 0 => q.left.left
  | 1 => q.left.right
  | 2 => q.right.left
  | 3 => q.right.right

/-- The contents that the buffers end with, on every device. -/
structure Vals (F : FTy → Type) where
  /-- the query weights a device loads -/
  wq : Dev nD → S768x512.Idx → F .f32
  /-- the output weights a device loads -/
  wo : Dev nD → S512x768.Idx → F .f32
  /-- the whole query weights -/
  wqAll : Dev nD → S768x8192.Idx → F .f32
  /-- the whole output weights -/
  woAll : Dev nD → S8192x768.Idx → F .f32
  /-- a device's partial result -/
  acc : Dev nD → S2x512x768.Idx → F .bf16
  /-- a device's row sums -/
  cg : Dev nD → S4x64x768.Idx → F .bf16
  /-- what a device gets by messages of kind 0 -/
  pb : Dev nD → S16x64x768.Idx → F .bf16
  /-- what a device gets by messages of kind 1 -/
  zb : Dev nD → S16x16x768.Idx → F .bf16
  /-- the result, the same on all devices -/
  out : S2x512x768.Idx → F .bf16

/-! ## The resource algebra -/

/-- A duty's name: whether it is paid along a column, and the payer's or the target's index. -/
abbrev Duty : Type := Bool × Fin 4
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Part `I` of buffer `b` of device `c` holds `f`, at share `q`. -/
abbrev pt (c : Dev nD) (b : Ref sig .tc) (I : Finset b.ty.shape.Idx) (q : PosShare TreeShare) (f : b.ty.shape.Idx → Elt F b.ty.elt) : sProp 𝕄 :=
  ((c : Thread nD τ).loc b) ↦[I]{q} f

/-- The whole buffer `b` of device `c` holds `f`. -/
abbrev ptw (c : Dev nD) (b : Ref sig .tc) (f : b.ty.shape.Idx → Elt F b.ty.elt) : sProp 𝕄 := pt c b Finset.univ fullShare f

/-! ## What the duties hand over -/

/-- The place on device `t` where `c'` writes its message of kind `k`, round `r`. -/
def Place (k r : Fin 4) (c' t : Dev nD) : sProp 𝕄 :=
  match k with
  | 0 => iprop(∃ f, pt t cc0_scratch6 (pslot r (pOf c')) fullShare f)
  | 1 => iprop(∃ f, pt t cc0_scratch7 (zslot r (zOf c')) fullShare f)
  | 2 => iprop(∃ f, pt t cc0_stg3_0 (rows r (pOf c') (zOf c')) fullShare f)
  | 3 => iprop(∃ f, pt t cc0_stg3_0 (slab r (pOf c')) fullShare f)

variable (V : Vals F)

/-- What device `c` sends to its peer `j` by the message of kind `k`, round `r`, with the share that it lends. -/
def Src (k r j : Fin 4) (c : Dev nD) : sProp 𝕄 :=
  match k with
  | 0 => pt c cc0_scratch4 (slab r j) fullShare (V.acc c)
  | 1 => pt c cc0_scratch5 (quarter r j) fullShare (V.cg c)
  | 2 => pt c cc0_stg3_0 (rows r (pOf c) (zOf c)) (qtr fullShare.left j) V.out
  | 3 => pt c cc0_stg3_0 (slab r (pOf c)) (qtr fullShare.right j) V.out

/-- What device `c` gets from its peer `s` by the message of kind `k`, round `r`. -/
def Got (k r s : Fin 4) (c : Dev nD) : sProp 𝕄 :=
  match k with
  | 0 => pt c cc0_scratch6 (pslot r s) fullShare (V.pb c)
  | 1 => pt c cc0_scratch7 (zslot r s) fullShare (V.zb c)
  | 2 => pt c cc0_stg3_0 (rows r (pOf c) s) fullShare V.out
  | 3 => pt c cc0_stg3_0 (slab r s) fullShare V.out

/-- The slice of the query weights a device loads. -/
def wqSet (c : Dev nD) : Finset S768x8192.Idx := bx S768x8192 ![0, 512 * c.val] S768x512.size
/-- The slice of the output weights a device loads. -/
def woSet (c : Dev nD) : Finset S8192x768.Idx := bx S8192x768 ![512 * c.val, 0] S512x768.size

/-- What a finished load of weights hands over. -/
def Loaded (i : Fin 2) (c : Dev nD) : sProp 𝕄 :=
  match i with
  | 0 => iprop(ptw c cc0_scratch0 (V.wq c) ∗ pt c main_arg1 (wqSet c) fullShare (V.wqAll c))
  | 1 => iprop(ptw c cc0_scratch1 (V.wo c) ∗ pt c main_arg4 (woSet c) fullShare (V.woAll c))

/-- The kinds of messages that go along a row (`false`) or along a column (`true`). -/
def barKind : Bool → Fin 4 | false => 0 | true => 1
/-- The second such kind. -/
def barKind' : Bool → Fin 4 | false => 3 | true => 2

/-- What the barrier signal of `t` hands to `c`: the places on `t` where `c` is going to write. -/
def Places (b : Bool) (c t : Dev nD) : sProp 𝕄 :=
  bigSep Finset.univ fun r : Fin 4 => iprop(Place (F := F) (barKind b) r c t ∗ Place (F := F) (barKind' b) r c t)

/-- What duty `d` hands to the owner of cell `x` of device `c`. -/
def pay (x : Cell) (c : Dev nD) (d : Duty) : sProp 𝕄 :=
  match x with
  | .bar => Places d.1 c (peer (barKind d.1) c d.2)
  | .ld i => Loaded V i c
  | .snd k r => Src V k r d.2 c
  | .rcv k r => Got V k r d.2 c

/-- What one message of kind `k` counts at its semaphores: its bytes in units of 32. -/
def bytes (k : Fin 4) : ℕ := if inRow k then 3072 else 768
/-- What one load counts at its semaphore. -/
def ldBytes : ℕ := 49152

/-- The duties of cell `x` of device `c`. -/
def dset (x : Cell) (c : Dev nD) : Finset Duty :=
  match x with
  | .bar => Finset.univ.filter fun d => d.2 ≠ own (barKind d.1) c
  | .ld _ => {(false, 0)}
  | .snd k _ => Finset.univ.filter fun d => d.1 = false ∧ d.2 ≠ own k c
  | .rcv k _ => Finset.univ.filter fun d => d.1 = false ∧ d.2 ≠ own k c

/-- The units of a duty of cell `x`. -/
def amt (x : Cell) : ℕ :=
  match x with
  | .bar => 1
  | .ld _ => ldBytes
  | .snd k _ => bytes k
  | .rcv k _ => bytes k

theorem amt_pos (x : Cell) : 0 < amt x := by
  cases x with
  | bar => exact Nat.one_pos
  | ld _ => show 0 < ldBytes; unfold ldBytes; omega
  | snd k r => show 0 < bytes k; unfold bytes; split <;> omega
  | rcv k r => show 0 < bytes k; unfold bytes; split <;> omega

/-- The schedule: every cell has one round. -/
def Rd : Rounds.Schedule (GSem nD τ sig) Duty 𝕄 where
  duties g r := if r = 0 ∧ g.1.2 = .tc then (match decode g.2 with | some x => dset x g.1.1 | none => ∅) else ∅
  amount g _ _ := match decode g.2 with | some x => amt x | none => 1
  payload g _ d := match decode g.2 with | some x => pay V x g.1.1 d | none => iprop(emp)
  amount_pos g r d _ := by
    cases decode g.2 with
    | some x => exact amt_pos x
    | none => exact Nat.one_pos

theorem duties_eq (g : GSem nD τ sig) (r : ℕ) :
    (Rd V).duties g r = if r = 0 ∧ g.1.2 = .tc then (match decode g.2 with | some x => dset x g.1.1 | none => ∅) else ∅ := rfl
theorem duties_gc (c : Dev nD) (x : Cell) : (Rd V).duties (gc c x) 0 = dset x c := by
  rw [duties_eq, if_pos ⟨rfl, rfl⟩, decode_csem]
theorem duties_later (g : GSem nD τ sig) (r : ℕ) (h : 1 ≤ r) : (Rd V).duties g r = ∅ := by
  rw [duties_eq, if_neg (fun h' => by omega)]
theorem amount_gc (c : Dev nD) (x : Cell) (r : ℕ) (d : Duty) : (Rd V).amount (gc c x) r d = amt x := by
  show (match decode (csem x) with | some x => amt x | none => 1) = amt x
  rw [decode_csem]
theorem payload_gc (c : Dev nD) (x : Cell) (r : ℕ) (d : Duty) : (Rd V).payload (gc c x) r d = pay V x c d := by
  show (match decode (csem x) with | some x => pay V x c d | none => iprop(emp)) = pay V x c d
  rw [decode_csem]

theorem expect_gc (c : Dev nD) (x : Cell) : (Rd V).expect (gc c x) 0 = (dset x c).card * amt x := by
  unfold Schedule.expect Schedule.amountOf
  rw [Finset.sum_congr rfl fun d _ => amount_gc V c x 0 d, Finset.sum_const, duties_gc, smul_eq_mul]

theorem card_rcv : ∀ k r c, (dset (.rcv k r) c).card = 3 := by decide +kernel
theorem card_snd : ∀ k r c, (dset (.snd k r) c).card = 3 := by decide +kernel
theorem card_bar : ∀ c, (dset .bar c).card = 6 := by decide +kernel

/-! ## What a device owes, in the order in which it pays -/

/-- One payment: a barrier signal, or a message. -/
inductive Item where
  | sig (b : Bool) (j : Fin 4)
  | msg (k r j : Fin 4)
deriving DecidableEq

/-- The payment as a tally on the cell that it credits; nothing, if it would go to the device itself. -/
def tal (c : Dev nD) : Item → CellTallies nD τ sig Unit
  | .sig b j => if j = own (barKind b) c then 0 else tallyAt (gc (peer (barKind b) c j) .bar) () 1
  | .msg k r j => if j = own k c then 0 else tallyAt (gc (peer k c j) (.rcv k r)) () (bytes k)

/-- The four messages of kind `k`, round `r`. -/
def four (k r : Fin 4) : List Item := [.msg k r 0, .msg k r 1, .msg k r 2, .msg k r 3]
/-- Two rounds of messages of kind 0, interleaved. -/
def two (r r' : Fin 4) : List Item := [.msg 0 r 0, .msg 0 r' 0, .msg 0 r 1, .msg 0 r' 1, .msg 0 r 2, .msg 0 r' 2, .msg 0 r 3, .msg 0 r' 3]

/-- All payments, in program order. -/
def sched : List Item :=
  [.sig false 0, .sig false 1, .sig false 2, .sig false 3, .sig true 0, .sig true 1, .sig true 2, .sig true 3]
  ++ two 0 1 ++ four 1 0 ++ four 1 1 ++ two 2 3 ++ four 2 0 ++ four 2 1 ++ four 1 2 ++ four 3 0 ++ four 1 3 ++ four 3 1
  ++ four 2 2 ++ four 2 3 ++ four 3 2 ++ four 3 3

/-- What device `c` still owes when it has made its first `n` payments. -/
def due (c : Dev nD) (n : ℕ) : CellTallies nD τ sig Unit := ((sched.drop n).map (tal c)).sum

theorem due_step (c : Dev nD) (n : ℕ) (i : Item) (h : sched[n]? = some i) : due c n = due c (n + 1) + tal c i := by
  obtain ⟨hn, he⟩ := List.getElem?_eq_some_iff.mp h
  unfold due
  rw [List.drop_eq_getElem_cons hn, List.map_cons, List.sum_cons, he, add_comm]

theorem due_end (c : Dev nD) : due c 72 = 0 := rfl

/-- The level of a cell: arrivals in the order in which they are waited for, above the barrier, above everything else. -/
def lvl : Cell → ℕ
  | .bar => 1
  | .ld _ => 0
  | .snd _ _ => 0
  | .rcv k r => match k, r with
    | 0, 0 => 2 | 0, 1 => 3 | 1, 0 => 4 | 1, 1 => 5 | 0, 2 => 6 | 0, 3 => 7 | 2, 0 => 8 | 2, 1 => 9
    | 1, 2 => 10 | 3, 0 => 11 | 1, 3 => 12 | 3, 1 => 13 | 2, 2 => 14 | 2, 3 => 15 | 3, 2 => 16 | 3, 3 => 17

/-- The cell that a payment credits. -/
def Item.cell : Item → Cell
  | .sig _ _ => .bar
  | .msg k r _ => .rcv k r

def L (g : GSem nD τ sig) : Finset Unit := if g.1.2 = .tc then {()} else ∅
def lv (g : GSem nD τ sig) (_ : Unit) : ℕ := match decode g.2 with | some x => lvl x | none => 0

theorem L_of_ne (g : GSem nD τ sig) (h : g.1.2 ≠ .tc) : L g = ∅ := if_neg h
theorem L_tc (c : Dev nD) (s : SemLoc sig) : L ((c : Thread nD τ), s) = {()} := if_pos rfl
theorem lv_gc (c : Dev nD) (x : Cell) : lv (gc c x) () = lvl x := by
  show (match decode (csem x) with | some x => lvl x | none => 0) = lvl x
  rw [decode_csem]

theorem tallyAt_pos {g g' : GSem nD τ sig} {n : ℕ} (h : 0 < (tallyAt g' () n : CellTallies nD τ sig Unit) g ()) : g = g' := by
  rw [tallyAt_apply] at h
  by_contra hg
  rw [if_neg (fun hh => hg hh.1)] at h
  exact lt_irrefl 0 h

theorem tal_pos {c : Dev nD} {i : Item} {g : GSem nD τ sig} (h : 0 < tal c i g ()) : ∃ t : Dev nD, g = gc t i.cell := by
  cases i with
  | sig b j =>
    by_cases hj : j = own (barKind b) c
    · rw [tal, if_pos hj] at h; exact absurd h (lt_irrefl 0)
    · rw [tal, if_neg hj] at h; exact ⟨_, tallyAt_pos h⟩
  | msg k r j =>
    by_cases hj : j = own k c
    · rw [tal, if_pos hj] at h; exact absurd h (lt_irrefl 0)
    · rw [tal, if_neg hj] at h; exact ⟨_, tallyAt_pos h⟩

/-- A cell with something owed is the cell of one of the remaining payments. -/
theorem due_pos {c : Dev nD} {n : ℕ} {g : GSem nD τ sig} (h : 0 < due c n g ()) :
    ∃ i ∈ sched.drop n, ∃ t : Dev nD, g = gc t i.cell := by
  unfold due at h
  generalize sched.drop n = l at h
  induction l with
  | nil => exact absurd h (lt_irrefl 0)
  | cons i l ih =>
    rw [List.map_cons, List.sum_cons, Pi.add_apply, Finsupp.add_apply] at h
    by_cases h0 : 0 < (List.map (tal c) l).sum g ()
    · obtain ⟨i', hi', ht⟩ := ih h0
      exact ⟨i', List.mem_cons_of_mem _ hi', ht⟩
    · have h1 : 0 < tal c i g () := by omega
      exact ⟨i, List.mem_cons_self, tal_pos h1⟩

/-- A wait on a semaphore below everything still owed is in order. -/
theorem mayWait_due (c : Dev nD) (s : SemLoc sig) (n b : ℕ) (hs : lv ((c : Thread nD τ), s) () ≤ b)
    (h : ∀ i ∈ sched.drop n, b < lvl i.cell) : (levAts L lv : sProp 𝕄) ⊢ MayWait (c : Thread nD τ) s () (due c n) := by
  refine MayOwe.of_cut (L := L) (lev := lv) b (fun p hp => by rw [Finset.mem_singleton.mp hp, L_tc]; exact Finset.mem_singleton_self _)
    (fun g ι hg => ?_) (fun p hp => by rw [Finset.mem_singleton.mp hp]; exact hs) (fun g ι hg => ?_)
  · cases ι
    obtain ⟨i, _, t, rfl⟩ := due_pos hg
    rw [L_tc]; exact Finset.mem_singleton_self _
  · cases ι
    obtain ⟨i, hi, t, rfl⟩ := due_pos hg
    rw [lv_gc]; exact h i hi

/-- The order that a wait for cell `x` after `n` payments asks for. -/
def InOrder (x : Cell) (n : ℕ) : Prop := ∀ i ∈ sched.drop n, lvl x < lvl i.cell
instance (x : Cell) (n : ℕ) : Decidable (InOrder x n) := by unfold InOrder; infer_instance

theorem mayWait_cell (c : Dev nD) (x : Cell) (n : ℕ) (h : InOrder x n) :
    (levAts L lv : sProp 𝕄) ⊢ MayWait (c : Thread nD τ) (csem x) () (due c n) :=
  mayWait_due c (csem x) n (lvl x) (le_of_eq (lv_gc c x)) h

end Cert.Attn
-- ==== Proof.Steps.lean ====
module

public import proofs.«01_k».proof.Proof.Proto

/-!
# One step of the protocol

A barrier signal, a message and a wait, each as one rule. In the kernel each stands under a test that the peer is not
the device itself; the rules with `_if` state the whole tested block at once: what the block takes and gives is nothing
(or is handed through) when the test fails.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F) (K : Dev nD × Cell → ℕ)

abbrev 𝒱₀ : Variants := Variants.none

/-! ## Separating conjunctions over a set -/

omit [FloatOps F] in
theorem sep_elem {I : Type} [DecidableEq I] {s : Finset I} {i : I} (h : i ∈ s) (Φ : I → sProp 𝕄) : bigSep s Φ ⊢ Φ i := bigSep_elim h

omit [FloatOps F] in
theorem sep_sdiff {I : Type} [DecidableEq I] {s t : Finset I} (h : t ⊆ s) (Φ : I → sProp 𝕄) :
    bigSep s Φ = iprop(bigSep t Φ ∗ bigSep (s \ t) Φ) := bigSep_sdiff_split h

/-! ## What every device knows -/

/-- All cells' invariants, that round 0 of each is reached, and the levels. -/
def Env : sProp 𝕄 :=
  iprop((bigSep Finset.univ fun x : Dev nD × Cell => cellInv ER (Rd V) (K x) (gc x.1 x.2))
    ∗ (bigSep Finset.univ fun x : Dev nD × Cell => reached ER (gc x.1 x.2) 0) ∗ levAts L lv)

instance : BI.Persistent (Env V K) := by unfold Env; infer_instance

omit [FloatOps F] in
theorem env_inv (c : Dev nD) (x : Cell) : Env V K ⊢ cellInv ER (Rd V) (K (c, x)) (gc c x) := by
  unfold Env
  iintro ⟨#H, -, -⟩
  iapply (sep_elem (Finset.mem_univ (c, x)) (fun x : Dev nD × Cell => cellInv ER (Rd V) (K x) (gc x.1 x.2)))
  iexact H

omit [FloatOps F] in
theorem env_reached (c : Dev nD) (x : Cell) : Env V K ⊢ reached ER (gc c x) 0 := by
  unfold Env
  iintro ⟨-, #H, -⟩
  iapply (sep_elem (Finset.mem_univ (c, x)) (fun x : Dev nD × Cell => (reached ER (gc x.1 x.2) 0 : sProp 𝕄)))
  iexact H

omit [FloatOps F] in
theorem env_lev : Env V K ⊢ (levAts L lv : sProp 𝕄) := by
  unfold Env
  iintro ⟨-, -, #H⟩
  iexact H

omit [FloatOps F] in
theorem env_emp : Env V K ⊢ (iprop(emp) : sProp 𝕄) := by
  iintro #H
  iempintro

/-- A device may wait on a cell at the point of the schedule where it comes, and at the end on every cell. -/
theorem env_mayWait (c : Dev nD) (x : Cell) (n : ℕ) (hn : n = 72 ∨ InOrder x n) :
    Env V K ⊢ MayWait (c : Thread nD τ) (csem x) () (due c n) := by
  by_cases h : n = 72
  · rw [h, due_end, MayWait_zero]; exact env_emp V K
  · have h' : (levAts L lv : sProp 𝕄) ⊢ MayWait (c : Thread nD τ) (csem x) () (due c n) := mayWait_cell (F := F) c x n (hn.resolve_left h)
    exact (env_lev V K).trans h'

/-- What device `c` owes after `n` payments, with whatever waits it has recorded. -/
def Owed (c : Dev nD) (n : ℕ) : sProp 𝕄 := iprop(∃ W, owes (c : Thread nD τ) (due c n) W)

/-- `A`, unless `j` is the device's own index. -/
def other (k : Fin 4) (c : Dev nD) (j : Fin 4) (A : sProp 𝕄) : sProp 𝕄 := if j = own k c then iprop(emp) else A

omit [FloatOps F] in
theorem other_own {k : Fin 4} {c : Dev nD} {j : Fin 4} {A : sProp 𝕄} (h : j = own k c) : other k c j A = iprop(emp) := if_pos h
omit [FloatOps F] in
theorem other_ne {k : Fin 4} {c : Dev nD} {j : Fin 4} {A : sProp 𝕄} (h : j ≠ own k c) : other k c j A = A := if_neg h

/-! ## Messages -/

/-- The two tokens of a message. -/
def Toks (k r j : Fin 4) (c : Dev nD) : sProp 𝕄 :=
  iprop(dutyTok ER (gc c (.snd k r)) 0 (false, j) ∗ dutyTok ER (gc (peer k c j) (.rcv k r)) 0 (false, own k c))

/-- What a device needs to send a message, beside the message itself. -/
def Ready (k r j : Fin 4) (c : Dev nD) : sProp 𝕄 :=
  other k c j (iprop(Toks k r j c ∗ Place k r c (peer k c j)) : sProp 𝕄)

/-- The right to wait once more on cell `x`, which gets messages of kind `k`. -/
def Cr (k : Fin 4) (x : Cell) (j : Fin 4) (c : Dev nD) : sProp 𝕄 := other k c j (cred (tallyAt (gc c x) () (bytes k)) : sProp 𝕄)

/-- The piece that stays with the device because it would go to the device itself. -/
def Kept (k r j : Fin 4) (c : Dev nD) : sProp 𝕄 := if j = own k c then Src V k r j c else iprop(emp)

theorem mem_snd {k r j : Fin 4} {c : Dev nD} (h : j ≠ own k c) : ((false, j) : Duty) ∈ dset (.snd k r) c :=
  Finset.mem_filter.mpr ⟨Finset.mem_univ _, rfl, h⟩
theorem mem_rcv {k r j : Fin 4} {c : Dev nD} (h : j ≠ own k c) : ((false, j) : Duty) ∈ dset (.rcv k r) c :=
  Finset.mem_filter.mpr ⟨Finset.mem_univ _, rfl, h⟩
theorem own_ne_peer {k j : Fin 4} {c : Dev nD} (h : j ≠ own k c) : own k c ≠ own k (peer k c j) := by
  rw [own_peer]; exact h.symm

/-- A message to another device. -/
theorem send_core {c : Dev nD} {k r j : Fin 4} {n : ℕ} (hj : j ≠ own k c) (hn : sched[n]? = some (.msg k r j))
    {s : Shape} {src dst : Memref sig .tc .vmem s .bf16} {dv : Dev nD} (hdv : dv = peer k c j)
    {sS sR : SemLoc sig} (hS : sS = csem (.snd k r)) (hR : sR = csem (.rcv k r))
    (hamt : dst.view.amount sR = bytes k)
    {q : PosShare TreeShare} {fs : Buf (Elt F) (src.view.loc (c : Thread nD τ))}
    (hsrc : Src V k r j c = (src.view.loc (c : Thread nD τ) ↦[src.view.set]{q} fs : sProp 𝕄))
    (hplace : Place k r c dv ⊢ (iprop(∃ fd, dst.view.loc (dv : Thread nD τ) ↦[dst.view.set]{fullShare} fd) : sProp 𝕄))
    (hgot : ∀ fd, (dst.view.loc (dv : Thread nD τ) ↦[dst.view.set]{fullShare} (dst.view.write (Elt F) fd (src.view.read (Elt F) fs) Finset.univ) : sProp 𝕄)
      ⊢ Got V k r (own k c) dv)
    {hsc} {hsrcw : src.view.WordExact} {hdstw : dst.view.WordExact}
    {hsem : DmaTarget.Typed .vmem sR (.remote (Dev.tc dv : Thread nD τ) dst sS hsc)}
    {kk : PUnit → Prog (TpuEff nD τ sig (Elt F) Λ₀ .tc) PUnit} {Q : PUnit → sProp 𝕄} :
    iprop(Env V K ∗ Ready k r j c ∗ Src V k r j c ∗ Owed c n)
      ⊢ iprop(((Cr k (.snd k r) j c ∗ Kept V k r j c ∗ Owed c (n + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc dv : Thread nD τ) dst sS hsc) sR hsrcw hdstw hsem) kk) Q) := by
  subst hS hR
  unfold Ready Toks Cr Kept Owed
  rw [other_ne hj, other_ne hj, if_neg hj, ← hdv, hsrc]
  iintro ⟨#HE, ⟨⟨Ht1, Ht2⟩, Hp⟩, Hs, ⟨%W, HO⟩⟩ Hk
  ihave Hp' := hplace $$ Hp
  icases Hp' with ⟨%fd, Hd⟩
  iapply (Rounds.wp_send_pointsTo 𝒱₀ ER (Rd V) (c : Thread nD τ) none (κ₁ := K (c, .snd k r)) (κ₂ := K (dv, .rcv k r))
    (r₁ := 0) (r₂ := 0) (d₁ := (false, j)) (d₂ := (false, own k c)) (fd := fd)
    (by rw [duties_gc]; exact mem_snd hj) (by rw [duties_gc, hdv]; exact mem_rcv (own_ne_peer hj))
    () () (bytes k) hamt (amount_gc V c (.snd k r) 0 _) (amount_gc V dv (.rcv k r) 0 _) (O₀ := due c n) (due c (n + 1))
    (by rw [due_step c n _ hn, hdv]; exact congrArg (due c (n + 1) + ·) (if_neg hj)) (W := W)
    (by rw [payload_gc]; exact Entails.of_eq hsrc.symm) (by rw [payload_gc]; exact hgot fd)) $$ [Hs Hd HO Ht1 Ht2]
  · isplitr; · iapply (env_inv V K c (.snd k r)); iexact HE
    isplitr; · iapply (env_inv V K dv (.rcv k r)); iexact HE
    isplitl [Hs]; · iexact Hs
    isplitl [Hd]; · iexact Hd
    isplitl [HO]; · iexact HO
    isplitl [Ht1]; · iexact Ht1
    isplitr; · iapply (env_reached V K c (.snd k r)); iexact HE
    isplitl [Ht2]; · iexact Ht2
    iapply (env_reached V K dv (.rcv k r)); iexact HE
  iintro ⟨Hc, HO⟩
  iapply Hk
  isplitl [Hc]; · iexact Hc
  isplitr; · iempintro
  iexists W; iexact HO

omit [FloatOps F] in
/-- The block is skipped: nothing is sent to the device itself. -/
theorem send_skip {c : Dev nD} {k r j : Fin 4} {n : ℕ} (hj : j = own k c) (hn : sched[n]? = some (.msg k r j)) :
    iprop(Ready k r j c ∗ Src V k r j c ∗ Owed c n) ⊢ (iprop(Cr k (.snd k r) j c ∗ Kept V k r j c ∗ Owed c (n + 1)) : sProp 𝕄) := by
  unfold Ready Cr Kept Owed
  rw [other_own hj, other_own hj, if_pos hj, due_step c n _ hn]
  show iprop(_ ∗ _ ∗ ∃ W, owes (c : Thread nD τ) (_ + tal c (.msg k r j)) W) ⊢ _
  rw [tal, if_pos hj, add_zero]

/-! ## Barrier signals -/

/-- A barrier signal to another device. -/
theorem signal_core {c : Dev nD} {b : Bool} {j : Fin 4} {n : ℕ} (hj : j ≠ own (barKind b) c) (hn : sched[n]? = some (.sig b j))
    {dv : Dev nD} (hdv : dv = peer (barKind b) c j) {sm : Sem sig} (hsm : sm = barrier0)
    {kk : PUnit → Prog (TpuEff nD τ sig (Elt F) Λ₀ .tc) PUnit} {Q : PUnit → sProp 𝕄} :
    iprop(Env V K ∗ dutyTok ER (gc (peer (barKind b) c j) .bar) 0 (b, own (barKind b) c) ∗ Places b (peer (barKind b) c j) c ∗ Owed c n)
      ⊢ iprop((Owed c (n + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc dv : Thread nD τ) sm 1) kk) Q) := by
  subst hsm hdv
  unfold Owed
  iintro ⟨#HE, Ht, Hp, ⟨%W, HO⟩⟩ Hk
  iapply (Rounds.wp_signal 𝒱₀ ER (Rd V) (c : Thread nD τ) none (dst := (peer (barKind b) c j : Thread nD τ)) (κ := K (peer (barKind b) c j, .bar))
      (r := 0) (d := (b, own (barKind b) c)) (k' := 1)
      (by
        show (b, own (barKind b) c) ∈ (Rd V).duties (gc (peer (barKind b) c j) .bar) 0
        rw [duties_gc]; exact Finset.mem_filter.mpr ⟨Finset.mem_univ _, own_ne_peer hj⟩)
      (amount_gc V (peer (barKind b) c j) .bar 0 _) () (O₀ := due c n) (due c (n + 1))
      (by rw [due_step c n _ hn]; show _ = _ + tallyAt (gc (peer (barKind b) c j) .bar) () 1; rw [tal, if_neg hj]) (W := W)) $$ [HO Ht Hp]
  · isplitr; · iapply (env_inv V K (peer (barKind b) c j) .bar); iexact HE
    isplitl [HO]; · iexact HO
    isplitl [Ht]; · iexact Ht
    isplitl [Hp]
    · iapply (show (Places b (peer (barKind b) c j) c : sProp 𝕄) ⊢ (Rd V).payload ((peer (barKind b) c j : Thread nD τ), .reg barrier0) 0 (b, own (barKind b) c) from
        Entails.of_eq (by
          rw [show ((peer (barKind b) c j : Thread nD τ), SemLoc.reg barrier0) = gc (peer (barKind b) c j) .bar from rfl, payload_gc]
          show _ = Places b _ (peer (barKind b) (peer (barKind b) c j) (own (barKind b) c)); rw [peer_own]))
      iexact Hp
    · iapply (env_reached V K (peer (barKind b) c j) .bar); iexact HE
  iintro HO
  iapply Hk
  iexists W; iexact HO

/-! ## Waits -/

/-- How many of the messages with an index below `j` are from other devices. -/
def cnt (o j : ℕ) : ℕ := if o < j then j - 1 else j

/-- A device has waited on cell `x` for the messages with an index below `j`, and has what came with them. -/
def Waited (k : Fin 4) (x : Cell) (j : ℕ) (c : Dev nD) : sProp 𝕄 :=
  iprop(∃ T : Finset Duty, ⌜T ⊆ dset x c ∧ cnt (own k c).val j * bytes k + (dset x c \ T).card ≤ 3 * bytes k⌝
    ∗ atPos ER (gc c x) 0 T (cnt (own k c).val j * bytes k) ∗ bigSep T (fun d => pay V x c d))

/-- A wait for one message, of kind `k`, on cell `x`. -/
theorem wait_core {c : Dev nD} {k : Fin 4} {x : Cell} (hx : amt x = bytes k) (hcard : (dset x c).card = 3) {j : Fin 4} {n : ℕ} (hj : j ≠ own k c)
    (hn : n = 72 ∨ InOrder x n) {sm : DmaSem sig} (hsm : .dma sm = csem x)
    {s s' : Shape} {sp sp' : Space} {e e' : EltTy} {src : Memref sig .tc sp' s' e'} {dst : Memref sig .tc sp s e}
    (hamt : dst.view.dmaCredit = bytes k) {hsrcw : src.view.WordExact} {hdstw : dst.view.WordExact}
    {kk : PUnit → Prog (TpuEff nD τ sig (Elt F) Λ₀ .tc) PUnit} {Q : PUnit → sProp 𝕄} :
    iprop(Env V K ∗ Cr k x j c ∗ Waited V k x j.val c ∗ Owed c n)
      ⊢ iprop(((Waited V k x (j.val + 1) c ∗ Owed c n) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrcw hdstw) kk) Q) := by
  have hne : (own k c).val ≠ j.val := fun h => hj (Fin.ext h.symm)
  have hcnt : cnt (own k c).val (j.val + 1) * bytes k = cnt (own k c).val j.val * bytes k + bytes k := by
    have : cnt (own k c).val (j.val + 1) = cnt (own k c).val j.val + 1 := by unfold cnt; split <;> split <;> omega
    rw [this, Nat.add_mul, Nat.one_mul]
  unfold Cr Waited Owed
  rw [other_ne hj, hcnt]
  iintro ⟨#HE, Hc, ⟨%T, %hT, Hat, Hpay⟩, ⟨%W, HO⟩⟩ Hk
  ihave Hmw := (env_mayWait V K c x n hn) $$ HE
  have hw' : ∀ (g : SemLoc sig) (N : ℕ), SemLoc.dma sm = g → dst.view.dmaCredit = N → ∀ K' : PUnit → sProp 𝕄,
      wpE (defs₀ (F := F)) 𝒱₀ (c : Thread nD τ) none Set.univ (.waitDma2 sm src dst hsrcw hdstw) K'
        = waitSpec (c : Thread nD τ) Set.univ g N K' := by
    rintro _ _ rfl rfl K'; exact wpE_waitDma2_eq 𝒱₀ (c : Thread nD τ) none Set.univ K'
  have hw := hw' (csem x) (bytes k) hsm hamt
  iapply (Rounds.wp_wait 𝒱₀ ER (Rd V) (c : Thread nD τ) none (κ := K (c, x)) hw (Set.mem_univ _) (cr := Finsupp.single () (bytes k))
    (O := due c n) (W := W) {(csem x, ())} (R := 0) (m := cnt (own k c).val j.val * bytes k) (T := T)
    (by rw [Idealize.SL.Util.total_single]) (image_single_subset (csem x) () (bytes k))) $$ [Hc HO Hmw Hat]
  · isplitr; · iapply (env_inv V K c x); iexact HE
    isplitl [Hc]; · iexact Hc
    isplitl [HO]; · iexact HO
    isplitl [Hmw]; · iexact Hmw
    iexact Hat
  iintro %S ⟨%hS, HO, Hat, Hnew⟩
  obtain ⟨hTS, hSd, hle⟩ := hS
  rw [show ((c : Thread nD τ), csem x) = gc c x from rfl, duties_gc] at hSd hle
  rw [expect_gc, hcard, hx] at hle
  iapply Hk
  isplitr [HO]
  · iexists S
    isplitr; · ipureintro; exact ⟨hSd, hle⟩
    isplitl [Hat]; · iexact Hat
    iapply (Entails.of_eq (sep_sdiff hTS (fun d => pay V x c d)).symm)
    isplitl [Hpay]; · iexact Hpay
    iapply (Entails.of_eq (bigSep_congr fun d _ => payload_gc V c x 0 d))
    iexact Hnew
  · iexists (W ∪ {(csem x, ())}); iexact HO

omit [FloatOps F] in
/-- The block is skipped: nothing comes from the device itself. -/
theorem wait_skip {c : Dev nD} {k : Fin 4} {x : Cell} {j : Fin 4} (hj : j = own k c) :
    iprop(Waited V k x j.val c) ⊢ (Waited V k x (j.val + 1) c : sProp 𝕄) := by
  have : cnt (own k c).val (j.val + 1) = cnt (own k c).val j.val := by subst hj; unfold cnt; rw [if_pos (Nat.lt_succ_self _), if_neg (lt_irrefl _)]; exact Nat.add_sub_cancel _ _
  unfold Waited; rw [this]

omit [FloatOps F] in
/-- Before the first wait. -/
theorem waited_zero {c : Dev nD} {k : Fin 4} {x : Cell} (hcard : (dset x c).card = 3) :
    (atPos ER (gc c x) 0 ∅ 0 : sProp 𝕄) ⊢ Waited V k x 0 c := by
  have hb : 1 ≤ bytes k := by unfold bytes; split <;> omega
  have : cnt (own k c).val 0 = 0 := by unfold cnt; split <;> rfl
  unfold Waited; rw [this, Nat.zero_mul]
  iintro H
  iexists ∅
  isplitr
  · ipureintro; refine ⟨Finset.empty_subset _, ?_⟩; rw [Finset.sdiff_empty, hcard]; omega
  isplitl [H]; · iexact H
  rw [bigSep_empty]; iempintro

omit [FloatOps F] in
/-- After the last wait everything has come. -/
theorem waited_all {c : Dev nD} {k : Fin 4} {x : Cell} :
    (Waited V k x 4 c : sProp 𝕄) ⊢ iprop(atPos ER (gc c x) 0 (dset x c) (3 * bytes k) ∗ bigSep (dset x c) (fun d => pay V x c d)) := by
  have : cnt (own k c).val 4 = 3 := by unfold cnt; rw [if_pos (own k c).isLt]
  unfold Waited; rw [this]
  iintro ⟨%T, %hT, H, Hp⟩
  have hTd : T = dset x c := by
    refine Finset.Subset.antisymm hT.1 (Finset.sdiff_eq_empty_iff_subset.mp (Finset.card_eq_zero.mp ?_))
    have := hT.2; omega
  subst hTd
  isplitl [H]; · iexact H
  iexact Hp

end Cert.Attn
-- ==== Proof.Mem.lean ====
module

public import proofs.«01_k».proof.Proof.Steps

/-!
# Loads and stores on parts of buffers

Rules for a load and a store through a rectangle of a buffer of which a device holds a part, and how parts are split and
joined.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What a load reads of contents `f` through the rectangle at `off` of extents `size`. -/
def rd {s : Shape} {α : Type} (off size : Fin s.rank → ℕ) (inb : ∀ a, off a + size a ≤ s.size a) (f : s.Idx → α) :
    (Rect.unit (s := s) off size inb).shape.Idx → α := fun x => f ((Rect.unit (s := s) off size inb).emb x)

theorem rd_congr {s : Shape} {α : Type} {off off' size : Fin s.rank → ℕ} (h : off = off') (inb : ∀ a, off a + size a ≤ s.size a)
    (inb' : ∀ a, off' a + size a ≤ s.size a) (f : s.Idx → α) : rd off size inb f = rd off' size inb' f := by
  subst h; rfl

/-- Two contents that agree on the rectangle read the same. -/
theorem rd_eq {s : Shape} {α : Type} {off size : Fin s.rank → ℕ} (inb : ∀ a, off a + size a ≤ s.size a) {f g : s.Idx → α}
    (h : ∀ i ∈ bx s off size, f i = g i) : rd off size inb f = rd off size inb g := by
  funext x
  refine h _ ?_
  rw [← unit_set off size inb, ← Rect.map_emb_univ]
  exact Finset.mem_map_of_mem _ (Finset.mem_univ x)

theorem emb_mem {s : Shape} {off size : Fin s.rank → ℕ} (inb : ∀ a, off a + size a ≤ s.size a) (x) :
    (Rect.unit (s := s) off size inb).emb x ∈ bx s off size := by
  rw [← unit_set off size inb, ← Rect.map_emb_univ]
  exact Finset.mem_map_of_mem _ (Finset.mem_univ x)

theorem emb_val {s : Shape} {off size : Fin s.rank → ℕ} (inb : ∀ a, off a + size a ≤ s.size a) (x) (a : Fin s.rank) :
    ((Rect.unit (s := s) off size inb).emb x a).val = off a + (x a).val := by
  rw [Rect.emb_apply]; show off a + 1 * _ = _; rw [Nat.one_mul]

theorem exists_emb {s : Shape} {off size : Fin s.rank → ℕ} (inb : ∀ a, off a + size a ≤ s.size a) {i : s.Idx} (h : i ∈ bx s off size) :
    ∃ x, (Rect.unit (s := s) off size inb).emb x = i := by
  rw [← unit_set off size inb, ← Rect.map_emb_univ] at h
  obtain ⟨x, -, e⟩ := Finset.mem_map.mp h
  exact ⟨x, e⟩

/-- A buffer of the core. -/
abbrev cref (cs : CoreSpace) (ix : Fin (sig.nNear .tc cs)) (hκ : sig.names .tc cs ix = true) : Ref sig .tc := ⟨cs, ix, hκ⟩

theorem acc_set {b : Ref sig .tc} (off size : Fin b.ty.shape.rank → ℕ) (inb : ∀ a, off a + size a ≤ b.ty.shape.size a) :
    ((View.whole b).slice (Rect.unit (s := b.ty.shape) off size inb)).set = bx b.ty.shape off size := by
  rw [View.set_slice_whole, unit_set]

/-- A load. -/
theorem wp_ld {c : Dev nD} {cs : CoreSpace} {ix : Fin (sig.nNear .tc cs)} {hκ : sig.names .tc cs ix = true} {off off' size : Fin (cref cs ix hκ).ty.shape.rank → ℕ} {inb : ∀ a, off a + size a ≤ (cref cs ix hκ).ty.shape.size a}
    (hoff : off = off') (inb' : ∀ a, off' a + size a ≤ (cref cs ix hκ).ty.shape.size a) {I : Finset (cref cs ix hκ).ty.shape.Idx} (hI : bx (cref cs ix hκ).ty.shape off' size ⊆ I)
    {q : PosShare TreeShare} {f : (cref cs ix hκ).ty.shape.Idx → Elt F (cref cs ix hκ).ty.elt}
    {hl : (Memref.whole (cref cs ix hκ) : Memref sig .tc (.core cs) _ _).view.LoadsAt (Rect.unit (s := (cref cs ix hκ).ty.shape) off size inb).toLoadRect} {α : Type}
    {k : _ → Prog (TpuEff nD τ sig (Elt F) Λ₀ .tc) α} {Q : α → sProp 𝕄} :
    pt c (cref cs ix hκ) I q f
      ⊢ iprop((pt c (cref cs ix hκ) I q f -∗ wp frame (wpE (defs₀ (F := F)) 𝒱₀ (c : Thread nD τ) none) Set.univ (k (rd off size inb f)) Q)
        -∗ wp frame (wpE (defs₀ (F := F)) 𝒱₀ (c : Thread nD τ) none) Set.univ
          (.op (.load (Memref.whole (cref cs ix hκ) : Memref sig .tc (.core cs) _ _) (Rect.unit (s := (cref cs ix hκ).ty.shape) off size inb).toLoadRect hl) k) Q) := by
  subst hoff
  exact wp_load_rect (defs := defs₀ (F := F)) 𝒱₀ (c : Thread nD τ) none Set.univ (m := (Memref.whole (cref cs ix hκ) : Memref sig .tc (.core cs) _ _))
    (r := Rect.unit (s := (cref cs ix hκ).ty.shape) off size inb) (S := I) (f := f) (q := q)
    (le_of_eq_of_le (acc_set _ _ _) hI)

/-- A store, which leaves what it writes in its rectangle and all else unchanged. -/
theorem wp_st {c : Dev nD} {cs : CoreSpace} {ix : Fin (sig.nNear .tc cs)} {hκ : sig.names .tc cs ix = true} {off off' size : Fin (cref cs ix hκ).ty.shape.rank → ℕ} {inb : ∀ a, off a + size a ≤ (cref cs ix hκ).ty.shape.size a}
    (hoff : off = off') (inb' : ∀ a, off' a + size a ≤ (cref cs ix hκ).ty.shape.size a) {I : Finset (cref cs ix hκ).ty.shape.Idx} (hI : bx (cref cs ix hκ).ty.shape off' size ⊆ I)
    {f : (cref cs ix hκ).ty.shape.Idx → Elt F (cref cs ix hκ).ty.elt} {w : (Rect.unit (s := (cref cs ix hκ).ty.shape) off size inb).shape.Idx → Elt F (cref cs ix hκ).ty.elt}
    {hx : ((Memref.whole (cref cs ix hκ) : Memref sig .tc (.core cs) _ _).access (Rect.unit (s := (cref cs ix hκ).ty.shape) off size inb)).Stores Finset.univ}
    {hm : (Finset.univ : Finset (Rect.unit (s := (cref cs ix hκ).ty.shape) off size inb).shape.Idx) = Finset.univ ∨ ∀ a, (Rect.unit (s := (cref cs ix hκ).ty.shape) off size inb).stride a = 1}
    {α : Type} {k : PUnit → Prog (TpuEff nD τ sig (Elt F) Λ₀ .tc) α} {Q : α → sProp 𝕄} :
    pt c (cref cs ix hκ) I fullShare f
      ⊢ iprop((∀ g, ⌜(∀ x, g ((Rect.unit (s := (cref cs ix hκ).ty.shape) off' size inb').emb x) = w x) ∧ ∀ i, i ∉ bx (cref cs ix hκ).ty.shape off' size → g i = f i⌝
            -∗ pt c (cref cs ix hκ) I fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole (cref cs ix hκ) : Memref sig .tc (.core cs) _ _) (Rect.unit (s := (cref cs ix hκ).ty.shape) off size inb) w Finset.univ hx hm) k) Q) := by
  subst hoff
  have hset : ((Memref.whole (cref cs ix hκ) : Memref sig .tc (.core cs) _ _).access (Rect.unit (s := (cref cs ix hκ).ty.shape) off size inb)).setOn Finset.univ = bx (cref cs ix hκ).ty.shape off size := by
    exact acc_set _ _ _
  iintro H Hk
  iapply (wp_store (defs := defs₀ (F := F)) 𝒱₀ (c : Thread nD τ) none Set.univ (m := (Memref.whole (cref cs ix hκ) : Memref sig .tc (.core cs) _ _))
    (r := Rect.unit (s := (cref cs ix hκ).ty.shape) off size inb) (S := I) (f := f) (w := w) (hx := hx) (hm := hm) (by rw [hset]; exact hI)) $$ H
  iintro H
  ispecialize Hk $$ %(((Memref.whole (cref cs ix hκ) : Memref sig .tc (.core cs) _ _).access (Rect.unit (s := (cref cs ix hκ).ty.shape) off size inb)).write (Elt F) f w Finset.univ)
  iapply Hk
  · ipureintro
    constructor
    · intro x
      exact View.write_emb_of_mem (Val := Elt F) (v := ((Memref.whole (cref cs ix hκ) : Memref sig .tc (.core cs) _ _).access (Rect.unit (s := (cref cs ix hκ).ty.shape) off size inb))) f w (Finset.mem_univ x)
    · intro i hi
      exact View.write_of_not_mem (Val := Elt F) (v := ((Memref.whole (cref cs ix hκ) : Memref sig .tc (.core cs) _ _).access (Rect.unit (s := (cref cs ix hκ).ty.shape) off size inb))) f w Finset.univ (by rw [hset]; exact hi)
  · iexact H

/-- A store over exactly the part that a device holds, whose outcome is `g`. -/
theorem wp_st_to {c : Dev nD} {cs : CoreSpace} {ix : Fin (sig.nNear .tc cs)} {hκ : sig.names .tc cs ix = true} {off off' size : Fin (cref cs ix hκ).ty.shape.rank → ℕ} {inb : ∀ a, off a + size a ≤ (cref cs ix hκ).ty.shape.size a}
    (hoff : off = off') (inb' : ∀ a, off' a + size a ≤ (cref cs ix hκ).ty.shape.size a) {I : Finset (cref cs ix hκ).ty.shape.Idx} (hI : I = bx (cref cs ix hκ).ty.shape off' size)
    {f g : (cref cs ix hκ).ty.shape.Idx → Elt F (cref cs ix hκ).ty.elt} {w : (Rect.unit (s := (cref cs ix hκ).ty.shape) off size inb).shape.Idx → Elt F (cref cs ix hκ).ty.elt}
    (hg : ∀ x, g ((Rect.unit (s := (cref cs ix hκ).ty.shape) off' size inb').emb x) = w x)
    {hx : ((Memref.whole (cref cs ix hκ) : Memref sig .tc (.core cs) _ _).access (Rect.unit (s := (cref cs ix hκ).ty.shape) off size inb)).Stores Finset.univ}
    {hm : (Finset.univ : Finset (Rect.unit (s := (cref cs ix hκ).ty.shape) off size inb).shape.Idx) = Finset.univ ∨ ∀ a, (Rect.unit (s := (cref cs ix hκ).ty.shape) off size inb).stride a = 1}
    {α : Type} {k : PUnit → Prog (TpuEff nD τ sig (Elt F) Λ₀ .tc) α} {Q : α → sProp 𝕄} :
    pt c (cref cs ix hκ) I fullShare f
      ⊢ iprop((pt c (cref cs ix hκ) I fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole (cref cs ix hκ) : Memref sig .tc (.core cs) _ _) (Rect.unit (s := (cref cs ix hκ).ty.shape) off size inb) w Finset.univ hx hm) k) Q) := by
  iintro H Hk
  iapply (wp_st (c := c) (cs := cs) (ix := ix) (hκ := hκ) hoff inb' (I := I) (f := f) (w := w) (hx := hx) (hm := hm) (le_of_eq hI.symm)) $$ H
  iintro %g' %hg' H
  iapply Hk
  iapply (Entails.of_eq (pointsTo_congr (ℓ := (c : Thread nD τ).loc (cref cs ix hκ)) (I := I) (q := fullShare) (f := g') (g := g) fun i hi => by
    rw [hI] at hi
    obtain ⟨x, rfl⟩ := exists_emb inb' hi
    rw [hg'.1, hg]))
  iexact H

/-! ## Splitting and joining -/

omit [FloatOps F] in
/-- Two disjoint parts. -/
theorem pt_union {c : Dev nD} {b : Ref sig .tc} {I J K' : Finset b.ty.shape.Idx} (h : I = J ∪ K') (hd : Disjoint J K')
    {q : PosShare TreeShare} {f : b.ty.shape.Idx → Elt F b.ty.elt} : (pt c b I q f : sProp 𝕄) = iprop(pt c b J q f ∗ pt c b K' q f) := by
  subst h; exact Entails.antisymm (pointsTo_union hd).1 (pointsTo_union hd).2

omit [FloatOps F] in
/-- Contents that agree on the part. -/
theorem pt_congr {c : Dev nD} {b : Ref sig .tc} {I : Finset b.ty.shape.Idx} {q : PosShare TreeShare} {f g : b.ty.shape.Idx → Elt F b.ty.elt}
    (h : ∀ i ∈ I, f i = g i) : (pt c b I q f : sProp 𝕄) = pt c b I q g := pointsTo_congr h

omit [FloatOps F] in
/-- Two disjoint parts, each with contents of its own, make one with some contents. -/
theorem pt_join_some {c : Dev nD} {b : Ref sig .tc} {I J K' : Finset b.ty.shape.Idx} (h : I = J ∪ K') (hd : Disjoint J K')
    {q : PosShare TreeShare} {f g : b.ty.shape.Idx → Elt F b.ty.elt} :
    iprop(pt c b J q f ∗ pt c b K' q g) ⊢ (iprop(∃ e, pt c b I q e) : sProp 𝕄) := by
  classical
  let e : b.ty.shape.Idx → Elt F b.ty.elt := fun i => if i ∈ J then f i else g i
  have h1 : (pt c b J q f : sProp 𝕄) = pt c b J q e := pt_congr fun i hi => (if_pos hi).symm
  have h2 : (pt c b K' q g : sProp 𝕄) = pt c b K' q e := pt_congr fun i hi => (if_neg fun hj => (Finset.disjoint_left.mp hd) hj hi).symm
  rw [h1, h2]
  iintro H
  iexists e
  iapply (Entails.of_eq (pt_union h hd).symm)
  iexact H

end Cert.Attn
-- ==== Proof.Values.lean ====
module

public import proofs.«01_k».proof.Proof.Mem
public import proofs.«01_k».proof.Proof.Gen.KernelIdeal.Skeleton

/-!
# What the buffers hold

From the arguments of all devices: the queries, keys and values a device computes with, its attention output, its partial
result, the sums over a row of devices, and the final sums.
-/

@[expose] public section

set_option maxRecDepth 10000

noncomputable section

namespace Cert.Attn

open Cert.KernelIdeal Cert.KernelIdeal.Gen

open Idealize.ShloMosaic
open Idealize.ShloMosaic.TcCoe

variable {F : FTy → Type} [FloatOps F]

/-! ## Blocks -/

/-- The place of `i` inside its block, where blocks have extents `size`. -/
def loc {s : Shape} (size : Fin s.rank → ℕ) (h : ∀ a, 0 < size a) (i : s.Idx) : (a : Fin s.rank) → Fin (size a) :=
  fun a => ⟨(i a).val % size a, Nat.mod_lt _ (h a)⟩

theorem loc_emb {s : Shape} {off size : Fin s.rank → ℕ} (inb : ∀ a, off a + size a ≤ s.size a) (h : ∀ a, 0 < size a)
    (hd : ∀ a, size a ∣ off a) (x : (Rect.unit (s := s) off size inb).shape.Idx) :
    loc size h ((Rect.unit (s := s) off size inb).emb x) = x := by
  funext a
  apply Fin.ext
  show ((Rect.unit (s := s) off size inb).emb x a).val % size a = (x a).val
  rw [emb_val]
  obtain ⟨k, hk⟩ := hd a
  rw [hk, Nat.mul_add_mod]
  exact Nat.mod_eq_of_lt (x a).isLt

theorem blk_emb {s : Shape} {off size : Fin s.rank → ℕ} (inb : ∀ a, off a + size a ≤ s.size a)
    (x : (Rect.unit (s := s) off size inb).shape.Idx) (a : Fin s.rank) (k : ℕ) (hk : off a = size a * k) :
    ((Rect.unit (s := s) off size inb).emb x a).val / size a = k := by
  rw [emb_val, hk, Nat.mul_add_div (Nat.pos_of_ne_zero fun h => by have := (x a).isLt; change (x a).val < size a at this; omega)]
  rw [Nat.div_eq_of_lt (show (x a).val < size a from (x a).isLt), Nat.add_zero]

theorem app2 {α β δ : Sort _} (f : α → β → δ) {a a' : α} {b b' : β} (ha : a = a') (hb : b = b') : f a b = f a' b' := by
  subst ha hb; rfl
theorem app3 {α β γ δ : Sort _} (f : α → β → γ → δ) {a a' : α} {b b' : β} {c c' : γ} (ha : a = a') (hb : b = b') (hc : c = c') :
    f a b c = f a' b' c' := by
  subst ha hb hc; rfl

/-! ## The arguments -/

/-- The arguments on every device. -/
structure Args (F : FTy → Type) where
  x : Dev nD → S2x512x768.Idx → F .f32
  wq : Dev nD → S768x8192.Idx → F .f32
  k : Dev nD → S2x512x8x64.Idx → F .f32
  v : Dev nD → S2x512x8x64.Idx → F .f32
  wo : Dev nD → S8192x768.Idx → F .f32

variable (A : Args F)

theorem inb_wq : ∀ c : Dev nD, ∀ a, (![0, 512 * c.val] : Fin 2 → ℕ) a + S768x512.size a ≤ S768x8192.size a := by decide +kernel
theorem inb_wo : ∀ c : Dev nD, ∀ a, (![512 * c.val, 0] : Fin 2 → ℕ) a + S512x768.size a ≤ S8192x768.size a := by decide +kernel

/-- The query weights of a device's heads. -/
def vWq (c : Dev nD) : S768x512.Idx → F .f32 := rd (s := S768x8192) ![0, 512 * c.val] S768x512.size (inb_wq c) (A.wq c)
/-- The output weights of a device's heads. -/
def vWo (c : Dev nD) : S512x768.Idx → F .f32 := rd (s := S8192x768) ![512 * c.val, 0] S512x768.size (inb_wo c) (A.wo c)

/-- The queries. -/
def vQ (c : Dev nD) : S2x512x512.Idx → F .bf16 :=
  k0_pay3 (rd (s := S2x512x768) ![0, 0, 0] S2x512x768.size inb_S2x512x768_S2x512x768_0_0_0 (A.x c))
    (rd (s := S768x512) ![0, 0] S768x512.size inb_S768x512_S768x512_0_0 (vWq A c))

theorem inb_kv : ∀ b : Fin 2, ∀ a, (![b.val, 0, 0, 0] : Fin 4 → ℕ) a + S1x512x8x64.size a ≤ S2x512x8x64.size a := by decide +kernel

/-- The keys of batch `b`, transposed. -/
def vKt (c : Dev nD) (b : Fin 2) : S512x512.Idx → F .bf16 :=
  k0_pay6 (rd (s := S2x512x8x64) ![b.val, 0, 0, 0] S1x512x8x64.size (inb_kv b) (A.k c))
/-- The values of batch `b`. -/
def vVp (c : Dev nD) (b : Fin 2) : S512x512.Idx → F .bf16 :=
  k0_pay7 (rd (s := S2x512x8x64) ![b.val, 0, 0, 0] S1x512x8x64.size (inb_kv b) (A.v c))

theorem inb_hq : ∀ (b : Fin 2) (h : Fin 8), ∀ a, (![b.val, 0, 64 * h.val] : Fin 3 → ℕ) a + S1x512x64.size a ≤ S2x512x512.size a := by decide +kernel
theorem inb_hk : ∀ (h : Fin 8), ∀ a, (![64 * h.val, 0] : Fin 2 → ℕ) a + S64x512.size a ≤ S512x512.size a := by decide +kernel
theorem inb_hv : ∀ (h : Fin 8), ∀ a, (![0, 64 * h.val] : Fin 2 → ℕ) a + S512x64.size a ≤ S512x512.size a := by decide +kernel

/-- The attention output of head `h` in batch `b`. -/
@[irreducible] def vHead (c : Dev nD) (b : Fin 2) (h : Fin 8) : S1x512x64.Idx → F .bf16 :=
  k0_pay8 k0_pay4 k0_pay5 (rd (s := S2x512x512) ![b.val, 0, 64 * h.val] S1x512x64.size (inb_hq b h) (vQ A c))
    (rd (s := S512x512) ![64 * h.val, 0] S64x512.size (inb_hk h) (vKt A c b))
    (rd (s := S512x512) ![0, 64 * h.val] S512x64.size (inb_hv h) (vVp A c b))

theorem lt2 (i : S2x512x512.Idx) : (i 0).val / 1 < 2 := by rw [Nat.div_one]; exact (i 0).isLt
theorem lt8 (i : S2x512x512.Idx) : (i 2).val / 64 < 8 := by have : (i 2).val < 512 := (i 2).isLt; omega

/-- The attention output. -/
def vCtx (c : Dev nD) : S2x512x512.Idx → F .bf16 := fun i =>
  vHead A c ⟨(i 0).val / 1, lt2 i⟩ ⟨(i 2).val / 64, lt8 i⟩ (loc (s := S2x512x512) S1x512x64.size (by decide) i)

theorem inb_ab : ∀ (b : Fin 2) (j : Fin 4), ∀ a, (![b.val, 128 * j.val, 0] : Fin 3 → ℕ) a + S1x128x512.size a ≤ S2x512x512.size a := by decide +kernel
theorem inb_aw : ∀ (b : Fin 2) (j : Fin 4), ∀ a, (![b.val, 128 * j.val, 0] : Fin 3 → ℕ) a + S1x128x768.size a ≤ S2x512x768.size a := by decide +kernel

/-- A block of 128 rows of the partial result. -/
@[irreducible] def vAccBlk (c : Dev nD) (b : Fin 2) (j : Fin 4) : S1x128x768.Idx → F .bf16 :=
  k0_pay19 (rd (s := S2x512x512) ![b.val, 128 * j.val, 0] S1x128x512.size (inb_ab b j) (vCtx A c))
    (rd (s := S512x768) ![0, 0] S512x768.size inb_S512x768_S512x768_0_0 (vWo A c))

theorem lt2' (i : S2x512x768.Idx) : (i 0).val / 1 < 2 := by rw [Nat.div_one]; exact (i 0).isLt
theorem lt4' (i : S2x512x768.Idx) : (i 1).val / 128 < 4 := by have : (i 1).val < 512 := (i 1).isLt; omega

/-- A device's partial result. -/
def vAcc (c : Dev nD) : S2x512x768.Idx → F .bf16 := fun i =>
  vAccBlk A c ⟨(i 0).val / 1, lt2' i⟩ ⟨(i 1).val / 128, lt4' i⟩ (loc (s := S2x512x768) S1x128x768.size (by decide) i)

theorem inb_sl : ∀ (r p : Fin 4), ∀ a, (![r.val / 2, 128 * p.val + 64 * (r.val % 2), 0] : Fin 3 → ℕ) a + S1x64x768.size a ≤ S2x512x768.size a := by decide +kernel
theorem inb_pb : ∀ (r s : Fin 4), ∀ a, (![4 * r.val + s.val, 0, 0] : Fin 3 → ℕ) a + S1x64x768.size a ≤ S16x64x768.size a := by decide +kernel

/-- Slot `4 r + s` of what a device gets from the devices of its row: rows of the partial result of the peer `s`. -/
@[irreducible] def vPbBlk (c : Dev nD) (r s : Fin 4) : S1x64x768.Idx → F .bf16 :=
  if s = pOf c then rd (s := S16x64x768) ![4 * r.val + s.val, 0, 0] S1x64x768.size (inb_pb r s) (k0_pay1 (F := F))
  else rd (s := S2x512x768) ![r.val / 2, 128 * (pOf c).val + 64 * (r.val % 2), 0] S1x64x768.size (inb_sl r (pOf c)) (vAcc A (peer 0 c s))

theorem lt4p (i : S16x64x768.Idx) : (i 0).val / 1 / 4 < 4 := by have : (i 0).val < 16 := (i 0).isLt; omega

def vPb (c : Dev nD) : S16x64x768.Idx → F .bf16 := fun i =>
  vPbBlk A c ⟨(i 0).val / 1 / 4, lt4p i⟩ ⟨(i 0).val / 1 % 4, Nat.mod_lt _ (by decide)⟩ (loc (s := S16x64x768) S1x64x768.size (by decide) i)

theorem inb_p4 : ∀ (r : Fin 4), ∀ a, (![4 * r.val, 0, 0] : Fin 3 → ℕ) a + S4x64x768.size a ≤ S16x64x768.size a := by decide +kernel
theorem inb_cg : ∀ (r : Fin 4), ∀ a, (![r.val, 0, 0] : Fin 3 → ℕ) a + S1x64x768.size a ≤ S4x64x768.size a := by decide +kernel

/-- The sum of the partial results over a row of devices, round `r`. -/
@[irreducible] def vCgBlk (c : Dev nD) (r : Fin 4) : S1x64x768.Idx → F .bf16 :=
  k0_pay36 (rd (s := S2x512x768) ![r.val / 2, 128 * (pOf c).val + 64 * (r.val % 2), 0] S1x64x768.size (inb_sl r (pOf c)) (vAcc A c))
    (rd (s := S16x64x768) ![4 * r.val, 0, 0] S4x64x768.size (inb_p4 r) (vPb A c))

def vCg (c : Dev nD) : S4x64x768.Idx → F .bf16 := fun i =>
  vCgBlk A c ⟨(i 0).val / 1, by rw [Nat.div_one]; exact (i 0).isLt⟩ (loc (s := S4x64x768) S1x64x768.size (by decide) i)

theorem inb_qu : ∀ (r z : Fin 4), ∀ a, (![r.val, 16 * z.val, 0] : Fin 3 → ℕ) a + S1x16x768.size a ≤ S4x64x768.size a := by decide +kernel
theorem inb_zb : ∀ (r s : Fin 4), ∀ a, (![4 * r.val + s.val, 0, 0] : Fin 3 → ℕ) a + S1x16x768.size a ≤ S16x16x768.size a := by decide +kernel

/-- Slot `4 r + s` of what a device gets from the devices of its column. -/
@[irreducible] def vZbBlk (c : Dev nD) (r s : Fin 4) : S1x16x768.Idx → F .bf16 :=
  if s = zOf c then rd (s := S16x16x768) ![4 * r.val + s.val, 0, 0] S1x16x768.size (inb_zb r s) (k0_pay2 (F := F))
  else rd (s := S4x64x768) ![r.val, 16 * (zOf c).val, 0] S1x16x768.size (inb_qu r (zOf c)) (vCg A (peer 1 c s))

theorem lt4z (i : S16x16x768.Idx) : (i 0).val / 1 / 4 < 4 := by have : (i 0).val < 16 := (i 0).isLt; omega

def vZb (c : Dev nD) : S16x16x768.Idx → F .bf16 := fun i =>
  vZbBlk A c ⟨(i 0).val / 1 / 4, lt4z i⟩ ⟨(i 0).val / 1 % 4, Nat.mod_lt _ (by decide)⟩ (loc (s := S16x16x768) S1x16x768.size (by decide) i)

theorem inb_z4 : ∀ (r : Fin 4), ∀ a, (![4 * r.val, 0, 0] : Fin 3 → ℕ) a + S4x16x768.size a ≤ S16x16x768.size a := by decide +kernel
theorem inb_rw : ∀ (r p z : Fin 4), ∀ a, (![r.val / 2, 128 * p.val + 64 * (r.val % 2) + 16 * z.val, 0] : Fin 3 → ℕ) a + S1x16x768.size a ≤ S2x512x768.size a := by decide +kernel

/-- Sixteen rows of the result: the sum over a column of devices. -/
@[irreducible] def vOutBlk (c : Dev nD) (r : Fin 4) : S1x16x768.Idx → F .bf16 :=
  k0_pay42 (rd (s := S4x64x768) ![r.val, 16 * (zOf c).val, 0] S1x16x768.size (inb_qu r (zOf c)) (vCg A c))
    (rd (s := S16x16x768) ![4 * r.val, 0, 0] S4x16x768.size (inb_z4 r) (vZb A c))

theorem lto1 (i : S2x512x768.Idx) : (i 1).val / 16 / 8 < 4 := by have : (i 1).val < 512 := (i 1).isLt; omega
theorem lto2 (i : S2x512x768.Idx) : 2 * ((i 0).val / 1) + (i 1).val / 16 / 4 % 2 < 4 := by have : (i 0).val < 2 := (i 0).isLt; omega

/-- The result. -/
def vOut : S2x512x768.Idx → F .bf16 := fun i =>
  vOutBlk A (devAt ⟨(i 1).val / 16 % 4, Nat.mod_lt _ (by decide)⟩ ⟨(i 1).val / 16 / 8, lto1 i⟩)
    ⟨2 * ((i 0).val / 1) + (i 1).val / 16 / 4 % 2, lto2 i⟩ (loc (s := S2x512x768) S1x16x768.size (by decide) i)

/-- All of it. -/
def vals : Vals F where
  wq := vWq A
  wo := vWo A
  wqAll := A.wq
  woAll := A.wo
  acc := vAcc A
  cg := vCg A
  pb := vPb A
  zb := vZb A
  out := vOut A

/-! ## The blocks of each -/

theorem vCtx_emb (c : Dev nD) (b : Fin 2) (h : Fin 8) (x) :
    vCtx A c ((Rect.unit (s := S2x512x512) ![b.val, 0, 64 * h.val] S1x512x64.size (inb_hq b h)).emb x) = vHead A c b h x := by
  have h0 := blk_emb (s := S2x512x512) (inb_hq b h) x 0 b.val (Nat.one_mul _).symm
  have h2 := blk_emb (s := S2x512x512) (inb_hq b h) x 2 h.val rfl
  have hd : ∀ (b : Fin 2) (h : Fin 8), ∀ a, S1x512x64.size a ∣ (![b.val, 0, 64 * h.val] : Fin 3 → ℕ) a := by decide +kernel
  have hl := loc_emb (s := S2x512x512) (inb_hq b h) (by decide) (hd b h) x
  exact app3 (vHead A c) (Fin.ext h0) (Fin.ext h2) hl

theorem vAcc_emb (c : Dev nD) (b : Fin 2) (j : Fin 4) (x) :
    vAcc A c ((Rect.unit (s := S2x512x768) ![b.val, 128 * j.val, 0] S1x128x768.size (inb_aw b j)).emb x) = vAccBlk A c b j x := by
  have h0 := blk_emb (s := S2x512x768) (inb_aw b j) x 0 b.val (Nat.one_mul _).symm
  have h2 := blk_emb (s := S2x512x768) (inb_aw b j) x 1 j.val rfl
  have hd : ∀ (b : Fin 2) (j : Fin 4), ∀ a, S1x128x768.size a ∣ (![b.val, 128 * j.val, 0] : Fin 3 → ℕ) a := by decide +kernel
  have hl := loc_emb (s := S2x512x768) (inb_aw b j) (by decide) (hd b j) x
  exact app3 (vAccBlk A c) (Fin.ext h0) (Fin.ext h2) hl

theorem div4 {n r s : ℕ} (h : n = 4 * r + s) (hs : s < 4) : n / 4 = r := by omega
theorem mod4 {n r s : ℕ} (h : n = 4 * r + s) (hs : s < 4) : n % 4 = s := by omega

theorem vPb_emb (c : Dev nD) (r s : Fin 4) (x) :
    vPb A c ((Rect.unit (s := S16x64x768) ![4 * r.val + s.val, 0, 0] S1x64x768.size (inb_pb r s)).emb x) = vPbBlk A c r s x := by
  have h0 := blk_emb (s := S16x64x768) (inb_pb r s) x 0 (4 * r.val + s.val) (Nat.one_mul _).symm
  have hd : ∀ (r s : Fin 4), ∀ a, S1x64x768.size a ∣ (![4 * r.val + s.val, 0, 0] : Fin 3 → ℕ) a := by decide +kernel
  have hl := loc_emb (s := S16x64x768) (inb_pb r s) (by decide) (hd r s) x
  exact app3 (vPbBlk A c) (Fin.ext (div4 h0 s.isLt)) (Fin.ext (mod4 h0 s.isLt)) hl

theorem vCg_emb (c : Dev nD) (r : Fin 4) (x) :
    vCg A c ((Rect.unit (s := S4x64x768) ![r.val, 0, 0] S1x64x768.size (inb_cg r)).emb x) = vCgBlk A c r x := by
  have h0 := blk_emb (s := S4x64x768) (inb_cg r) x 0 r.val (Nat.one_mul _).symm
  have hd : ∀ (r : Fin 4), ∀ a, S1x64x768.size a ∣ (![r.val, 0, 0] : Fin 3 → ℕ) a := by decide +kernel
  have hl := loc_emb (s := S4x64x768) (inb_cg r) (by decide) (hd r) x
  exact app2 (vCgBlk A c) (Fin.ext h0) hl

theorem vZb_emb (c : Dev nD) (r s : Fin 4) (x) :
    vZb A c ((Rect.unit (s := S16x16x768) ![4 * r.val + s.val, 0, 0] S1x16x768.size (inb_zb r s)).emb x) = vZbBlk A c r s x := by
  have h0 := blk_emb (s := S16x16x768) (inb_zb r s) x 0 (4 * r.val + s.val) (Nat.one_mul _).symm
  have hd : ∀ (r s : Fin 4), ∀ a, S1x16x768.size a ∣ (![4 * r.val + s.val, 0, 0] : Fin 3 → ℕ) a := by decide +kernel
  have hl := loc_emb (s := S16x16x768) (inb_zb r s) (by decide) (hd r s) x
  exact app3 (vZbBlk A c) (Fin.ext (div4 h0 s.isLt)) (Fin.ext (mod4 h0 s.isLt)) hl

theorem row1 {n p r z : ℕ} (h : n = 8 * p + 4 * (r % 2) + z) (hz : z < 4) : n % 4 = z ∧ n / 8 = p ∧ n / 4 % 2 = r % 2 := by omega
theorem row2 {m n r : ℕ} (h : m = r / 2) (h' : n = r % 2) : 2 * m + n = r := by omega

theorem vOut_emb (r p z : Fin 4) (x) :
    vOut A ((Rect.unit (s := S2x512x768) ![r.val / 2, 128 * p.val + 64 * (r.val % 2) + 16 * z.val, 0] S1x16x768.size (inb_rw r p z)).emb x)
      = vOutBlk A (devAt z p) r x := by
  have h0 := blk_emb (s := S2x512x768) (inb_rw r p z) x 0 (r.val / 2) (Nat.one_mul _).symm
  have h1 := blk_emb (s := S2x512x768) (inb_rw r p z) x 1 (8 * p.val + 4 * (r.val % 2) + z.val)
    (show 128 * p.val + 64 * (r.val % 2) + 16 * z.val = 16 * (8 * p.val + 4 * (r.val % 2) + z.val) by omega)
  have hd : ∀ (r p z : Fin 4), ∀ a, S1x16x768.size a ∣ (![r.val / 2, 128 * p.val + 64 * (r.val % 2) + 16 * z.val, 0] : Fin 3 → ℕ) a := by decide +kernel
  have hl := loc_emb (s := S2x512x768) (inb_rw r p z) (by decide) (hd r p z) x
  have h2 := row1 h1 z.isLt
  exact app3 (vOutBlk A) (app2 devAt (Fin.ext h2.1) (Fin.ext h2.2.1)) (Fin.ext (row2 h0 h2.2.2)) hl

/-! ## The printed expressions that are the same -/

theorem pay9_10 (m o q k v) : k0_pay10 (F := F) o (k0_pay9 m q k) v = k0_pay8 m o q k v := rfl
theorem pay11_eq : k0_pay11 (F := F) = k0_pay8 := rfl
theorem pay12_13 (m o q k v) : k0_pay13 (F := F) m o (k0_pay12 q) k v = k0_pay8 m o q k v := rfl
theorem pay14_eq : k0_pay14 (F := F) = k0_pay8 := rfl
theorem pay15_eq : k0_pay15 (F := F) = k0_pay8 := rfl
theorem pay16_17 (m o q k v) : k0_pay17 (F := F) (k0_pay16 m o q k v) = k0_pay8 m o q k v := rfl
theorem pay18_eq : k0_pay18 (F := F) = k0_pay8 := rfl
theorem pay20_eq : k0_pay20 (F := F) = k0_pay19 := rfl
theorem pay21_eq : k0_pay21 (F := F) = k0_pay19 := rfl
theorem pay22_eq : k0_pay22 (F := F) = k0_pay19 := rfl
theorem pay23_eq : k0_pay23 (F := F) = k0_pay6 := rfl
theorem pay24_eq : k0_pay24 (F := F) = k0_pay7 := rfl
theorem pay25_eq : k0_pay25 (F := F) = k0_pay8 := rfl
theorem pay26_27 (m o q k v) : k0_pay27 (F := F) o (k0_pay26 m q k) v = k0_pay8 m o q k v := rfl
theorem pay28_eq : k0_pay28 (F := F) = k0_pay8 := rfl
theorem pay29_30 (m o q k v) : k0_pay30 (F := F) m o (k0_pay29 q k) v = k0_pay8 m o q k v := rfl
theorem pay31_eq : k0_pay31 (F := F) = k0_pay8 := rfl
theorem pay32_33 (m o q k v) : k0_pay33 (F := F) m o (k0_pay32 q) k v = k0_pay8 m o q k v := rfl
theorem pay34_eq : k0_pay34 (F := F) = k0_pay8 := rfl
theorem pay35_eq : k0_pay35 (F := F) = k0_pay8 := rfl
theorem pay37_eq : k0_pay37 (F := F) = k0_pay36 := rfl
theorem pay38_eq : k0_pay38 (F := F) = k0_pay19 := rfl
theorem pay39_eq : k0_pay39 (F := F) = k0_pay19 := rfl
theorem pay40_eq : k0_pay40 (F := F) = k0_pay19 := rfl
theorem pay41_eq : k0_pay41 (F := F) = k0_pay19 := rfl
theorem pay43_44 (a b) : k0_pay44 (F := F) (k0_pay43 a) b = k0_pay42 a b := rfl
theorem pay45_eq : k0_pay45 (F := F) = k0_pay36 := rfl
theorem pay46_eq : k0_pay46 (F := F) = k0_pay36 := rfl
theorem pay47_eq : k0_pay47 (F := F) = k0_pay42 := rfl
theorem pay48_49 (a b) : k0_pay49 (F := F) (k0_pay48 a b) = k0_pay42 a b := rfl

end Cert.Attn
-- ==== Proof.Blocks.lean ====
module

public import proofs.«01_k».proof.Proof.Values

/-!
# The tested blocks of the kernel

Each message and each wait of the kernel stands under a test that the peer is not the device itself. One rule for each kind
of block.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

/-! ## Waits -/

/-- A transfer into a rectangle of `m` of extents `size` counts `N`. -/
abbrev Amt {s : Shape} {e : EltTy} (m : Memref sig .tc .vmem s e) (size : Fin s.rank → ℕ) (N : ℕ) : Prop :=
  ∀ off inb, (m.slice (Rect.unit (s := s) off size inb) (fun _ => rfl)).view.dmaCredit = N

theorem credit0 : RefSig.tileCredit S1x64x768 .bf16 = 3072 := by decide
theorem credit1 : RefSig.tileCredit S1x16x768 .bf16 = 768 := by decide
theorem amt0 : Amt (Memref.whole cc0_scratch6 : Memref sig .tc .vmem S16x64x768 .bf16) S1x64x768.size (bytes 0) := fun _ _ => credit0
theorem amt1 : Amt (Memref.whole cc0_scratch7 : Memref sig .tc .vmem S16x16x768 .bf16) S1x16x768.size (bytes 1) := fun _ _ => credit1
theorem amt2 : Amt (Memref.whole cc0_stg3_0 : Memref sig .tc .vmem S2x512x768 .bf16) S1x16x768.size (bytes 2) := fun _ _ => credit1
theorem amt3 : Amt (Memref.whole cc0_stg3_0 : Memref sig .tc .vmem S2x512x768 .bf16) S1x64x768.size (bytes 3) := fun _ _ => credit0
theorem amtS0 : Amt (Memref.whole cc0_scratch4 : Memref sig .tc .vmem S2x512x768 .bf16) S1x64x768.size (bytes 0) := fun _ _ => credit0
theorem amtS1 : Amt (Memref.whole cc0_scratch5 : Memref sig .tc .vmem S4x64x768 .bf16) S1x16x768.size (bytes 1) := fun _ _ => credit1

theorem amt_rcv (k r : Fin 4) : amt (.rcv k r) = bytes k := rfl
theorem amt_snd (k r : Fin 4) : amt (.snd k r) = bytes k := rfl

/-- A tested wait for one message. -/
theorem wait_if (c : Dev nD) {k : Fin 4} {x : Cell} (hx : amt x = bytes k) (hcard : ∀ c, (dset x c).card = 3) (j : Fin 4) {n : ℕ}
    (hn : n = 72 ∨ InOrder x n) {cond : Prop} {inst : Decidable cond} (hc : cond ↔ j ≠ own k c)
    {s : Shape} {e : EltTy} {m : Memref sig .tc .vmem s e} {size : Fin s.rank → ℕ} (hA : Amt m size (bytes k))
    {sm : DmaSem sig} (hsm : .dma sm = csem x)
    {off : cond → Fin s.rank → ℕ} {inb : ∀ h a, off h a + size a ≤ s.size a}
    {s' : Shape} {sp' : Space} {e' : EltTy} {src : cond → Memref sig .tc sp' s' e'} {hw : ∀ h, (src h).view.WordExact}
    {hw' : ∀ h, (m.slice (Rect.unit (s := s) (off h) size (inb h)) (fun _ => rfl)).view.WordExact} {Q : PUnit → sProp 𝕄} :
    iprop(Env (vals A) K ∗ Cr k x j c ∗ Waited (vals A) k x j.val c ∗ Owed c n)
      ⊢ iprop(((Waited (vals A) k x (j.val + 1) c ∗ Owed c n) -∗ Q ⟨⟩)
        -∗ wp frame (wpE (defs₀ (F := F)) 𝒱₀ (c : Thread nD τ) none) Set.univ
          (@dite _ cond inst (fun h => .op (.waitDma2 sm (src h) (m.slice (Rect.unit (s := s) (off h) size (inb h)) (fun _ => rfl)) (hw h) (hw' h))
            (fun _ => .ret ⟨⟩)) (fun _ => .ret ⟨⟩)) Q) := by
  by_cases hj : j = own k c
  · rw [dif_neg (fun h => hc.mp h hj)]
    iintro ⟨#HE, Hc, Hw, HO⟩ Hk
    simp only [wp_ret]
    imodintro
    iapply Hk
    isplitl [Hw]
    · iapply (wait_skip (vals A) hj); iexact Hw
    · iexact HO
  · rw [dif_pos (hc.mpr hj)]
    iintro H Hk
    iapply (wait_core (vals A) K (c := c) (k := k) (x := x) hx (hcard c) (j := j) (n := n) hj hn hsm (hA _ _)) $$ H
    iintro H
    simp only [wp_ret]
    imodintro
    iapply Hk
    iexact H

/-- A tested pair of waits, for the messages to one peer that went out by two kinds. -/
theorem wait2_if (c : Dev nD) {k k' : Fin 4} (hkk : ∀ c, own k c = own k' c) {x x' : Cell} (hx : amt x = bytes k) (hcard : ∀ c, (dset x c).card = 3)
    (hx' : amt x' = bytes k') (hcard' : ∀ c, (dset x' c).card = 3) (j : Fin 4)
    {cond : Prop} {inst : Decidable cond} (hc : cond ↔ j ≠ own k c)
    {s : Shape} {e : EltTy} {m : Memref sig .tc .vmem s e} {size : Fin s.rank → ℕ} (hA : Amt m size (bytes k))
    {s₂ : Shape} {e₂ : EltTy} {m₂ : Memref sig .tc .vmem s₂ e₂} {size₂ : Fin s₂.rank → ℕ} (hA₂ : Amt m₂ size₂ (bytes k'))
    {sm sm₂ : DmaSem sig} (hsm : .dma sm = csem x) (hsm₂ : .dma sm₂ = csem x')
    {off : cond → Fin s.rank → ℕ} {inb : ∀ h a, off h a + size a ≤ s.size a}
    {off₂ : cond → Fin s₂.rank → ℕ} {inb₂ : ∀ h a, off₂ h a + size₂ a ≤ s₂.size a}
    {s' : Shape} {sp' : Space} {e' : EltTy} {src : cond → Memref sig .tc sp' s' e'} {hw : ∀ h, (src h).view.WordExact}
    {hw' : ∀ h, (m.slice (Rect.unit (s := s) (off h) size (inb h)) (fun _ => rfl)).view.WordExact}
    {s₂' : Shape} {sp₂' : Space} {e₂' : EltTy} {src₂ : cond → Memref sig .tc sp₂' s₂' e₂'} {hw₂ : ∀ h, (src₂ h).view.WordExact}
    {hw₂' : ∀ h, (m₂.slice (Rect.unit (s := s₂) (off₂ h) size₂ (inb₂ h)) (fun _ => rfl)).view.WordExact} {Q : PUnit → sProp 𝕄} :
    iprop(Env (vals A) K ∗ Cr k x j c ∗ Waited (vals A) k x j.val c ∗ Cr k' x' j c ∗ Waited (vals A) k' x' j.val c ∗ Owed c 72)
      ⊢ iprop(((Waited (vals A) k x (j.val + 1) c ∗ Waited (vals A) k' x' (j.val + 1) c ∗ Owed c 72) -∗ Q ⟨⟩)
        -∗ wp frame (wpE (defs₀ (F := F)) 𝒱₀ (c : Thread nD τ) none) Set.univ
          (@dite _ cond inst (fun h => .op (.waitDma2 sm (src h) (m.slice (Rect.unit (s := s) (off h) size (inb h)) (fun _ => rfl)) (hw h) (hw' h))
            (fun _ => .op (.waitDma2 sm₂ (src₂ h) (m₂.slice (Rect.unit (s := s₂) (off₂ h) size₂ (inb₂ h)) (fun _ => rfl)) (hw₂ h) (hw₂' h))
              (fun _ => .ret ⟨⟩))) (fun _ => .ret ⟨⟩)) Q) := by
  by_cases hj : j = own k c
  · rw [dif_neg (fun h => hc.mp h hj)]
    iintro ⟨#HE, Hc, Hw, Hc', Hw', HO⟩ Hk
    simp only [wp_ret]
    imodintro
    iapply Hk
    isplitl [Hw]
    · iapply (wait_skip (vals A) hj); iexact Hw
    isplitl [Hw']
    · iapply (wait_skip (vals A) (hj.trans (hkk c))); iexact Hw'
    · iexact HO
  · rw [dif_pos (hc.mpr hj)]
    iintro ⟨#HE, Hc, Hw, Hc', Hw', HO⟩ Hk
    iapply (wait_core (vals A) K (c := c) (k := k) (x := x) hx (hcard c) (j := j) (n := 72) hj (Or.inl rfl) hsm (hA _ _)) $$ [Hc Hw HO]
    · isplitr; · iexact HE
      isplitl [Hc]; · iexact Hc
      isplitl [Hw]; · iexact Hw
      iexact HO
    iintro ⟨Hw, HO⟩
    iapply (wait_core (vals A) K (c := c) (k := k') (x := x') hx' (hcard' c) (j := j) (n := 72) (fun h => hj (h.trans (hkk c).symm)) (Or.inl rfl) hsm₂ (hA₂ _ _)) $$ [Hc' Hw' HO]
    · isplitr; · iexact HE
      isplitl [Hc']; · iexact Hc'
      isplitl [Hw']; · iexact Hw'
      iexact HO
    iintro ⟨Hw', HO⟩
    simp only [wp_ret]
    imodintro
    iapply Hk
    isplitl [Hw]; · iexact Hw
    isplitl [Hw']; · iexact Hw'
    iexact HO

/-! ## Signals -/

/-- The test, and the target, of the barrier signal to peer `j`. -/
abbrev SigOk (b : Bool) (j : Fin 4) (condf : Dev nD → BitVec 1) (devf : Dev nD → ℕ) : Prop :=
  ∀ d, (condf d = 1#1 ↔ j ≠ own (barKind b) d) ∧ (condf d = 1#1 → devf d = (peer (barKind b) d j).val)

/-- What a device hands over with its barrier signal to peer `j`. -/
def Sig (b : Bool) (j : Fin 4) (c : Dev nD) : sProp 𝕄 :=
  other (barKind b) c j (iprop(dutyTok ER (gc (peer (barKind b) c j) .bar) 0 (b, own (barKind b) c) ∗ Places b (peer (barKind b) c j) c) : sProp 𝕄)

/-- A tested barrier signal. -/
theorem signal_if (c : Dev nD) {b : Bool} {j : Fin 4} {n : ℕ} (hn : sched[n]? = some (.sig b j)) {condf : Dev nD → BitVec 1} {devf : Dev nD → ℕ}
    (ok : SigOk b j condf devf) {inst : Decidable (condf c = 1#1)} {hlt : condf c = 1#1 → devf c < nD} {sm : Sem sig} (hsm : sm = barrier0) {Q : PUnit → sProp 𝕄} :
    iprop(Env (vals A) K ∗ Sig b j c ∗ Owed c n)
      ⊢ iprop((Owed c (n + 1) -∗ Q ⟨⟩)
        -∗ wp frame (wpE (defs₀ (F := F)) 𝒱₀ (c : Thread nD τ) none) Set.univ
          (@dite _ (condf c = 1#1) inst (fun h => .op (.semSignal (Dev.tc (⟨devf c, hlt h⟩ : Dev nD) : Thread nD τ) sm 1) (fun _ => .ret ⟨⟩))
            (fun _ => .ret ⟨⟩)) Q) := by
  unfold Sig
  by_cases hj : j = own (barKind b) c
  · rw [dif_neg (fun h => (ok c).1.mp h hj), other_own hj]
    iintro ⟨#HE, He, HO⟩ Hk
    simp only [wp_ret]
    imodintro
    iapply Hk
    unfold Owed
    rw [due_step c n _ hn, show tal c (.sig b j) = 0 from if_pos hj, add_zero]
    iexact HO
  · have h1 := (ok c).1.mpr hj
    rw [dif_pos h1, other_ne hj]
    iintro ⟨#HE, ⟨Ht, Hp⟩, HO⟩ Hk
    iapply (signal_core (vals A) K (c := c) hj hn (dv := ⟨devf c, hlt h1⟩) (Fin.ext ((ok c).2 h1)) hsm) $$ [Ht Hp HO]
    · isplitr; · iexact HE
      isplitl [Ht]; · iexact Ht
      isplitl [Hp]; · iexact Hp
      iexact HO
    iintro HO
    simp only [wp_ret]
    imodintro
    iapply Hk
    iexact HO

/-! ## Messages -/

/-- Where device `d` writes its message of kind `k`, round `r`. -/
def dOff (k r : Fin 4) (d : Dev nD) : Fin 3 → ℕ :=
  match k with
  | 0 => ![4 * r.val + (pOf d).val, 0, 0]
  | 1 => ![4 * r.val + (zOf d).val, 0, 0]
  | 2 => ![r.val / 2, 128 * (pOf d).val + 64 * (r.val % 2) + 16 * (zOf d).val, 0]
  | 3 => ![r.val / 2, 128 * (pOf d).val + 64 * (r.val % 2), 0]

/-- The test, the place written and the target of a message to peer `j`. -/
abbrev SendOk (k r j : Fin 4) (condf : Dev nD → BitVec 1) (offd : Dev nD → Fin 3 → ℕ) (devf : Dev nD → ℕ) : Prop :=
  ∀ d, (condf d = 1#1 ↔ j ≠ own k d) ∧ (condf d = 1#1 → offd d = dOff k r d ∧ devf d = (peer k d j).val)

/-- A rectangle of a buffer. -/
abbrev rc {s : Shape} {e : EltTy} (m : Memref sig .tc .vmem s e) (size off : Fin s.rank → ℕ) (inb : ∀ a, off a + size a ≤ s.size a) :
    Memref sig .tc .vmem (Rect.unit (s := s) off size inb).shape e := m.slice (Rect.unit (s := s) off size inb) (fun _ => rfl)

/-- A tested message. -/
theorem send_if (c : Dev nD) {k r j : Fin 4} {n : ℕ} (hn : sched[n]? = some (.msg k r j)) {condf : Dev nD → BitVec 1} {offd : Dev nD → Fin 3 → ℕ} {devf : Dev nD → ℕ}
    (ok : SendOk k r j condf offd devf) {sS sR : DmaSem sig} (hS : .dma sS = csem (.snd k r)) (hR : .dma sR = csem (.rcv k r))
    {d₁ d₂ size : Fin 3 → ℕ} {m₁ : Memref sig .tc .vmem ⟨3, d₁⟩ .bf16} {m₂ : Memref sig .tc .vmem ⟨3, d₂⟩ .bf16} (hA : Amt m₂ size (bytes k))
    {offs offs' : Fin 3 → ℕ} (hoffs : condf c = 1#1 → offs = offs') {q : PosShare TreeShare} {fs : Buf (Elt F) (m₁.view.loc (c : Thread nD τ))}
    (hsrc : ∀ inb, Src (vals A) k r j c = ((rc m₁ size offs' inb).view.loc (c : Thread nD τ) ↦[(rc m₁ size offs' inb).view.set]{q} fs : sProp 𝕄))
    (hplace : ∀ inb, Place k r c (peer k c j) ⊢
      (iprop(∃ fd, (rc m₂ size (dOff k r c) inb).view.loc (peer k c j : Thread nD τ) ↦[(rc m₂ size (dOff k r c) inb).view.set]{fullShare} fd) : sProp 𝕄))
    (hgot : j ≠ own k c → ∀ inb inb' fd, ((rc m₂ size (dOff k r c) inb).view.loc (peer k c j : Thread nD τ) ↦[(rc m₂ size (dOff k r c) inb).view.set]{fullShare}
        ((rc m₂ size (dOff k r c) inb).view.write (Elt F) fd ((rc m₁ size offs' inb').view.read (Elt F) fs) Finset.univ) : sProp 𝕄)
      ⊢ Got (vals A) k r (own k c) (peer k c j))
    {inst : Decidable (condf c = 1#1)} {hlt : condf c = 1#1 → devf c < nD}
    {inbs : condf c = 1#1 → ∀ a, offs a + size a ≤ d₁ a} {inbd : condf c = 1#1 → ∀ a, offd c a + size a ≤ d₂ a}
    {hsc : ∀ h, (rc m₂ size (offd c) (inbd h)).view.ref.isScScratch = false} {hw : ∀ h, (rc m₁ size offs (inbs h)).view.WordExact}
    {hw' : ∀ h, (rc m₂ size (offd c) (inbd h)).view.WordExact}
    {hsem : ∀ h, DmaTarget.Typed .vmem (.dma sR) (.remote (Dev.tc (⟨devf c, hlt h⟩ : Dev nD) : Thread nD τ) (rc m₂ size (offd c) (inbd h)) (.dma sS) (hsc h))}
    {Q : PUnit → sProp 𝕄} :
    iprop(Env (vals A) K ∗ Ready k r j c ∗ Src (vals A) k r j c ∗ Owed c n)
      ⊢ iprop(((Cr k (.snd k r) j c ∗ Kept (vals A) k r j c ∗ Owed c (n + 1)) -∗ Q ⟨⟩)
        -∗ wp frame (wpE (defs₀ (F := F)) 𝒱₀ (c : Thread nD τ) none) Set.univ
          (@dite _ (condf c = 1#1) inst (fun h => .op (.enqueueDma (rc m₁ size offs (inbs h))
              (.remote (Dev.tc (⟨devf c, hlt h⟩ : Dev nD) : Thread nD τ) (rc m₂ size (offd c) (inbd h)) (.dma sS) (hsc h))
              (.dma sR) (hw h) (hw' h) (hsem h)) (fun _ => .ret ⟨⟩))
            (fun _ => .ret ⟨⟩)) Q) := by
  by_cases hj : j = own k c
  · rw [dif_neg (fun h => (ok c).1.mp h hj)]
    iintro ⟨#HE, HR, HS, HO⟩ Hk
    simp only [wp_ret]
    imodintro
    iapply Hk
    iapply (send_skip (vals A) hj hn) $$ [HR HS HO]
    isplitl [HR]; · iexact HR
    isplitl [HS]; · iexact HS
    iexact HO
  · have h1 := (ok c).1.mpr hj
    have hdv := (ok c).2 h1
    rw [dif_pos h1]
    obtain rfl := hoffs h1
    obtain ⟨ho, hd⟩ := hdv
    have hd' : (⟨devf c, hlt h1⟩ : Dev nD) = peer k c j := Fin.ext hd
    have key : ∀ (od : Fin 3 → ℕ) (dv : Dev nD) (ho : od = dOff k r c) (hd : dv = peer k c j) (inbd : ∀ a, od a + size a ≤ d₂ a)
        (hsc : (rc m₂ size od inbd).view.ref.isScScratch = false) (hw' : (rc m₂ size od inbd).view.WordExact)
        (hsem : DmaTarget.Typed .vmem (.dma sR) (.remote (Dev.tc dv : Thread nD τ) (rc m₂ size od inbd) (.dma sS) hsc)),
        iprop(Env (vals A) K ∗ Ready k r j c ∗ Src (vals A) k r j c ∗ Owed c n)
          ⊢ iprop(((Cr k (.snd k r) j c ∗ Kept (vals A) k r j c ∗ Owed c (n + 1)) -∗ Q ⟨⟩)
            -∗ wp frame (wpE (defs₀ (F := F)) 𝒱₀ (c : Thread nD τ) none) Set.univ
              (.op (.enqueueDma (rc m₁ size offs (inbs h1)) (.remote (Dev.tc dv : Thread nD τ) (rc m₂ size od inbd) (.dma sS) hsc)
                (.dma sR) (hw h1) hw' hsem) (fun _ => .ret ⟨⟩)) Q) := by
      intro od dv ho hd inbd hsc hw' hsem
      subst ho hd
      iintro H Hk
      iapply (send_core (vals A) K (c := c) (k := k) (r := r) (j := j) (n := n) (src := rc m₁ size offs (inbs h1)) (dst := rc m₂ size (dOff k r c) inbd)
        (dv := peer k c j) hj hn rfl hS hR (hA _ _) (q := q) (fs := fs) (hsrc _) (hplace _) (hgot hj _ _)) $$ H
      iintro H
      simp only [wp_ret]
      imodintro
      iapply Hk
      iexact H
    exact key _ _ ho hd' _ _ _ _

/-- Where device `c` reads its message of kind `k` to peer `j` from. -/
def sOff (k r j : Fin 4) (c : Dev nD) : Fin 3 → ℕ :=
  match k with
  | 0 => ![r.val / 2, 128 * j.val + 64 * (r.val % 2), 0]
  | 1 => ![r.val, 16 * j.val, 0]
  | 2 => dOff 2 r c
  | 3 => dOff 3 r c

theorem pt_sub (c : Dev nD) (b : Ref sig .tc) (off size : Fin b.ty.shape.rank → ℕ) (inb) (q : PosShare TreeShare) (f : b.ty.shape.Idx → Elt F b.ty.elt) :
    (pt c b (bx b.ty.shape off size) q f : sProp 𝕄)
      = (((View.whole b).slice (Rect.unit (s := b.ty.shape) off size inb)).loc (c : Thread nD τ) ↦[((View.whole b).slice (Rect.unit (s := b.ty.shape) off size inb)).set]{q} f : sProp 𝕄) := by
  rw [acc_set]

/-- The contents of a rectangle just written. -/
theorem pt_landed (c : Dev nD) (b : Ref sig .tc) (off size : Fin b.ty.shape.rank → ℕ) (inb) (f g : b.ty.shape.Idx → Elt F b.ty.elt)
    (w : (Rect.unit (s := b.ty.shape) off size inb).shape.Idx → Elt F b.ty.elt) (h : ∀ x, g ((Rect.unit (s := b.ty.shape) off size inb).emb x) = w x) :
    (((View.whole b).slice (Rect.unit (s := b.ty.shape) off size inb)).loc (c : Thread nD τ) ↦[((View.whole b).slice (Rect.unit (s := b.ty.shape) off size inb)).set]{fullShare}
      (((View.whole b).slice (Rect.unit (s := b.ty.shape) off size inb)).write (Elt F) f w Finset.univ) : sProp 𝕄)
      ⊢ (pt c b (bx b.ty.shape off size) fullShare g : sProp 𝕄) := by
  rw [acc_set]
  refine Entails.of_eq (pointsTo_congr fun i hi => ?_)
  obtain ⟨x, rfl⟩ := exists_emb inb hi
  rw [h]
  exact View.write_emb_of_mem (Val := Elt F) (v := (View.whole b).slice (Rect.unit (s := b.ty.shape) off size inb)) f w (Finset.mem_univ x)

theorem src0 (r j : Fin 4) (c : Dev nD) (inb) : Src (vals A) 0 r j c
    = ((rc (Memref.whole cc0_scratch4 : Memref sig .tc .vmem S2x512x768 .bf16) S1x64x768.size (sOff 0 r j c) inb).view.loc (c : Thread nD τ)
      ↦[(rc (Memref.whole cc0_scratch4 : Memref sig .tc .vmem S2x512x768 .bf16) S1x64x768.size (sOff 0 r j c) inb).view.set]{fullShare} (vAcc A c) : sProp 𝕄) :=
  pt_sub c cc0_scratch4 _ _ _ _ _
theorem src1 (r j : Fin 4) (c : Dev nD) (inb) : Src (vals A) 1 r j c
    = ((rc (Memref.whole cc0_scratch5 : Memref sig .tc .vmem S4x64x768 .bf16) S1x16x768.size (sOff 1 r j c) inb).view.loc (c : Thread nD τ)
      ↦[(rc (Memref.whole cc0_scratch5 : Memref sig .tc .vmem S4x64x768 .bf16) S1x16x768.size (sOff 1 r j c) inb).view.set]{fullShare} (vCg A c) : sProp 𝕄) :=
  pt_sub c cc0_scratch5 _ _ _ _ _
theorem src2 (r j : Fin 4) (c : Dev nD) (inb) : Src (vals A) 2 r j c
    = ((rc (Memref.whole cc0_stg3_0 : Memref sig .tc .vmem S2x512x768 .bf16) S1x16x768.size (sOff 2 r j c) inb).view.loc (c : Thread nD τ)
      ↦[(rc (Memref.whole cc0_stg3_0 : Memref sig .tc .vmem S2x512x768 .bf16) S1x16x768.size (sOff 2 r j c) inb).view.set]{qtr fullShare.left j} (vOut A) : sProp 𝕄) :=
  pt_sub c cc0_stg3_0 _ _ _ _ _
theorem src3 (r j : Fin 4) (c : Dev nD) (inb) : Src (vals A) 3 r j c
    = ((rc (Memref.whole cc0_stg3_0 : Memref sig .tc .vmem S2x512x768 .bf16) S1x64x768.size (sOff 3 r j c) inb).view.loc (c : Thread nD τ)
      ↦[(rc (Memref.whole cc0_stg3_0 : Memref sig .tc .vmem S2x512x768 .bf16) S1x64x768.size (sOff 3 r j c) inb).view.set]{qtr fullShare.right j} (vOut A) : sProp 𝕄) :=
  pt_sub c cc0_stg3_0 _ _ _ _ _

theorem place_some {c : Dev nD} {b : Ref sig .tc} {off size : Fin b.ty.shape.rank → ℕ} (inb) :
    (iprop(∃ f : b.ty.shape.Idx → Elt F b.ty.elt, pt c b (bx b.ty.shape off size) fullShare f) : sProp 𝕄)
      ⊢ (iprop(∃ fd, ((View.whole b).slice (Rect.unit (s := b.ty.shape) off size inb)).loc (c : Thread nD τ)
        ↦[((View.whole b).slice (Rect.unit (s := b.ty.shape) off size inb)).set]{fullShare} fd) : sProp 𝕄) := by
  rw [acc_set]

theorem pOf_peer0 : ∀ (c : Dev nD) j, pOf (peer 0 c j) = j := by decide
theorem zOf_peer1 : ∀ (c : Dev nD) j, zOf (peer 1 c j) = j := by decide
theorem peer0_back : ∀ (c : Dev nD) j, peer 0 (peer 0 c j) (pOf c) = c := by decide
theorem peer1_back : ∀ (c : Dev nD) j, peer 1 (peer 1 c j) (zOf c) = c := by decide
theorem pOf_peer2 : ∀ (c : Dev nD) j, pOf (peer 2 c j) = pOf c := by decide
theorem own0 : ∀ c : Dev nD, own 0 c = pOf c := by decide
theorem own1 : ∀ c : Dev nD, own 1 c = zOf c := by decide
theorem own2 : ∀ c : Dev nD, own 2 c = zOf c := by decide
theorem own3 : ∀ c : Dev nD, own 3 c = pOf c := by decide

theorem pb_got (c : Dev nD) (r j : Fin 4) (hj : j ≠ pOf c) (x) :
    vPb A (peer 0 c j) ((Rect.unit (s := S16x64x768) ![4 * r.val + (pOf c).val, 0, 0] S1x64x768.size (inb_pb r (pOf c))).emb x)
      = vAcc A c ((Rect.unit (s := S2x512x768) ![r.val / 2, 128 * j.val + 64 * (r.val % 2), 0] S1x64x768.size (inb_sl r j)).emb x) := by
  rw [vPb_emb]
  unfold vPbBlk
  rw [if_neg (by rw [pOf_peer0]; exact hj.symm)]
  rw [peer0_back]
  have e : (![r.val / 2, 128 * (pOf (peer 0 c j)).val + 64 * (r.val % 2), 0] : Fin 3 → ℕ) = ![r.val / 2, 128 * j.val + 64 * (r.val % 2), 0] := by rw [pOf_peer0]
  exact congrFun (rd_congr (s := S2x512x768) (size := S1x64x768.size) e (inb_sl r _) (inb_sl r j) (vAcc A c)) x

theorem zb_got (c : Dev nD) (r j : Fin 4) (hj : j ≠ zOf c) (x) :
    vZb A (peer 1 c j) ((Rect.unit (s := S16x16x768) ![4 * r.val + (zOf c).val, 0, 0] S1x16x768.size (inb_zb r (zOf c))).emb x)
      = vCg A c ((Rect.unit (s := S4x64x768) ![r.val, 16 * j.val, 0] S1x16x768.size (inb_qu r j)).emb x) := by
  rw [vZb_emb]
  unfold vZbBlk
  rw [if_neg (by rw [zOf_peer1]; exact hj.symm)]
  rw [peer1_back]
  have e : (![r.val, 16 * (zOf (peer 1 c j)).val, 0] : Fin 3 → ℕ) = ![r.val, 16 * j.val, 0] := by rw [zOf_peer1]
  exact congrFun (rd_congr (s := S4x64x768) (size := S1x16x768.size) e (inb_qu r _) (inb_qu r j) (vCg A c)) x

section Got
variable (c : Dev nD) (r j : Fin 4)

theorem got0 (hj : j ≠ own 0 c) (inb inb') (fd : S16x64x768.Idx → F .bf16) :
    ((rc (Memref.whole cc0_scratch6 : Memref sig .tc .vmem S16x64x768 .bf16) S1x64x768.size (dOff 0 r c) inb).view.loc (peer 0 c j : Thread nD τ)
      ↦[(rc (Memref.whole cc0_scratch6 : Memref sig .tc .vmem S16x64x768 .bf16) S1x64x768.size (dOff 0 r c) inb).view.set]{fullShare}
        ((rc (Memref.whole cc0_scratch6 : Memref sig .tc .vmem S16x64x768 .bf16) S1x64x768.size (dOff 0 r c) inb).view.write (Elt F) fd
          ((rc (Memref.whole cc0_scratch4 : Memref sig .tc .vmem S2x512x768 .bf16) S1x64x768.size (sOff 0 r j c) inb').view.read (Elt F) (vAcc A c)) Finset.univ) : sProp 𝕄)
      ⊢ Got (vals A) 0 r (own 0 c) (peer 0 c j) := by
  rw [own0] at hj ⊢
  exact pt_landed (peer 0 c j) cc0_scratch6 _ _ _ fd (vPb A (peer 0 c j)) _ fun x => pb_got A c r j hj x

theorem got1 (hj : j ≠ own 1 c) (inb inb') (fd : S16x16x768.Idx → F .bf16) :
    ((rc (Memref.whole cc0_scratch7 : Memref sig .tc .vmem S16x16x768 .bf16) S1x16x768.size (dOff 1 r c) inb).view.loc (peer 1 c j : Thread nD τ)
      ↦[(rc (Memref.whole cc0_scratch7 : Memref sig .tc .vmem S16x16x768 .bf16) S1x16x768.size (dOff 1 r c) inb).view.set]{fullShare}
        ((rc (Memref.whole cc0_scratch7 : Memref sig .tc .vmem S16x16x768 .bf16) S1x16x768.size (dOff 1 r c) inb).view.write (Elt F) fd
          ((rc (Memref.whole cc0_scratch5 : Memref sig .tc .vmem S4x64x768 .bf16) S1x16x768.size (sOff 1 r j c) inb').view.read (Elt F) (vCg A c)) Finset.univ) : sProp 𝕄)
      ⊢ Got (vals A) 1 r (own 1 c) (peer 1 c j) := by
  rw [own1] at hj ⊢
  exact pt_landed (peer 1 c j) cc0_scratch7 _ _ _ fd (vZb A (peer 1 c j)) _ fun x => zb_got A c r j hj x

theorem got2 (hj : j ≠ own 2 c) (inb inb') (fd : S2x512x768.Idx → F .bf16) :
    ((rc (Memref.whole cc0_stg3_0 : Memref sig .tc .vmem S2x512x768 .bf16) S1x16x768.size (dOff 2 r c) inb).view.loc (peer 2 c j : Thread nD τ)
      ↦[(rc (Memref.whole cc0_stg3_0 : Memref sig .tc .vmem S2x512x768 .bf16) S1x16x768.size (dOff 2 r c) inb).view.set]{fullShare}
        ((rc (Memref.whole cc0_stg3_0 : Memref sig .tc .vmem S2x512x768 .bf16) S1x16x768.size (dOff 2 r c) inb).view.write (Elt F) fd
          ((rc (Memref.whole cc0_stg3_0 : Memref sig .tc .vmem S2x512x768 .bf16) S1x16x768.size (sOff 2 r j c) inb').view.read (Elt F) (vOut A)) Finset.univ) : sProp 𝕄)
      ⊢ Got (vals A) 2 r (own 2 c) (peer 2 c j) := by
  have h : Got (vals A) 2 r (own 2 c) (peer 2 c j) = (pt (peer 2 c j) cc0_stg3_0 (bx S2x512x768 (dOff 2 r c) S1x16x768.size) fullShare (vOut A) : sProp 𝕄) := by
    rw [own2]
    show pt (peer 2 c j) cc0_stg3_0 (rows r (pOf (peer 2 c j)) (zOf c)) fullShare (vOut A) = _
    rw [pOf_peer2]; rfl
  rw [h]
  exact pt_landed (peer 2 c j) cc0_stg3_0 _ _ _ fd (vOut A) _ fun x => rfl

theorem got3 (hj : j ≠ own 3 c) (inb inb') (fd : S2x512x768.Idx → F .bf16) :
    ((rc (Memref.whole cc0_stg3_0 : Memref sig .tc .vmem S2x512x768 .bf16) S1x64x768.size (dOff 3 r c) inb).view.loc (peer 3 c j : Thread nD τ)
      ↦[(rc (Memref.whole cc0_stg3_0 : Memref sig .tc .vmem S2x512x768 .bf16) S1x64x768.size (dOff 3 r c) inb).view.set]{fullShare}
        ((rc (Memref.whole cc0_stg3_0 : Memref sig .tc .vmem S2x512x768 .bf16) S1x64x768.size (dOff 3 r c) inb).view.write (Elt F) fd
          ((rc (Memref.whole cc0_stg3_0 : Memref sig .tc .vmem S2x512x768 .bf16) S1x64x768.size (sOff 3 r j c) inb').view.read (Elt F) (vOut A)) Finset.univ) : sProp 𝕄)
      ⊢ Got (vals A) 3 r (own 3 c) (peer 3 c j) := by
  rw [own3]
  exact pt_landed (peer 3 c j) cc0_stg3_0 _ _ _ fd (vOut A) _ fun x => rfl

end Got

end Cert.Attn
-- ==== Proof.State.lean ====
module

public import proofs.«01_k».proof.Proof.Blocks

/-!
# What a device holds between two points of the kernel

The messages of one kind and round as one record, the parts of the buffers, and how parts are cut and joined.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

/-! ## Four things in order -/

/-- The things of a family of four from the `n`-th on. -/
def tailFrom (Φ : Fin 4 → sProp 𝕄) : ℕ → sProp 𝕄
  | 0 => iprop(Φ 0 ∗ Φ 1 ∗ Φ 2 ∗ Φ 3 ∗ emp)
  | 1 => iprop(Φ 1 ∗ Φ 2 ∗ Φ 3 ∗ emp)
  | 2 => iprop(Φ 2 ∗ Φ 3 ∗ emp)
  | 3 => iprop(Φ 3 ∗ emp)
  | _ => iprop(emp)
/-- The first `n` things of a family of four. -/
def headTo (Φ : Fin 4 → sProp 𝕄) : ℕ → sProp 𝕄
  | 0 => iprop(emp)
  | 1 => iprop(Φ 0 ∗ emp)
  | 2 => iprop(Φ 1 ∗ Φ 0 ∗ emp)
  | 3 => iprop(Φ 2 ∗ Φ 1 ∗ Φ 0 ∗ emp)
  | _ => iprop(Φ 3 ∗ Φ 2 ∗ Φ 1 ∗ Φ 0 ∗ emp)
/-- All four. -/
def all4 (Φ : Fin 4 → sProp 𝕄) : sProp 𝕄 := iprop(Φ 0 ∗ Φ 1 ∗ Φ 2 ∗ Φ 3)

omit [FloatOps F] in
theorem tail_step (Φ : Fin 4 → sProp 𝕄) : ∀ j : Fin 4, tailFrom Φ j.val = iprop(Φ j ∗ tailFrom Φ (j.val + 1))
  | 0 => rfl | 1 => rfl | 2 => rfl | 3 => rfl
omit [FloatOps F] in
theorem head_step (Φ : Fin 4 → sProp 𝕄) : ∀ j : Fin 4, headTo Φ (j.val + 1) = iprop(Φ j ∗ headTo Φ j.val)
  | 0 => rfl | 1 => rfl | 2 => rfl | 3 => rfl
omit [FloatOps F] in
theorem four_tail (Φ : Fin 4 → sProp 𝕄) : all4 Φ ⊢ tailFrom Φ 0 := by
  show iprop(Φ 0 ∗ Φ 1 ∗ Φ 2 ∗ Φ 3) ⊢ iprop(Φ 0 ∗ Φ 1 ∗ Φ 2 ∗ Φ 3 ∗ emp)
  iintro ⟨H0, H1, H2, H3⟩
  iframe
omit [FloatOps F] in
theorem head_four (Φ : Fin 4 → sProp 𝕄) : headTo Φ 4 ⊢ all4 Φ := by
  show iprop(Φ 3 ∗ Φ 2 ∗ Φ 1 ∗ Φ 0 ∗ emp) ⊢ iprop(Φ 0 ∗ Φ 1 ∗ Φ 2 ∗ Φ 3)
  iintro ⟨H3, H2, H1, H0, -⟩
  iframe
omit [FloatOps F] in
theorem four_bigSep (Φ : Fin 4 → sProp 𝕄) : bigSep Finset.univ Φ = all4 Φ := by
  rw [bigSep_univ_eq_bigSepL [0, 1, 2, 3] (by decide) (by decide)]
  rfl
omit [FloatOps F] in
theorem four_sep (Φ Ψ : Fin 4 → sProp 𝕄) : all4 (fun j => iprop(Φ j ∗ Ψ j)) = iprop(all4 Φ ∗ all4 Ψ) := by
  rw [← four_bigSep, ← four_bigSep, ← four_bigSep]; exact bigSep_sep' _ _ _
omit [FloatOps F] in
theorem four_mono {Φ Ψ : Fin 4 → sProp 𝕄} (h : ∀ j, Φ j ⊢ Ψ j) : all4 Φ ⊢ all4 Ψ := by
  unfold all4
  iintro ⟨H0, H1, H2, H3⟩
  isplitl [H0]; · iapply (h 0); iexact H0
  isplitl [H1]; · iapply (h 1); iexact H1
  isplitl [H2]; · iapply (h 2); iexact H2
  iapply (h 3); iexact H3

omit [FloatOps F] in
/-- The own thing of four, and the three others. -/
theorem four_own (k : Fin 4) (c : Dev nD) (Φ : Fin 4 → sProp 𝕄) : all4 Φ = iprop(Φ (own k c) ∗ all4 fun j => other k c j (Φ j)) := by
  have h : ∀ o : Fin 4, all4 Φ = iprop(Φ o ∗ all4 fun j => if j = o then iprop(emp) else Φ j)
    | 0 => by
      refine Entails.antisymm ?_ ?_
      · show iprop(Φ 0 ∗ Φ 1 ∗ Φ 2 ∗ Φ 3) ⊢ iprop(Φ 0 ∗ emp ∗ Φ 1 ∗ Φ 2 ∗ Φ 3)
        iintro ⟨H0, H1, H2, H3⟩; iframe
      · show iprop(Φ 0 ∗ emp ∗ Φ 1 ∗ Φ 2 ∗ Φ 3) ⊢ iprop(Φ 0 ∗ Φ 1 ∗ Φ 2 ∗ Φ 3)
        iintro ⟨H0, -, H1, H2, H3⟩; iframe
    | 1 => by
      refine Entails.antisymm ?_ ?_
      · show iprop(Φ 0 ∗ Φ 1 ∗ Φ 2 ∗ Φ 3) ⊢ iprop(Φ 1 ∗ Φ 0 ∗ emp ∗ Φ 2 ∗ Φ 3)
        iintro ⟨H0, H1, H2, H3⟩; iframe
      · show iprop(Φ 1 ∗ Φ 0 ∗ emp ∗ Φ 2 ∗ Φ 3) ⊢ iprop(Φ 0 ∗ Φ 1 ∗ Φ 2 ∗ Φ 3)
        iintro ⟨H1, H0, -, H2, H3⟩; iframe
    | 2 => by
      refine Entails.antisymm ?_ ?_
      · show iprop(Φ 0 ∗ Φ 1 ∗ Φ 2 ∗ Φ 3) ⊢ iprop(Φ 2 ∗ Φ 0 ∗ Φ 1 ∗ emp ∗ Φ 3)
        iintro ⟨H0, H1, H2, H3⟩; iframe
      · show iprop(Φ 2 ∗ Φ 0 ∗ Φ 1 ∗ emp ∗ Φ 3) ⊢ iprop(Φ 0 ∗ Φ 1 ∗ Φ 2 ∗ Φ 3)
        iintro ⟨H2, H0, H1, -, H3⟩; iframe
    | 3 => by
      refine Entails.antisymm ?_ ?_
      · show iprop(Φ 0 ∗ Φ 1 ∗ Φ 2 ∗ Φ 3) ⊢ iprop(Φ 3 ∗ Φ 0 ∗ Φ 1 ∗ Φ 2 ∗ emp)
        iintro ⟨H0, H1, H2, H3⟩; iframe
      · show iprop(Φ 3 ∗ Φ 0 ∗ Φ 1 ∗ Φ 2 ∗ emp) ⊢ iprop(Φ 0 ∗ Φ 1 ∗ Φ 2 ∗ Φ 3)
        iintro ⟨H3, H0, H1, H2, -⟩; iframe
  exact h (own k c)

omit [FloatOps F] in
theorem four_kept (k : Fin 4) (c : Dev nD) (Φ : Fin 4 → sProp 𝕄) : (all4 fun j => if j = own k c then Φ j else iprop(emp)) ⊢ Φ (own k c) := by
  have h : ∀ o : Fin 4, (all4 fun j => if j = o then Φ j else iprop(emp)) ⊢ Φ o
    | 0 => by
      show iprop(Φ 0 ∗ emp ∗ emp ∗ emp) ⊢ Φ 0
      iintro ⟨H, -, -, -⟩; iexact H
    | 1 => by
      show iprop(emp ∗ Φ 1 ∗ emp ∗ emp) ⊢ Φ 1
      iintro ⟨-, H, -, -⟩; iexact H
    | 2 => by
      show iprop(emp ∗ emp ∗ Φ 2 ∗ emp) ⊢ Φ 2
      iintro ⟨-, -, H, -⟩; iexact H
    | 3 => by
      show iprop(emp ∗ emp ∗ emp ∗ Φ 3) ⊢ Φ 3
      iintro ⟨-, -, -, H⟩; iexact H
  exact h (own k c)

/-! ## Messages of one kind and round -/

/-- The messages with an index below `m` have been waited for on cell `x`, and the others can be. -/
def Rcv (k : Fin 4) (x : Cell) (m : ℕ) (c : Dev nD) : sProp 𝕄 :=
  iprop(Waited (vals A) k x m c ∗ tailFrom (fun j => Cr k x j c) m)

/-- The messages with an index below `m` have been sent, and the others can be. -/
def Out (k r : Fin 4) (m : ℕ) (c : Dev nD) : sProp 𝕄 :=
  iprop(Waited (vals A) k (.snd k r) 0 c ∗ headTo (fun j => iprop(Cr k (.snd k r) j c ∗ Kept (vals A) k r j c)) m
    ∗ tailFrom (fun j => Ready k r j c) m)

/-- Everything that came on cell `x` has been waited for. -/
def Done (k : Fin 4) (x : Cell) (c : Dev nD) : sProp 𝕄 := atPos ER (gc c x) 0 (dset x c) (3 * bytes k)

theorem rcv_step {c : Dev nD} {k : Fin 4} {x : Cell} {n : ℕ} (j : Fin 4) {m m' : ℕ} (hm : m = j.val) (hm' : m' = j.val + 1) {Q W : sProp 𝕄}
    (h : iprop(Env (vals A) K ∗ Cr k x j c ∗ Waited (vals A) k x j.val c ∗ Owed c n) ⊢ iprop(((Waited (vals A) k x (j.val + 1) c ∗ Owed c n) -∗ Q) -∗ W)) :
    iprop(Env (vals A) K ∗ Rcv A k x m c ∗ Owed c n) ⊢ iprop(((Rcv A k x m' c ∗ Owed c n) -∗ Q) -∗ W) := by
  subst hm hm'
  unfold Rcv
  rw [tail_step]
  iintro ⟨#HE, ⟨Hw, Hc, Ht⟩, HO⟩ Hk
  iapply h $$ [Hw Hc HO]
  · iframe Hc Hw HO; iexact HE
  iintro ⟨Hw, HO⟩
  iapply Hk
  iframe

/-- Two waits at once, at the end. -/
theorem rcv_step2 {c : Dev nD} {k k' : Fin 4} {x x' : Cell} (j : Fin 4) {m m' : ℕ} (hm : m = j.val) (hm' : m' = j.val + 1) {Q W : sProp 𝕄}
    (h : iprop(Env (vals A) K ∗ Cr k x j c ∗ Waited (vals A) k x j.val c ∗ Cr k' x' j c ∗ Waited (vals A) k' x' j.val c ∗ Owed c 72)
      ⊢ iprop(((Waited (vals A) k x (j.val + 1) c ∗ Waited (vals A) k' x' (j.val + 1) c ∗ Owed c 72) -∗ Q) -∗ W)) :
    iprop(Env (vals A) K ∗ Rcv A k x m c ∗ Rcv A k' x' m c ∗ Owed c 72) ⊢ iprop(((Rcv A k x m' c ∗ Rcv A k' x' m' c ∗ Owed c 72) -∗ Q) -∗ W) := by
  subst hm hm'
  unfold Rcv
  rw [tail_step, tail_step]
  iintro ⟨#HE, ⟨Hw, Hc, Ht⟩, ⟨Hw', Hc', Ht'⟩, HO⟩ Hk
  iapply h $$ [Hw Hc Hw' Hc' HO]
  · iframe Hc Hw Hc' Hw' HO; iexact HE
  iintro ⟨Hw, Hw', HO⟩
  iapply Hk
  iframe

theorem out_step {c : Dev nD} {k r : Fin 4} {n : ℕ} (j : Fin 4) {m m' : ℕ} (hm : m = j.val) (hm' : m' = j.val + 1) {Q W : sProp 𝕄}
    (h : iprop(Env (vals A) K ∗ Ready k r j c ∗ Src (vals A) k r j c ∗ Owed c n)
      ⊢ iprop(((Cr k (.snd k r) j c ∗ Kept (vals A) k r j c ∗ Owed c (n + 1)) -∗ Q) -∗ W)) :
    iprop(Env (vals A) K ∗ Out A k r m c ∗ Src (vals A) k r j c ∗ Owed c n) ⊢ iprop(((Out A k r m' c ∗ Owed c (n + 1)) -∗ Q) -∗ W) := by
  subst hm hm'
  unfold Out
  rw [tail_step, head_step]
  iintro ⟨#HE, ⟨Hw, Hh, Hr, Ht⟩, HS, HO⟩ Hk
  iapply h $$ [Hr HS HO]
  · iframe Hr HS HO; iexact HE
  iintro ⟨HC, HK, HO⟩
  iapply Hk
  iframe

/-- After the last message: the waits for what was sent can begin, and the own piece is back. -/
theorem out_all {c : Dev nD} {k r : Fin 4} : Out A k r 4 c ⊢ iprop(Rcv A k (.snd k r) 0 c ∗ Src (vals A) k r (own k c) c) := by
  unfold Out Rcv
  iintro ⟨Hw, Hh, -⟩
  ihave Hf := (head_four (fun j => iprop(Cr k (.snd k r) j c ∗ Kept (vals A) k r j c))) $$ Hh
  ihave Hg := (Entails.of_eq (four_sep (fun j => Cr k (.snd k r) j c) (fun j => Kept (vals A) k r j c))) $$ Hf
  icases Hg with ⟨Hc, Hk⟩
  isplitl [Hw Hc]
  · isplitl [Hw]; · iexact Hw
    iapply (four_tail (fun j => Cr k (.snd k r) j c)); iexact Hc
  iapply (four_kept k c (fun j => Src (vals A) k r j c)); iexact Hk

theorem pay_four (c : Dev nD) (k : Fin 4) (x : Cell) (Φ : Fin 4 → sProp 𝕄) (hx : dset x c = Finset.univ.filter fun d : Duty => d.1 = false ∧ d.2 ≠ own k c)
    (hΦ : ∀ d, pay (vals A) x c d = Φ d.2) :
    bigSep (dset x c) (fun d => pay (vals A) x c d) = all4 fun j => other k c j (Φ j) := by
  rw [← four_bigSep]
  have h : ∀ o : Fin 4, bigSep (Finset.univ.filter fun d : Duty => d.1 = false ∧ d.2 ≠ o) (fun d => Φ d.2) = bigSep Finset.univ fun j => if j = o then iprop(emp) else Φ j := by
    intro o
    have e : (Finset.univ.filter fun d : Duty => d.1 = false ∧ d.2 ≠ o) = (Finset.univ.filter fun j : Fin 4 => j ≠ o).map ⟨fun j => ((false, j) : Duty), fun _ _ h => (Prod.mk.inj h).2⟩ := by
      revert o; decide
    rw [e, bigSep_map, bigSep_filter]
    refine bigSep_congr fun j _ => ?_
    by_cases hj : j = o
    · rw [if_pos hj, if_neg (not_not_intro hj)]; rfl
    · rw [if_neg hj, if_pos hj]; rfl
  rw [hx, bigSep_congr (fun d _ => hΦ d)]
  exact h (own k c)

/-- After the last wait. -/
theorem rcv_all {c : Dev nD} {k : Fin 4} {x : Cell} : Rcv A k x 4 c ⊢ iprop(Done k x c ∗ bigSep (dset x c) (fun d => pay (vals A) x c d)) := by
  unfold Rcv Done
  iintro ⟨Hw, -⟩
  iapply waited_all; iexact Hw

/-- What came with the messages. -/
theorem rcv_got {c : Dev nD} {k r : Fin 4} : Rcv A k (.rcv k r) 4 c ⊢ iprop(Done k (.rcv k r) c ∗ all4 fun j => other k c j (Got (vals A) k r j c)) := by
  have e := pay_four A c k (.rcv k r) (fun j => Got (vals A) k r j c) rfl (fun _ => rfl)
  rw [← e]; exact rcv_all A
/-- What was lent to the messages comes back. -/
theorem snd_back {c : Dev nD} {k r : Fin 4} : Rcv A k (.snd k r) 4 c ⊢ iprop(Done k (.snd k r) c ∗ all4 fun j => other k c j (Src (vals A) k r j c)) := by
  have e := pay_four A c k (.snd k r) (fun j => Src (vals A) k r j c) rfl (fun _ => rfl)
  rw [← e]; exact rcv_all A

end Cert.Attn
-- ==== Proof.Cut.lean ====
module

public import proofs.«01_k».proof.Proof.State

/-!
# Cutting and joining the parts of the buffers
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F)

omit [FloatOps F] in
/-- A set of elements cut in four. -/
theorem pt_four {c : Dev nD} {b : Ref sig .tc} {I : Finset b.ty.shape.Idx} (J : Fin 4 → Finset b.ty.shape.Idx) (P : b.ty.shape.Idx → Fin 4)
    (h : ∀ i j, i ∈ J j ↔ i ∈ I ∧ P i = j) {q : PosShare TreeShare} {f : b.ty.shape.Idx → Elt F b.ty.elt} :
    (pt c b I q f : sProp 𝕄) = all4 fun j => pt c b (J j) q f := by
  classical
  have d : ∀ j j', j ≠ j' → Disjoint (J j) (J j') := fun j j' hj => Finset.disjoint_left.mpr fun i hi hi' =>
    hj (((h i j).mp hi).2.symm.trans ((h i j').mp hi').2)
  have d3 : ∀ j j' j'', j ≠ j' → j ≠ j'' → Disjoint (J j) (J j' ∪ J j'') := fun j j' j'' h₁ h₂ => Finset.disjoint_union_right.mpr ⟨d _ _ h₁, d _ _ h₂⟩
  have e : I = J 0 ∪ (J 1 ∪ (J 2 ∪ J 3)) := by
    ext i
    simp only [Finset.mem_union, h]
    have : P i = 0 ∨ P i = 1 ∨ P i = 2 ∨ P i = 3 := by revert i; intro i; generalize P i = p; revert p; decide
    tauto
  rw [pt_union e (Finset.disjoint_union_right.mpr ⟨d _ _ (by decide), d3 _ _ _ (by decide) (by decide)⟩), pt_union rfl (d3 _ _ _ (by decide) (by decide)), pt_union rfl (d _ _ (by decide))]
  rfl

omit [FloatOps F] in
/-- A share cut in four. -/
theorem pt_quarters {c : Dev nD} {b : Ref sig .tc} {I : Finset b.ty.shape.Idx} {q : PosShare TreeShare} {f : b.ty.shape.Idx → Elt F b.ty.elt} :
    (pt c b I q f : sProp 𝕄) = all4 fun j => pt c b I (qtr q j) f := by
  have h : ∀ q : PosShare TreeShare, (pt c b I q f : sProp 𝕄) = iprop(pt c b I q.left f ∗ pt c b I q.right f) := fun q =>
    Entails.antisymm (pointsTo_share (PosShare.mem_left_op_right q)).1 (pointsTo_share (PosShare.mem_left_op_right q)).2
  rw [h q, h q.left, h q.right]
  refine Entails.antisymm ?_ ?_
  · show _ ⊢ iprop(pt c b I q.left.left f ∗ pt c b I q.left.right f ∗ pt c b I q.right.left f ∗ pt c b I q.right.right f)
    iintro ⟨⟨H0, H1⟩, H2, H3⟩; iframe
  · show iprop(pt c b I q.left.left f ∗ pt c b I q.left.right f ∗ pt c b I q.right.left f ∗ pt c b I q.right.right f) ⊢ _
    iintro ⟨H0, H1, H2, H3⟩; iframe

omit [FloatOps F] in
theorem pt_halves {c : Dev nD} {b : Ref sig .tc} {I : Finset b.ty.shape.Idx} {f : b.ty.shape.Idx → Elt F b.ty.elt} :
    (pt c b I fullShare f : sProp 𝕄) = iprop(pt c b I fullShare.left f ∗ pt c b I fullShare.right f) :=
  Entails.antisymm (pointsTo_share (PosShare.mem_left_op_right fullShare)).1 (pointsTo_share (PosShare.mem_left_op_right fullShare)).2

/-! ## The cuts that occur -/

theorem fin_eq {n : ℕ} {h : n < 4} {j : Fin 4} : (⟨n, h⟩ : Fin 4) = j ↔ n = j.val := Fin.ext_iff

theorem m4 (n : ℕ) : n % 4 < 4 := Nat.mod_lt _ (by decide)

theorem mem3 {d size : Fin 3 → ℕ} {a b c : ℕ} (s0 s1 s2 : ℕ) (h0 : size 0 = s0) (h1 : size 1 = s1) (h2 : size 2 = s2) {i : (⟨3, d⟩ : Shape).Idx} :
    i ∈ bx ⟨3, d⟩ ![a, b, c] size ↔ (a ≤ (i 0).val ∧ (i 0).val < a + s0) ∧ (b ≤ (i 1).val ∧ (i 1).val < b + s1) ∧ (c ≤ (i 2).val ∧ (i 2).val < c + s2) := by
  subst h0 h1 h2
  rw [mem_bx]
  constructor
  · intro h; exact ⟨h 0, h 1, h 2⟩
  · rintro ⟨h0, h1, h2⟩ a
    fin_cases a
    · exact h0
    · exact h1
    · exact h2

omit [FloatOps F] in
/-- A slab of the result in rows. -/
theorem slab_rows (c : Dev nD) (r p : Fin 4) (q : PosShare TreeShare) (f : S2x512x768.Idx → F .bf16) :
    (pt c cc0_stg3_0 (slab r p) q f : sProp 𝕄) = all4 fun z => pt c cc0_stg3_0 (rows r p z) q f := by
  refine pt_four (b := cc0_stg3_0) (fun z => rows r p z) (fun i => ⟨((i 1).val / 16) % 4, m4 _⟩) fun i j => ?_
  have h2 : (i 2).val < 768 := (i 2).isLt
  have := r.isLt; have := p.isLt; have := j.isLt
  rw [show rows r p j = bx S2x512x768 _ _ from rfl, show slab r p = bx S2x512x768 _ _ from rfl, mem3 1 16 768 rfl rfl rfl, mem3 1 64 768 rfl rfl rfl, fin_eq]
  omega

omit [FloatOps F] in
/-- A slot of the sums of a row of devices, in quarters. -/
theorem cg_quarters (c : Dev nD) (r : Fin 4) (f : S4x64x768.Idx → F .bf16) :
    (pt c cc0_scratch5 (bx S4x64x768 ![r.val, 0, 0] S1x64x768.size) fullShare f : sProp 𝕄) = all4 fun j => pt c cc0_scratch5 (quarter r j) fullShare f := by
  refine pt_four (b := cc0_scratch5) (fun j => quarter r j) (fun i => ⟨((i 1).val / 16) % 4, m4 _⟩) fun i j => ?_
  have h2 : (i 2).val < 768 := (i 2).isLt
  have := r.isLt; have := j.isLt
  rw [show quarter r j = bx S4x64x768 _ _ from rfl, mem3 1 16 768 rfl rfl rfl, mem3 1 64 768 rfl rfl rfl, fin_eq]
  omega

theorem lt_cg (i : S4x64x768.Idx) : (i 0).val < 4 := (i 0).isLt

omit [FloatOps F] in
/-- All the sums of a row of devices, in slots. -/
theorem cg_slots (c : Dev nD) (f : S4x64x768.Idx → F .bf16) :
    (ptw c cc0_scratch5 f : sProp 𝕄) = all4 fun r => pt c cc0_scratch5 (bx S4x64x768 ![r.val, 0, 0] S1x64x768.size) fullShare f := by
  refine pt_four (b := cc0_scratch5) (fun r => bx S4x64x768 ![r.val, 0, 0] S1x64x768.size) (fun i => ⟨(i 0).val, lt_cg i⟩) fun i j => ?_
  have h1 : (i 1).val < 64 := (i 1).isLt
  have h2 : (i 2).val < 768 := (i 2).isLt
  rw [mem3 1 64 768 rfl rfl rfl, fin_eq]
  constructor
  · intro h; exact ⟨Finset.mem_univ _, by omega⟩
  · rintro ⟨-, h⟩; omega

omit [FloatOps F] in
/-- Four slots of what comes along a row. -/
theorem pb_slots (c : Dev nD) (r : Fin 4) (f : S16x64x768.Idx → F .bf16) :
    (pt c cc0_scratch6 (bx S16x64x768 ![4 * r.val, 0, 0] S4x64x768.size) fullShare f : sProp 𝕄) = all4 fun s => pt c cc0_scratch6 (pslot r s) fullShare f := by
  refine pt_four (b := cc0_scratch6) (fun s => pslot r s) (fun i => ⟨(i 0).val % 4, m4 _⟩) fun i j => ?_
  have h2 : (i 2).val < 768 := (i 2).isLt
  have := r.isLt; have := j.isLt
  rw [show pslot r j = bx S16x64x768 _ _ from rfl, mem3 1 64 768 rfl rfl rfl, mem3 4 64 768 rfl rfl rfl, fin_eq]
  omega

omit [FloatOps F] in
theorem pb_rounds (c : Dev nD) (f : S16x64x768.Idx → F .bf16) :
    (ptw c cc0_scratch6 f : sProp 𝕄) = all4 fun r => pt c cc0_scratch6 (bx S16x64x768 ![4 * r.val, 0, 0] S4x64x768.size) fullShare f := by
  have hb : ∀ i : S16x64x768.Idx, (i 0).val / 4 < 4 := fun i => by have : (i 0).val < 16 := (i 0).isLt; omega
  refine pt_four (b := cc0_scratch6) (fun r => bx S16x64x768 ![4 * r.val, 0, 0] S4x64x768.size) (fun i => ⟨(i 0).val / 4, hb i⟩) fun i j => ?_
  have h1 : (i 1).val < 64 := (i 1).isLt
  have h2 : (i 2).val < 768 := (i 2).isLt
  rw [mem3 4 64 768 rfl rfl rfl, fin_eq]
  constructor
  · intro h; exact ⟨Finset.mem_univ _, by omega⟩
  · rintro ⟨-, h⟩; omega

omit [FloatOps F] in
/-- Four slots of what comes along a column. -/
theorem zb_slots (c : Dev nD) (r : Fin 4) (f : S16x16x768.Idx → F .bf16) :
    (pt c cc0_scratch7 (bx S16x16x768 ![4 * r.val, 0, 0] S4x16x768.size) fullShare f : sProp 𝕄) = all4 fun s => pt c cc0_scratch7 (zslot r s) fullShare f := by
  refine pt_four (b := cc0_scratch7) (fun s => zslot r s) (fun i => ⟨(i 0).val % 4, m4 _⟩) fun i j => ?_
  have h2 : (i 2).val < 768 := (i 2).isLt
  have := r.isLt; have := j.isLt
  rw [show zslot r j = bx S16x16x768 _ _ from rfl, mem3 1 16 768 rfl rfl rfl, mem3 4 16 768 rfl rfl rfl, fin_eq]
  omega

omit [FloatOps F] in
theorem zb_rounds (c : Dev nD) (f : S16x16x768.Idx → F .bf16) :
    (ptw c cc0_scratch7 f : sProp 𝕄) = all4 fun r => pt c cc0_scratch7 (bx S16x16x768 ![4 * r.val, 0, 0] S4x16x768.size) fullShare f := by
  have hb : ∀ i : S16x16x768.Idx, (i 0).val / 4 < 4 := fun i => by have : (i 0).val < 16 := (i 0).isLt; omega
  refine pt_four (b := cc0_scratch7) (fun r => bx S16x16x768 ![4 * r.val, 0, 0] S4x16x768.size) (fun i => ⟨(i 0).val / 4, hb i⟩) fun i j => ?_
  have h1 : (i 1).val < 16 := (i 1).isLt
  have h2 : (i 2).val < 768 := (i 2).isLt
  rw [mem3 4 16 768 rfl rfl rfl, fin_eq]
  constructor
  · intro h; exact ⟨Finset.mem_univ _, by omega⟩
  · rintro ⟨-, h⟩; omega

/-! The two buffers of 2 x 512 x 768, in slabs. -/

/-- The slabs of round `r`. -/
def strip (r : Fin 4) : Finset S2x512x768.Idx := Finset.univ.filter fun i => 2 * (i 0).val + (i 1).val / 64 % 2 = r.val

theorem lt_strip (i : S2x512x768.Idx) : 2 * (i 0).val + (i 1).val / 64 % 2 < 4 := by
  have : (i 0).val < 2 := (i 0).isLt
  omega
theorem lt_slab (i : S2x512x768.Idx) : (i 1).val / 128 < 4 := by
  have : (i 1).val < 512 := (i 1).isLt
  omega

theorem mem_strip (i : S2x512x768.Idx) (r : Fin 4) : i ∈ strip r ↔ i ∈ Finset.univ ∧ (⟨2 * (i 0).val + (i 1).val / 64 % 2, lt_strip i⟩ : Fin 4) = r := by
  unfold strip; rw [Finset.mem_filter, fin_eq]

theorem mem_slab (i : S2x512x768.Idx) (r p : Fin 4) : i ∈ slab r p ↔ i ∈ strip r ∧ (⟨(i 1).val / 128, lt_slab i⟩ : Fin 4) = p := by
  have h0 : (i 0).val < 2 := (i 0).isLt
  have h1 : (i 1).val < 512 := (i 1).isLt
  have h2 : (i 2).val < 768 := (i 2).isLt
  have := r.isLt; have := p.isLt
  unfold strip
  rw [show slab r p = bx S2x512x768 _ _ from rfl, mem3 1 64 768 rfl rfl rfl, Finset.mem_filter, fin_eq]
  constructor
  · intro h; exact ⟨⟨Finset.mem_univ _, by omega⟩, by omega⟩
  · rintro ⟨⟨-, h⟩, h'⟩; omega

omit [FloatOps F] in
theorem out_slabs (c : Dev nD) (f : S2x512x768.Idx → F .bf16) :
    (ptw c cc0_stg3_0 f : sProp 𝕄) = all4 fun r => all4 fun p => pt c cc0_stg3_0 (slab r p) fullShare f := by
  have e : (ptw c cc0_stg3_0 f : sProp 𝕄) = all4 fun r => pt c cc0_stg3_0 (strip r) fullShare f :=
    pt_four (b := cc0_stg3_0) strip (fun i => ⟨_, lt_strip i⟩) mem_strip
  rw [e]
  refine congrArg all4 (funext fun r => ?_)
  exact pt_four (b := cc0_stg3_0) (slab r) (fun i => ⟨_, lt_slab i⟩) fun i p => mem_slab i r p

omit [FloatOps F] in
theorem acc_slabs (c : Dev nD) (f : S2x512x768.Idx → F .bf16) :
    (ptw c cc0_scratch4 f : sProp 𝕄) = all4 fun r => all4 fun p => pt c cc0_scratch4 (slab r p) fullShare f := by
  have e : (ptw c cc0_scratch4 f : sProp 𝕄) = all4 fun r => pt c cc0_scratch4 (strip r) fullShare f :=
    pt_four (b := cc0_scratch4) strip (fun i => ⟨_, lt_strip i⟩) mem_strip
  rw [e]
  refine congrArg all4 (funext fun r => ?_)
  exact pt_four (b := cc0_scratch4) (slab r) (fun i => ⟨_, lt_slab i⟩) fun i p => mem_slab i r p

omit [FloatOps F] in
/-- A block of 128 rows of the partial result is two slabs. -/
theorem acc_block (c : Dev nD) (b : Fin 2) (j r r' : Fin 4) (hr : r.val = 2 * b.val) (hr' : r'.val = 2 * b.val + 1) (f : S2x512x768.Idx → F .bf16) :
    (pt c cc0_scratch4 (bx S2x512x768 ![b.val, 128 * j.val, 0] S1x128x768.size) fullShare f : sProp 𝕄)
      = iprop(pt c cc0_scratch4 (slab r j) fullShare f ∗ pt c cc0_scratch4 (slab r' j) fullShare f) := by
  have hb := b.isLt
  refine pt_union (b := cc0_scratch4) ?_ (Finset.disjoint_left.mpr fun i hi hi' => ?_)
  · ext i
    have h2 : (i 2).val < 768 := (i 2).isLt
    rw [Finset.mem_union, show slab r j = bx S2x512x768 _ _ from rfl, show slab r' j = bx S2x512x768 _ _ from rfl]
    rw [mem3 (d := S2x512x768.size) 1 128 768 rfl rfl rfl, mem3 (d := S2x512x768.size) 1 64 768 rfl rfl rfl, mem3 (d := S2x512x768.size) 1 64 768 rfl rfl rfl]
    omega
  · rw [show slab r j = bx S2x512x768 _ _ from rfl, mem3 1 64 768 rfl rfl rfl] at hi
    rw [show slab r' j = bx S2x512x768 _ _ from rfl, mem3 1 64 768 rfl rfl rfl] at hi'
    omega

omit [FloatOps F] in
/-- Four parts, each with contents of its own, make one with some contents. -/
theorem join_four {c : Dev nD} {b : Ref sig .tc} {I : Finset b.ty.shape.Idx} (J : Fin 4 → Finset b.ty.shape.Idx) (P : b.ty.shape.Idx → Fin 4)
    (h : ∀ i j, i ∈ J j ↔ i ∈ I ∧ P i = j) {q : PosShare TreeShare} :
    (all4 fun j => iprop(∃ f : b.ty.shape.Idx → Elt F b.ty.elt, pt c b (J j) q f)) ⊢ (iprop(∃ f, pt c b I q f) : sProp 𝕄) := by
  unfold all4
  iintro ⟨⟨%f0, H0⟩, ⟨%f1, H1⟩, ⟨%f2, H2⟩, ⟨%f3, H3⟩⟩
  iexists fun i => (![f0, f1, f2, f3] : Fin 4 → _) (P i) i
  iapply (Entails.of_eq (pt_four J P h).symm)
  unfold all4
  have e : ∀ (j : Fin 4) (f : b.ty.shape.Idx → Elt F b.ty.elt), f = (![f0, f1, f2, f3] : Fin 4 → _) j →
      (pt c b (J j) q f ⊢ (pt c b (J j) q (fun i => (![f0, f1, f2, f3] : Fin 4 → _) (P i) i) : sProp 𝕄)) := fun j f hf =>
    Entails.of_eq (pt_congr fun i hi => by rw [((h i j).mp hi).2, hf])
  isplitl [H0]; · iapply (e 0 f0 rfl); iexact H0
  isplitl [H1]; · iapply (e 1 f1 rfl); iexact H1
  isplitl [H2]; · iapply (e 2 f2 rfl); iexact H2
  iapply (e 3 f3 rfl); iexact H3

end Cert.Attn
-- ==== Proof.Ops.lean ====
module

public import proofs.«01_k».proof.Proof.Cut

/-!
# The steps that the kernel repeats

One rule for a message of each kind, and one for each stretch of loads and stores that occurs several times.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

/-! ## Messages -/

omit [FloatOps F] in
theorem place2 (r j : Fin 4) (c : Dev nD) : (Place 2 r c (peer 2 c j) : sProp 𝕄)
    ⊢ iprop(∃ f : S2x512x768.Idx → F .bf16, pt (peer 2 c j) cc0_stg3_0 (bx S2x512x768 (dOff 2 r c) S1x16x768.size) fullShare f) := Entails.refl _

/-- A message along a row: rows of the partial result. -/
theorem send0 (c : Dev nD) (r j : Fin 4) {n m m' : ℕ} (hn : sched[n]? = some (.msg 0 r j)) (hm : m = j.val) (hm' : m' = j.val + 1)
    {condf : Dev nD → BitVec 1} {offd : Dev nD → Fin 3 → ℕ} {devf : Dev nD → ℕ} (ok : SendOk 0 r j condf offd devf)
    {sS sR : DmaSem sig} (hS : .dma sS = csem (.snd 0 r)) (hR : .dma sR = csem (.rcv 0 r))
    {offs : Fin 3 → ℕ} (hoffs : condf c = 1#1 → offs = sOff 0 r j c)
    {inst : Decidable (condf c = 1#1)} {hlt : condf c = 1#1 → devf c < nD}
    {inbs : condf c = 1#1 → ∀ a, offs a + S1x64x768.size a ≤ S2x512x768.size a} {inbd : condf c = 1#1 → ∀ a, offd c a + S1x64x768.size a ≤ S16x64x768.size a}
    {hsc : ∀ h, (rc (Memref.whole cc0_scratch6 : Memref sig .tc .vmem S16x64x768 .bf16) S1x64x768.size (offd c) (inbd h)).view.ref.isScScratch = false}
    {hw : ∀ h, (rc (Memref.whole cc0_scratch4 : Memref sig .tc .vmem S2x512x768 .bf16) S1x64x768.size offs (inbs h)).view.WordExact} {hw' : ∀ h, (rc (Memref.whole cc0_scratch6 : Memref sig .tc .vmem S16x64x768 .bf16) S1x64x768.size (offd c) (inbd h)).view.WordExact}
    {hsem : ∀ h, DmaTarget.Typed .vmem (.dma sR) (.remote (Dev.tc (⟨devf c, hlt h⟩ : Dev nD) : Thread nD τ) (rc (Memref.whole cc0_scratch6 : Memref sig .tc .vmem S16x64x768 .bf16) S1x64x768.size (offd c) (inbd h)) (.dma sS) (hsc h))}
    {Q : PUnit → sProp 𝕄} :
    iprop(Env (vals A) K ∗ Out A 0 r m c ∗ Src (vals A) 0 r j c ∗ Owed c n) ⊢ iprop(((Out A 0 r m' c ∗ Owed c (n + 1)) -∗ Q ⟨⟩)
        -∗ wp frame (wpE (defs₀ (F := F)) 𝒱₀ (c : Thread nD τ) none) Set.univ
          (@dite _ (condf c = 1#1) inst (fun h => .op (.enqueueDma (rc (Memref.whole cc0_scratch4 : Memref sig .tc .vmem S2x512x768 .bf16) S1x64x768.size offs (inbs h))
              (.remote (Dev.tc (⟨devf c, hlt h⟩ : Dev nD) : Thread nD τ) (rc (Memref.whole cc0_scratch6 : Memref sig .tc .vmem S16x64x768 .bf16) S1x64x768.size (offd c) (inbd h)) (.dma sS) (hsc h))
              (.dma sR) (hw h) (hw' h) (hsem h)) (fun _ => .ret ⟨⟩))
            (fun _ => .ret ⟨⟩)) Q) :=
  out_step A K j hm hm' (send_if A K c hn ok hS hR (m₁ := (Memref.whole cc0_scratch4 : Memref sig .tc .vmem S2x512x768 .bf16)) (m₂ := (Memref.whole cc0_scratch6 : Memref sig .tc .vmem S16x64x768 .bf16)) amt0 hoffs (src0 A r j c)
    (fun inb => place_some (b := cc0_scratch6) inb) (fun hj inb inb' fd => got0 A c r j hj inb inb' fd))

/-- A message along a column: sums of a row of devices. -/
theorem send1 (c : Dev nD) (r j : Fin 4) {n m m' : ℕ} (hn : sched[n]? = some (.msg 1 r j)) (hm : m = j.val) (hm' : m' = j.val + 1)
    {condf : Dev nD → BitVec 1} {offd : Dev nD → Fin 3 → ℕ} {devf : Dev nD → ℕ} (ok : SendOk 1 r j condf offd devf)
    {sS sR : DmaSem sig} (hS : .dma sS = csem (.snd 1 r)) (hR : .dma sR = csem (.rcv 1 r))
    {offs : Fin 3 → ℕ} (hoffs : condf c = 1#1 → offs = sOff 1 r j c)
    {inst : Decidable (condf c = 1#1)} {hlt : condf c = 1#1 → devf c < nD}
    {inbs : condf c = 1#1 → ∀ a, offs a + S1x16x768.size a ≤ S4x64x768.size a} {inbd : condf c = 1#1 → ∀ a, offd c a + S1x16x768.size a ≤ S16x16x768.size a}
    {hsc : ∀ h, (rc (Memref.whole cc0_scratch7 : Memref sig .tc .vmem S16x16x768 .bf16) S1x16x768.size (offd c) (inbd h)).view.ref.isScScratch = false}
    {hw : ∀ h, (rc (Memref.whole cc0_scratch5 : Memref sig .tc .vmem S4x64x768 .bf16) S1x16x768.size offs (inbs h)).view.WordExact} {hw' : ∀ h, (rc (Memref.whole cc0_scratch7 : Memref sig .tc .vmem S16x16x768 .bf16) S1x16x768.size (offd c) (inbd h)).view.WordExact}
    {hsem : ∀ h, DmaTarget.Typed .vmem (.dma sR) (.remote (Dev.tc (⟨devf c, hlt h⟩ : Dev nD) : Thread nD τ) (rc (Memref.whole cc0_scratch7 : Memref sig .tc .vmem S16x16x768 .bf16) S1x16x768.size (offd c) (inbd h)) (.dma sS) (hsc h))}
    {Q : PUnit → sProp 𝕄} :
    iprop(Env (vals A) K ∗ Out A 1 r m c ∗ Src (vals A) 1 r j c ∗ Owed c n) ⊢ iprop(((Out A 1 r m' c ∗ Owed c (n + 1)) -∗ Q ⟨⟩)
        -∗ wp frame (wpE (defs₀ (F := F)) 𝒱₀ (c : Thread nD τ) none) Set.univ
          (@dite _ (condf c = 1#1) inst (fun h => .op (.enqueueDma (rc (Memref.whole cc0_scratch5 : Memref sig .tc .vmem S4x64x768 .bf16) S1x16x768.size offs (inbs h))
              (.remote (Dev.tc (⟨devf c, hlt h⟩ : Dev nD) : Thread nD τ) (rc (Memref.whole cc0_scratch7 : Memref sig .tc .vmem S16x16x768 .bf16) S1x16x768.size (offd c) (inbd h)) (.dma sS) (hsc h))
              (.dma sR) (hw h) (hw' h) (hsem h)) (fun _ => .ret ⟨⟩))
            (fun _ => .ret ⟨⟩)) Q) :=
  out_step A K j hm hm' (send_if A K c hn ok hS hR (m₁ := (Memref.whole cc0_scratch5 : Memref sig .tc .vmem S4x64x768 .bf16)) (m₂ := (Memref.whole cc0_scratch7 : Memref sig .tc .vmem S16x16x768 .bf16)) amt1 hoffs (src1 A r j c)
    (fun inb => place_some (b := cc0_scratch7) inb) (fun hj inb inb' fd => got1 A c r j hj inb inb' fd))

/-- A message along a column: rows of the result. -/
theorem send2 (c : Dev nD) (r j : Fin 4) {n m m' : ℕ} (hn : sched[n]? = some (.msg 2 r j)) (hm : m = j.val) (hm' : m' = j.val + 1)
    {condf : Dev nD → BitVec 1} {offd : Dev nD → Fin 3 → ℕ} {devf : Dev nD → ℕ} (ok : SendOk 2 r j condf offd devf)
    {sS sR : DmaSem sig} (hS : .dma sS = csem (.snd 2 r)) (hR : .dma sR = csem (.rcv 2 r))
    {offs : Fin 3 → ℕ} (hoffs : condf c = 1#1 → offs = sOff 2 r j c)
    {inst : Decidable (condf c = 1#1)} {hlt : condf c = 1#1 → devf c < nD}
    {inbs : condf c = 1#1 → ∀ a, offs a + S1x16x768.size a ≤ S2x512x768.size a} {inbd : condf c = 1#1 → ∀ a, offd c a + S1x16x768.size a ≤ S2x512x768.size a}
    {hsc : ∀ h, (rc (Memref.whole cc0_stg3_0 : Memref sig .tc .vmem S2x512x768 .bf16) S1x16x768.size (offd c) (inbd h)).view.ref.isScScratch = false}
    {hw : ∀ h, (rc (Memref.whole cc0_stg3_0 : Memref sig .tc .vmem S2x512x768 .bf16) S1x16x768.size offs (inbs h)).view.WordExact} {hw' : ∀ h, (rc (Memref.whole cc0_stg3_0 : Memref sig .tc .vmem S2x512x768 .bf16) S1x16x768.size (offd c) (inbd h)).view.WordExact}
    {hsem : ∀ h, DmaTarget.Typed .vmem (.dma sR) (.remote (Dev.tc (⟨devf c, hlt h⟩ : Dev nD) : Thread nD τ) (rc (Memref.whole cc0_stg3_0 : Memref sig .tc .vmem S2x512x768 .bf16) S1x16x768.size (offd c) (inbd h)) (.dma sS) (hsc h))}
    {Q : PUnit → sProp 𝕄} :
    iprop(Env (vals A) K ∗ Out A 2 r m c ∗ Src (vals A) 2 r j c ∗ Owed c n) ⊢ iprop(((Out A 2 r m' c ∗ Owed c (n + 1)) -∗ Q ⟨⟩)
        -∗ wp frame (wpE (defs₀ (F := F)) 𝒱₀ (c : Thread nD τ) none) Set.univ
          (@dite _ (condf c = 1#1) inst (fun h => .op (.enqueueDma (rc (Memref.whole cc0_stg3_0 : Memref sig .tc .vmem S2x512x768 .bf16) S1x16x768.size offs (inbs h))
              (.remote (Dev.tc (⟨devf c, hlt h⟩ : Dev nD) : Thread nD τ) (rc (Memref.whole cc0_stg3_0 : Memref sig .tc .vmem S2x512x768 .bf16) S1x16x768.size (offd c) (inbd h)) (.dma sS) (hsc h))
              (.dma sR) (hw h) (hw' h) (hsem h)) (fun _ => .ret ⟨⟩))
            (fun _ => .ret ⟨⟩)) Q) :=
  out_step A K j hm hm' (send_if A K c hn ok hS hR (m₁ := (Memref.whole cc0_stg3_0 : Memref sig .tc .vmem S2x512x768 .bf16)) (m₂ := (Memref.whole cc0_stg3_0 : Memref sig .tc .vmem S2x512x768 .bf16)) amt2 hoffs (src2 A r j c)
    (fun inb => (place2 r j c).trans (place_some (b := cc0_stg3_0) inb)) (fun hj inb inb' fd => got2 A c r j hj inb inb' fd))

/-- A message along a row: a slab of the result. -/
theorem send3 (c : Dev nD) (r j : Fin 4) {n m m' : ℕ} (hn : sched[n]? = some (.msg 3 r j)) (hm : m = j.val) (hm' : m' = j.val + 1)
    {condf : Dev nD → BitVec 1} {offd : Dev nD → Fin 3 → ℕ} {devf : Dev nD → ℕ} (ok : SendOk 3 r j condf offd devf)
    {sS sR : DmaSem sig} (hS : .dma sS = csem (.snd 3 r)) (hR : .dma sR = csem (.rcv 3 r))
    {offs : Fin 3 → ℕ} (hoffs : condf c = 1#1 → offs = sOff 3 r j c)
    {inst : Decidable (condf c = 1#1)} {hlt : condf c = 1#1 → devf c < nD}
    {inbs : condf c = 1#1 → ∀ a, offs a + S1x64x768.size a ≤ S2x512x768.size a} {inbd : condf c = 1#1 → ∀ a, offd c a + S1x64x768.size a ≤ S2x512x768.size a}
    {hsc : ∀ h, (rc (Memref.whole cc0_stg3_0 : Memref sig .tc .vmem S2x512x768 .bf16) S1x64x768.size (offd c) (inbd h)).view.ref.isScScratch = false}
    {hw : ∀ h, (rc (Memref.whole cc0_stg3_0 : Memref sig .tc .vmem S2x512x768 .bf16) S1x64x768.size offs (inbs h)).view.WordExact} {hw' : ∀ h, (rc (Memref.whole cc0_stg3_0 : Memref sig .tc .vmem S2x512x768 .bf16) S1x64x768.size (offd c) (inbd h)).view.WordExact}
    {hsem : ∀ h, DmaTarget.Typed .vmem (.dma sR) (.remote (Dev.tc (⟨devf c, hlt h⟩ : Dev nD) : Thread nD τ) (rc (Memref.whole cc0_stg3_0 : Memref sig .tc .vmem S2x512x768 .bf16) S1x64x768.size (offd c) (inbd h)) (.dma sS) (hsc h))}
    {Q : PUnit → sProp 𝕄} :
    iprop(Env (vals A) K ∗ Out A 3 r m c ∗ Src (vals A) 3 r j c ∗ Owed c n) ⊢ iprop(((Out A 3 r m' c ∗ Owed c (n + 1)) -∗ Q ⟨⟩)
        -∗ wp frame (wpE (defs₀ (F := F)) 𝒱₀ (c : Thread nD τ) none) Set.univ
          (@dite _ (condf c = 1#1) inst (fun h => .op (.enqueueDma (rc (Memref.whole cc0_stg3_0 : Memref sig .tc .vmem S2x512x768 .bf16) S1x64x768.size offs (inbs h))
              (.remote (Dev.tc (⟨devf c, hlt h⟩ : Dev nD) : Thread nD τ) (rc (Memref.whole cc0_stg3_0 : Memref sig .tc .vmem S2x512x768 .bf16) S1x64x768.size (offd c) (inbd h)) (.dma sS) (hsc h))
              (.dma sR) (hw h) (hw' h) (hsem h)) (fun _ => .ret ⟨⟩))
            (fun _ => .ret ⟨⟩)) Q) :=
  out_step A K j hm hm' (send_if A K c hn ok hS hR (m₁ := (Memref.whole cc0_stg3_0 : Memref sig .tc .vmem S2x512x768 .bf16)) (m₂ := (Memref.whole cc0_stg3_0 : Memref sig .tc .vmem S2x512x768 .bf16)) amt3 hoffs (src3 A r j c)
    (fun inb => place_some (b := cc0_stg3_0) inb) (fun hj inb inb' fd => got3 A c r j hj inb inb' fd))

end Cert.Attn
-- ==== Proof.Facts.lean ====
module

public import proofs.«01_k».proof.Proof.Ops

/-!
# The printed tests, targets and offsets

What the printed words say of the tests, the targets and the offsets of the messages, checked on every device.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-- The messages of kind 0. -/
theorem ok0_0 : SendOk 0 0 0 k0_cond9 k0_off3 k0_dev9 ∧ SendOk 0 0 1 k0_cond11 k0_off5 k0_dev11 ∧ SendOk 0 0 2 k0_cond13 k0_off7 k0_dev13 ∧ SendOk 0 0 3 k0_cond15 k0_off9 k0_dev15 := by decide +kernel
theorem ok0_1 : SendOk 0 1 0 k0_cond10 k0_off4 k0_dev10 ∧ SendOk 0 1 1 k0_cond12 k0_off6 k0_dev12 ∧ SendOk 0 1 2 k0_cond14 k0_off8 k0_dev14 ∧ SendOk 0 1 3 k0_cond16 k0_off10 k0_dev16 := by decide +kernel
theorem ok0_2 : SendOk 0 2 0 k0_cond33 k0_off20 k0_dev25 ∧ SendOk 0 2 1 k0_cond35 k0_off22 k0_dev27 ∧ SendOk 0 2 2 k0_cond37 k0_off24 k0_dev29 ∧ SendOk 0 2 3 k0_cond39 k0_off26 k0_dev31 := by decide +kernel
theorem ok0_3 : SendOk 0 3 0 k0_cond34 k0_off21 k0_dev26 ∧ SendOk 0 3 1 k0_cond36 k0_off23 k0_dev28 ∧ SendOk 0 3 2 k0_cond38 k0_off25 k0_dev30 ∧ SendOk 0 3 3 k0_cond40 k0_off27 k0_dev32 := by decide +kernel

/-- The messages of kind 1. -/
theorem ok1_0 : SendOk 1 0 0 k0_cond21 k0_off12 k0_dev17 ∧ SendOk 1 0 1 k0_cond22 k0_off13 k0_dev18 ∧ SendOk 1 0 2 k0_cond23 k0_off14 k0_dev19 ∧ SendOk 1 0 3 k0_cond24 k0_off15 k0_dev20 := by decide +kernel
theorem ok1_1 : SendOk 1 1 0 k0_cond29 k0_off16 k0_dev21 ∧ SendOk 1 1 1 k0_cond30 k0_off17 k0_dev22 ∧ SendOk 1 1 2 k0_cond31 k0_off18 k0_dev23 ∧ SendOk 1 1 3 k0_cond32 k0_off19 k0_dev24 := by decide +kernel
theorem ok1_2 : SendOk 1 2 0 k0_cond61 k0_off40 k0_dev41 ∧ SendOk 1 2 1 k0_cond62 k0_off41 k0_dev42 ∧ SendOk 1 2 2 k0_cond63 k0_off42 k0_dev43 ∧ SendOk 1 2 3 k0_cond64 k0_off43 k0_dev44 := by decide +kernel
theorem ok1_3 : SendOk 1 3 0 k0_cond77 k0_off52 k0_dev49 ∧ SendOk 1 3 1 k0_cond78 k0_off53 k0_dev50 ∧ SendOk 1 3 2 k0_cond79 k0_off54 k0_dev51 ∧ SendOk 1 3 3 k0_cond80 k0_off55 k0_dev52 := by decide +kernel

/-- The messages of kind 2. -/
theorem ok2_0 : SendOk 2 0 0 k0_cond45 k0_off30 k0_dev33 ∧ SendOk 2 0 1 k0_cond46 k0_off31 k0_dev34 ∧ SendOk 2 0 2 k0_cond47 k0_off32 k0_dev35 ∧ SendOk 2 0 3 k0_cond48 k0_off33 k0_dev36 := by decide +kernel
theorem ok2_1 : SendOk 2 1 0 k0_cond53 k0_off35 k0_dev37 ∧ SendOk 2 1 1 k0_cond54 k0_off36 k0_dev38 ∧ SendOk 2 1 2 k0_cond55 k0_off37 k0_dev39 ∧ SendOk 2 1 3 k0_cond56 k0_off38 k0_dev40 := by decide +kernel
theorem ok2_2 : SendOk 2 2 0 k0_cond93 k0_off66 k0_dev57 ∧ SendOk 2 2 1 k0_cond94 k0_off67 k0_dev58 ∧ SendOk 2 2 2 k0_cond95 k0_off68 k0_dev59 ∧ SendOk 2 2 3 k0_cond96 k0_off69 k0_dev60 := by decide +kernel
theorem ok2_3 : SendOk 2 3 0 k0_cond101 k0_off71 k0_dev61 ∧ SendOk 2 3 1 k0_cond102 k0_off72 k0_dev62 ∧ SendOk 2 3 2 k0_cond103 k0_off73 k0_dev63 ∧ SendOk 2 3 3 k0_cond104 k0_off74 k0_dev64 := by decide +kernel

/-- The messages of kind 3. -/
theorem ok3_0 : SendOk 3 0 0 k0_cond69 k0_off48 k0_dev45 ∧ SendOk 3 0 1 k0_cond70 k0_off49 k0_dev46 ∧ SendOk 3 0 2 k0_cond71 k0_off50 k0_dev47 ∧ SendOk 3 0 3 k0_cond72 k0_off51 k0_dev48 := by decide +kernel
theorem ok3_1 : SendOk 3 1 0 k0_cond85 k0_off60 k0_dev53 ∧ SendOk 3 1 1 k0_cond86 k0_off61 k0_dev54 ∧ SendOk 3 1 2 k0_cond87 k0_off62 k0_dev55 ∧ SendOk 3 1 3 k0_cond88 k0_off63 k0_dev56 := by decide +kernel
theorem ok3_2 : SendOk 3 2 0 k0_cond109 k0_off79 k0_dev65 ∧ SendOk 3 2 1 k0_cond110 k0_off80 k0_dev66 ∧ SendOk 3 2 2 k0_cond111 k0_off81 k0_dev67 ∧ SendOk 3 2 3 k0_cond112 k0_off82 k0_dev68 := by decide +kernel
theorem ok3_3 : SendOk 3 3 0 k0_cond117 k0_off87 k0_dev69 ∧ SendOk 3 3 1 k0_cond118 k0_off88 k0_dev70 ∧ SendOk 3 3 2 k0_cond119 k0_off89 k0_dev71 ∧ SendOk 3 3 3 k0_cond120 k0_off90 k0_dev72 := by decide +kernel

/-- The barrier signals. -/
theorem sig_false : SigOk false 0 k0_cond1 k0_dev1 ∧ SigOk false 1 k0_cond2 k0_dev2 ∧ SigOk false 2 k0_cond3 k0_dev3 ∧ SigOk false 3 k0_cond4 k0_dev4 := by decide +kernel
theorem sig_true : SigOk true 0 k0_cond5 k0_dev5 ∧ SigOk true 1 k0_cond6 k0_dev6 ∧ SigOk true 2 k0_cond7 k0_dev7 ∧ SigOk true 3 k0_cond8 k0_dev8 := by decide +kernel

/-- A test that holds on the devices with another index than `j`. -/
abbrev TestOk (k j : Fin 4) (condf : Dev nD → BitVec 1) : Prop := ∀ d, condf d = 1#1 ↔ j ≠ own k d

/-- The waits for rows of the result. -/
theorem wait2_0 : TestOk 2 0 k0_cond65 ∧ TestOk 2 1 k0_cond66 ∧ TestOk 2 2 k0_cond67 ∧ TestOk 2 3 k0_cond68 := by decide +kernel
theorem wait2_1 : TestOk 2 0 k0_cond81 ∧ TestOk 2 1 k0_cond82 ∧ TestOk 2 2 k0_cond83 ∧ TestOk 2 3 k0_cond84 := by decide +kernel
theorem wait2_2 : TestOk 2 0 k0_cond105 ∧ TestOk 2 1 k0_cond106 ∧ TestOk 2 2 k0_cond107 ∧ TestOk 2 3 k0_cond108 := by decide +kernel
theorem wait2_3 : TestOk 2 0 k0_cond113 ∧ TestOk 2 1 k0_cond114 ∧ TestOk 2 2 k0_cond115 ∧ TestOk 2 3 k0_cond116 := by decide +kernel
/-- The waits at the end. -/
theorem end0_0 : TestOk 0 0 k0_cond137 ∧ TestOk 0 1 k0_cond138 ∧ TestOk 0 2 k0_cond139 ∧ TestOk 0 3 k0_cond140 := by decide +kernel
theorem end0_1 : TestOk 0 0 k0_cond145 ∧ TestOk 0 1 k0_cond146 ∧ TestOk 0 2 k0_cond147 ∧ TestOk 0 3 k0_cond148 := by decide +kernel
theorem end0_2 : TestOk 0 0 k0_cond153 ∧ TestOk 0 1 k0_cond154 ∧ TestOk 0 2 k0_cond155 ∧ TestOk 0 3 k0_cond156 := by decide +kernel
theorem end0_3 : TestOk 0 0 k0_cond161 ∧ TestOk 0 1 k0_cond162 ∧ TestOk 0 2 k0_cond163 ∧ TestOk 0 3 k0_cond164 := by decide +kernel
theorem end1_0 : TestOk 1 0 k0_cond141 ∧ TestOk 1 1 k0_cond142 ∧ TestOk 1 2 k0_cond143 ∧ TestOk 1 3 k0_cond144 := by decide +kernel
theorem end1_1 : TestOk 1 0 k0_cond149 ∧ TestOk 1 1 k0_cond150 ∧ TestOk 1 2 k0_cond151 ∧ TestOk 1 3 k0_cond152 := by decide +kernel
theorem end1_2 : TestOk 1 0 k0_cond157 ∧ TestOk 1 1 k0_cond158 ∧ TestOk 1 2 k0_cond159 ∧ TestOk 1 3 k0_cond160 := by decide +kernel
theorem end1_3 : TestOk 1 0 k0_cond165 ∧ TestOk 1 1 k0_cond166 ∧ TestOk 1 2 k0_cond167 ∧ TestOk 1 3 k0_cond168 := by decide +kernel

/-- The word of a device's row index. -/
def zw (c : Dev nD) : BitVec 32 := BitVec.ofNat 32 (zOf c).val
/-- The word of a device's column index. -/
def pw (c : Dev nD) : BitVec 32 := BitVec.ofNat 32 (pOf c).val

/-- The test of a wait. -/
abbrev tst (v w : BitVec 32) : BitVec 1 := Scalar.cmpi .ne (Scalar.extui (Scalar.cmpi .ne v w)) 0#32

theorem tz : TestOk 1 0 (fun d => tst (zw d) 0#32) ∧ TestOk 1 1 (fun d => tst (zw d) 1#32) ∧ TestOk 1 2 (fun d => tst (zw d) 2#32) ∧ TestOk 1 3 (fun d => tst (zw d) 3#32) := by decide +kernel
theorem tp : TestOk 0 0 (fun d => tst (pw d) 0#32) ∧ TestOk 0 1 (fun d => tst (pw d) 1#32) ∧ TestOk 0 2 (fun d => tst (pw d) 2#32) ∧ TestOk 0 3 (fun d => tst (pw d) 3#32) := by decide +kernel

end Cert.Attn
-- ==== Proof.Comp.lean ====
module

public import proofs.«01_k».proof.Proof.Facts

/-!
# The stretches of loads and stores
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F)

/-! ## The attention of one head -/

/-- The attention output holds the first `m` blocks, counted batch by batch. -/
def CtxUpTo (c : Dev nD) (m : ℕ) (f : S2x512x512.Idx → F .bf16) : Prop := ∀ i : S2x512x512.Idx, 8 * (i 0).val + (i 2).val / 64 < m → f i = vCtx A c i

/-- The buffer of the attention output, with its first `m` blocks written. -/
def Ctx (c : Dev nD) (m : ℕ) : sProp 𝕄 := iprop(∃ f, ⌜CtxUpTo A c m f⌝ ∗ ptw c cc0_scratch3 f)

theorem vHead_eq (c : Dev nD) (b : Fin 2) (h : Fin 8) : k0_pay8 k0_pay4 k0_pay5 (rd (s := S2x512x512) ![b.val, 0, 64 * h.val] S1x512x64.size (inb_hq b h) (vQ A c))
    (rd (s := S512x512) ![64 * h.val, 0] S64x512.size (inb_hk h) (vKt A c b))
    (rd (s := S512x512) ![0, 64 * h.val] S512x64.size (inb_hv h) (vVp A c b)) = vHead A c b h := by unfold vHead; rfl

/-- A block of the attention output is loaded, whose elements are not used. -/
theorem ld_ctx (c : Dev nD) (m : ℕ) {off size : Fin 3 → ℕ} {inb : ∀ a, off a + size a ≤ S2x512x512.size a}
    {hl : (Memref.whole cc0_scratch3 : Memref sig .tc .vmem S2x512x512 .bf16).view.LoadsAt (Rect.unit (s := S2x512x512) off size inb).toLoadRect}
    {α : Type} {p : Prog (TpuEff nD τ sig (Elt F) Λ₀ .tc) α} {Q : α → sProp 𝕄} :
    Ctx A c m ⊢ iprop((Ctx A c m -∗ wp frame (wpE (defs₀ (F := F)) 𝒱₀ (c : Thread nD τ) none) Set.univ p Q)
      -∗ wp frame (wpE (defs₀ (F := F)) 𝒱₀ (c : Thread nD τ) none) Set.univ (.op (.load (Memref.whole cc0_scratch3 : Memref sig .tc .vmem S2x512x512 .bf16) (Rect.unit (s := S2x512x512) off size inb).toLoadRect hl) fun _ => p) Q) := by
  unfold Ctx
  iintro ⟨%f, %hf, H⟩ Hk
  iapply (wp_ld (cs := .vmem) (ix := 7) (hκ := rfl) rfl inb (Finset.subset_univ _)) $$ H
  iintro H
  iapply Hk
  iexists f
  isplitr; · ipureintro; exact hf
  iexact H

/-- The block of one head is stored. -/
theorem st_head (c : Dev nD) (b : Fin 2) (h : Fin 8) {m m' : ℕ} (he : m = 8 * b.val + h.val) (he' : m' = 8 * b.val + h.val + 1)
    {off : Fin 3 → ℕ} (hoff : off = ![b.val, 0, 64 * h.val])
    {inb : ∀ a, off a + S1x512x64.size a ≤ S2x512x512.size a} {hx : ((Memref.whole cc0_scratch3 : Memref sig .tc .vmem S2x512x512 .bf16).access (Rect.unit (s := S2x512x512) off S1x512x64.size inb)).Stores Finset.univ}
    {hm : (Finset.univ : Finset (Rect.unit (s := S2x512x512) off S1x512x64.size inb).shape.Idx) = Finset.univ ∨ ∀ a, (Rect.unit (s := S2x512x512) off S1x512x64.size inb).stride a = 1}
    {w : S1x512x64.Idx → F .bf16} (hw : w = vHead A c b h)
    {α : Type} {kk : PUnit → Prog (TpuEff nD τ sig (Elt F) Λ₀ .tc) α} {Q : α → sProp 𝕄} :
    Ctx A c m ⊢ iprop((Ctx A c m' -∗ wp frame (wpE (defs₀ (F := F)) 𝒱₀ (c : Thread nD τ) none) Set.univ (kk ⟨⟩) Q)
      -∗ wp frame (wpE (defs₀ (F := F)) 𝒱₀ (c : Thread nD τ) none) Set.univ (.op (.store (Memref.whole cc0_scratch3 : Memref sig .tc .vmem S2x512x512 .bf16) (Rect.unit (s := S2x512x512) off S1x512x64.size inb) w Finset.univ hx hm) kk) Q) := by
  subst he he' hw
  unfold Ctx
  iintro ⟨%f, %hf, H⟩ Hk
  iapply (wp_st (cs := .vmem) (ix := 7) (hκ := rfl) (off' := ![b.val, 0, 64 * h.val]) hoff (inb_hq b h) (Finset.subset_univ _)) $$ H
  iintro %g %hg H
  iapply Hk
  iexists g
  isplitr
  · ipureintro
    intro i hi
    have h1 : (i 1).val < 512 := (i 1).isLt
    have h2 : (i 2).val < 512 := (i 2).isLt
    have hh := h.isLt
    by_cases hm : i ∈ bx S2x512x512 ![b.val, 0, 64 * h.val] S1x512x64.size
    · obtain ⟨x, rfl⟩ := exists_emb (inb_hq b h) hm
      exact (hg.1 x).trans (vCtx_emb A c b h x).symm
    · rw [hg.2 i hm]
      refine hf i ?_
      rw [mem3 1 512 64 rfl rfl rfl] at hm
      omega
  iexact H

/-! ## The partial result -/

/-- A block of 128 rows of the partial result, not yet written. -/
def AccB (c : Dev nD) (b : Fin 2) (j : Fin 4) : sProp 𝕄 :=
  iprop(∃ f, pt c cc0_scratch4 (bx S2x512x768 ![b.val, 128 * j.val, 0] S1x128x768.size) fullShare f)

theorem vAccBlk_eq (c : Dev nD) (b : Fin 2) (j : Fin 4) : k0_pay19 (rd (s := S2x512x512) ![b.val, 128 * j.val, 0] S1x128x512.size (inb_ab b j) (vCtx A c))
    (rd (s := S512x768) ![0, 0] S512x768.size inb_S512x768_S512x768_0_0 (vWo A c)) = vAccBlk A c b j := by unfold vAccBlk; rfl

/-- A block of 128 rows of the partial result is computed and stored. -/
theorem acc_step (c : Dev nD) (b : Fin 2) (j r r' : Fin 4) (hr : r.val = 2 * b.val) (hr' : r'.val = 2 * b.val + 1) {m : ℕ} (hm : 8 * b.val + 8 ≤ m)
    {off₁ off₂ off₃ : Fin 3 → ℕ} (ho₁ : off₁ = ![b.val, 128 * j.val, 0]) (ho₂ : off₂ = ![b.val, 128 * j.val, 0]) (ho₃ : off₃ = ![b.val, 128 * j.val, 0])
    {inb₁ : ∀ a, off₁ a + S1x128x512.size a ≤ S2x512x512.size a} {hl₁ : (Memref.whole cc0_scratch3 : Memref sig .tc .vmem S2x512x512 .bf16).view.LoadsAt (Rect.unit (s := S2x512x512) off₁ S1x128x512.size inb₁).toLoadRect}
    {hl₂ : (Memref.whole cc0_scratch1 : Memref sig .tc .vmem S512x768 .f32).view.LoadsAt (Rect.unit (s := S512x768) ![0, 0] S512x768.size inb_S512x768_S512x768_0_0).toLoadRect}
    {inb₂ : ∀ a, off₂ a + S1x128x768.size a ≤ S2x512x768.size a} {hl₃ : (Memref.whole cc0_scratch4 : Memref sig .tc .vmem S2x512x768 .bf16).view.LoadsAt (Rect.unit (s := S2x512x768) off₂ S1x128x768.size inb₂).toLoadRect}
    {inb₃ : ∀ a, off₃ a + S1x128x768.size a ≤ S2x512x768.size a} {hsx : ((Memref.whole cc0_scratch4 : Memref sig .tc .vmem S2x512x768 .bf16).access (Rect.unit (s := S2x512x768) off₃ S1x128x768.size inb₃)).Stores Finset.univ}
    {hsm : (Finset.univ : Finset (Rect.unit (s := S2x512x768) off₃ S1x128x768.size inb₃).shape.Idx) = Finset.univ ∨ ∀ a, (Rect.unit (s := S2x512x768) off₃ S1x128x768.size inb₃).stride a = 1}
    {pay : ((Rect.unit (s := S2x512x512) off₁ S1x128x512.size inb₁).shape.Idx → Elt F .bf16) → ((Rect.unit (s := S512x768) ![0, 0] S512x768.size inb_S512x768_S512x768_0_0).shape.Idx → Elt F .f32) → (Rect.unit (s := S2x512x768) off₃ S1x128x768.size inb₃).shape.Idx → Elt F .bf16} (hp : pay = k0_pay19)
    {α : Type} {kk : PUnit → Prog (TpuEff nD τ sig (Elt F) Λ₀ .tc) α} {Q : α → sProp 𝕄} :
    iprop(Ctx A c m ∗ ptw c cc0_scratch1 (vWo A c) ∗ AccB c b j)
      ⊢ iprop(((Ctx A c m ∗ ptw c cc0_scratch1 (vWo A c) ∗ Src (vals A) 0 r j c ∗ Src (vals A) 0 r' j c) -∗ wp frame (wpE (defs₀ (F := F)) 𝒱₀ (c : Thread nD τ) none) Set.univ (kk ⟨⟩) Q)
      -∗ wp frame (wpE (defs₀ (F := F)) 𝒱₀ (c : Thread nD τ) none) Set.univ (.op (.load (Memref.whole cc0_scratch3 : Memref sig .tc .vmem S2x512x512 .bf16) (Rect.unit (s := S2x512x512) off₁ S1x128x512.size inb₁).toLoadRect hl₁) fun v =>
        .op (.load (Memref.whole cc0_scratch1 : Memref sig .tc .vmem S512x768 .f32) (Rect.unit (s := S512x768) ![0, 0] S512x768.size inb_S512x768_S512x768_0_0).toLoadRect hl₂) fun v' =>
        .op (.load (Memref.whole cc0_scratch4 : Memref sig .tc .vmem S2x512x768 .bf16) (Rect.unit (s := S2x512x768) off₂ S1x128x768.size inb₂).toLoadRect hl₃) fun _ =>
        .op (.store (Memref.whole cc0_scratch4 : Memref sig .tc .vmem S2x512x768 .bf16) (Rect.unit (s := S2x512x768) off₃ S1x128x768.size inb₃) (pay v v') Finset.univ hsx hsm) kk) Q) := by
  subst ho₁ ho₂ ho₃ hp
  unfold Ctx AccB
  iintro ⟨⟨%f, %hf, Hc⟩, Hw, ⟨%g, Ha⟩⟩ Hk
  iapply (wp_ld (cs := .vmem) (ix := 7) (hκ := rfl) rfl (inb_ab b j) (Finset.subset_univ _)) $$ Hc
  iintro Hc
  iapply (wp_ld (cs := .vmem) (ix := 5) (hκ := rfl) rfl inb_S512x768_S512x768_0_0 (Finset.subset_univ _)) $$ Hw
  iintro Hw
  iapply (wp_ld (cs := .vmem) (ix := 8) (hκ := rfl) rfl (inb_aw b j) (Finset.Subset.refl _)) $$ Ha
  iintro Ha
  have e : rd (s := S2x512x512) ![b.val, 128 * j.val, 0] S1x128x512.size (inb_ab b j) f = rd (s := S2x512x512) ![b.val, 128 * j.val, 0] S1x128x512.size (inb_ab b j) (vCtx A c) := by
    refine rd_eq _ fun i hi => hf i ?_
    have h2 : (i 2).val < 512 := (i 2).isLt
    rw [mem3 1 128 512 rfl rfl rfl] at hi
    omega
  iapply (wp_st_to (cs := .vmem) (ix := 8) (hκ := rfl) (g := vAcc A c) rfl (inb_aw b j) rfl (fun x => by
    rw [vAcc_emb]
    exact congrFun ((vAccBlk_eq A c b j).symm.trans (app2 k0_pay19 e.symm rfl)) x)) $$ Ha
  iintro Ha
  iapply Hk
  isplitl [Hc]
  · iexists f
    isplitr; · ipureintro; exact hf
    iexact Hc
  isplitl [Hw]; · iexact Hw
  iapply (Entails.of_eq (acc_block c b j r r' hr hr' (vAcc A c)))
  iexact Ha

/-! ## The sums along a row of devices -/

/-- What came along a row in round `r`, with the device's own slot. -/
def PB (c : Dev nD) (r : Fin 4) : sProp 𝕄 := pt c cc0_scratch6 (bx S16x64x768 ![4 * r.val, 0, 0] S4x64x768.size) fullShare (vPb A c)
/-- A slot of the sums, not yet written. -/
def CgB (c : Dev nD) (r : Fin 4) : sProp 𝕄 := iprop(∃ f, pt c cc0_scratch5 (bx S4x64x768 ![r.val, 0, 0] S1x64x768.size) fullShare f)

theorem vCgBlk_eq (c : Dev nD) (r : Fin 4) : k0_pay36 (rd (s := S2x512x768) ![r.val / 2, 128 * (pOf c).val + 64 * (r.val % 2), 0] S1x64x768.size (inb_sl r (pOf c)) (vAcc A c))
    (rd (s := S16x64x768) ![4 * r.val, 0, 0] S4x64x768.size (inb_p4 r) (vPb A c)) = vCgBlk A c r := by unfold vCgBlk; rfl

/-- The sum of a row of devices is computed and stored. -/
theorem cg_step (c : Dev nD) (r : Fin 4)
    {off₀ off₁ off₂ off₃ : Fin 3 → ℕ} (ho₀ : off₀ = ![r.val / 2, 128 * (pOf c).val + 64 * (r.val % 2), 0]) (ho₁ : off₁ = ![4 * r.val, 0, 0])
    (ho₂ : off₂ = ![r.val, 0, 0]) (ho₃ : off₃ = ![r.val, 0, 0])
    {inb₀ : ∀ a, off₀ a + S1x64x768.size a ≤ S2x512x768.size a} {hl₀ : (Memref.whole cc0_scratch4 : Memref sig .tc .vmem S2x512x768 .bf16).view.LoadsAt (Rect.unit (s := S2x512x768) off₀ S1x64x768.size inb₀).toLoadRect}
    {inb₁ : ∀ a, off₁ a + S4x64x768.size a ≤ S16x64x768.size a} {hl₁ : (Memref.whole cc0_scratch6 : Memref sig .tc .vmem S16x64x768 .bf16).view.LoadsAt (Rect.unit (s := S16x64x768) off₁ S4x64x768.size inb₁).toLoadRect}
    {inb₂ : ∀ a, off₂ a + S1x64x768.size a ≤ S4x64x768.size a} {hl₂ : (Memref.whole cc0_scratch5 : Memref sig .tc .vmem S4x64x768 .bf16).view.LoadsAt (Rect.unit (s := S4x64x768) off₂ S1x64x768.size inb₂).toLoadRect}
    {inb₃ : ∀ a, off₃ a + S1x64x768.size a ≤ S4x64x768.size a} {hsx : ((Memref.whole cc0_scratch5 : Memref sig .tc .vmem S4x64x768 .bf16).access (Rect.unit (s := S4x64x768) off₃ S1x64x768.size inb₃)).Stores Finset.univ}
    {hsm : (Finset.univ : Finset (Rect.unit (s := S4x64x768) off₃ S1x64x768.size inb₃).shape.Idx) = Finset.univ ∨ ∀ a, (Rect.unit (s := S4x64x768) off₃ S1x64x768.size inb₃).stride a = 1}
    {pay : ((Rect.unit (s := S2x512x768) off₀ S1x64x768.size inb₀).shape.Idx → Elt F .bf16) → ((Rect.unit (s := S16x64x768) off₁ S4x64x768.size inb₁).shape.Idx → Elt F .bf16) → (Rect.unit (s := S4x64x768) off₃ S1x64x768.size inb₃).shape.Idx → Elt F .bf16} (hp : pay = k0_pay36)
    {α : Type} {kk : PUnit → Prog (TpuEff nD τ sig (Elt F) Λ₀ .tc) α} {Q : α → sProp 𝕄} :
    iprop(Src (vals A) 0 r (own 0 c) c ∗ PB A c r ∗ CgB c r)
      ⊢ iprop(((Src (vals A) 0 r (own 0 c) c ∗ PB A c r ∗ all4 fun j => Src (vals A) 1 r j c) -∗ wp frame (wpE (defs₀ (F := F)) 𝒱₀ (c : Thread nD τ) none) Set.univ (kk ⟨⟩) Q)
      -∗ wp frame (wpE (defs₀ (F := F)) 𝒱₀ (c : Thread nD τ) none) Set.univ (.op (.load (Memref.whole cc0_scratch4 : Memref sig .tc .vmem S2x512x768 .bf16) (Rect.unit (s := S2x512x768) off₀ S1x64x768.size inb₀).toLoadRect hl₀) fun v =>
        .op (.load (Memref.whole cc0_scratch6 : Memref sig .tc .vmem S16x64x768 .bf16) (Rect.unit (s := S16x64x768) off₁ S4x64x768.size inb₁).toLoadRect hl₁) fun v' =>
        .op (.load (Memref.whole cc0_scratch5 : Memref sig .tc .vmem S4x64x768 .bf16) (Rect.unit (s := S4x64x768) off₂ S1x64x768.size inb₂).toLoadRect hl₂) fun _ =>
        .op (.store (Memref.whole cc0_scratch5 : Memref sig .tc .vmem S4x64x768 .bf16) (Rect.unit (s := S4x64x768) off₃ S1x64x768.size inb₃) (pay v v') Finset.univ hsx hsm) kk) Q) := by
  subst ho₀ ho₁ ho₂ ho₃ hp
  unfold PB CgB
  rw [own0]
  show iprop(pt c cc0_scratch4 (bx S2x512x768 ![r.val / 2, 128 * (pOf c).val + 64 * (r.val % 2), 0] S1x64x768.size) fullShare (vAcc A c) ∗ _ ∗ _)
    ⊢ iprop(((pt c cc0_scratch4 (bx S2x512x768 ![r.val / 2, 128 * (pOf c).val + 64 * (r.val % 2), 0] S1x64x768.size) fullShare (vAcc A c) ∗ _ ∗ _) -∗ _) -∗ _)
  iintro ⟨Ha, Hp, ⟨%g, Hg⟩⟩ Hk
  iapply (wp_ld (cs := .vmem) (ix := 8) (hκ := rfl) rfl (inb_sl r (pOf c)) (Finset.Subset.refl _)) $$ Ha
  iintro Ha
  iapply (wp_ld (cs := .vmem) (ix := 10) (hκ := rfl) rfl (inb_p4 r) (Finset.Subset.refl _)) $$ Hp
  iintro Hp
  iapply (wp_ld (cs := .vmem) (ix := 9) (hκ := rfl) rfl (inb_cg r) (Finset.Subset.refl _)) $$ Hg
  iintro Hg
  iapply (wp_st_to (cs := .vmem) (ix := 9) (hκ := rfl) (g := vCg A c) rfl (inb_cg r) rfl (fun x => by
    rw [vCg_emb]
    exact congrFun (vCgBlk_eq A c r).symm x)) $$ Hg
  iintro Hg
  iapply Hk
  iframe Ha Hp
  iapply (Entails.of_eq (cg_quarters c r (vCg A c)))
  iexact Hg

/-! ## The result -/

/-- What came along a column in round `r`, with the device's own slot. -/
def ZB (c : Dev nD) (r : Fin 4) : sProp 𝕄 := pt c cc0_scratch7 (bx S16x16x768 ![4 * r.val, 0, 0] S4x16x768.size) fullShare (vZb A c)
/-- The device's own rows of the result, not yet written. -/
def OutB (c : Dev nD) (r : Fin 4) : sProp 𝕄 := iprop(∃ f, pt c cc0_stg3_0 (rows r (pOf c) (zOf c)) fullShare f)
/-- Half a share of the device's own rows of the result. -/
def OwnR (c : Dev nD) (r : Fin 4) : sProp 𝕄 := pt c cc0_stg3_0 (rows r (pOf c) (zOf c)) fullShare.right (vOut A)

theorem vOutBlk_eq (c : Dev nD) (r : Fin 4) : k0_pay42 (rd (s := S4x64x768) ![r.val, 16 * (zOf c).val, 0] S1x16x768.size (inb_qu r (zOf c)) (vCg A c))
    (rd (s := S16x16x768) ![4 * r.val, 0, 0] S4x16x768.size (inb_z4 r) (vZb A c)) = vOutBlk A c r := by unfold vOutBlk; rfl

/-- The device's own quarter of its sum is loaded. -/
theorem ld_cg (c : Dev nD) (r : Fin 4) {off : Fin 3 → ℕ} (ho : off = ![r.val, 16 * (zOf c).val, 0])
    {inb : ∀ a, off a + S1x16x768.size a ≤ S4x64x768.size a} {hl : (Memref.whole cc0_scratch5 : Memref sig .tc .vmem S4x64x768 .bf16).view.LoadsAt (Rect.unit (s := S4x64x768) off S1x16x768.size inb).toLoadRect}
    {α : Type} {kk : ((Rect.unit (s := S4x64x768) off S1x16x768.size inb).shape.Idx → Elt F .bf16) → Prog (TpuEff nD τ sig (Elt F) Λ₀ .tc) α} {Q : α → sProp 𝕄} :
    Src (vals A) 1 r (own 1 c) c ⊢ iprop((Src (vals A) 1 r (own 1 c) c -∗ wp frame (wpE (defs₀ (F := F)) 𝒱₀ (c : Thread nD τ) none) Set.univ (kk (rd (s := S4x64x768) ![r.val, 16 * (zOf c).val, 0] S1x16x768.size (inb_qu r (zOf c)) (vCg A c))) Q)
      -∗ wp frame (wpE (defs₀ (F := F)) 𝒱₀ (c : Thread nD τ) none) Set.univ (.op (.load (Memref.whole cc0_scratch5 : Memref sig .tc .vmem S4x64x768 .bf16) (Rect.unit (s := S4x64x768) off S1x16x768.size inb).toLoadRect hl) kk) Q) := by
  subst ho
  rw [own1]
  show pt c cc0_scratch5 (bx S4x64x768 ![r.val, 16 * (zOf c).val, 0] S1x16x768.size) fullShare (vCg A c)
    ⊢ iprop((pt c cc0_scratch5 (bx S4x64x768 ![r.val, 16 * (zOf c).val, 0] S1x16x768.size) fullShare (vCg A c) -∗ _) -∗ _)
  iintro H Hk
  iapply (wp_ld (cs := .vmem) (ix := 9) (hκ := rfl) rfl (inb_qu r (zOf c)) (Finset.Subset.refl _)) $$ H
  iexact Hk

/-- What came along a column is loaded. -/
theorem ld_zb (c : Dev nD) (r : Fin 4) {off : Fin 3 → ℕ} (ho : off = ![4 * r.val, 0, 0])
    {inb : ∀ a, off a + S4x16x768.size a ≤ S16x16x768.size a} {hl : (Memref.whole cc0_scratch7 : Memref sig .tc .vmem S16x16x768 .bf16).view.LoadsAt (Rect.unit (s := S16x16x768) off S4x16x768.size inb).toLoadRect}
    {α : Type} {kk : ((Rect.unit (s := S16x16x768) off S4x16x768.size inb).shape.Idx → Elt F .bf16) → Prog (TpuEff nD τ sig (Elt F) Λ₀ .tc) α} {Q : α → sProp 𝕄} :
    ZB A c r ⊢ iprop((ZB A c r -∗ wp frame (wpE (defs₀ (F := F)) 𝒱₀ (c : Thread nD τ) none) Set.univ (kk (rd (s := S16x16x768) ![4 * r.val, 0, 0] S4x16x768.size (inb_z4 r) (vZb A c))) Q)
      -∗ wp frame (wpE (defs₀ (F := F)) 𝒱₀ (c : Thread nD τ) none) Set.univ (.op (.load (Memref.whole cc0_scratch7 : Memref sig .tc .vmem S16x16x768 .bf16) (Rect.unit (s := S16x16x768) off S4x16x768.size inb).toLoadRect hl) kk) Q) := by
  subst ho
  unfold ZB
  iintro H Hk
  iapply (wp_ld (cs := .vmem) (ix := 11) (hκ := rfl) rfl (inb_z4 r) (Finset.Subset.refl _)) $$ H
  iexact Hk

/-- The device's own rows of the result are loaded, whose elements are not used. -/
theorem ld_out (c : Dev nD) (r : Fin 4) {off : Fin 3 → ℕ} (ho : off = ![r.val / 2, 128 * (pOf c).val + 64 * (r.val % 2) + 16 * (zOf c).val, 0])
    {inb : ∀ a, off a + S1x16x768.size a ≤ S2x512x768.size a} {hl : (Memref.whole cc0_stg3_0 : Memref sig .tc .vmem S2x512x768 .bf16).view.LoadsAt (Rect.unit (s := S2x512x768) off S1x16x768.size inb).toLoadRect}
    {α : Type} {p : Prog (TpuEff nD τ sig (Elt F) Λ₀ .tc) α} {Q : α → sProp 𝕄} :
    OutB c r ⊢ iprop((OutB c r -∗ wp frame (wpE (defs₀ (F := F)) 𝒱₀ (c : Thread nD τ) none) Set.univ p Q)
      -∗ wp frame (wpE (defs₀ (F := F)) 𝒱₀ (c : Thread nD τ) none) Set.univ (.op (.load (Memref.whole cc0_stg3_0 : Memref sig .tc .vmem S2x512x768 .bf16) (Rect.unit (s := S2x512x768) off S1x16x768.size inb).toLoadRect hl) fun _ => p) Q) := by
  subst ho
  have hr : rows r (pOf c) (zOf c) = bx S2x512x768 ![r.val / 2, 128 * (pOf c).val + 64 * (r.val % 2) + 16 * (zOf c).val, 0] S1x16x768.size := rfl
  unfold OutB
  rw [hr]
  iintro ⟨%f, H⟩ Hk
  iapply (wp_ld (cs := .vmem) (ix := 3) (hκ := rfl) rfl (inb_rw r (pOf c) (zOf c)) (Finset.Subset.refl _)) $$ H
  iintro H
  iapply Hk
  iexists f
  iexact H

/-- The device's own rows of the result are stored; half of them can be lent along the column. -/
theorem st_out (c : Dev nD) (r : Fin 4) {off : Fin 3 → ℕ} (ho : off = ![r.val / 2, 128 * (pOf c).val + 64 * (r.val % 2) + 16 * (zOf c).val, 0])
    {inb : ∀ a, off a + S1x16x768.size a ≤ S2x512x768.size a} {hx : ((Memref.whole cc0_stg3_0 : Memref sig .tc .vmem S2x512x768 .bf16).access (Rect.unit (s := S2x512x768) off S1x16x768.size inb)).Stores Finset.univ}
    {hm : (Finset.univ : Finset (Rect.unit (s := S2x512x768) off S1x16x768.size inb).shape.Idx) = Finset.univ ∨ ∀ a, (Rect.unit (s := S2x512x768) off S1x16x768.size inb).stride a = 1}
    {w : S1x16x768.Idx → F .bf16} (hw : w = vOutBlk A c r)
    {α : Type} {kk : PUnit → Prog (TpuEff nD τ sig (Elt F) Λ₀ .tc) α} {Q : α → sProp 𝕄} :
    OutB c r ⊢ iprop((((all4 fun j => Src (vals A) 2 r j c) ∗ OwnR A c r) -∗ wp frame (wpE (defs₀ (F := F)) 𝒱₀ (c : Thread nD τ) none) Set.univ (kk ⟨⟩) Q)
      -∗ wp frame (wpE (defs₀ (F := F)) 𝒱₀ (c : Thread nD τ) none) Set.univ (.op (.store (Memref.whole cc0_stg3_0 : Memref sig .tc .vmem S2x512x768 .bf16) (Rect.unit (s := S2x512x768) off S1x16x768.size inb) w Finset.univ hx hm) kk) Q) := by
  subst ho hw
  have hr : rows r (pOf c) (zOf c) = bx S2x512x768 ![r.val / 2, 128 * (pOf c).val + 64 * (r.val % 2) + 16 * (zOf c).val, 0] S1x16x768.size := rfl
  unfold OutB OwnR
  rw [hr]
  iintro ⟨%f, H⟩ Hk
  iapply (wp_st_to (cs := .vmem) (ix := 3) (hκ := rfl) (g := vOut A) rfl (inb_rw r (pOf c) (zOf c)) rfl (fun x => by
    rw [vOut_emb, devAt_self])) $$ H
  iintro H
  ihave Hh := (Entails.of_eq (pt_halves (c := c) (b := cc0_stg3_0) (f := vOut A))) $$ H
  icases Hh with ⟨Hl, Hr⟩
  iapply Hk
  isplitl [Hl]
  · iapply (Entails.of_eq (pt_quarters (c := c) (b := cc0_stg3_0) (q := fullShare.left) (f := vOut A)))
    iexact Hl
  iexact Hr

end Cert.Attn
-- ==== Proof.App.lean ====
module

public import proofs.«01_k».proof.Proof.Comp

/-!
# The parts of the kernel on its own buffers
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

/-- A part of the kernel, applied to the kernel's buffers and semaphores. -/
abbrev app {T : Type 1} (f :
    ∀ (a0 : Memref sig .tc .vmem S2x512x768 .f32), a0.IsWhole →
    ∀ (a1 : Memref sig .tc .hbm S768x8192 .f32), a1.IsWhole →
    ∀ (a2 : Memref sig .tc .vmem S2x512x8x64 .f32), a2.IsWhole →
    ∀ (a3 : Memref sig .tc .vmem S2x512x8x64 .f32), a3.IsWhole →
    ∀ (a4 : Memref sig .tc .hbm S8192x768 .f32), a4.IsWhole →
    ∀ (a5 : Memref sig .tc .vmem S2x512x768 .bf16), a5.IsWhole →
    ∀ (a6 : Memref sig .tc .vmem S768x512 .f32), a6.IsWhole →
    ∀ (a7 : Memref sig .tc .vmem S512x768 .f32), a7.IsWhole →
    ∀ (a8 : Memref sig .tc .vmem S2x512x512 .bf16), a8.IsWhole →
    ∀ (a9 : Memref sig .tc .vmem S2x512x512 .bf16), a9.IsWhole →
    ∀ (a10 : Memref sig .tc .vmem S2x512x768 .bf16), a10.IsWhole →
    ∀ (a11 : Memref sig .tc .vmem S4x64x768 .bf16), a11.IsWhole →
    ∀ (a12 : Memref sig .tc .vmem S16x64x768 .bf16), a12.IsWhole →
    ∀ (a13 : Memref sig .tc .vmem S16x16x768 .bf16), a13.IsWhole →
    ∀ (a14 : Memref sig .tc .vmem S512x512 .bf16), a14.IsWhole →
    ∀ (a15 : Memref sig .tc .vmem S512x512 .bf16), a15.IsWhole →
    DmaSems sig S2 → DmaSems sig S4 → DmaSems sig S4 → DmaSems sig S4 → DmaSems sig S4 → DmaSems sig S4 → DmaSems sig S4 → DmaSems sig S4 → DmaSems sig S4 → T) : T :=
  f (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18

/-- A part that is run by device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem bnd {α β : Type} {c : Dev nD} {p : Prog (TpuEff nD τ sig (Elt F) Λ₀ .tc) α} {f : α → Prog (TpuEff nD τ sig (Elt F) Λ₀ .tc) β} {Q : β → sProp 𝕄} :
    run c p (fun x => run c (f x) Q) ⊢ run c (p.bind f) Q := Entails.of_eq (Sem.wp_bind _ _ _ p f Q).symm

/-- A conditional operation and what comes after it, taken apart. -/
theorem cnd {α : Type} {c : Dev nD} {cond : Prop} {inst : Decidable cond} {e : cond → TpuEff nD τ sig (Elt F) Λ₀ .tc PUnit}
    {f : PUnit → Prog (TpuEff nD τ sig (Elt F) Λ₀ .tc) α} {Q : α → sProp 𝕄} :
    run c (@dite (Prog (TpuEff nD τ sig (Elt F) Λ₀ .tc) PUnit) cond inst (fun h => .op (e h) fun _ => .ret ⟨⟩) (fun _ => .ret ⟨⟩)) (fun _ => run c (f ⟨⟩) Q)
      ⊢ run c (@dite (Prog (TpuEff nD τ sig (Elt F) Λ₀ .tc) α) cond inst (fun h => .op (e h) fun r => f r) (fun _ => f ⟨⟩)) Q := by
  refine bnd.trans (Entails.of_eq ?_)
  by_cases h : cond
  · rw [dif_pos h, dif_pos h]; rfl
  · rw [dif_neg h, dif_neg h]; rfl

/-- Two conditional operations and what comes after them, taken apart. -/
theorem cnd2 {α : Type} {c : Dev nD} {cond : Prop} {inst : Decidable cond} {e e' : cond → TpuEff nD τ sig (Elt F) Λ₀ .tc PUnit}
    {f : PUnit → Prog (TpuEff nD τ sig (Elt F) Λ₀ .tc) α} {Q : α → sProp 𝕄} :
    run c (@dite (Prog (TpuEff nD τ sig (Elt F) Λ₀ .tc) PUnit) cond inst (fun h => .op (e h) fun _ => .op (e' h) fun _ => .ret ⟨⟩) (fun _ => .ret ⟨⟩)) (fun _ => run c (f ⟨⟩) Q)
      ⊢ run c (@dite (Prog (TpuEff nD τ sig (Elt F) Λ₀ .tc) α) cond inst (fun h => .op (e h) fun _ => .op (e' h) fun r => f r) (fun _ => f ⟨⟩)) Q := by
  refine bnd.trans (Entails.of_eq ?_)
  by_cases h : cond
  · rw [dif_pos h, dif_pos h]; rfl
  · rw [dif_neg h, dif_neg h]; rfl

end Cert.Attn
-- ==== Proof.Trans.lean ====
module

public import proofs.«01_k».proof.Proof.App

/-!
# What the messages of one round give

When all messages of one kind and round have been waited for, what they brought is
joined with the device's own part.
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

/-- The device's own slot of the buffer for a row, which holds zeros. -/
def PS (c : Dev nD) (r : Fin 4) : sProp 𝕄 := pt c cc0_scratch6 (pslot r (pOf c)) fullShare (vPb A c)
/-- The device's own slot of the buffer for a column, which holds zeros. -/
def ZS (c : Dev nD) (r : Fin 4) : sProp 𝕄 := pt c cc0_scratch7 (zslot r (zOf c)) fullShare (vZb A c)
/-- Half a share of the rows of the result that the others of a column sent. -/
def Halves (c : Dev nD) (r : Fin 4) : sProp 𝕄 := all4 fun s => other 2 c s (pt c cc0_stg3_0 (rows r (pOf c) s) fullShare.left (vOut A))

/-- All slots of a round of the buffer for a row. -/
theorem to_pb (c : Dev nD) (r : Fin 4) : iprop(Rcv A 0 (.rcv 0 r) 4 c ∗ PS A c r) ⊢ iprop(Done 0 (.rcv 0 r) c ∗ PB A c r) := by
  unfold PB PS
  rw [pb_slots, four_own 0 c, own0]
  iintro ⟨H, HS⟩
  ihave H := (rcv_got A) $$ H
  icases H with ⟨HD, HG⟩
  isplitl [HD]; · iexact HD
  isplitl [HS]; · iexact HS
  iexact HG

/-- All slots of a round of the buffer for a column. -/
theorem to_zb (c : Dev nD) (r : Fin 4) : iprop(Rcv A 1 (.rcv 1 r) 4 c ∗ ZS A c r) ⊢ iprop(Done 1 (.rcv 1 r) c ∗ ZB A c r) := by
  unfold ZB ZS
  rw [zb_slots, four_own 1 c, own1]
  iintro ⟨H, HS⟩
  ihave H := (rcv_got A) $$ H
  icases H with ⟨HD, HG⟩
  isplitl [HD]; · iexact HD
  isplitl [HS]; · iexact HS
  iexact HG

/-- The rows of the result that a column has put together, half of which can be lent along the row. -/
theorem to_rows (c : Dev nD) (r : Fin 4) : iprop(Rcv A 2 (.rcv 2 r) 4 c ∗ OwnR A c r)
    ⊢ iprop(Done 2 (.rcv 2 r) c ∗ Halves A c r ∗ Src (vals A) 3 r 0 c ∗ Src (vals A) 3 r 1 c ∗ Src (vals A) 3 r 2 c ∗ Src (vals A) 3 r 3 c) := by
  have e : (iprop(Src (vals A) 3 r 0 c ∗ Src (vals A) 3 r 1 c ∗ Src (vals A) 3 r 2 c ∗ Src (vals A) 3 r 3 c) : sProp 𝕄)
      = iprop(pt c cc0_stg3_0 (rows r (pOf c) (zOf c)) fullShare.right (vOut A) ∗ all4 fun j => other 2 c j (pt c cc0_stg3_0 (rows r (pOf c) j) fullShare.right (vOut A))) := by
    have e1 := pt_quarters (F := F) (c := c) (b := cc0_stg3_0) (I := slab r (pOf c)) (q := fullShare.right) (f := vOut A)
    rw [slab_rows, four_own 2 c, own2] at e1
    exact e1.symm
  have h : (all4 fun j => other 2 c j (Got (vals A) 2 r j c) : sProp 𝕄)
      ⊢ iprop(Halves A c r ∗ all4 fun j => other 2 c j (pt c cc0_stg3_0 (rows r (pOf c) j) fullShare.right (vOut A))) := by
    unfold Halves
    rw [← four_sep]
    refine four_mono fun j => ?_
    by_cases hj : j = own 2 c
    · rw [other_own hj, other_own hj, other_own hj]
      iintro -; isplitl [] <;> iempintro
    · rw [other_ne hj, other_ne hj, other_ne hj]
      exact Entails.of_eq pt_halves
  rw [e]
  unfold OwnR
  iintro ⟨H, HS⟩
  ihave H := (rcv_got A) $$ H
  icases H with ⟨HD, HG⟩
  ihave HG := h $$ HG
  icases HG with ⟨HH, HR⟩
  iframe HD HH HS HR

theorem all4_eq (Φ : Fin 4 → sProp 𝕄) : all4 Φ = iprop(Φ 0 ∗ Φ 1 ∗ Φ 2 ∗ Φ 3) := rfl

/-! ## Where a device finds its own rows -/

/-- The first element of the device's rows in its partial result. -/
abbrev rowOff (r : Fin 4) (d : Dev nD) : Fin 3 → ℕ := ![r.val / 2, 128 * (pOf d).val + 64 * (r.val % 2), 0]
theorem off_acc : (∀ d, k0_off11 d 0#32 = rowOff 0 d) ∧ (∀ d, k0_off11 d 64#32 = rowOff 1 d) ∧ (∀ d, k0_off39 d 0#32 = rowOff 2 d) ∧ (∀ d, k0_off39 d 64#32 = rowOff 3 d) := by decide +kernel
/-- The first element of the device's quarter of its sum. -/
abbrev quOff (r : Fin 4) (d : Dev nD) : Fin 3 → ℕ := ![r.val, 16 * (zOf d).val, 0]
theorem off_cg : (∀ d, k0_off28 d = quOff 0 d) ∧ (∀ d, k0_off34 d = quOff 1 d) ∧ (∀ d, k0_off64 d = quOff 2 d) ∧ (∀ d, k0_off70 d = quOff 3 d) := by decide +kernel
/-- The first element of the device's rows of the result. -/
abbrev outOff (r : Fin 4) (d : Dev nD) : Fin 3 → ℕ := ![r.val / 2, 128 * (pOf d).val + 64 * (r.val % 2) + 16 * (zOf d).val, 0]
theorem off_out : (∀ d, k0_off29 d 0#32 = outOff 0 d) ∧ (∀ d, k0_off29 d 64#32 = outOff 1 d) ∧ (∀ d, k0_off65 d 0#32 = outOff 2 d) ∧ (∀ d, k0_off65 d 64#32 = outOff 3 d) := by decide +kernel

/-! ## What a head is computed from -/

theorem via {α β γ δ ε ζ : Type} {f g : α → β → γ → δ → ε → ζ} (h : f = g) {a b c d e w} (hw : g a b c d e = w) : f a b c d e = w := h ▸ hw

/-- The queries of a head. -/
abbrev rQ (c : Dev nD) (b : Fin 2) (h : Fin 8) : S1x512x64.Idx → F .bf16 := rd (s := S2x512x512) ![b.val, 0, 64 * h.val] S1x512x64.size (inb_hq b h) (vQ A c)
/-- The keys of a head. -/
abbrev rK (c : Dev nD) (b : Fin 2) (h : Fin 8) : S64x512.Idx → F .bf16 := rd (s := S512x512) ![64 * h.val, 0] S64x512.size (inb_hk h) (vKt A c b)
/-- The values of a head. -/
abbrev rV (c : Dev nD) (b : Fin 2) (h : Fin 8) : S512x64.Idx → F .bf16 := rd (s := S512x512) ![0, 64 * h.val] S512x64.size (inb_hv h) (vVp A c b)

theorem via2 {α β γ : Type} {f g : α → β → γ} (h : f = g) {a b w} (hw : g a b = w) : f a b = w := h ▸ hw

/-- The device's own quarter of its sum. -/
abbrev rdCg (c : Dev nD) (r : Fin 4) : S1x16x768.Idx → F .bf16 := rd (s := S4x64x768) ![r.val, 16 * (zOf c).val, 0] S1x16x768.size (inb_qu r (zOf c)) (vCg A c)
/-- What came along the column. -/
abbrev rdZb (c : Dev nD) (r : Fin 4) : S4x16x768.Idx → F .bf16 := rd (s := S16x16x768) ![4 * r.val, 0, 0] S4x16x768.size (inb_z4 r) (vZb A c)

theorem ld_q (c : Dev nD) (b : Fin 2) (h : Fin 8) {off : Fin 3 → ℕ} (ho : off = ![b.val, 0, 64 * h.val])
    {inb : ∀ a, off a + S1x512x64.size a ≤ S2x512x512.size a} {hl : (Memref.whole cc0_scratch2 : Memref sig .tc .vmem S2x512x512 .bf16).view.LoadsAt (Rect.unit (s := S2x512x512) off S1x512x64.size inb).toLoadRect}
    {α : Type} {kk : ((Rect.unit (s := S2x512x512) off S1x512x64.size inb).shape.Idx → Elt F .bf16) → Prog (TpuEff nD τ sig (Elt F) Λ₀ .tc) α} {Q : α → sProp 𝕄} :
    ptw c cc0_scratch2 (vQ A c) ⊢ iprop((ptw c cc0_scratch2 (vQ A c) -∗ run c (kk (rQ A c b h)) Q)
      -∗ run c (.op (.load (Memref.whole cc0_scratch2 : Memref sig .tc .vmem S2x512x512 .bf16) (Rect.unit (s := S2x512x512) off S1x512x64.size inb).toLoadRect hl) kk) Q) := by
  subst ho
  exact wp_ld (cs := .vmem) (ix := 6) (hκ := rfl) rfl (inb_hq b h) (Finset.subset_univ _)

theorem ld_k (c : Dev nD) (b : Fin 2) (h : Fin 8) {off : Fin 2 → ℕ} (ho : off = ![64 * h.val, 0])
    {inb : ∀ a, off a + S64x512.size a ≤ S512x512.size a} {hl : (Memref.whole cc0_scratch8 : Memref sig .tc .vmem S512x512 .bf16).view.LoadsAt (Rect.unit (s := S512x512) off S64x512.size inb).toLoadRect}
    {α : Type} {kk : ((Rect.unit (s := S512x512) off S64x512.size inb).shape.Idx → Elt F .bf16) → Prog (TpuEff nD τ sig (Elt F) Λ₀ .tc) α} {Q : α → sProp 𝕄} :
    ptw c cc0_scratch8 (vKt A c b) ⊢ iprop((ptw c cc0_scratch8 (vKt A c b) -∗ run c (kk (rK A c b h)) Q)
      -∗ run c (.op (.load (Memref.whole cc0_scratch8 : Memref sig .tc .vmem S512x512 .bf16) (Rect.unit (s := S512x512) off S64x512.size inb).toLoadRect hl) kk) Q) := by
  subst ho
  exact wp_ld (cs := .vmem) (ix := 12) (hκ := rfl) rfl (inb_hk h) (Finset.subset_univ _)

theorem ld_v (c : Dev nD) (b : Fin 2) (h : Fin 8) {off : Fin 2 → ℕ} (ho : off = ![0, 64 * h.val])
    {inb : ∀ a, off a + S512x64.size a ≤ S512x512.size a} {hl : (Memref.whole cc0_scratch9 : Memref sig .tc .vmem S512x512 .bf16).view.LoadsAt (Rect.unit (s := S512x512) off S512x64.size inb).toLoadRect}
    {α : Type} {kk : ((Rect.unit (s := S512x512) off S512x64.size inb).shape.Idx → Elt F .bf16) → Prog (TpuEff nD τ sig (Elt F) Λ₀ .tc) α} {Q : α → sProp 𝕄} :
    ptw c cc0_scratch9 (vVp A c b) ⊢ iprop((ptw c cc0_scratch9 (vVp A c b) -∗ run c (kk (rV A c b h)) Q)
      -∗ run c (.op (.load (Memref.whole cc0_scratch9 : Memref sig .tc .vmem S512x512 .bf16) (Rect.unit (s := S512x512) off S512x64.size inb).toLoadRect hl) kk) Q) := by
  subst ho
  exact wp_ld (cs := .vmem) (ix := 13) (hκ := rfl) rfl (inb_hv h) (Finset.subset_univ _)

/-- A buffer is loaded whose elements are not used. -/
theorem ld_any {c : Dev nD} {cs : CoreSpace} {ix : Fin (sig.nNear .tc cs)} {hκ : sig.names .tc cs ix = true} {off size : Fin (cref cs ix hκ).ty.shape.rank → ℕ} {inb : ∀ a, off a + size a ≤ (cref cs ix hκ).ty.shape.size a}
    {hl : (Memref.whole (cref cs ix hκ) : Memref sig .tc (.core cs) _ _).view.LoadsAt (Rect.unit (s := (cref cs ix hκ).ty.shape) off size inb).toLoadRect} {α : Type}
    {p : Prog (TpuEff nD τ sig (Elt F) Λ₀ .tc) α} {Q : α → sProp 𝕄} {f : (cref cs ix hκ).ty.shape.Idx → Elt F (cref cs ix hκ).ty.elt} :
    ptw c (cref cs ix hκ) f
      ⊢ iprop((ptw c (cref cs ix hκ) f -∗ run c p Q)
        -∗ run c (.op (.load (Memref.whole (cref cs ix hκ) : Memref sig .tc (.core cs) _ _) (Rect.unit (s := (cref cs ix hκ).ty.shape) off size inb).toLoadRect hl) fun _ => p) Q) :=
  wp_ld (k := fun _ => p) (f := f) (Q := Q) (hl := hl) rfl inb (Finset.subset_univ _)

/-- A whole buffer is stored. -/
theorem st_whole {c : Dev nD} {cs : CoreSpace} {ix : Fin (sig.nNear .tc cs)} {hκ : sig.names .tc cs ix = true} {off : Fin (cref cs ix hκ).ty.shape.rank → ℕ}
    {inb : ∀ a, off a + (cref cs ix hκ).ty.shape.size a ≤ (cref cs ix hκ).ty.shape.size a}
    {f w : (cref cs ix hκ).ty.shape.Idx → Elt F (cref cs ix hκ).ty.elt}
    {hx : ((Memref.whole (cref cs ix hκ) : Memref sig .tc (.core cs) _ _).access (Rect.unit (s := (cref cs ix hκ).ty.shape) off (cref cs ix hκ).ty.shape.size inb)).Stores Finset.univ}
    {hm : (Finset.univ : Finset (Rect.unit (s := (cref cs ix hκ).ty.shape) off (cref cs ix hκ).ty.shape.size inb).shape.Idx) = Finset.univ ∨ ∀ a, (Rect.unit (s := (cref cs ix hκ).ty.shape) off (cref cs ix hκ).ty.shape.size inb).stride a = 1}
    {α : Type} {k : PUnit → Prog (TpuEff nD τ sig (Elt F) Λ₀ .tc) α} {Q : α → sProp 𝕄} :
    ptw c (cref cs ix hκ) f
      ⊢ iprop((ptw c (cref cs ix hκ) w -∗ run c (k ⟨⟩) Q)
        -∗ run c (.op (.store (Memref.whole (cref cs ix hκ) : Memref sig .tc (.core cs) _ _) (Rect.unit (s := (cref cs ix hκ).ty.shape) off (cref cs ix hκ).ty.shape.size inb) w Finset.univ hx hm) k) Q) := by
  have h0 : ∀ a, off a = 0 := fun a => by have := inb a; omega
  refine wp_st_to (f := f) (g := w) (w := w) (k := k) (Q := Q) (hx := hx) (hm := hm) rfl inb ?_ fun x => ?_
  · ext i
    rw [mem_bx]
    refine ⟨fun _ a => ?_, fun _ => Finset.mem_univ _⟩
    rw [h0 a, Nat.zero_add]
    exact ⟨Nat.zero_le _, (i a).isLt⟩
  · refine congrArg w (funext fun a => Fin.ext ?_)
    rw [emb_val, h0 a, Nat.zero_add]

end Cert.Attn
-- ==== Proof.Start.lean ====
module

public import proofs.«01_k».proof.Proof.Trans

/-!
# How the kernel starts: the weights are loaded, the neighbours are told, the queries are computed
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

/-! ## A wait for all there is -/

/-- A wait that takes a whole round of a semaphore hands over all that the round's duties deliver. -/
theorem wait_full {α : Type} {c : Dev nD} {x : Cell} {n N : ℕ} (hN : (dset x c).card * amt x = N) (h1 : 0 < amt x) (hn : n = 72 ∨ InOrder x n)
    {e : TpuEff nD τ sig (Elt F) Λ₀ .tc PUnit}
    (hw : ∀ K' : PUnit → sProp 𝕄, wpE (defs₀ (F := F)) 𝒱₀ (c : Thread nD τ) none Set.univ e K' = waitSpec (c : Thread nD τ) Set.univ (csem x) N K')
    {kk : PUnit → Prog (TpuEff nD τ sig (Elt F) Λ₀ .tc) α} {Q : α → sProp 𝕄} :
    iprop(Env (vals A) K ∗ cred (tallyAt (gc c x) () N) ∗ atPos ER (gc c x) 0 ∅ 0 ∗ Owed c n)
      ⊢ iprop(((atPos ER (gc c x) 0 (dset x c) N ∗ bigSep (dset x c) (fun d => pay (vals A) x c d) ∗ Owed c n) -∗ run c (kk ⟨⟩) Q)
          -∗ run c (.op e kk) Q) := by
  unfold Owed
  iintro ⟨#HE, Hc, Hat, ⟨%W, HO⟩⟩ Hk
  ihave Hmw := (env_mayWait (vals A) K c x n hn) $$ HE
  iapply (Rounds.wp_wait 𝒱₀ ER (Rd (vals A)) (c : Thread nD τ) none (κ := K (c, x)) hw (Set.mem_univ _) (cr := Finsupp.single () N)
    (O := due c n) (W := W) {(csem x, ())} (R := 0) (m := 0) (T := ∅)
    (by rw [Idealize.SL.Util.total_single]) (image_single_subset (csem x) () N)) $$ [Hc HO Hmw Hat]
  · isplitr; · iapply (env_inv (vals A) K c x); iexact HE
    isplitl [Hc]; · iexact Hc
    isplitl [HO]; · iexact HO
    isplitl [Hmw]; · iexact Hmw
    iexact Hat
  iintro %S ⟨%hS, HO, Hat, Hnew⟩
  obtain ⟨-, hSd, hle⟩ := hS
  rw [show ((c : Thread nD τ), csem x) = gc c x from rfl, duties_gc] at hSd hle
  rw [expect_gc, hN] at hle
  have hS : S = dset x c := by
    refine Finset.Subset.antisymm hSd (Finset.sdiff_eq_empty_iff_subset.mp (Finset.card_eq_zero.mp ?_))
    omega
  subst hS
  rw [Nat.zero_add, Finset.sdiff_empty]
  iapply Hk
  isplitl [Hat]; · iexact Hat
  isplitl [Hnew]
  · iapply (Entails.of_eq (bigSep_congr fun d _ => payload_gc (vals A) c x 0 d))
    iexact Hnew
  · iexists (W ∪ {(csem x, ())}); iexact HO

/-! ## The loads of the weights -/

/-- A load of weights starts. -/
theorem ld_core {α : Type} {c : Dev nD} (i : Fin 2) {s : Shape} {src : Memref sig .tc .hbm s .f32} {dst : Memref sig .tc .vmem s .f32} {sem : SemLoc sig}
    (hs : sem = csem (.ld i)) (hamt : dst.view.dmaCredit = ldBytes)
    {fs : Buf (Elt F) (src.view.loc (c : Thread nD τ))} {fd : Buf (Elt F) (dst.view.loc (c : Thread nD τ))}
    (hpay : (iprop((dst.view.loc (c : Thread nD τ) ↦[dst.view.set]{fullShare} (dst.view.write (Elt F) fd (src.view.read (Elt F) fs) Finset.univ))
              ∗ (src.view.loc (c : Thread nD τ) ↦[src.view.set]{fullShare} fs)) : sProp 𝕄) ⊢ Loaded (vals A) i c)
    {hsrcw : src.view.WordExact} {hdstw : dst.view.WordExact} {hsem : DmaTarget.Typed .hbm sem (DmaTarget.here (nD := nD) (τ := τ) (p := .tc) dst)}
    {kk : PUnit → Prog (TpuEff nD τ sig (Elt F) Λ₀ .tc) α} {Q : α → sProp 𝕄} :
    iprop(Env (vals A) K ∗ (src.view.loc (c : Thread nD τ) ↦[src.view.set]{fullShare} fs) ∗ (dst.view.loc (c : Thread nD τ) ↦[dst.view.set]{fullShare} fd)
        ∗ dutyTok ER (gc c (.ld i)) 0 (false, 0))
      ⊢ iprop((cred (tallyAt (gc c (.ld i)) () ldBytes) -∗ run c (kk ⟨⟩) Q)
          -∗ run c (.op (.enqueueDma src (.here dst) sem hsrcw hdstw hsem) kk) Q) := by
  subst hs
  iintro ⟨#HE, Hs, Hd, Ht⟩ Hk
  iapply (Rounds.wp_copy_pointsTo 𝒱₀ ER (Rd (vals A)) (c : Thread nD τ) none (κ := K (c, .ld i)) (r := 0) (d := (false, 0)) (fd := fd)
    (by rw [duties_gc]; exact Finset.mem_singleton_self _) () ldBytes (show dst.view.amount (csem (.ld i)) = ldBytes from hamt) (amount_gc (vals A) c (.ld i) 0 _)
    (by rw [payload_gc]; exact hpay)) $$ [Hs Hd Ht]
  · isplitr; · iapply (env_inv (vals A) K c (.ld i)); iexact HE
    isplitl [Hs]; · iexact Hs
    isplitl [Hd]; · iexact Hd
    isplitl [Ht]; · iexact Ht
    iapply (env_reached (vals A) K c (.ld i)); iexact HE
  iexact Hk

/-- The part of the query weights that a load takes, and where it goes. -/
abbrev srcWq (off : Fin 2 → ℕ) (inb : ∀ a, off a + S768x512.size a ≤ S768x8192.size a) : Memref sig .tc .hbm S768x512 .f32 :=
  (Memref.whole main_arg1 : Memref sig .tc .hbm S768x8192 .f32).slice (Rect.unit (s := S768x8192) off S768x512.size inb) (fun _ => rfl)
abbrev dstWq : Memref sig .tc .vmem S768x512 .f32 := Memref.whole cc0_scratch0

/-- The part of the output weights that a load takes, and where it goes. -/
abbrev srcWo (off : Fin 2 → ℕ) (inb : ∀ a, off a + S512x768.size a ≤ S8192x768.size a) : Memref sig .tc .hbm S512x768 .f32 :=
  (Memref.whole main_arg4 : Memref sig .tc .hbm S8192x768 .f32).slice (Rect.unit (s := S8192x768) off S512x768.size inb) (fun _ => rfl)
abbrev dstWo : Memref sig .tc .vmem S512x768 .f32 := Memref.whole cc0_scratch1

theorem ldAmt : RefSig.tileCredit S768x512 .f32 = ldBytes ∧ RefSig.tileCredit S512x768 .f32 = ldBytes := by decide +kernel
theorem dstWq_amt : dstWq.view.dmaCredit = ldBytes := ldAmt.1
theorem dstWo_amt : dstWo.view.dmaCredit = ldBytes := ldAmt.2
theorem off_wq : ∀ d, k0_off1 d = ![0, 512 * d.val] := by decide +kernel
theorem off_wo : ∀ d, k0_off2 d = ![512 * d.val, 0] := by decide +kernel

theorem wholeWq (c : Dev nD) (fd : S768x512.Idx → F .f32) : (ptw c cc0_scratch0 fd : sProp 𝕄) = (dstWq.view.loc (c : Thread nD τ) ↦[dstWq.view.set]{fullShare} fd : sProp 𝕄) := by
  show _ = ((View.whole cc0_scratch0).loc (c : Thread nD τ) ↦[(View.whole cc0_scratch0).set]{fullShare} fd : sProp 𝕄)
  rw [View.set_whole]
theorem partWq (c : Dev nD) (inb) : (pt c main_arg1 (wqSet c) fullShare (A.wq c) : sProp 𝕄)
    = ((srcWq ![0, 512 * c.val] inb).view.loc (c : Thread nD τ) ↦[(srcWq ![0, 512 * c.val] inb).view.set]{fullShare} (A.wq c) : sProp 𝕄) :=
  pt_sub c main_arg1 ![0, 512 * c.val] S768x512.size inb fullShare (A.wq c)
theorem loadedWq (c : Dev nD) (inb) (fd : S768x512.Idx → F .f32) :
    (iprop((dstWq.view.loc (c : Thread nD τ) ↦[dstWq.view.set]{fullShare} (dstWq.view.write (Elt F) fd ((srcWq ![0, 512 * c.val] inb).view.read (Elt F) (A.wq c)) Finset.univ))
      ∗ ((srcWq ![0, 512 * c.val] inb).view.loc (c : Thread nD τ) ↦[(srcWq ![0, 512 * c.val] inb).view.set]{fullShare} (A.wq c))) : sProp 𝕄) ⊢ Loaded (vals A) 0 c := by
  refine BI.sep_mono ?_ (Entails.of_eq (partWq A c inb).symm)
  rw [show dstWq.view.write (Elt F) fd ((srcWq ![0, 512 * c.val] inb).view.read (Elt F) (A.wq c)) Finset.univ = vWq A c from View.write_whole_univ (Val := Elt F) cc0_scratch0 fd (vWq A c)]
  exact Entails.of_eq (wholeWq c _).symm

/-- The load of the query weights starts. -/
theorem ld0 {α : Type} (c : Dev nD) {off : Fin 2 → ℕ} (ho : off = ![0, 512 * c.val]) {inb : ∀ a, off a + S768x512.size a ≤ S768x8192.size a}
    {sem : SemLoc sig} (hs : sem = csem (.ld 0)) {fd : S768x512.Idx → F .f32} {hsrcw : (srcWq off inb).view.WordExact} {hdstw : dstWq.view.WordExact} {hsem : DmaTarget.Typed .hbm sem (DmaTarget.here (nD := nD) (τ := τ) (p := .tc) dstWq)}
    {kk : PUnit → Prog (TpuEff nD τ sig (Elt F) Λ₀ .tc) α} {Q : α → sProp 𝕄} :
    iprop(Env (vals A) K ∗ pt c main_arg1 (wqSet c) fullShare (A.wq c) ∗ ptw c cc0_scratch0 fd ∗ dutyTok ER (gc c (.ld 0)) 0 (false, 0))
      ⊢ iprop((cred (tallyAt (gc c (.ld 0)) () ldBytes) -∗ run c (kk ⟨⟩) Q)
          -∗ run c (.op (.enqueueDma (srcWq off inb) (.here dstWq) sem hsrcw hdstw hsem) kk) Q) := by
  subst ho
  refine (sep_mono_right (BI.sep_mono (Entails.of_eq (partWq A c inb)) (sep_mono_left (Entails.of_eq (wholeWq c fd))))).trans ?_
  exact ld_core A K 0 (src := srcWq ![0, 512 * c.val] inb) (dst := dstWq) (fs := A.wq c) (fd := fd) (hsem := hsem) hs dstWq_amt (loadedWq A c inb fd)

theorem wholeWo (c : Dev nD) (fd : S512x768.Idx → F .f32) : (ptw c cc0_scratch1 fd : sProp 𝕄) = (dstWo.view.loc (c : Thread nD τ) ↦[dstWo.view.set]{fullShare} fd : sProp 𝕄) := by
  show _ = ((View.whole cc0_scratch1).loc (c : Thread nD τ) ↦[(View.whole cc0_scratch1).set]{fullShare} fd : sProp 𝕄)
  rw [View.set_whole]
theorem partWo (c : Dev nD) (inb) : (pt c main_arg4 (woSet c) fullShare (A.wo c) : sProp 𝕄)
    = ((srcWo ![512 * c.val, 0] inb).view.loc (c : Thread nD τ) ↦[(srcWo ![512 * c.val, 0] inb).view.set]{fullShare} (A.wo c) : sProp 𝕄) :=
  pt_sub c main_arg4 ![512 * c.val, 0] S512x768.size inb fullShare (A.wo c)
theorem loadedWo (c : Dev nD) (inb) (fd : S512x768.Idx → F .f32) :
    (iprop((dstWo.view.loc (c : Thread nD τ) ↦[dstWo.view.set]{fullShare} (dstWo.view.write (Elt F) fd ((srcWo ![512 * c.val, 0] inb).view.read (Elt F) (A.wo c)) Finset.univ))
      ∗ ((srcWo ![512 * c.val, 0] inb).view.loc (c : Thread nD τ) ↦[(srcWo ![512 * c.val, 0] inb).view.set]{fullShare} (A.wo c))) : sProp 𝕄) ⊢ Loaded (vals A) 1 c := by
  refine BI.sep_mono ?_ (Entails.of_eq (partWo A c inb).symm)
  rw [show dstWo.view.write (Elt F) fd ((srcWo ![512 * c.val, 0] inb).view.read (Elt F) (A.wo c)) Finset.univ = vWo A c from View.write_whole_univ (Val := Elt F) cc0_scratch1 fd (vWo A c)]
  exact Entails.of_eq (wholeWo c _).symm

/-- The load of the output weights starts. -/
theorem ld1 {α : Type} (c : Dev nD) {off : Fin 2 → ℕ} (ho : off = ![512 * c.val, 0]) {inb : ∀ a, off a + S512x768.size a ≤ S8192x768.size a}
    {sem : SemLoc sig} (hs : sem = csem (.ld 1)) {fd : S512x768.Idx → F .f32} {hsrcw : (srcWo off inb).view.WordExact} {hdstw : dstWo.view.WordExact} {hsem : DmaTarget.Typed .hbm sem (DmaTarget.here (nD := nD) (τ := τ) (p := .tc) dstWo)}
    {kk : PUnit → Prog (TpuEff nD τ sig (Elt F) Λ₀ .tc) α} {Q : α → sProp 𝕄} :
    iprop(Env (vals A) K ∗ pt c main_arg4 (woSet c) fullShare (A.wo c) ∗ ptw c cc0_scratch1 fd ∗ dutyTok ER (gc c (.ld 1)) 0 (false, 0))
      ⊢ iprop((cred (tallyAt (gc c (.ld 1)) () ldBytes) -∗ run c (kk ⟨⟩) Q)
          -∗ run c (.op (.enqueueDma (srcWo off inb) (.here dstWo) sem hsrcw hdstw hsem) kk) Q) := by
  subst ho
  refine (sep_mono_right (BI.sep_mono (Entails.of_eq (partWo A c inb)) (sep_mono_left (Entails.of_eq (wholeWo c fd))))).trans ?_
  exact ld_core A K 1 (src := srcWo ![512 * c.val, 0] inb) (dst := dstWo) (fs := A.wo c) (fd := fd) (hsem := hsem) hs dstWo_amt (loadedWo A c inb fd)

/-- The wait for a load of weights. -/
theorem ld_wait {α : Type} (c : Dev nD) (i : Fin 2) {sm : DmaSem sig} (hsm : .dma sm = csem (.ld i)) {n : ℕ} (hn : n = 72 ∨ InOrder (.ld i) n)
    {s s' : Shape} {sp sp' : Space} {e e' : EltTy} {src : Memref sig .tc sp' s' e'} {dst : Memref sig .tc sp s e}
    (hamt : dst.view.dmaCredit = ldBytes) {hsrcw : src.view.WordExact} {hdstw : dst.view.WordExact}
    {kk : PUnit → Prog (TpuEff nD τ sig (Elt F) Λ₀ .tc) α} {Q : α → sProp 𝕄} :
    iprop(Env (vals A) K ∗ cred (tallyAt (gc c (.ld i)) () ldBytes) ∗ atPos ER (gc c (.ld i)) 0 ∅ 0 ∗ Owed c n)
      ⊢ iprop(((atPos ER (gc c (.ld i)) 0 (dset (.ld i) c) ldBytes ∗ Loaded (vals A) i c ∗ Owed c n) -∗ run c (kk ⟨⟩) Q)
          -∗ run c (.op (.waitDma2 sm src dst hsrcw hdstw) kk) Q) := by
  have hw' : ∀ (g : SemLoc sig) (N : ℕ), SemLoc.dma sm = g → dst.view.dmaCredit = N → ∀ K' : PUnit → sProp 𝕄,
      wpE (defs₀ (F := F)) 𝒱₀ (c : Thread nD τ) none Set.univ (.waitDma2 sm src dst hsrcw hdstw) K'
        = waitSpec (c : Thread nD τ) Set.univ g N K' := by
    rintro _ _ rfl rfl K'; exact wpE_waitDma2_eq 𝒱₀ (c : Thread nD τ) none Set.univ K'
  have h := wait_full A K (c := c) (x := .ld i) (n := n) (N := ldBytes) (by rw [show dset (.ld i) c = {(false, 0)} from rfl, Finset.card_singleton, Nat.one_mul]; rfl)
    (show 0 < ldBytes by decide) hn (hw' _ _ hsm hamt) (kk := kk) (Q := Q)
  refine h.trans ?_
  iintro Hk Hj
  iapply Hk
  iintro ⟨Hat, Hp, HO⟩
  iapply Hj
  isplitl [Hat]; · iexact Hat
  isplitl [Hp]
  · iapply (Entails.of_eq (show bigSep (dset (.ld i) c) (fun d => pay (vals A) (.ld i) c d) = Loaded (vals A) i c from bigSep_singleton))
    iexact Hp
  iexact HO

/-! ## The parts -/

/-- A device asks for its own number. -/
theorem dev_id {α : Type} {c : Dev nD} {k : Dev nD → Prog (TpuEff nD τ sig (Elt F) Λ₀ .tc) α} {Q : α → sProp 𝕄} :
    run c (k c) Q ⊢ run c (.op .deviceId k) Q := by
  unfold run
  rw [wp_deviceId]

/-- The row index and the column index of a device, as the kernel computes them. -/
theorem word_z : ∀ d : Dev nD, zw d = Scalar.select
        (Scalar.andi
          (Scalar.cmpi .ne
            (Scalar.subi
              (Scalar.extui (Scalar.cmpi .sgt (Scalar.remsi (Scalar.divsi (Dev.word d) 1#32) 16#32) 0#32))
              (Scalar.extui (Scalar.cmpi .slt (Scalar.remsi (Scalar.divsi (Dev.word d) 1#32) 16#32) 0#32)))
            (Scalar.subi (Scalar.extui (Scalar.cmpi .sgt 4#32 0#32)) (Scalar.extui (Scalar.cmpi .slt 4#32 0#32))))
          (Scalar.cmpi .ne (Scalar.remsi (Scalar.remsi (Scalar.divsi (Dev.word d) 1#32) 16#32) 4#32) 0#32))
        (Scalar.subi (Scalar.divsi (Scalar.remsi (Scalar.divsi (Dev.word d) 1#32) 16#32) 4#32) 1#32)
        (Scalar.divsi (Scalar.remsi (Scalar.divsi (Dev.word d) 1#32) 16#32) 4#32) := by decide +kernel
theorem word_p : ∀ d : Dev nD, pw d = Scalar.remsi (Scalar.remsi (Scalar.divsi (Dev.word d) 1#32) 16#32) 4#32 := by decide +kernel

/-- The two buffers for the row and the column are zeroed, and the load of the query weights starts. -/
theorem part1 (c : Dev nD) {f : S16x64x768.Idx → F .bf16} {g : S16x16x768.Idx → F .bf16} {fd : S768x512.Idx → F .f32} {Q : (Σ' (d0 : Dev nD) (v19 : BitVec 32), BitVec 32) → sProp 𝕄} :
    iprop(Env (vals A) K ∗ ptw c cc0_scratch6 f ∗ ptw c cc0_scratch7 g ∗ pt c main_arg1 (wqSet c) fullShare (A.wq c) ∗ ptw c cc0_scratch0 fd ∗ dutyTok ER (gc c (.ld 0)) 0 (false, 0))
      ⊢ iprop(((ptw c cc0_scratch6 (k0_pay1 (F := F)) ∗ ptw c cc0_scratch7 (k0_pay2 (F := F)) ∗ cred (tallyAt (gc c (.ld 0)) () ldBytes)) -∗ Q ⟨c, zw c, pw c⟩)
        -∗ run c (app (k0_part1_skel (F := F))) Q) := by
  rw [word_z, word_p]
  unfold app k0_part1_skel
  simp (config := { zeta := false }) only [Prog.lift, Prog.bind_op, Prog.bind_ret, Prog.pure_eq_ret]
  iintro ⟨#HE, HP, HZ, HA, HB, HT⟩ Hk
  iapply dev_id
  iapply (ld_any (cs := .vmem) (ix := 10) (hκ := rfl)) $$ HP
  iintro HP
  iapply (st_whole (cs := .vmem) (ix := 10) (hκ := rfl)) $$ HP
  iintro HP
  iapply (ld_any (cs := .vmem) (ix := 11) (hκ := rfl)) $$ HZ
  iintro HZ
  iapply (st_whole (cs := .vmem) (ix := 11) (hκ := rfl)) $$ HZ
  iintro HZ
  iapply (ld0 A K c (off_wq c) (sem := .dma 4) rfl) $$ [HA HB HT]
  · iframe HA HB HT; iexact HE
  iintro HL
  simp only [wp_ret]
  imodintro
  iapply Hk
  iframe

theorem word_one : (1#32 : BitVec 32).toInt = 1 := rfl
theorem word_six : (6#32 : BitVec 32).toInt = 6 := rfl
theorem bar_order : InOrder .bar 8 := by decide +kernel
theorem bar_all {c : Dev nD} : (dset .bar c).card * amt .bar = 6 := by rw [card_bar]; rfl
theorem bar_pos : 0 < amt .bar := Nat.one_pos

set_option maxHeartbeats 4000000 in
/-- The load of the output weights starts, and the neighbours of the row and of the column are told that their messages may come. -/
theorem part2 (c : Dev nD) {fd : S512x768.Idx → F .f32} {Q : PUnit → sProp 𝕄} :
    iprop(Env (vals A) K ∗ pt c main_arg4 (woSet c) fullShare (A.wo c) ∗ ptw c cc0_scratch1 fd ∗ dutyTok ER (gc c (.ld 1)) 0 (false, 0)
        ∗ Sig false 0 c ∗ Sig false 1 c ∗ Sig false 2 c ∗ Sig false 3 c ∗ Sig true 0 c ∗ Sig true 1 c ∗ Sig true 2 c ∗ Sig true 3 c
        ∗ cred (tallyAt (gc c .bar) () 6) ∗ atPos ER (gc c .bar) 0 ∅ 0 ∗ Owed c 0)
      ⊢ iprop(((cred (tallyAt (gc c (.ld 1)) () ldBytes) ∗ atPos ER (gc c .bar) 0 (dset .bar c) 6 ∗ bigSep (dset .bar c) (fun d => pay (vals A) .bar c d) ∗ Owed c 8) -∗ Q ⟨⟩)
        -∗ run c (app (k0_part2_skel (F := F)) c (zw c) (pw c)) Q) := by
  unfold app k0_part2_skel
  simp (config := { zeta := false }) only [Prog.lift, Prog.bind_op, Prog.bind_ret, Prog.pure_eq_ret, semSignalWord, semWaitWord, word_one, word_six]
  iintro ⟨#HE, HA, HB, HT, H0, H1, H2, H3, H4, H5, H6, H7, HC, HP, HO⟩ Hk
  iapply (ld1 A K c (off_wo c) (sem := .dma 5) rfl) $$ [HA HB HT]
  · iframe HA HB HT; iexact HE
  iintro HL
  iapply cnd
  iapply (signal_if A K c (n := 0) rfl sig_false.1 rfl) $$ [H0 HO]
  · iframe H0 HO; iexact HE
  iintro HO
  iapply cnd
  iapply (signal_if A K c (n := 1) rfl sig_false.2.1 rfl) $$ [H1 HO]
  · iframe H1 HO; iexact HE
  iintro HO
  iapply cnd
  iapply (signal_if A K c (n := 2) rfl sig_false.2.2.1 rfl) $$ [H2 HO]
  · iframe H2 HO; iexact HE
  iintro HO
  iapply cnd
  iapply (signal_if A K c (n := 3) rfl sig_false.2.2.2 rfl) $$ [H3 HO]
  · iframe H3 HO; iexact HE
  iintro HO
  iapply cnd
  iapply (signal_if A K c (n := 4) rfl sig_true.1 rfl) $$ [H4 HO]
  · iframe H4 HO; iexact HE
  iintro HO
  iapply cnd
  iapply (signal_if A K c (n := 5) rfl sig_true.2.1 rfl) $$ [H5 HO]
  · iframe H5 HO; iexact HE
  iintro HO
  iapply cnd
  iapply (signal_if A K c (n := 6) rfl sig_true.2.2.1 rfl) $$ [H6 HO]
  · iframe H6 HO; iexact HE
  iintro HO
  iapply cnd
  iapply (signal_if A K c (n := 7) rfl sig_true.2.2.2 rfl) $$ [H7 HO]
  · iframe H7 HO; iexact HE
  iintro HO
  iapply (wait_full A K (c := c) (x := .bar) (n := 8) (N := 6) bar_all bar_pos (Or.inr bar_order) (fun K' => wpE_semWait_eq 𝒱₀ (c : Thread nD τ) none Set.univ K')) $$ [HC HP HO]
  · iframe HC HP HO; iexact HE
  iintro ⟨HP, Hp, HO⟩
  simp only [wp_ret]
  imodintro
  iapply Hk
  iframe

theorem ld_order : InOrder (.ld 0) 8 ∧ InOrder (.ld 1) 8 := by decide +kernel

/-- The weights are there; the queries are computed, and the keys of the first batch. -/
theorem part3 (c : Dev nD) {f : S2x512x512.Idx → F .bf16} {g : S512x512.Idx → F .bf16} {Q : (Σ' (v87 : IVec S512x512 1), FVec F S512x1 .bf16) → sProp 𝕄} :
    iprop(Env (vals A) K ∗ cred (tallyAt (gc c (.ld 0)) () ldBytes) ∗ atPos ER (gc c (.ld 0)) 0 ∅ 0 ∗ cred (tallyAt (gc c (.ld 1)) () ldBytes) ∗ atPos ER (gc c (.ld 1)) 0 ∅ 0
        ∗ Owed c 8 ∗ ptw c cc0_stg0_0 (A.x c) ∗ ptw c cc0_stg1_0 (A.k c) ∗ ptw c cc0_scratch2 f ∗ ptw c cc0_scratch8 g)
      ⊢ iprop(((atPos ER (gc c (.ld 0)) 0 (dset (.ld 0) c) ldBytes ∗ atPos ER (gc c (.ld 1)) 0 (dset (.ld 1) c) ldBytes
          ∗ pt c main_arg1 (wqSet c) fullShare (A.wq c) ∗ pt c main_arg4 (woSet c) fullShare (A.wo c) ∗ ptw c cc0_scratch0 (vWq A c) ∗ ptw c cc0_scratch1 (vWo A c)
          ∗ Owed c 8 ∗ ptw c cc0_stg0_0 (A.x c) ∗ ptw c cc0_stg1_0 (A.k c) ∗ ptw c cc0_scratch2 (vQ A c) ∗ ptw c cc0_scratch8 (vKt A c 0)) -∗ Q ⟨k0_pay4, k0_pay5 (F := F)⟩)
        -∗ run c (app (k0_part3_skel (F := F)) c) Q) := by
  unfold app k0_part3_skel
  simp (config := { zeta := false }) only [Prog.lift, Prog.bind_op, Prog.bind_ret, Prog.pure_eq_ret]
  iintro ⟨#HE, C0, P0, C1, P1, HO, HX, HKst, HQ, HK⟩ Hk
  iapply (ld_wait A K c 0 (sm := 4) rfl (n := 8) (Or.inr ld_order.1) (dst := dstWq) dstWq_amt) $$ [C0 P0 HO]
  · iframe C0 P0 HO; iexact HE
  iintro ⟨P0, L0, HO⟩
  iapply (ld_wait A K c 1 (sm := 5) rfl (n := 8) (Or.inr ld_order.2) (dst := dstWo) dstWo_amt) $$ [C1 P1 HO]
  · iframe C1 P1 HO; iexact HE
  iintro ⟨P1, L1, HO⟩
  unfold Loaded
  icases L0 with ⟨W0, A0⟩
  icases L1 with ⟨W1, A1⟩
  iapply (wp_ld (cs := .vmem) (ix := 0) (hκ := rfl) rfl inb_S2x512x768_S2x512x768_0_0_0 (Finset.subset_univ _)) $$ HX
  iintro HX
  iapply (wp_ld (cs := .vmem) (ix := 4) (hκ := rfl) rfl inb_S768x512_S768x512_0_0 (Finset.subset_univ _)) $$ W0
  iintro W0
  iapply (ld_any (cs := .vmem) (ix := 6) (hκ := rfl)) $$ HQ
  iintro HQ
  iapply (st_whole (cs := .vmem) (ix := 6) (hκ := rfl)) $$ HQ
  iintro HQ
  iapply (wp_ld (cs := .vmem) (ix := 1) (hκ := rfl) rfl inb_S2x512x8x64_S1x512x8x64_0_0_0_0 (Finset.subset_univ _)) $$ HKst
  iintro HKst
  iapply (ld_any (cs := .vmem) (ix := 12) (hκ := rfl)) $$ HK
  iintro HK
  iapply (st_whole (cs := .vmem) (ix := 12) (hκ := rfl)) $$ HK
  iintro HK
  simp only [wp_ret]
  imodintro
  iapply Hk
  isplitl [P0]; · iexact P0
  isplitl [P1]; · iexact P1
  isplitl [A0]; · iexact A0
  isplitl [A1]; · iexact A1
  isplitl [W0]; · iexact W0
  isplitl [W1]; · iexact W1
  isplitl [HO]; · iexact HO
  isplitl [HX]; · iexact HX
  isplitl [HKst]; · iexact HKst
  isplitl [HQ]; · iexact HQ
  iexact HK

end Cert.Attn
-- ==== Proof.Turn.lean ====
module

public import proofs.«01_k».proof.Proof.Start

/-!
# Between the parts: what a device hands to its neighbours at the start, and what it hears from them
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

/-! ## Four at a time -/

omit [FloatOps F] in
theorem other_mono {k : Fin 4} {c : Dev nD} {j : Fin 4} {P R : sProp 𝕄} (h : j ≠ own k c → P ⊢ R) : other k c j P ⊢ other k c j R := by
  by_cases hj : j = own k c
  · rw [other_own hj, other_own hj]
  · rw [other_ne hj, other_ne hj]; exact h hj

omit [FloatOps F] in
theorem other_sep (k : Fin 4) (c : Dev nD) (j : Fin 4) (P R : sProp 𝕄) : other k c j (iprop(P ∗ R)) = iprop(other k c j P ∗ other k c j R) := by
  by_cases hj : j = own k c
  · rw [other_own hj, other_own hj, other_own hj]; exact (BI.equiv_iff.mp sep_emp).symm
  · rw [other_ne hj, other_ne hj, other_ne hj]

omit [FloatOps F] in
theorem four_congr {Φ Ψ : Fin 4 → sProp 𝕄} (h : ∀ j, Φ j = Ψ j) : all4 Φ = all4 Ψ := congrArg all4 (funext h)

omit [FloatOps F] in
theorem four_swap (Φ : Fin 4 → Fin 4 → sProp 𝕄) : (all4 fun r => all4 fun j => Φ r j) = all4 fun j => all4 fun r => Φ r j := by
  rw [← four_bigSep, ← four_bigSep]
  rw [bigSep_congr (fun r _ => (four_bigSep (Φ r)).symm), bigSep_congr (fun j _ => (four_bigSep (fun r => Φ r j)).symm)]
  exact bigSep_univ_comm _

omit [FloatOps F] in
theorem other_four (k : Fin 4) (c : Dev nD) (j : Fin 4) (Φ : Fin 4 → sProp 𝕄) : other k c j (all4 Φ) = all4 fun r => other k c j (Φ r) := by
  unfold all4; rw [other_sep, other_sep, other_sep]

/-- Of four times four, those of one's own index, and those of the others. -/
theorem four_part (k : Fin 4) (c : Dev nD) (Φ : Fin 4 → Fin 4 → sProp 𝕄) :
    (all4 fun r => all4 fun j => Φ r j) = iprop((all4 fun r => Φ r (own k c)) ∗ all4 fun j => other k c j (all4 fun r => Φ r j)) := by
  rw [four_swap, four_own k c]

/-! ## What is handed out -/

theorem cut_pb (c : Dev nD) : ptw c cc0_scratch6 (k0_pay1 (F := F)) ⊢ (iprop((all4 fun r => PS A c r) ∗ all4 fun j => other 0 c j (all4 fun r => Place 0 r (peer 0 c j) c)) : sProp 𝕄) := by
  rw [pb_rounds, four_congr (fun r => pb_slots c r _), four_part 0 c]
  refine BI.sep_mono (four_mono fun r => ?_) (four_mono fun j => other_mono fun _ => four_mono fun r => ?_)
  · unfold PS
    rw [own0]
    refine Entails.of_eq (pt_congr fun i hi => ?_)
    obtain ⟨x, rfl⟩ := exists_emb (inb_pb r (pOf c)) hi
    rw [vPb_emb]; unfold vPbBlk; rw [if_pos rfl]; rfl
  · show _ ⊢ (iprop(∃ f, pt c cc0_scratch6 (pslot r (pOf (peer 0 c j))) fullShare f) : sProp 𝕄)
    rw [pOf_peer0]
    iintro H; iexists _; iexact H

theorem cut_zb (c : Dev nD) : ptw c cc0_scratch7 (k0_pay2 (F := F)) ⊢ (iprop((all4 fun r => ZS A c r) ∗ all4 fun j => other 1 c j (all4 fun r => Place 1 r (peer 1 c j) c)) : sProp 𝕄) := by
  rw [zb_rounds, four_congr (fun r => zb_slots c r _), four_part 1 c]
  refine BI.sep_mono (four_mono fun r => ?_) (four_mono fun j => other_mono fun _ => four_mono fun r => ?_)
  · unfold ZS
    rw [own1]
    refine Entails.of_eq (pt_congr fun i hi => ?_)
    obtain ⟨x, rfl⟩ := exists_emb (inb_zb r (zOf c)) hi
    rw [vZb_emb]; unfold vZbBlk; rw [if_pos rfl]; rfl
  · show _ ⊢ (iprop(∃ f, pt c cc0_scratch7 (zslot r (zOf (peer 1 c j))) fullShare f) : sProp 𝕄)
    rw [zOf_peer1]
    iintro H; iexists _; iexact H

theorem pOf_peer1 : ∀ (c : Dev nD) j, pOf (peer 1 c j) = pOf c := by decide

theorem cut_out (c : Dev nD) (f : S2x512x768.Idx → F .bf16) : ptw c cc0_stg3_0 f
    ⊢ (iprop((all4 fun r => OutB c r) ∗ (all4 fun j => other 1 c j (all4 fun r => Place 2 r (peer 1 c j) c)) ∗ all4 fun j => other 0 c j (all4 fun r => Place 3 r (peer 0 c j) c)) : sProp 𝕄) := by
  rw [out_slabs, four_part 0 c, own0, four_congr (fun r => slab_rows c r (pOf c) _ _), four_part 1 c, own1]
  have h : (iprop(((all4 fun r => pt c cc0_stg3_0 (rows r (pOf c) (zOf c)) fullShare f) ∗ all4 fun j => other 1 c j (all4 fun r => pt c cc0_stg3_0 (rows r (pOf c) j) fullShare f))
      ∗ all4 fun j => other 0 c j (all4 fun r => pt c cc0_stg3_0 (slab r j) fullShare f)) : sProp 𝕄)
      ⊢ iprop(((all4 fun r => OutB c r) ∗ (all4 fun j => other 1 c j (all4 fun r => Place 2 r (peer 1 c j) c))) ∗ all4 fun j => other 0 c j (all4 fun r => Place 3 r (peer 0 c j) c)) := by
   refine BI.sep_mono (BI.sep_mono (four_mono fun r => ?_) (four_mono fun j => other_mono fun _ => four_mono fun r => ?_)) (four_mono fun j => other_mono fun _ => four_mono fun r => ?_)
   · unfold OutB; iintro H; iexists _; iexact H
   · show _ ⊢ (iprop(∃ f, pt c cc0_stg3_0 (rows r (pOf (peer 1 c j)) (zOf (peer 1 c j))) fullShare f) : sProp 𝕄)
     rw [pOf_peer1, zOf_peer1]
     iintro H; iexists _; iexact H
   · show _ ⊢ (iprop(∃ f, pt c cc0_stg3_0 (slab r (pOf (peer 0 c j))) fullShare f) : sProp 𝕄)
     rw [pOf_peer0]
     iintro H; iexists _; iexact H
  refine h.trans ?_
  iintro ⟨⟨H0, H1⟩, H2⟩; iframe H0 H1 H2

/-- The signals of one direction can be given. -/
theorem sig_intro (b : Bool) (c : Dev nD) :
    (iprop((all4 fun j => other (barKind b) c j (dutyTok ER (gc (peer (barKind b) c j) .bar) 0 (b, own (barKind b) c)))
      ∗ (all4 fun j => other (barKind b) c j (all4 fun r => Place (barKind b) r (peer (barKind b) c j) c))
      ∗ (all4 fun j => other (barKind b) c j (all4 fun r => Place (barKind' b) r (peer (barKind b) c j) c))) : sProp 𝕄) ⊢ all4 fun j => Sig (F := F) b j c := by
  rw [← four_sep, ← four_sep]
  refine four_mono fun j => ?_
  rw [← other_sep, ← other_sep]
  unfold Sig Places
  refine other_mono fun _ => ?_
  rw [four_bigSep, four_sep]

/-- What a device does before it tells its neighbours that their messages may come. -/
theorem tell (c : Dev nD) (f : S2x512x768.Idx → F .bf16) :
    (iprop(ptw c cc0_scratch6 (k0_pay1 (F := F)) ∗ ptw c cc0_scratch7 (k0_pay2 (F := F)) ∗ ptw c cc0_stg3_0 f
      ∗ (all4 fun j => other 0 c j (dutyTok ER (gc (peer 0 c j) .bar) 0 (false, own 0 c)))
      ∗ (all4 fun j => other 1 c j (dutyTok ER (gc (peer 1 c j) .bar) 0 (true, own 1 c)))) : sProp 𝕄)
    ⊢ iprop((all4 fun r => PS A c r) ∗ (all4 fun r => ZS A c r) ∗ (all4 fun r => OutB c r) ∗ (all4 fun j => Sig (F := F) false j c) ∗ all4 fun j => Sig (F := F) true j c) := by
  iintro ⟨HP, HZ, HO, HT, HU⟩
  ihave HP := (cut_pb A c) $$ HP
  ihave HZ := (cut_zb A c) $$ HZ
  ihave HO := (cut_out c f) $$ HO
  icases HP with ⟨HP, HP'⟩
  icases HZ with ⟨HZ, HZ'⟩
  icases HO with ⟨HO, HO1, HO0⟩
  isplitl [HP]; · iexact HP
  isplitl [HZ]; · iexact HZ
  isplitl [HO]; · iexact HO
  isplitl [HT HP' HO0]
  · iapply (sig_intro false c)
    isplitl [HT]; · iexact HT
    isplitl [HP']; · iexact HP'
    iexact HO0
  · iapply (sig_intro true c)
    isplitl [HU]; · iexact HU
    isplitl [HZ']; · iexact HZ'
    iexact HO1

/-! ## What is heard -/

theorem bar_split (c : Dev nD) (Φ : Bool → Fin 4 → sProp 𝕄) :
    bigSep (dset .bar c) (fun d => Φ d.1 d.2) = iprop((all4 fun j => other 0 c j (Φ false j)) ∗ all4 fun j => other 1 c j (Φ true j)) := by
  show bigSep (Finset.univ.filter fun d : Duty => d.2 ≠ own (barKind d.1) c) (fun d => Φ d.1 d.2) = _
  rw [bigSep_filter, bigSep_univ_prod, bigSep_univ_eq_bigSepL [false, true] (by decide) (by decide)]
  have e : ∀ b : Bool, bigSep Finset.univ (fun j : Fin 4 => if j ≠ own (barKind b) c then Φ b j else iprop(emp)) = all4 fun j => other (barKind b) c j (Φ b j) := by
    intro b
    rw [four_bigSep]
    refine four_congr fun j => ?_
    by_cases hj : j = own (barKind b) c
    · rw [other_own hj, if_neg (not_not_intro hj)]
    · rw [other_ne hj, if_pos hj]
  show iprop(bigSep Finset.univ (fun j : Fin 4 => if j ≠ own (barKind false) c then Φ false j else iprop(emp))
    ∗ bigSep Finset.univ (fun j : Fin 4 => if j ≠ own (barKind true) c then Φ true j else iprop(emp))) = _
  rw [e false, e true]
  rfl

/-- The places that the others of a row or a column have made free. -/
theorem places_split (b : Bool) (c : Dev nD) :
    (all4 fun j => other (barKind b) c j (Places b c (peer (barKind b) c j)) : sProp 𝕄)
      = iprop((all4 fun r => all4 fun j => other (barKind b) c j (Place (barKind b) r c (peer (barKind b) c j)))
        ∗ all4 fun r => all4 fun j => other (barKind b) c j (Place (barKind' b) r c (peer (barKind b) c j))) := by
  rw [four_swap (fun r j => other (barKind b) c j (Place (barKind b) r c (peer (barKind b) c j))),
    four_swap (fun r j => other (barKind b) c j (Place (barKind' b) r c (peer (barKind b) c j))), ← four_sep]
  refine four_congr fun j => ?_
  unfold Places
  rw [four_bigSep, four_sep, other_sep, other_four, other_four]

/-- What the barrier hands over: the places where a device may write. -/
theorem heard (c : Dev nD) : bigSep (dset .bar c) (fun d => pay (vals A) .bar c d)
    ⊢ (all4 fun k => all4 fun r => all4 fun j => other k c j (Place k r c (peer k c j)) : sProp 𝕄) := by
  have h := bar_split (F := F) c (fun b j => Places b c (peer (barKind b) c j))
  rw [show (all4 fun j => other 0 c j (Places false c (peer (barKind false) c j)) : sProp 𝕄) = _ from places_split false c,
    show (all4 fun j => other 1 c j (Places true c (peer (barKind true) c j)) : sProp 𝕄) = _ from places_split true c] at h
  refine (Entails.of_eq h).trans ?_
  rw [all4_eq (fun k => all4 fun r => all4 fun j => other k c j (Place k r c (peer k c j)))]
  iintro ⟨⟨H0, H3⟩, ⟨H1, H2⟩⟩
  isplitl [H0]; · iexact H0
  isplitl [H1]; · iexact H1
  isplitl [H2]; · iexact H2
  iexact H3

/-- The messages of a round can be sent. -/
theorem out_start (k r : Fin 4) (c : Dev nD) :
    (iprop(atPos ER (gc c (.snd k r)) 0 ∅ 0 ∗ (all4 fun j => other k c j (Toks k r j c)) ∗ all4 fun j => other k c j (Place k r c (peer k c j))) : sProp 𝕄) ⊢ Out A k r 0 c := by
  unfold Out
  rw [← four_sep]
  iintro ⟨Ha, Ht⟩
  isplitl [Ha]; · iapply (waited_zero (vals A) (card_snd k r c)); iexact Ha
  isplitr; · show ⊢ iprop(emp); iempintro
  iapply (four_tail (fun j => Ready k r j c))
  iapply (four_mono (fun j => ?_)) $$ Ht
  unfold Ready
  rw [other_sep]

/-- The messages of a round can be waited for. -/
theorem rcv_start (k r : Fin 4) (c : Dev nD) :
    (iprop(atPos ER (gc c (.rcv k r)) 0 ∅ 0 ∗ all4 fun j => Cr k (.rcv k r) j c) : sProp 𝕄) ⊢ Rcv A k (.rcv k r) 0 c := by
  unfold Rcv
  iintro ⟨Ha, Ht⟩
  isplitl [Ha]; · iapply (waited_zero (vals A) (card_rcv k r c)); iexact Ha
  iapply (four_tail (fun j => Cr k (.rcv k r) j c)); iexact Ht

/-- What a device needs for the messages of kind `k`, round `r`. -/
def Msg (k r : Fin 4) (c : Dev nD) : sProp 𝕄 :=
  iprop(atPos ER (gc c (.snd k r)) 0 ∅ 0 ∗ (all4 fun j => other k c j (Toks k r j c)) ∗ atPos ER (gc c (.rcv k r)) 0 ∅ 0 ∗ all4 fun j => Cr k (.rcv k r) j c)

/-- After the barrier all messages can go their way. -/
theorem go (c : Dev nD) : iprop(bigSep (dset .bar c) (fun d => pay (vals A) .bar c d) ∗ all4 fun k => all4 fun r => Msg k r c)
    ⊢ all4 fun k => all4 fun r => iprop(Out A k r 0 c ∗ Rcv A k (.rcv k r) 0 c) := by
  suffices h : (iprop((all4 fun k => all4 fun r => all4 fun j => other k c j (Place k r c (peer k c j))) ∗ all4 fun k => all4 fun r => Msg k r c) : sProp 𝕄)
      ⊢ all4 fun k => all4 fun r => iprop(Out A k r 0 c ∗ Rcv A k (.rcv k r) 0 c) by
    iintro ⟨H1, H2⟩; iapply h; isplitl [H1]; · iapply (heard A c); iexact H1
    iexact H2
  rw [← four_sep]
  refine four_mono fun k => ?_
  rw [← four_sep]
  refine four_mono fun r => ?_
  unfold Msg
  iintro ⟨HP, Ha, Ht, Hb, Hc⟩
  isplitl [HP Ha Ht]
  · iapply (out_start A k r c); iframe Ha Ht HP
  · iapply (rcv_start A k r c); iframe Hb Hc

/-! ## The other buffers -/

theorem ctx_start (c : Dev nD) (f : S2x512x512.Idx → F .bf16) : ptw c cc0_scratch3 f ⊢ Ctx A c 0 := by
  unfold Ctx
  iintro H; iexists f
  isplitr; · ipureintro; exact fun i h => absurd h (Nat.not_lt_zero _)
  iexact H

theorem acc_start (c : Dev nD) (f : S2x512x768.Idx → F .bf16) : ptw c cc0_scratch4 f ⊢ (iprop((all4 fun j => AccB c 0 j) ∗ all4 fun j => AccB c 1 j) : sProp 𝕄) := by
  have h : ∀ (b : Fin 2) (r r' : Fin 4), r.val = 2 * b.val → r'.val = 2 * b.val + 1 →
      (iprop((all4 fun j => pt c cc0_scratch4 (slab r j) fullShare f) ∗ all4 fun j => pt c cc0_scratch4 (slab r' j) fullShare f) : sProp 𝕄) ⊢ all4 fun j => AccB c b j := by
    intro b r r' hr hr'
    rw [← four_sep]
    refine four_mono fun j => ?_
    unfold AccB
    rw [← acc_block c b j r r' hr hr' f]
    iintro H; iexists f; iexact H
  rw [acc_slabs, all4_eq]
  iintro ⟨H0, H1, H2, H3⟩
  isplitl [H0 H1]
  · iapply (h 0 0 1 rfl rfl); iframe H0 H1
  · iapply (h 1 2 3 rfl rfl); iframe H2 H3

theorem cg_start (c : Dev nD) (f : S4x64x768.Idx → F .bf16) : ptw c cc0_scratch5 f ⊢ (all4 fun r => CgB c r : sProp 𝕄) := by
  rw [cg_slots]
  refine four_mono fun r => ?_
  unfold CgB
  iintro H; iexists f; iexact H

end Cert.Attn
-- ==== Proof.PartsA.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The values of the first batch and its first head. -/
theorem part4 (c : Dev nD) (g : S512x512.Idx → F .bf16) {Q : (FVec F S512x512 .f32) → sProp 𝕄} :
    iprop(Env (vals A) K ∗ ptw c cc0_stg2_0 (A.v c) ∗ ptw c cc0_scratch9 g ∗ ptw c cc0_scratch2 (vQ A c) ∗ ptw c cc0_scratch8 (vKt A c 0) ∗ Ctx A c 0)
      ⊢ iprop(((ptw c cc0_stg2_0 (A.v c) ∗ ptw c cc0_scratch9 (vVp A c 0) ∗ ptw c cc0_scratch2 (vQ A c) ∗ ptw c cc0_scratch8 (vKt A c 0) ∗ Ctx A c 1) -∗ Q (k0_pay9 k0_pay4 (rQ A c 0 1) (rK A c 0 1)))
        -∗ run c (app (k0_part4_skel (F := F)) k0_pay4 (k0_pay5 (F := F))) Q) := by
  unfold app k0_part4_skel
  simp (config := { zeta := false }) only [Prog.lift, Prog.bind_op, Prog.bind_ret, Prog.pure_eq_ret]
  iintro ⟨#HE, HVst, HV, HQ, HK, HC⟩ Hk
  iapply (wp_ld (cs := .vmem) (ix := 2) (hκ := rfl) rfl (inb_kv 0) (Finset.subset_univ _)) $$ HVst
  iintro HVst
  iapply (ld_any (cs := .vmem) (ix := 13) (hκ := rfl)) $$ HV
  iintro HV
  iapply (st_whole (cs := .vmem) (ix := 13) (hκ := rfl) (w := vVp A c 0)) $$ HV
  iintro HV
  iapply (ld_q A c 0 0 rfl) $$ HQ
  iintro HQ
  iapply (ld_k A c 0 0 rfl) $$ HK
  iintro HK
  iapply (ld_v A c 0 0 rfl) $$ HV
  iintro HV
  iapply (ld_ctx A c 0) $$ HC
  iintro HC
  iapply (st_head A c 0 0 (m := 0) (m' := 1) rfl rfl rfl (vHead_eq A c 0 0)) $$ HC
  iintro HC
  iapply (ld_q A c 0 1 rfl) $$ HQ
  iintro HQ
  iapply (ld_k A c 0 1 rfl) $$ HK
  iintro HK
  simp only [wp_ret]
  imodintro
  iapply Hk
  iframe

/-- The heads 1 and 2 of the first batch. -/
theorem part5 (c : Dev nD)  {Q : (Σ' (v162 : FVec F S512x64 .bf16), Vec F S64x512 .bf16) → sProp 𝕄} :
    iprop(Env (vals A) K ∗ ptw c cc0_scratch9 (vVp A c 0) ∗ Ctx A c 1 ∗ ptw c cc0_scratch2 (vQ A c) ∗ ptw c cc0_scratch8 (vKt A c 0))
      ⊢ iprop(((ptw c cc0_scratch9 (vVp A c 0) ∗ Ctx A c 3 ∗ ptw c cc0_scratch2 (vQ A c) ∗ ptw c cc0_scratch8 (vKt A c 0)) -∗ Q ⟨k0_pay12 (rQ A c 0 3), rK A c 0 3⟩)
        -∗ run c (app (k0_part5_skel (F := F)) k0_pay4 (k0_pay5 (F := F)) (k0_pay9 k0_pay4 (rQ A c 0 1) (rK A c 0 1))) Q) := by
  unfold app k0_part5_skel
  simp (config := { zeta := false }) only [Prog.lift, Prog.bind_op, Prog.bind_ret, Prog.pure_eq_ret]
  iintro ⟨#HE, HV, HC, HQ, HK⟩ Hk
  iapply (ld_v A c 0 1 rfl) $$ HV
  iintro HV
  iapply (ld_ctx A c 1) $$ HC
  iintro HC
  iapply (st_head A c 0 1 (m := 1) (m' := 2) rfl rfl rfl ((pay9_10 _ _ _ _ _).trans (vHead_eq A c 0 1))) $$ HC
  iintro HC
  iapply (ld_q A c 0 2 rfl) $$ HQ
  iintro HQ
  iapply (ld_k A c 0 2 rfl) $$ HK
  iintro HK
  iapply (ld_v A c 0 2 rfl) $$ HV
  iintro HV
  iapply (ld_ctx A c 2) $$ HC
  iintro HC
  iapply (st_head A c 0 2 (m := 2) (m' := 3) rfl rfl rfl (via pay11_eq (vHead_eq A c 0 2))) $$ HC
  iintro HC
  iapply (ld_q A c 0 3 rfl) $$ HQ
  iintro HQ
  iapply (ld_k A c 0 3 rfl) $$ HK
  iintro HK
  simp only [wp_ret]
  imodintro
  iapply Hk
  iframe

/-- The heads 3 and 4 of the first batch. -/
theorem part6 (c : Dev nD)  {Q : (PUnit) → sProp 𝕄} :
    iprop(Env (vals A) K ∗ ptw c cc0_scratch9 (vVp A c 0) ∗ Ctx A c 3 ∗ ptw c cc0_scratch2 (vQ A c) ∗ ptw c cc0_scratch8 (vKt A c 0))
      ⊢ iprop(((ptw c cc0_scratch9 (vVp A c 0) ∗ Ctx A c 5 ∗ ptw c cc0_scratch2 (vQ A c) ∗ ptw c cc0_scratch8 (vKt A c 0)) -∗ Q ⟨⟩)
        -∗ run c (app (k0_part6_skel (F := F)) k0_pay4 (k0_pay5 (F := F)) (k0_pay12 (rQ A c 0 3)) (rK A c 0 3)) Q) := by
  unfold app k0_part6_skel
  simp (config := { zeta := false }) only [Prog.lift, Prog.bind_op, Prog.bind_ret, Prog.pure_eq_ret]
  iintro ⟨#HE, HV, HC, HQ, HK⟩ Hk
  iapply (ld_v A c 0 3 rfl) $$ HV
  iintro HV
  iapply (ld_ctx A c 3) $$ HC
  iintro HC
  iapply (st_head A c 0 3 (m := 3) (m' := 4) rfl rfl rfl ((pay12_13 _ _ _ _ _).trans (vHead_eq A c 0 3))) $$ HC
  iintro HC
  iapply (ld_q A c 0 4 rfl) $$ HQ
  iintro HQ
  iapply (ld_k A c 0 4 rfl) $$ HK
  iintro HK
  iapply (ld_v A c 0 4 rfl) $$ HV
  iintro HV
  iapply (ld_ctx A c 4) $$ HC
  iintro HC
  iapply (st_head A c 0 4 (m := 4) (m' := 5) rfl rfl rfl (via pay14_eq (vHead_eq A c 0 4))) $$ HC
  iintro HC
  simp only [wp_ret]
  imodintro
  iapply Hk
  iframe

/-- The head 5 of the first batch. -/
theorem part7 (c : Dev nD)  {Q : (FVec F S512x64 .bf16) → sProp 𝕄} :
    iprop(Env (vals A) K ∗ ptw c cc0_scratch2 (vQ A c) ∗ ptw c cc0_scratch8 (vKt A c 0) ∗ ptw c cc0_scratch9 (vVp A c 0) ∗ Ctx A c 5)
      ⊢ iprop(((ptw c cc0_scratch2 (vQ A c) ∗ ptw c cc0_scratch8 (vKt A c 0) ∗ ptw c cc0_scratch9 (vVp A c 0) ∗ Ctx A c 6) -∗ Q (k0_pay16 k0_pay4 k0_pay5 (rQ A c 0 6) (rK A c 0 6) (rV A c 0 6)))
        -∗ run c (app (k0_part7_skel (F := F)) k0_pay4 (k0_pay5 (F := F))) Q) := by
  unfold app k0_part7_skel
  simp (config := { zeta := false }) only [Prog.lift, Prog.bind_op, Prog.bind_ret, Prog.pure_eq_ret]
  iintro ⟨#HE, HQ, HK, HV, HC⟩ Hk
  iapply (ld_q A c 0 5 rfl) $$ HQ
  iintro HQ
  iapply (ld_k A c 0 5 rfl) $$ HK
  iintro HK
  iapply (ld_v A c 0 5 rfl) $$ HV
  iintro HV
  iapply (ld_ctx A c 5) $$ HC
  iintro HC
  iapply (st_head A c 0 5 (m := 5) (m' := 6) rfl rfl rfl (via pay15_eq (vHead_eq A c 0 5))) $$ HC
  iintro HC
  iapply (ld_q A c 0 6 rfl) $$ HQ
  iintro HQ
  iapply (ld_k A c 0 6 rfl) $$ HK
  iintro HK
  iapply (ld_v A c 0 6 rfl) $$ HV
  iintro HV
  simp only [wp_ret]
  imodintro
  iapply Hk
  iframe

/-- The heads 6 and 7 of the first batch, and the first block of the partial result. -/
theorem part8 (c : Dev nD)  {Q : (Σ' (v266 : BitVec 32), BitVec 32) → sProp 𝕄} :
    iprop(Env (vals A) K ∗ Ctx A c 6 ∗ ptw c cc0_scratch2 (vQ A c) ∗ ptw c cc0_scratch8 (vKt A c 0) ∗ ptw c cc0_scratch9 (vVp A c 0) ∗ ptw c cc0_scratch1 (vWo A c) ∗ AccB c 0 0)
      ⊢ iprop(((Ctx A c 8 ∗ ptw c cc0_scratch2 (vQ A c) ∗ ptw c cc0_scratch8 (vKt A c 0) ∗ ptw c cc0_scratch9 (vVp A c 0) ∗ ptw c cc0_scratch1 (vWo A c) ∗ Src (vals A) 0 0 0 c ∗ Src (vals A) 0 1 0 c) -∗ Q ⟨Scalar.extui (Scalar.cmpi .ne (pw c) 0#32), 0#32⟩)
        -∗ run c (app (k0_part8_skel (F := F)) (pw c) k0_pay4 (k0_pay5 (F := F)) (k0_pay16 k0_pay4 k0_pay5 (rQ A c 0 6) (rK A c 0 6) (rV A c 0 6))) Q) := by
  unfold app k0_part8_skel
  simp (config := { zeta := false }) only [Prog.lift, Prog.bind_op, Prog.bind_ret, Prog.pure_eq_ret]
  iintro ⟨#HE, HC, HQ, HK, HV, HW, A00⟩ Hk
  iapply (ld_ctx A c 6) $$ HC
  iintro HC
  iapply (st_head A c 0 6 (m := 6) (m' := 7) rfl rfl rfl ((pay16_17 _ _ _ _ _).trans (vHead_eq A c 0 6))) $$ HC
  iintro HC
  iapply (ld_q A c 0 7 rfl) $$ HQ
  iintro HQ
  iapply (ld_k A c 0 7 rfl) $$ HK
  iintro HK
  iapply (ld_v A c 0 7 rfl) $$ HV
  iintro HV
  iapply (ld_ctx A c 7) $$ HC
  iintro HC
  iapply (st_head A c 0 7 (m := 7) (m' := 8) rfl rfl rfl (via pay18_eq (vHead_eq A c 0 7))) $$ HC
  iintro HC
  iapply (acc_step A c 0 0 0 1 rfl rfl (m := 8) (by decide) rfl rfl rfl rfl) $$ [HC HW A00]
  · iframe HC HW A00
  iintro ⟨HC, HW, S000, S010⟩
  simp only [wp_ret]
  imodintro
  iapply Hk
  iframe

/-- The first two partial blocks leave for the neighbours of the row, and the next two blocks are computed. -/
theorem part9 (c : Dev nD) (w1 w2 : BitVec 32) {Q : (BitVec 1) → sProp 𝕄} :
    iprop(Env (vals A) K ∗ Out A 0 0 0 c ∗ Src (vals A) 0 0 0 c ∗ Owed c 8 ∗ Out A 0 1 0 c ∗ Src (vals A) 0 1 0 c ∗ Ctx A c 8 ∗ ptw c cc0_scratch1 (vWo A c) ∗ AccB c 0 1 ∗ AccB c 0 2)
      ⊢ iprop(((Out A 0 0 2 c ∗ Owed c 12 ∗ Out A 0 1 2 c ∗ Ctx A c 8 ∗ ptw c cc0_scratch1 (vWo A c) ∗ Src (vals A) 0 0 2 c ∗ Src (vals A) 0 1 2 c) -∗ Q (Scalar.cmpi .ne (pw c) 2#32))
        -∗ run c (app (k0_part9_skel (F := F)) c (zw c) (pw c) w1 w2) Q) := by
  unfold app k0_part9_skel
  simp (config := { zeta := false }) only [Prog.lift, Prog.bind_op, Prog.bind_ret, Prog.pure_eq_ret]
  iintro ⟨#HE, O00, S000, HO, O01, S010, HC, HW, A01, A02⟩ Hk
  iapply cnd
  iapply (send0 A K c 0 0 (n := 8) (m := 0) (m' := 1) rfl rfl rfl ok0_0.1 rfl rfl (fun _ => rfl)) $$ [O00 S000 HO]
  · iframe O00 S000 HO; iexact HE
  iintro ⟨O00, HO⟩
  iapply cnd
  iapply (send0 A K c 1 0 (n := 9) (m := 0) (m' := 1) rfl rfl rfl ok0_1.1 rfl rfl (fun _ => rfl)) $$ [O01 S010 HO]
  · iframe O01 S010 HO; iexact HE
  iintro ⟨O01, HO⟩
  iapply (acc_step A c 0 1 0 1 rfl rfl (m := 8) (by decide) rfl rfl rfl rfl) $$ [HC HW A01]
  · iframe HC HW A01
  iintro ⟨HC, HW, S001, S011⟩
  iapply cnd
  iapply (send0 A K c 0 1 (n := 10) (m := 1) (m' := 2) rfl rfl rfl ok0_0.2.1 rfl rfl (fun _ => rfl)) $$ [O00 S001 HO]
  · iframe O00 S001 HO; iexact HE
  iintro ⟨O00, HO⟩
  iapply cnd
  iapply (send0 A K c 1 1 (n := 11) (m := 1) (m' := 2) rfl rfl rfl ok0_1.2.1 rfl rfl (fun _ => rfl)) $$ [O01 S011 HO]
  · iframe O01 S011 HO; iexact HE
  iintro ⟨O01, HO⟩
  iapply (acc_step A c 0 2 0 1 rfl rfl (m := 8) (by decide) rfl rfl rfl rfl) $$ [HC HW A02]
  · iframe HC HW A02
  iintro ⟨HC, HW, S002, S012⟩
  simp only [wp_ret]
  imodintro
  iapply Hk
  iframe

/-- The values of the second batch and its first head. -/
theorem part11 (c : Dev nD)  {Q : (FVec F S512x512 .bf16) → sProp 𝕄} :
    iprop(Env (vals A) K ∗ ptw c cc0_stg2_0 (A.v c) ∗ ptw c cc0_scratch9 (vVp A c 0) ∗ ptw c cc0_scratch2 (vQ A c) ∗ ptw c cc0_scratch8 (vKt A c 1) ∗ Ctx A c 8)
      ⊢ iprop(((ptw c cc0_stg2_0 (A.v c) ∗ ptw c cc0_scratch9 (vVp A c 1) ∗ ptw c cc0_scratch2 (vQ A c) ∗ ptw c cc0_scratch8 (vKt A c 1) ∗ Ctx A c 9) -∗ Q (k0_pay26 k0_pay4 (rQ A c 1 1) (rK A c 1 1)))
        -∗ run c (app (k0_part11_skel (F := F)) k0_pay4 (k0_pay5 (F := F))) Q) := by
  unfold app k0_part11_skel
  simp (config := { zeta := false }) only [Prog.lift, Prog.bind_op, Prog.bind_ret, Prog.pure_eq_ret]
  iintro ⟨#HE, HVst, HV, HQ, HK, HC⟩ Hk
  iapply (wp_ld (cs := .vmem) (ix := 2) (hκ := rfl) rfl (inb_kv 1) (Finset.subset_univ _)) $$ HVst
  iintro HVst
  iapply (ld_any (cs := .vmem) (ix := 13) (hκ := rfl)) $$ HV
  iintro HV
  iapply (st_whole (cs := .vmem) (ix := 13) (hκ := rfl) (w := vVp A c 1)) $$ HV
  iintro HV
  iapply (ld_q A c 1 0 rfl) $$ HQ
  iintro HQ
  iapply (ld_k A c 1 0 rfl) $$ HK
  iintro HK
  iapply (ld_v A c 1 0 rfl) $$ HV
  iintro HV
  iapply (ld_ctx A c 8) $$ HC
  iintro HC
  iapply (st_head A c 1 0 (m := 8) (m' := 9) rfl rfl rfl (via pay25_eq (vHead_eq A c 1 0))) $$ HC
  iintro HC
  iapply (ld_q A c 1 1 rfl) $$ HQ
  iintro HQ
  iapply (ld_k A c 1 1 rfl) $$ HK
  iintro HK
  simp only [wp_ret]
  imodintro
  iapply Hk
  iframe

/-- The heads 1 and 2 of the second batch. -/
theorem part12 (c : Dev nD)  {Q : (FVec F S512x512 .f32) → sProp 𝕄} :
    iprop(Env (vals A) K ∗ ptw c cc0_scratch9 (vVp A c 1) ∗ Ctx A c 9 ∗ ptw c cc0_scratch2 (vQ A c) ∗ ptw c cc0_scratch8 (vKt A c 1))
      ⊢ iprop(((ptw c cc0_scratch9 (vVp A c 1) ∗ Ctx A c 11 ∗ ptw c cc0_scratch2 (vQ A c) ∗ ptw c cc0_scratch8 (vKt A c 1)) -∗ Q (k0_pay29 (rQ A c 1 3) (rK A c 1 3)))
        -∗ run c (app (k0_part12_skel (F := F)) k0_pay4 (k0_pay5 (F := F)) (k0_pay26 k0_pay4 (rQ A c 1 1) (rK A c 1 1))) Q) := by
  unfold app k0_part12_skel
  simp (config := { zeta := false }) only [Prog.lift, Prog.bind_op, Prog.bind_ret, Prog.pure_eq_ret]
  iintro ⟨#HE, HV, HC, HQ, HK⟩ Hk
  iapply (ld_v A c 1 1 rfl) $$ HV
  iintro HV
  iapply (ld_ctx A c 9) $$ HC
  iintro HC
  iapply (st_head A c 1 1 (m := 9) (m' := 10) rfl rfl rfl ((pay26_27 _ _ _ _ _).trans (vHead_eq A c 1 1))) $$ HC
  iintro HC
  iapply (ld_q A c 1 2 rfl) $$ HQ
  iintro HQ
  iapply (ld_k A c 1 2 rfl) $$ HK
  iintro HK
  iapply (ld_v A c 1 2 rfl) $$ HV
  iintro HV
  iapply (ld_ctx A c 10) $$ HC
  iintro HC
  iapply (st_head A c 1 2 (m := 10) (m' := 11) rfl rfl rfl (via pay28_eq (vHead_eq A c 1 2))) $$ HC
  iintro HC
  iapply (ld_q A c 1 3 rfl) $$ HQ
  iintro HQ
  iapply (ld_k A c 1 3 rfl) $$ HK
  iintro HK
  simp only [wp_ret]
  imodintro
  iapply Hk
  iframe

/-- The heads 3 and 4 of the second batch. -/
theorem part13 (c : Dev nD)  {Q : (FVec F S512x64 .bf16) → sProp 𝕄} :
    iprop(Env (vals A) K ∗ ptw c cc0_scratch9 (vVp A c 1) ∗ Ctx A c 11 ∗ ptw c cc0_scratch2 (vQ A c) ∗ ptw c cc0_scratch8 (vKt A c 1))
      ⊢ iprop(((ptw c cc0_scratch9 (vVp A c 1) ∗ Ctx A c 13 ∗ ptw c cc0_scratch2 (vQ A c) ∗ ptw c cc0_scratch8 (vKt A c 1)) -∗ Q (k0_pay32 (rQ A c 1 5)))
        -∗ run c (app (k0_part13_skel (F := F)) k0_pay4 (k0_pay5 (F := F)) (k0_pay29 (rQ A c 1 3) (rK A c 1 3))) Q) := by
  unfold app k0_part13_skel
  simp (config := { zeta := false }) only [Prog.lift, Prog.bind_op, Prog.bind_ret, Prog.pure_eq_ret]
  iintro ⟨#HE, HV, HC, HQ, HK⟩ Hk
  iapply (ld_v A c 1 3 rfl) $$ HV
  iintro HV
  iapply (ld_ctx A c 11) $$ HC
  iintro HC
  iapply (st_head A c 1 3 (m := 11) (m' := 12) rfl rfl rfl ((pay29_30 _ _ _ _ _).trans (vHead_eq A c 1 3))) $$ HC
  iintro HC
  iapply (ld_q A c 1 4 rfl) $$ HQ
  iintro HQ
  iapply (ld_k A c 1 4 rfl) $$ HK
  iintro HK
  iapply (ld_v A c 1 4 rfl) $$ HV
  iintro HV
  iapply (ld_ctx A c 12) $$ HC
  iintro HC
  iapply (st_head A c 1 4 (m := 12) (m' := 13) rfl rfl rfl (via pay31_eq (vHead_eq A c 1 4))) $$ HC
  iintro HC
  iapply (ld_q A c 1 5 rfl) $$ HQ
  iintro HQ
  simp only [wp_ret]
  imodintro
  iapply Hk
  iframe

/-- The head 5 of the second batch. -/
theorem part14 (c : Dev nD)  {Q : (FVec F S1x512x64 .bf16) → sProp 𝕄} :
    iprop(Env (vals A) K ∗ ptw c cc0_scratch8 (vKt A c 1) ∗ ptw c cc0_scratch9 (vVp A c 1) ∗ Ctx A c 13 ∗ ptw c cc0_scratch2 (vQ A c))
      ⊢ iprop(((ptw c cc0_scratch8 (vKt A c 1) ∗ ptw c cc0_scratch9 (vVp A c 1) ∗ Ctx A c 14 ∗ ptw c cc0_scratch2 (vQ A c)) -∗ Q (k0_pay34 k0_pay4 k0_pay5 (rQ A c 1 6) (rK A c 1 6) (rV A c 1 6)))
        -∗ run c (app (k0_part14_skel (F := F)) k0_pay4 (k0_pay5 (F := F)) (k0_pay32 (rQ A c 1 5))) Q) := by
  unfold app k0_part14_skel
  simp (config := { zeta := false }) only [Prog.lift, Prog.bind_op, Prog.bind_ret, Prog.pure_eq_ret]
  iintro ⟨#HE, HK, HV, HC, HQ⟩ Hk
  iapply (ld_k A c 1 5 rfl) $$ HK
  iintro HK
  iapply (ld_v A c 1 5 rfl) $$ HV
  iintro HV
  iapply (ld_ctx A c 13) $$ HC
  iintro HC
  iapply (st_head A c 1 5 (m := 13) (m' := 14) rfl rfl rfl ((pay32_33 _ _ _ _ _).trans (vHead_eq A c 1 5))) $$ HC
  iintro HC
  iapply (ld_q A c 1 6 rfl) $$ HQ
  iintro HQ
  iapply (ld_k A c 1 6 rfl) $$ HK
  iintro HK
  iapply (ld_v A c 1 6 rfl) $$ HV
  iintro HV
  iapply (ld_ctx A c 14) $$ HC
  iintro HC
  simp only [wp_ret]
  imodintro
  iapply Hk
  iframe

/-- The last heads of the second batch; the partial blocks of round 0 have come in from the row. -/
theorem part15 (c : Dev nD)  {Q : (BitVec 32) → sProp 𝕄} :
    iprop(Env (vals A) K ∗ Ctx A c 14 ∗ ptw c cc0_scratch2 (vQ A c) ∗ ptw c cc0_scratch8 (vKt A c 1) ∗ ptw c cc0_scratch9 (vVp A c 1) ∗ Rcv A 0 (.rcv 0 0) 0 c ∗ Owed c 16)
      ⊢ iprop(((Ctx A c 16 ∗ ptw c cc0_scratch2 (vQ A c) ∗ ptw c cc0_scratch8 (vKt A c 1) ∗ ptw c cc0_scratch9 (vVp A c 1) ∗ Rcv A 0 (.rcv 0 0) 4 c ∗ Owed c 16) -∗ Q (Scalar.muli (pw c) 128#32))
        -∗ run c (app (k0_part15_skel (F := F)) (zw c) (pw c) k0_pay4 (k0_pay5 (F := F)) (k0_pay34 k0_pay4 k0_pay5 (rQ A c 1 6) (rK A c 1 6) (rV A c 1 6))) Q) := by
  unfold app k0_part15_skel
  simp (config := { zeta := false }) only [Prog.lift, Prog.bind_op, Prog.bind_ret, Prog.pure_eq_ret]
  iintro ⟨#HE, HC, HQ, HK, HV, R00, HO⟩ Hk
  iapply (st_head A c 1 6 (m := 14) (m' := 15) rfl rfl rfl (via pay34_eq (vHead_eq A c 1 6))) $$ HC
  iintro HC
  iapply (ld_q A c 1 7 rfl) $$ HQ
  iintro HQ
  iapply (ld_k A c 1 7 rfl) $$ HK
  iintro HK
  iapply (ld_v A c 1 7 rfl) $$ HV
  iintro HV
  iapply (ld_ctx A c 15) $$ HC
  iintro HC
  iapply (st_head A c 1 7 (m := 15) (m' := 16) rfl rfl rfl (via pay35_eq (vHead_eq A c 1 7))) $$ HC
  iintro HC
  iapply cnd
  iapply (rcv_step A K 0 (m := 0) (m' := 1) rfl rfl (wait_if A K c (amt_rcv 0 0) (card_rcv 0 0) 0 (n := 16) (.inr (by decide +kernel)) (tp.1 c) amt0 rfl)) $$ [R00 HO]
  · iframe R00 HO; iexact HE
  iintro ⟨R00, HO⟩
  iapply cnd
  iapply (rcv_step A K 1 (m := 1) (m' := 2) rfl rfl (wait_if A K c (amt_rcv 0 0) (card_rcv 0 0) 1 (n := 16) (.inr (by decide +kernel)) (tp.2.1 c) amt0 rfl)) $$ [R00 HO]
  · iframe R00 HO; iexact HE
  iintro ⟨R00, HO⟩
  iapply cnd
  iapply (rcv_step A K 2 (m := 2) (m' := 3) rfl rfl (wait_if A K c (amt_rcv 0 0) (card_rcv 0 0) 2 (n := 16) (.inr (by decide +kernel)) (tp.2.2.1 c) amt0 rfl)) $$ [R00 HO]
  · iframe R00 HO; iexact HE
  iintro ⟨R00, HO⟩
  iapply cnd
  iapply (rcv_step A K 3 (m := 3) (m' := 4) rfl rfl (wait_if A K c (amt_rcv 0 0) (card_rcv 0 0) 3 (n := 16) (.inr (by decide +kernel)) (tp.2.2.2 c) amt0 rfl)) $$ [R00 HO]
  · iframe R00 HO; iexact HE
  iintro ⟨R00, HO⟩
  simp only [wp_ret]
  imodintro
  iapply Hk
  iframe

end Cert.Attn
-- ==== Proof.PartsB.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The last partial blocks of the first batch leave, and the keys of the second batch are laid out. -/
theorem part10 (c : Dev nD) (w1 : BitVec 1) {Q : (PUnit) → sProp 𝕄} :
    iprop(Env (vals A) K ∗ Out A 0 0 2 c ∗ Src (vals A) 0 0 2 c ∗ Owed c 12 ∗ Out A 0 1 2 c ∗ Src (vals A) 0 1 2 c ∗ Ctx A c 8 ∗ ptw c cc0_scratch1 (vWo A c) ∗ AccB c 0 3 ∗ ptw c cc0_stg1_0 (A.k c) ∗ ptw c cc0_scratch8 (vKt A c 0))
      ⊢ iprop(((Out A 0 0 4 c ∗ Owed c 16 ∗ Out A 0 1 4 c ∗ Ctx A c 8 ∗ ptw c cc0_scratch1 (vWo A c) ∗ ptw c cc0_stg1_0 (A.k c) ∗ ptw c cc0_scratch8 (vKt A c 1)) -∗ Q ⟨⟩)
        -∗ run c (app (k0_part10_skel (F := F)) c (zw c) (pw c) w1) Q) := by
  unfold app k0_part10_skel
  simp (config := { zeta := false }) only [Prog.lift, Prog.bind_op, Prog.bind_ret, Prog.pure_eq_ret]
  iintro ⟨#HE, O00, S002, HO, O01, S012, HC, HW, A03, HKst, HK⟩ Hk
  iapply cnd
  iapply (send0 A K c 0 2 (n := 12) (m := 2) (m' := 3) rfl rfl rfl ok0_0.2.2.1 rfl rfl (fun _ => rfl)) $$ [O00 S002 HO]
  · iframe O00 S002 HO; iexact HE
  iintro ⟨O00, HO⟩
  iapply cnd
  iapply (send0 A K c 1 2 (n := 13) (m := 2) (m' := 3) rfl rfl rfl ok0_1.2.2.1 rfl rfl (fun _ => rfl)) $$ [O01 S012 HO]
  · iframe O01 S012 HO; iexact HE
  iintro ⟨O01, HO⟩
  iapply (acc_step A c 0 3 0 1 rfl rfl (m := 8) (by decide) rfl rfl rfl rfl) $$ [HC HW A03]
  · iframe HC HW A03
  iintro ⟨HC, HW, S003, S013⟩
  iapply cnd
  iapply (send0 A K c 0 3 (n := 14) (m := 3) (m' := 4) rfl rfl rfl ok0_0.2.2.2 rfl rfl (fun _ => rfl)) $$ [O00 S003 HO]
  · iframe O00 S003 HO; iexact HE
  iintro ⟨O00, HO⟩
  iapply cnd
  iapply (send0 A K c 1 3 (n := 15) (m := 3) (m' := 4) rfl rfl rfl ok0_1.2.2.2 rfl rfl (fun _ => rfl)) $$ [O01 S013 HO]
  · iframe O01 S013 HO; iexact HE
  iintro ⟨O01, HO⟩
  iapply (wp_ld (cs := .vmem) (ix := 1) (hκ := rfl) rfl (inb_kv 1) (Finset.subset_univ _)) $$ HKst
  iintro HKst
  iapply (ld_any (cs := .vmem) (ix := 12) (hκ := rfl)) $$ HK
  iintro HK
  iapply (st_whole (cs := .vmem) (ix := 12) (hκ := rfl) (w := vKt A c 1)) $$ HK
  iintro HK
  simp only [wp_ret]
  imodintro
  iapply Hk
  iframe

/-- The sums of round 0 over the row are formed and sent along the column; two blocks of round 1 are awaited. -/
theorem part16 (c : Dev nD) (w1 : BitVec 32) {Q : (PUnit) → sProp 𝕄} :
    iprop(Env (vals A) K ∗ Rcv A 0 (.rcv 0 0) 4 c ∗ PS A c 0 ∗ Out A 0 0 4 c ∗ CgB c 0 ∗ Out A 1 0 0 c ∗ Owed c 16 ∗ Rcv A 0 (.rcv 0 1) 0 c)
      ⊢ iprop(((Done 0 (.rcv 0 0) c ∗ PB A c 0 ∗ Rcv A 0 (.snd 0 0) 0 c ∗ Src (vals A) 0 0 (own 0 c) c ∗ Out A 1 0 4 c ∗ Owed c 20 ∗ Rcv A 0 (.rcv 0 1) 2 c) -∗ Q ⟨⟩)
        -∗ run c (app (k0_part16_skel (F := F)) c (zw c) (pw c) w1) Q) := by
  unfold app k0_part16_skel
  simp (config := { zeta := false }) only [Prog.lift, Prog.bind_op, Prog.bind_ret, Prog.pure_eq_ret]
  iintro ⟨#HE, R00, Z00, O00, C0, O10, HO, R01⟩ Hk
  ihave H := (to_pb A c 0) $$ [R00 Z00]
  · iframe R00 Z00
  icases H with ⟨D00, B00⟩
  ihave H := (out_all A (c := c) (k := 0) (r := 0)) $$ O00
  icases H with ⟨E00, X00⟩
  iapply (cg_step A c 0 (off_acc.1 c) rfl rfl rfl rfl) $$ [X00 B00 C0]
  · iframe X00 B00 C0
  iintro ⟨X00, B00, H⟩
  ihave H := (Entails.of_eq (all4_eq (fun j => Src (vals A) 1 0 j c))) $$ H
  icases H with ⟨S100, S101, S102, S103⟩
  iapply cnd
  iapply (send1 A K c 0 0 (n := 16) (m := 0) (m' := 1) rfl rfl rfl ok1_0.1 rfl rfl (fun _ => rfl)) $$ [O10 S100 HO]
  · iframe O10 S100 HO; iexact HE
  iintro ⟨O10, HO⟩
  iapply cnd
  iapply (send1 A K c 0 1 (n := 17) (m := 1) (m' := 2) rfl rfl rfl ok1_0.2.1 rfl rfl (fun _ => rfl)) $$ [O10 S101 HO]
  · iframe O10 S101 HO; iexact HE
  iintro ⟨O10, HO⟩
  iapply cnd
  iapply (send1 A K c 0 2 (n := 18) (m := 2) (m' := 3) rfl rfl rfl ok1_0.2.2.1 rfl rfl (fun _ => rfl)) $$ [O10 S102 HO]
  · iframe O10 S102 HO; iexact HE
  iintro ⟨O10, HO⟩
  iapply cnd
  iapply (send1 A K c 0 3 (n := 19) (m := 3) (m' := 4) rfl rfl rfl ok1_0.2.2.2 rfl rfl (fun _ => rfl)) $$ [O10 S103 HO]
  · iframe O10 S103 HO; iexact HE
  iintro ⟨O10, HO⟩
  iapply cnd
  iapply (rcv_step A K 0 (m := 0) (m' := 1) rfl rfl (wait_if A K c (amt_rcv 0 1) (card_rcv 0 1) 0 (n := 20) (.inr (by decide +kernel)) (tp.1 c) amt0 rfl)) $$ [R01 HO]
  · iframe R01 HO; iexact HE
  iintro ⟨R01, HO⟩
  iapply cnd
  iapply (rcv_step A K 1 (m := 1) (m' := 2) rfl rfl (wait_if A K c (amt_rcv 0 1) (card_rcv 0 1) 1 (n := 20) (.inr (by decide +kernel)) (tp.2.1 c) amt0 rfl)) $$ [R01 HO]
  · iframe R01 HO; iexact HE
  iintro ⟨R01, HO⟩
  simp only [wp_ret]
  imodintro
  iapply Hk
  iframe

/-- The sums of round 1 over the row are formed and sent along the column, but for one message. -/
theorem part17 (c : Dev nD)  {Q : (Σ' (v557 : BitVec 32), BitVec 32) → sProp 𝕄} :
    iprop(Env (vals A) K ∗ Rcv A 0 (.rcv 0 1) 2 c ∗ Owed c 20 ∗ PS A c 1 ∗ Out A 0 1 4 c ∗ CgB c 1 ∗ Out A 1 1 0 c)
      ⊢ iprop(((Owed c 23 ∗ Done 0 (.rcv 0 1) c ∗ PB A c 1 ∗ Rcv A 0 (.snd 0 1) 0 c ∗ Src (vals A) 0 1 (own 0 c) c ∗ Src (vals A) 1 1 3 c ∗ Out A 1 1 3 c) -∗ Q ⟨Scalar.extui (Scalar.cmpi .ne (zw c) 3#32), 0#32⟩)
        -∗ run c (app (k0_part17_skel (F := F)) c (zw c) (pw c)) Q) := by
  unfold app k0_part17_skel
  simp (config := { zeta := false }) only [Prog.lift, Prog.bind_op, Prog.bind_ret, Prog.pure_eq_ret]
  iintro ⟨#HE, R01, HO, Z01, O01, C1, O11⟩ Hk
  iapply cnd
  iapply (rcv_step A K 2 (m := 2) (m' := 3) rfl rfl (wait_if A K c (amt_rcv 0 1) (card_rcv 0 1) 2 (n := 20) (.inr (by decide +kernel)) (tp.2.2.1 c) amt0 rfl)) $$ [R01 HO]
  · iframe R01 HO; iexact HE
  iintro ⟨R01, HO⟩
  iapply cnd
  iapply (rcv_step A K 3 (m := 3) (m' := 4) rfl rfl (wait_if A K c (amt_rcv 0 1) (card_rcv 0 1) 3 (n := 20) (.inr (by decide +kernel)) (tp.2.2.2 c) amt0 rfl)) $$ [R01 HO]
  · iframe R01 HO; iexact HE
  iintro ⟨R01, HO⟩
  ihave H := (to_pb A c 1) $$ [R01 Z01]
  · iframe R01 Z01
  icases H with ⟨D01, B01⟩
  ihave H := (out_all A (c := c) (k := 0) (r := 1)) $$ O01
  icases H with ⟨E01, X01⟩
  iapply (cg_step A c 1 (off_acc.2.1 c) rfl rfl rfl rfl) $$ [X01 B01 C1]
  · iframe X01 B01 C1
  iintro ⟨X01, B01, H⟩
  ihave H := (Entails.of_eq (all4_eq (fun j => Src (vals A) 1 1 j c))) $$ H
  icases H with ⟨S110, S111, S112, S113⟩
  iapply cnd
  iapply (send1 A K c 1 0 (n := 20) (m := 0) (m' := 1) rfl rfl rfl ok1_1.1 rfl rfl (fun _ => rfl)) $$ [O11 S110 HO]
  · iframe O11 S110 HO; iexact HE
  iintro ⟨O11, HO⟩
  iapply cnd
  iapply (send1 A K c 1 1 (n := 21) (m := 1) (m' := 2) rfl rfl rfl ok1_1.2.1 rfl rfl (fun _ => rfl)) $$ [O11 S111 HO]
  · iframe O11 S111 HO; iexact HE
  iintro ⟨O11, HO⟩
  iapply cnd
  iapply (send1 A K c 1 2 (n := 22) (m := 2) (m' := 3) rfl rfl rfl ok1_1.2.2.1 rfl rfl (fun _ => rfl)) $$ [O11 S112 HO]
  · iframe O11 S112 HO; iexact HE
  iintro ⟨O11, HO⟩
  simp only [wp_ret]
  imodintro
  iapply Hk
  iframe

/-- The last message of round 1; the second batch of partial blocks is begun and its first messages leave. -/
theorem part18 (c : Dev nD) (w1 w2 : BitVec 32) {Q : (BitVec 1) → sProp 𝕄} :
    iprop(Env (vals A) K ∗ Out A 1 1 3 c ∗ Src (vals A) 1 1 3 c ∗ Owed c 23 ∗ Ctx A c 16 ∗ ptw c cc0_scratch1 (vWo A c) ∗ AccB c 1 0 ∗ Out A 0 2 0 c ∗ Out A 0 3 0 c ∗ AccB c 1 1)
      ⊢ iprop(((Out A 1 1 4 c ∗ Owed c 27 ∗ Ctx A c 16 ∗ ptw c cc0_scratch1 (vWo A c) ∗ Out A 0 2 2 c ∗ Out A 0 3 1 c ∗ Src (vals A) 0 3 1 c) -∗ Q (Scalar.cmpi .ne (pw c) 1#32))
        -∗ run c (app (k0_part18_skel (F := F)) c (zw c) (pw c) w1 w2) Q) := by
  unfold app k0_part18_skel
  simp (config := { zeta := false }) only [Prog.lift, Prog.bind_op, Prog.bind_ret, Prog.pure_eq_ret]
  iintro ⟨#HE, O11, S113, HO, HC, HW, A10, O02, O03, A11⟩ Hk
  iapply cnd
  iapply (send1 A K c 1 3 (n := 23) (m := 3) (m' := 4) rfl rfl rfl ok1_1.2.2.2 rfl rfl (fun _ => rfl)) $$ [O11 S113 HO]
  · iframe O11 S113 HO; iexact HE
  iintro ⟨O11, HO⟩
  iapply (acc_step A c 1 0 2 3 rfl rfl (m := 16) (by decide) rfl rfl rfl rfl) $$ [HC HW A10]
  · iframe HC HW A10
  iintro ⟨HC, HW, S020, S030⟩
  iapply cnd
  iapply (send0 A K c 2 0 (n := 24) (m := 0) (m' := 1) rfl rfl rfl ok0_2.1 rfl rfl (fun _ => rfl)) $$ [O02 S020 HO]
  · iframe O02 S020 HO; iexact HE
  iintro ⟨O02, HO⟩
  iapply cnd
  iapply (send0 A K c 3 0 (n := 25) (m := 0) (m' := 1) rfl rfl rfl ok0_3.1 rfl rfl (fun _ => rfl)) $$ [O03 S030 HO]
  · iframe O03 S030 HO; iexact HE
  iintro ⟨O03, HO⟩
  iapply (acc_step A c 1 1 2 3 rfl rfl (m := 16) (by decide) rfl rfl rfl rfl) $$ [HC HW A11]
  · iframe HC HW A11
  iintro ⟨HC, HW, S021, S031⟩
  iapply cnd
  iapply (send0 A K c 2 1 (n := 26) (m := 1) (m' := 2) rfl rfl rfl ok0_2.2.1 rfl rfl (fun _ => rfl)) $$ [O02 S021 HO]
  · iframe O02 S021 HO; iexact HE
  iintro ⟨O02, HO⟩
  simp only [wp_ret]
  imodintro
  iapply Hk
  iframe

end Cert.Attn
-- ==== Proof.PartsC.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The remaining partial blocks of the second batch are computed and sent along the row. -/
theorem part19 (c : Dev nD) (w1 : BitVec 1) {Q : (PUnit) → sProp 𝕄} :
    iprop(Env (vals A) K ∗ Out A 0 3 1 c ∗ Src (vals A) 0 3 1 c ∗ Owed c 27 ∗ Ctx A c 16 ∗ ptw c cc0_scratch1 (vWo A c) ∗ AccB c 1 2 ∗ Out A 0 2 2 c ∗ AccB c 1 3)
      ⊢ iprop(((Out A 0 3 3 c ∗ Owed c 31 ∗ Ctx A c 16 ∗ ptw c cc0_scratch1 (vWo A c) ∗ Out A 0 2 4 c ∗ Src (vals A) 0 3 3 c) -∗ Q ⟨⟩)
        -∗ run c (app (k0_part19_skel (F := F)) c (zw c) (pw c) w1) Q) := by
  unfold app k0_part19_skel
  simp (config := { zeta := false }) only [Prog.lift, Prog.bind_op, Prog.bind_ret, Prog.pure_eq_ret]
  iintro ⟨#HE, O03, S031, HO, HC, HW, A12, O02, A13⟩ Hk
  iapply cnd
  iapply (send0 A K c 3 1 (n := 27) (m := 1) (m' := 2) rfl rfl rfl ok0_3.2.1 rfl rfl (fun _ => rfl)) $$ [O03 S031 HO]
  · iframe O03 S031 HO; iexact HE
  iintro ⟨O03, HO⟩
  iapply (acc_step A c 1 2 2 3 rfl rfl (m := 16) (by decide) rfl rfl rfl rfl) $$ [HC HW A12]
  · iframe HC HW A12
  iintro ⟨HC, HW, S022, S032⟩
  iapply cnd
  iapply (send0 A K c 2 2 (n := 28) (m := 2) (m' := 3) rfl rfl rfl ok0_2.2.2.1 rfl rfl (fun _ => rfl)) $$ [O02 S022 HO]
  · iframe O02 S022 HO; iexact HE
  iintro ⟨O02, HO⟩
  iapply cnd
  iapply (send0 A K c 3 2 (n := 29) (m := 2) (m' := 3) rfl rfl rfl ok0_3.2.2.1 rfl rfl (fun _ => rfl)) $$ [O03 S032 HO]
  · iframe O03 S032 HO; iexact HE
  iintro ⟨O03, HO⟩
  iapply (acc_step A c 1 3 2 3 rfl rfl (m := 16) (by decide) rfl rfl rfl rfl) $$ [HC HW A13]
  · iframe HC HW A13
  iintro ⟨HC, HW, S023, S033⟩
  iapply cnd
  iapply (send0 A K c 2 3 (n := 30) (m := 3) (m' := 4) rfl rfl rfl ok0_2.2.2.2 rfl rfl (fun _ => rfl)) $$ [O02 S023 HO]
  · iframe O02 S023 HO; iexact HE
  iintro ⟨O02, HO⟩
  simp only [wp_ret]
  imodintro
  iapply Hk
  iframe

/-- The sums of round 0 have come in from the column, and the result rows of round 0 are computed. -/
theorem part20 (c : Dev nD)  {Q : (FVec F S1x16x768 .bf16) → sProp 𝕄} :
    iprop(Env (vals A) K ∗ Out A 0 3 3 c ∗ Src (vals A) 0 3 3 c ∗ Owed c 31 ∗ Rcv A 1 (.rcv 1 0) 0 c ∗ ZS A c 0 ∗ Out A 1 0 4 c ∗ OutB c 0)
      ⊢ iprop(((Out A 0 3 4 c ∗ Owed c 32 ∗ Done 1 (.rcv 1 0) c ∗ ZB A c 0 ∗ Rcv A 1 (.snd 1 0) 0 c ∗ Src (vals A) 1 0 (own 1 c) c ∗ OutB c 0) -∗ Q (k0_pay42 (rdCg A c 0) (rdZb A c 0)))
        -∗ run c (app (k0_part20_skel (F := F)) c (zw c) (pw c)) Q) := by
  unfold app k0_part20_skel
  simp (config := { zeta := false }) only [Prog.lift, Prog.bind_op, Prog.bind_ret, Prog.pure_eq_ret]
  iintro ⟨#HE, O03, S033, HO, R10, Z10, O10, G0⟩ Hk
  iapply cnd
  iapply (send0 A K c 3 3 (n := 31) (m := 3) (m' := 4) rfl rfl rfl ok0_3.2.2.2 rfl rfl (fun _ => rfl)) $$ [O03 S033 HO]
  · iframe O03 S033 HO; iexact HE
  iintro ⟨O03, HO⟩
  iapply cnd
  iapply (rcv_step A K 0 (m := 0) (m' := 1) rfl rfl (wait_if A K c (amt_rcv 1 0) (card_rcv 1 0) 0 (n := 32) (.inr (by decide +kernel)) (tz.1 c) amt1 rfl)) $$ [R10 HO]
  · iframe R10 HO; iexact HE
  iintro ⟨R10, HO⟩
  iapply cnd
  iapply (rcv_step A K 1 (m := 1) (m' := 2) rfl rfl (wait_if A K c (amt_rcv 1 0) (card_rcv 1 0) 1 (n := 32) (.inr (by decide +kernel)) (tz.2.1 c) amt1 rfl)) $$ [R10 HO]
  · iframe R10 HO; iexact HE
  iintro ⟨R10, HO⟩
  iapply cnd
  iapply (rcv_step A K 2 (m := 2) (m' := 3) rfl rfl (wait_if A K c (amt_rcv 1 0) (card_rcv 1 0) 2 (n := 32) (.inr (by decide +kernel)) (tz.2.2.1 c) amt1 rfl)) $$ [R10 HO]
  · iframe R10 HO; iexact HE
  iintro ⟨R10, HO⟩
  iapply cnd
  iapply (rcv_step A K 3 (m := 3) (m' := 4) rfl rfl (wait_if A K c (amt_rcv 1 0) (card_rcv 1 0) 3 (n := 32) (.inr (by decide +kernel)) (tz.2.2.2 c) amt1 rfl)) $$ [R10 HO]
  · iframe R10 HO; iexact HE
  iintro ⟨R10, HO⟩
  ihave H := (to_zb A c 0) $$ [R10 Z10]
  · iframe R10 Z10
  icases H with ⟨D10, B10⟩
  ihave H := (out_all A (c := c) (k := 1) (r := 0)) $$ O10
  icases H with ⟨E10, X10⟩
  iapply (ld_cg A c 0 (off_cg.1 c)) $$ X10
  iintro X10
  iapply (ld_zb A c 0 rfl) $$ B10
  iintro B10
  iapply (ld_out c 0 (off_out.1 c)) $$ G0
  iintro G0
  simp only [wp_ret]
  imodintro
  iapply Hk
  iframe

/-- The result rows of round 0 are stored and sent along the column; the sums of round 1 have come in. -/
theorem part21 (c : Dev nD)  {Q : (FVec F S16x768 .f32) → sProp 𝕄} :
    iprop(Env (vals A) K ∗ OutB c 0 ∗ Out A 2 0 0 c ∗ Owed c 32 ∗ Rcv A 1 (.rcv 1 1) 0 c ∗ Out A 1 1 4 c)
      ⊢ iprop(((OwnR A c 0 ∗ Out A 2 0 4 c ∗ Owed c 36 ∗ Rcv A 1 (.rcv 1 1) 4 c ∗ Rcv A 1 (.snd 1 1) 0 c ∗ Src (vals A) 1 1 (own 1 c) c) -∗ Q (k0_pay43 (rdCg A c 1)))
        -∗ run c (app (k0_part21_skel (F := F)) c (zw c) (pw c) (k0_pay42 (rdCg A c 0) (rdZb A c 0))) Q) := by
  unfold app k0_part21_skel
  simp (config := { zeta := false }) only [Prog.lift, Prog.bind_op, Prog.bind_ret, Prog.pure_eq_ret]
  iintro ⟨#HE, G0, O20, HO, R11, O11⟩ Hk
  iapply (st_out A c 0 (off_out.1 c) (vOutBlk_eq A c 0)) $$ G0
  iintro ⟨H, W0⟩
  ihave H := (Entails.of_eq (all4_eq (fun j => Src (vals A) 2 0 j c))) $$ H
  icases H with ⟨S200, S201, S202, S203⟩
  iapply cnd
  iapply (send2 A K c 0 0 (n := 32) (m := 0) (m' := 1) rfl rfl rfl ok2_0.1 rfl rfl (fun h => ((ok2_0.1 c).2 h).1)) $$ [O20 S200 HO]
  · iframe O20 S200 HO; iexact HE
  iintro ⟨O20, HO⟩
  iapply cnd
  iapply (send2 A K c 0 1 (n := 33) (m := 1) (m' := 2) rfl rfl rfl ok2_0.2.1 rfl rfl (fun h => ((ok2_0.2.1 c).2 h).1)) $$ [O20 S201 HO]
  · iframe O20 S201 HO; iexact HE
  iintro ⟨O20, HO⟩
  iapply cnd
  iapply (send2 A K c 0 2 (n := 34) (m := 2) (m' := 3) rfl rfl rfl ok2_0.2.2.1 rfl rfl (fun h => ((ok2_0.2.2.1 c).2 h).1)) $$ [O20 S202 HO]
  · iframe O20 S202 HO; iexact HE
  iintro ⟨O20, HO⟩
  iapply cnd
  iapply (send2 A K c 0 3 (n := 35) (m := 3) (m' := 4) rfl rfl rfl ok2_0.2.2.2 rfl rfl (fun h => ((ok2_0.2.2.2 c).2 h).1)) $$ [O20 S203 HO]
  · iframe O20 S203 HO; iexact HE
  iintro ⟨O20, HO⟩
  iapply cnd
  iapply (rcv_step A K 0 (m := 0) (m' := 1) rfl rfl (wait_if A K c (amt_rcv 1 1) (card_rcv 1 1) 0 (n := 36) (.inr (by decide +kernel)) (tz.1 c) amt1 rfl)) $$ [R11 HO]
  · iframe R11 HO; iexact HE
  iintro ⟨R11, HO⟩
  iapply cnd
  iapply (rcv_step A K 1 (m := 1) (m' := 2) rfl rfl (wait_if A K c (amt_rcv 1 1) (card_rcv 1 1) 1 (n := 36) (.inr (by decide +kernel)) (tz.2.1 c) amt1 rfl)) $$ [R11 HO]
  · iframe R11 HO; iexact HE
  iintro ⟨R11, HO⟩
  iapply cnd
  iapply (rcv_step A K 2 (m := 2) (m' := 3) rfl rfl (wait_if A K c (amt_rcv 1 1) (card_rcv 1 1) 2 (n := 36) (.inr (by decide +kernel)) (tz.2.2.1 c) amt1 rfl)) $$ [R11 HO]
  · iframe R11 HO; iexact HE
  iintro ⟨R11, HO⟩
  iapply cnd
  iapply (rcv_step A K 3 (m := 3) (m' := 4) rfl rfl (wait_if A K c (amt_rcv 1 1) (card_rcv 1 1) 3 (n := 36) (.inr (by decide +kernel)) (tz.2.2.2 c) amt1 rfl)) $$ [R11 HO]
  · iframe R11 HO; iexact HE
  iintro ⟨R11, HO⟩
  ihave H := (out_all A (c := c) (k := 1) (r := 1)) $$ O11
  icases H with ⟨E11, X11⟩
  iapply (ld_cg A c 1 (off_cg.2.1 c)) $$ X11
  iintro X11
  simp only [wp_ret]
  imodintro
  iapply Hk
  iframe

/-- The result rows of round 1 are stored and sent along the column; two blocks of round 2 are awaited. -/
theorem part22 (c : Dev nD)  {Q : (Σ' (v710 : BitVec 32), BitVec 32) → sProp 𝕄} :
    iprop(Env (vals A) K ∗ Rcv A 1 (.rcv 1 1) 4 c ∗ ZS A c 1 ∗ OutB c 1 ∗ Out A 2 1 0 c ∗ Owed c 36 ∗ Rcv A 0 (.rcv 0 2) 0 c)
      ⊢ iprop(((Done 1 (.rcv 1 1) c ∗ ZB A c 1 ∗ OwnR A c 1 ∗ Out A 2 1 4 c ∗ Owed c 40 ∗ Rcv A 0 (.rcv 0 2) 2 c) -∗ Q ⟨Scalar.extui (Scalar.cmpi .ne (pw c) 2#32), 0#32⟩)
        -∗ run c (app (k0_part22_skel (F := F)) c (zw c) (pw c) (k0_pay43 (rdCg A c 1))) Q) := by
  unfold app k0_part22_skel
  simp (config := { zeta := false }) only [Prog.lift, Prog.bind_op, Prog.bind_ret, Prog.pure_eq_ret]
  iintro ⟨#HE, R11, Z11, G1, O21, HO, R02⟩ Hk
  ihave H := (to_zb A c 1) $$ [R11 Z11]
  · iframe R11 Z11
  icases H with ⟨D11, B11⟩
  iapply (ld_zb A c 1 rfl) $$ B11
  iintro B11
  iapply (ld_out c 1 (off_out.2.1 c)) $$ G1
  iintro G1
  iapply (st_out A c 1 (off_out.2.1 c) ((pay43_44 _ _).trans (vOutBlk_eq A c 1))) $$ G1
  iintro ⟨H, W1⟩
  ihave H := (Entails.of_eq (all4_eq (fun j => Src (vals A) 2 1 j c))) $$ H
  icases H with ⟨S210, S211, S212, S213⟩
  iapply cnd
  iapply (send2 A K c 1 0 (n := 36) (m := 0) (m' := 1) rfl rfl rfl ok2_1.1 rfl rfl (fun h => ((ok2_1.1 c).2 h).1)) $$ [O21 S210 HO]
  · iframe O21 S210 HO; iexact HE
  iintro ⟨O21, HO⟩
  iapply cnd
  iapply (send2 A K c 1 1 (n := 37) (m := 1) (m' := 2) rfl rfl rfl ok2_1.2.1 rfl rfl (fun h => ((ok2_1.2.1 c).2 h).1)) $$ [O21 S211 HO]
  · iframe O21 S211 HO; iexact HE
  iintro ⟨O21, HO⟩
  iapply cnd
  iapply (send2 A K c 1 2 (n := 38) (m := 2) (m' := 3) rfl rfl rfl ok2_1.2.2.1 rfl rfl (fun h => ((ok2_1.2.2.1 c).2 h).1)) $$ [O21 S212 HO]
  · iframe O21 S212 HO; iexact HE
  iintro ⟨O21, HO⟩
  iapply cnd
  iapply (send2 A K c 1 3 (n := 39) (m := 3) (m' := 4) rfl rfl rfl ok2_1.2.2.2 rfl rfl (fun h => ((ok2_1.2.2.2 c).2 h).1)) $$ [O21 S213 HO]
  · iframe O21 S213 HO; iexact HE
  iintro ⟨O21, HO⟩
  iapply cnd
  iapply (rcv_step A K 0 (m := 0) (m' := 1) rfl rfl (wait_if A K c (amt_rcv 0 2) (card_rcv 0 2) 0 (n := 40) (.inr (by decide +kernel)) (tp.1 c) amt0 rfl)) $$ [R02 HO]
  · iframe R02 HO; iexact HE
  iintro ⟨R02, HO⟩
  iapply cnd
  iapply (rcv_step A K 1 (m := 1) (m' := 2) rfl rfl (wait_if A K c (amt_rcv 0 2) (card_rcv 0 2) 1 (n := 40) (.inr (by decide +kernel)) (tp.2.1 c) amt0 rfl)) $$ [R02 HO]
  · iframe R02 HO; iexact HE
  iintro ⟨R02, HO⟩
  simp only [wp_ret]
  imodintro
  iapply Hk
  iframe

/-- The sums of round 2 over the row are formed and sent along the column. -/
theorem part23 (c : Dev nD)  {Q : (BitVec 1) → sProp 𝕄} :
    iprop(Env (vals A) K ∗ Rcv A 0 (.rcv 0 2) 2 c ∗ Owed c 40 ∗ PS A c 2 ∗ Out A 0 2 4 c ∗ CgB c 2 ∗ Out A 1 2 0 c)
      ⊢ iprop(((Owed c 44 ∗ Done 0 (.rcv 0 2) c ∗ PB A c 2 ∗ Rcv A 0 (.snd 0 2) 0 c ∗ Src (vals A) 0 2 (own 0 c) c ∗ Out A 1 2 4 c) -∗ Q (Scalar.cmpi .ne (zw c) 0#32))
        -∗ run c (app (k0_part23_skel (F := F)) c (zw c) (pw c) (Scalar.extui (Scalar.cmpi .ne (pw c) 2#32)) 0#32) Q) := by
  unfold app k0_part23_skel
  simp (config := { zeta := false }) only [Prog.lift, Prog.bind_op, Prog.bind_ret, Prog.pure_eq_ret]
  iintro ⟨#HE, R02, HO, Z02, O02, C2, O12⟩ Hk
  iapply cnd
  iapply (rcv_step A K 2 (m := 2) (m' := 3) rfl rfl (wait_if A K c (amt_rcv 0 2) (card_rcv 0 2) 2 (n := 40) (.inr (by decide +kernel)) (tp.2.2.1 c) amt0 rfl)) $$ [R02 HO]
  · iframe R02 HO; iexact HE
  iintro ⟨R02, HO⟩
  iapply cnd
  iapply (rcv_step A K 3 (m := 3) (m' := 4) rfl rfl (wait_if A K c (amt_rcv 0 2) (card_rcv 0 2) 3 (n := 40) (.inr (by decide +kernel)) (tp.2.2.2 c) amt0 rfl)) $$ [R02 HO]
  · iframe R02 HO; iexact HE
  iintro ⟨R02, HO⟩
  ihave H := (to_pb A c 2) $$ [R02 Z02]
  · iframe R02 Z02
  icases H with ⟨D02, B02⟩
  ihave H := (out_all A (c := c) (k := 0) (r := 2)) $$ O02
  icases H with ⟨E02, X02⟩
  iapply (cg_step A c 2 (off_acc.2.2.1 c) rfl rfl rfl rfl) $$ [X02 B02 C2]
  · iframe X02 B02 C2
  iintro ⟨X02, B02, H⟩
  ihave H := (Entails.of_eq (all4_eq (fun j => Src (vals A) 1 2 j c))) $$ H
  icases H with ⟨S120, S121, S122, S123⟩
  iapply cnd
  iapply (send1 A K c 2 0 (n := 40) (m := 0) (m' := 1) rfl rfl rfl ok1_2.1 rfl rfl (fun _ => rfl)) $$ [O12 S120 HO]
  · iframe O12 S120 HO; iexact HE
  iintro ⟨O12, HO⟩
  iapply cnd
  iapply (send1 A K c 2 1 (n := 41) (m := 1) (m' := 2) rfl rfl rfl ok1_2.2.1 rfl rfl (fun _ => rfl)) $$ [O12 S121 HO]
  · iframe O12 S121 HO; iexact HE
  iintro ⟨O12, HO⟩
  iapply cnd
  iapply (send1 A K c 2 2 (n := 42) (m := 2) (m' := 3) rfl rfl rfl ok1_2.2.2.1 rfl rfl (fun _ => rfl)) $$ [O12 S122 HO]
  · iframe O12 S122 HO; iexact HE
  iintro ⟨O12, HO⟩
  iapply cnd
  iapply (send1 A K c 2 3 (n := 43) (m := 3) (m' := 4) rfl rfl rfl ok1_2.2.2.2 rfl rfl (fun _ => rfl)) $$ [O12 S123 HO]
  · iframe O12 S123 HO; iexact HE
  iintro ⟨O12, HO⟩
  simp only [wp_ret]
  imodintro
  iapply Hk
  iframe

/-- The sums of round 3 over the row are formed and sent along the column. -/
theorem part25 (c : Dev nD)  {Q : (PUnit) → sProp 𝕄} :
    iprop(Env (vals A) K ∗ Rcv A 0 (.rcv 0 3) 2 c ∗ Owed c 48 ∗ PS A c 3 ∗ Out A 0 3 4 c ∗ CgB c 3 ∗ Out A 1 3 0 c)
      ⊢ iprop(((Owed c 52 ∗ Done 0 (.rcv 0 3) c ∗ PB A c 3 ∗ Rcv A 0 (.snd 0 3) 0 c ∗ Src (vals A) 0 3 (own 0 c) c ∗ Out A 1 3 4 c) -∗ Q ⟨⟩)
        -∗ run c (app (k0_part25_skel (F := F)) c (zw c) (pw c) (Scalar.cmpi .ne (pw c) 2#32)) Q) := by
  unfold app k0_part25_skel
  simp (config := { zeta := false }) only [Prog.lift, Prog.bind_op, Prog.bind_ret, Prog.pure_eq_ret]
  iintro ⟨#HE, R03, HO, Z03, O03, C3, O13⟩ Hk
  iapply cnd
  iapply (rcv_step A K 2 (m := 2) (m' := 3) rfl rfl (wait_if A K c (amt_rcv 0 3) (card_rcv 0 3) 2 (n := 48) (.inr (by decide +kernel)) (tp.2.2.1 c) amt0 rfl)) $$ [R03 HO]
  · iframe R03 HO; iexact HE
  iintro ⟨R03, HO⟩
  iapply cnd
  iapply (rcv_step A K 3 (m := 3) (m' := 4) rfl rfl (wait_if A K c (amt_rcv 0 3) (card_rcv 0 3) 3 (n := 48) (.inr (by decide +kernel)) (tp.2.2.2 c) amt0 rfl)) $$ [R03 HO]
  · iframe R03 HO; iexact HE
  iintro ⟨R03, HO⟩
  ihave H := (to_pb A c 3) $$ [R03 Z03]
  · iframe R03 Z03
  icases H with ⟨D03, B03⟩
  ihave H := (out_all A (c := c) (k := 0) (r := 3)) $$ O03
  icases H with ⟨E03, X03⟩
  iapply (cg_step A c 3 (off_acc.2.2.2 c) rfl rfl rfl rfl) $$ [X03 B03 C3]
  · iframe X03 B03 C3
  iintro ⟨X03, B03, H⟩
  ihave H := (Entails.of_eq (all4_eq (fun j => Src (vals A) 1 3 j c))) $$ H
  icases H with ⟨S130, S131, S132, S133⟩
  iapply cnd
  iapply (send1 A K c 3 0 (n := 48) (m := 0) (m' := 1) rfl rfl rfl ok1_3.1 rfl rfl (fun _ => rfl)) $$ [O13 S130 HO]
  · iframe O13 S130 HO; iexact HE
  iintro ⟨O13, HO⟩
  iapply cnd
  iapply (send1 A K c 3 1 (n := 49) (m := 1) (m' := 2) rfl rfl rfl ok1_3.2.1 rfl rfl (fun _ => rfl)) $$ [O13 S131 HO]
  · iframe O13 S131 HO; iexact HE
  iintro ⟨O13, HO⟩
  iapply cnd
  iapply (send1 A K c 3 2 (n := 50) (m := 2) (m' := 3) rfl rfl rfl ok1_3.2.2.1 rfl rfl (fun _ => rfl)) $$ [O13 S132 HO]
  · iframe O13 S132 HO; iexact HE
  iintro ⟨O13, HO⟩
  iapply cnd
  iapply (send1 A K c 3 3 (n := 51) (m := 3) (m' := 4) rfl rfl rfl ok1_3.2.2.2 rfl rfl (fun _ => rfl)) $$ [O13 S133 HO]
  · iframe O13 S133 HO; iexact HE
  iintro ⟨O13, HO⟩
  simp only [wp_ret]
  imodintro
  iapply Hk
  iframe

end Cert.Attn
-- ==== Proof.PartsD.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The result rows of round 0 have come in from the column, and the slab goes along the row. -/
theorem part24 (c : Dev nD) (w1 : BitVec 1) {Q : (BitVec 1) → sProp 𝕄} :
    iprop(Env (vals A) K ∗ Rcv A 2 (.rcv 2 0) 0 c ∗ Owed c 44 ∗ OwnR A c 0 ∗ Out A 3 0 0 c ∗ Rcv A 0 (.rcv 0 3) 0 c)
      ⊢ iprop(((Owed c 48 ∗ Done 2 (.rcv 2 0) c ∗ Halves A c 0 ∗ Out A 3 0 4 c ∗ Rcv A 0 (.rcv 0 3) 2 c) -∗ Q (Scalar.cmpi .ne (pw c) 2#32))
        -∗ run c (app (k0_part24_skel (F := F)) c (zw c) (pw c) w1) Q) := by
  unfold app k0_part24_skel
  simp (config := { zeta := false }) only [Prog.lift, Prog.bind_op, Prog.bind_ret, Prog.pure_eq_ret]
  iintro ⟨#HE, R20, HO, W0, O30, R03⟩ Hk
  iapply cnd
  iapply (rcv_step A K 0 (m := 0) (m' := 1) rfl rfl (wait_if A K c (amt_rcv 2 0) (card_rcv 2 0) 0 (n := 44) (.inr (by decide +kernel)) (wait2_0.1 c) amt2 rfl)) $$ [R20 HO]
  · iframe R20 HO; iexact HE
  iintro ⟨R20, HO⟩
  iapply cnd
  iapply (rcv_step A K 1 (m := 1) (m' := 2) rfl rfl (wait_if A K c (amt_rcv 2 0) (card_rcv 2 0) 1 (n := 44) (.inr (by decide +kernel)) (wait2_0.2.1 c) amt2 rfl)) $$ [R20 HO]
  · iframe R20 HO; iexact HE
  iintro ⟨R20, HO⟩
  iapply cnd
  iapply (rcv_step A K 2 (m := 2) (m' := 3) rfl rfl (wait_if A K c (amt_rcv 2 0) (card_rcv 2 0) 2 (n := 44) (.inr (by decide +kernel)) (wait2_0.2.2.1 c) amt2 rfl)) $$ [R20 HO]
  · iframe R20 HO; iexact HE
  iintro ⟨R20, HO⟩
  iapply cnd
  iapply (rcv_step A K 3 (m := 3) (m' := 4) rfl rfl (wait_if A K c (amt_rcv 2 0) (card_rcv 2 0) 3 (n := 44) (.inr (by decide +kernel)) (wait2_0.2.2.2 c) amt2 rfl)) $$ [R20 HO]
  · iframe R20 HO; iexact HE
  iintro ⟨R20, HO⟩
  ihave H := (to_rows A c 0) $$ [R20 W0]
  · iframe R20 W0
  icases H with ⟨D20, L0, S300, S301, S302, S303⟩
  iapply cnd
  iapply (send3 A K c 0 0 (n := 44) (m := 0) (m' := 1) rfl rfl rfl ok3_0.1 rfl rfl (fun h => ((ok3_0.1 c).2 h).1)) $$ [O30 S300 HO]
  · iframe O30 S300 HO; iexact HE
  iintro ⟨O30, HO⟩
  iapply cnd
  iapply (send3 A K c 0 1 (n := 45) (m := 1) (m' := 2) rfl rfl rfl ok3_0.2.1 rfl rfl (fun h => ((ok3_0.2.1 c).2 h).1)) $$ [O30 S301 HO]
  · iframe O30 S301 HO; iexact HE
  iintro ⟨O30, HO⟩
  iapply cnd
  iapply (send3 A K c 0 2 (n := 46) (m := 2) (m' := 3) rfl rfl rfl ok3_0.2.2.1 rfl rfl (fun h => ((ok3_0.2.2.1 c).2 h).1)) $$ [O30 S302 HO]
  · iframe O30 S302 HO; iexact HE
  iintro ⟨O30, HO⟩
  iapply cnd
  iapply (send3 A K c 0 3 (n := 47) (m := 3) (m' := 4) rfl rfl rfl ok3_0.2.2.2 rfl rfl (fun h => ((ok3_0.2.2.2 c).2 h).1)) $$ [O30 S303 HO]
  · iframe O30 S303 HO; iexact HE
  iintro ⟨O30, HO⟩
  iapply cnd
  iapply (rcv_step A K 0 (m := 0) (m' := 1) rfl rfl (wait_if A K c (amt_rcv 0 3) (card_rcv 0 3) 0 (n := 48) (.inr (by decide +kernel)) (tp.1 c) amt0 rfl)) $$ [R03 HO]
  · iframe R03 HO; iexact HE
  iintro ⟨R03, HO⟩
  iapply cnd
  iapply (rcv_step A K 1 (m := 1) (m' := 2) rfl rfl (wait_if A K c (amt_rcv 0 3) (card_rcv 0 3) 1 (n := 48) (.inr (by decide +kernel)) (tp.2.1 c) amt0 rfl)) $$ [R03 HO]
  · iframe R03 HO; iexact HE
  iintro ⟨R03, HO⟩
  simp only [wp_ret]
  imodintro
  iapply Hk
  iframe

/-- The result rows of round 1 have come in from the column, and the slab goes along the row. -/
theorem part26 (c : Dev nD)  {Q : (PUnit) → sProp 𝕄} :
    iprop(Env (vals A) K ∗ Rcv A 2 (.rcv 2 1) 0 c ∗ Owed c 52 ∗ OwnR A c 1 ∗ Out A 3 1 0 c ∗ Rcv A 1 (.rcv 1 2) 0 c)
      ⊢ iprop(((Owed c 56 ∗ Done 2 (.rcv 2 1) c ∗ Halves A c 1 ∗ Out A 3 1 4 c ∗ Rcv A 1 (.rcv 1 2) 2 c) -∗ Q ⟨⟩)
        -∗ run c (app (k0_part26_skel (F := F)) c (zw c) (pw c)) Q) := by
  unfold app k0_part26_skel
  simp (config := { zeta := false }) only [Prog.lift, Prog.bind_op, Prog.bind_ret, Prog.pure_eq_ret]
  iintro ⟨#HE, R21, HO, W1, O31, R12⟩ Hk
  iapply cnd
  iapply (rcv_step A K 0 (m := 0) (m' := 1) rfl rfl (wait_if A K c (amt_rcv 2 1) (card_rcv 2 1) 0 (n := 52) (.inr (by decide +kernel)) (wait2_1.1 c) amt2 rfl)) $$ [R21 HO]
  · iframe R21 HO; iexact HE
  iintro ⟨R21, HO⟩
  iapply cnd
  iapply (rcv_step A K 1 (m := 1) (m' := 2) rfl rfl (wait_if A K c (amt_rcv 2 1) (card_rcv 2 1) 1 (n := 52) (.inr (by decide +kernel)) (wait2_1.2.1 c) amt2 rfl)) $$ [R21 HO]
  · iframe R21 HO; iexact HE
  iintro ⟨R21, HO⟩
  iapply cnd
  iapply (rcv_step A K 2 (m := 2) (m' := 3) rfl rfl (wait_if A K c (amt_rcv 2 1) (card_rcv 2 1) 2 (n := 52) (.inr (by decide +kernel)) (wait2_1.2.2.1 c) amt2 rfl)) $$ [R21 HO]
  · iframe R21 HO; iexact HE
  iintro ⟨R21, HO⟩
  iapply cnd
  iapply (rcv_step A K 3 (m := 3) (m' := 4) rfl rfl (wait_if A K c (amt_rcv 2 1) (card_rcv 2 1) 3 (n := 52) (.inr (by decide +kernel)) (wait2_1.2.2.2 c) amt2 rfl)) $$ [R21 HO]
  · iframe R21 HO; iexact HE
  iintro ⟨R21, HO⟩
  ihave H := (to_rows A c 1) $$ [R21 W1]
  · iframe R21 W1
  icases H with ⟨D21, L1, S310, S311, S312, S313⟩
  iapply cnd
  iapply (send3 A K c 1 0 (n := 52) (m := 0) (m' := 1) rfl rfl rfl ok3_1.1 rfl rfl (fun h => ((ok3_1.1 c).2 h).1)) $$ [O31 S310 HO]
  · iframe O31 S310 HO; iexact HE
  iintro ⟨O31, HO⟩
  iapply cnd
  iapply (send3 A K c 1 1 (n := 53) (m := 1) (m' := 2) rfl rfl rfl ok3_1.2.1 rfl rfl (fun h => ((ok3_1.2.1 c).2 h).1)) $$ [O31 S311 HO]
  · iframe O31 S311 HO; iexact HE
  iintro ⟨O31, HO⟩
  iapply cnd
  iapply (send3 A K c 1 2 (n := 54) (m := 2) (m' := 3) rfl rfl rfl ok3_1.2.2.1 rfl rfl (fun h => ((ok3_1.2.2.1 c).2 h).1)) $$ [O31 S312 HO]
  · iframe O31 S312 HO; iexact HE
  iintro ⟨O31, HO⟩
  iapply cnd
  iapply (send3 A K c 1 3 (n := 55) (m := 3) (m' := 4) rfl rfl rfl ok3_1.2.2.2 rfl rfl (fun h => ((ok3_1.2.2.2 c).2 h).1)) $$ [O31 S313 HO]
  · iframe O31 S313 HO; iexact HE
  iintro ⟨O31, HO⟩
  iapply cnd
  iapply (rcv_step A K 0 (m := 0) (m' := 1) rfl rfl (wait_if A K c (amt_rcv 1 2) (card_rcv 1 2) 0 (n := 56) (.inr (by decide +kernel)) (tz.1 c) amt1 rfl)) $$ [R12 HO]
  · iframe R12 HO; iexact HE
  iintro ⟨R12, HO⟩
  iapply cnd
  iapply (rcv_step A K 1 (m := 1) (m' := 2) rfl rfl (wait_if A K c (amt_rcv 1 2) (card_rcv 1 2) 1 (n := 56) (.inr (by decide +kernel)) (tz.2.1 c) amt1 rfl)) $$ [R12 HO]
  · iframe R12 HO; iexact HE
  iintro ⟨R12, HO⟩
  simp only [wp_ret]
  imodintro
  iapply Hk
  iframe

/-- The result rows of round 2 are stored, and half of them are sent. -/
theorem part27 (c : Dev nD)  {Q : (PUnit) → sProp 𝕄} :
    iprop(Env (vals A) K ∗ Rcv A 1 (.rcv 1 2) 2 c ∗ Owed c 56 ∗ ZS A c 2 ∗ Out A 1 2 4 c ∗ OutB c 2 ∗ Out A 2 2 0 c)
      ⊢ iprop(((Owed c 58 ∗ Done 1 (.rcv 1 2) c ∗ ZB A c 2 ∗ Rcv A 1 (.snd 1 2) 0 c ∗ Src (vals A) 1 2 (own 1 c) c ∗ OwnR A c 2 ∗ Src (vals A) 2 2 2 c ∗ Src (vals A) 2 2 3 c ∗ Out A 2 2 2 c) -∗ Q ⟨⟩)
        -∗ run c (app (k0_part27_skel (F := F)) c (zw c) (pw c)) Q) := by
  unfold app k0_part27_skel
  simp (config := { zeta := false }) only [Prog.lift, Prog.bind_op, Prog.bind_ret, Prog.pure_eq_ret]
  iintro ⟨#HE, R12, HO, Z12, O12, G2, O22⟩ Hk
  iapply cnd
  iapply (rcv_step A K 2 (m := 2) (m' := 3) rfl rfl (wait_if A K c (amt_rcv 1 2) (card_rcv 1 2) 2 (n := 56) (.inr (by decide +kernel)) (tz.2.2.1 c) amt1 rfl)) $$ [R12 HO]
  · iframe R12 HO; iexact HE
  iintro ⟨R12, HO⟩
  iapply cnd
  iapply (rcv_step A K 3 (m := 3) (m' := 4) rfl rfl (wait_if A K c (amt_rcv 1 2) (card_rcv 1 2) 3 (n := 56) (.inr (by decide +kernel)) (tz.2.2.2 c) amt1 rfl)) $$ [R12 HO]
  · iframe R12 HO; iexact HE
  iintro ⟨R12, HO⟩
  ihave H := (to_zb A c 2) $$ [R12 Z12]
  · iframe R12 Z12
  icases H with ⟨D12, B12⟩
  ihave H := (out_all A (c := c) (k := 1) (r := 2)) $$ O12
  icases H with ⟨E12, X12⟩
  iapply (ld_cg A c 2 (off_cg.2.2.1 c)) $$ X12
  iintro X12
  iapply (ld_zb A c 2 rfl) $$ B12
  iintro B12
  iapply (ld_out c 2 (off_out.2.2.1 c)) $$ G2
  iintro G2
  iapply (st_out A c 2 (off_out.2.2.1 c) (via2 pay47_eq (vOutBlk_eq A c 2))) $$ G2
  iintro ⟨H, W2⟩
  ihave H := (Entails.of_eq (all4_eq (fun j => Src (vals A) 2 2 j c))) $$ H
  icases H with ⟨S220, S221, S222, S223⟩
  iapply cnd
  iapply (send2 A K c 2 0 (n := 56) (m := 0) (m' := 1) rfl rfl rfl ok2_2.1 rfl rfl (fun h => ((ok2_2.1 c).2 h).1)) $$ [O22 S220 HO]
  · iframe O22 S220 HO; iexact HE
  iintro ⟨O22, HO⟩
  iapply cnd
  iapply (send2 A K c 2 1 (n := 57) (m := 1) (m' := 2) rfl rfl rfl ok2_2.2.1 rfl rfl (fun h => ((ok2_2.2.1 c).2 h).1)) $$ [O22 S221 HO]
  · iframe O22 S221 HO; iexact HE
  iintro ⟨O22, HO⟩
  simp only [wp_ret]
  imodintro
  iapply Hk
  iframe

/-- The other half is sent, and the result rows of round 3 are computed. -/
theorem part28 (c : Dev nD)  {Q : (FVec F S16x768 .bf16) → sProp 𝕄} :
    iprop(Env (vals A) K ∗ Out A 2 2 2 c ∗ Src (vals A) 2 2 2 c ∗ Owed c 58 ∗ Src (vals A) 2 2 3 c ∗ Rcv A 1 (.rcv 1 3) 0 c ∗ ZS A c 3 ∗ Out A 1 3 4 c ∗ OutB c 3)
      ⊢ iprop(((Out A 2 2 4 c ∗ Owed c 60 ∗ Done 1 (.rcv 1 3) c ∗ ZB A c 3 ∗ Rcv A 1 (.snd 1 3) 0 c ∗ Src (vals A) 1 3 (own 1 c) c ∗ OutB c 3) -∗ Q (k0_pay48 (rdCg A c 3) (rdZb A c 3)))
        -∗ run c (app (k0_part28_skel (F := F)) c (zw c) (pw c)) Q) := by
  unfold app k0_part28_skel
  simp (config := { zeta := false }) only [Prog.lift, Prog.bind_op, Prog.bind_ret, Prog.pure_eq_ret]
  iintro ⟨#HE, O22, S222, HO, S223, R13, Z13, O13, G3⟩ Hk
  iapply cnd
  iapply (send2 A K c 2 2 (n := 58) (m := 2) (m' := 3) rfl rfl rfl ok2_2.2.2.1 rfl rfl (fun h => ((ok2_2.2.2.1 c).2 h).1)) $$ [O22 S222 HO]
  · iframe O22 S222 HO; iexact HE
  iintro ⟨O22, HO⟩
  iapply cnd
  iapply (send2 A K c 2 3 (n := 59) (m := 3) (m' := 4) rfl rfl rfl ok2_2.2.2.2 rfl rfl (fun h => ((ok2_2.2.2.2 c).2 h).1)) $$ [O22 S223 HO]
  · iframe O22 S223 HO; iexact HE
  iintro ⟨O22, HO⟩
  iapply cnd
  iapply (rcv_step A K 0 (m := 0) (m' := 1) rfl rfl (wait_if A K c (amt_rcv 1 3) (card_rcv 1 3) 0 (n := 60) (.inr (by decide +kernel)) (tz.1 c) amt1 rfl)) $$ [R13 HO]
  · iframe R13 HO; iexact HE
  iintro ⟨R13, HO⟩
  iapply cnd
  iapply (rcv_step A K 1 (m := 1) (m' := 2) rfl rfl (wait_if A K c (amt_rcv 1 3) (card_rcv 1 3) 1 (n := 60) (.inr (by decide +kernel)) (tz.2.1 c) amt1 rfl)) $$ [R13 HO]
  · iframe R13 HO; iexact HE
  iintro ⟨R13, HO⟩
  iapply cnd
  iapply (rcv_step A K 2 (m := 2) (m' := 3) rfl rfl (wait_if A K c (amt_rcv 1 3) (card_rcv 1 3) 2 (n := 60) (.inr (by decide +kernel)) (tz.2.2.1 c) amt1 rfl)) $$ [R13 HO]
  · iframe R13 HO; iexact HE
  iintro ⟨R13, HO⟩
  iapply cnd
  iapply (rcv_step A K 3 (m := 3) (m' := 4) rfl rfl (wait_if A K c (amt_rcv 1 3) (card_rcv 1 3) 3 (n := 60) (.inr (by decide +kernel)) (tz.2.2.2 c) amt1 rfl)) $$ [R13 HO]
  · iframe R13 HO; iexact HE
  iintro ⟨R13, HO⟩
  ihave H := (to_zb A c 3) $$ [R13 Z13]
  · iframe R13 Z13
  icases H with ⟨D13, B13⟩
  ihave H := (out_all A (c := c) (k := 1) (r := 3)) $$ O13
  icases H with ⟨E13, X13⟩
  iapply (ld_cg A c 3 (off_cg.2.2.2 c)) $$ X13
  iintro X13
  iapply (ld_zb A c 3 rfl) $$ B13
  iintro B13
  iapply (ld_out c 3 (off_out.2.2.2 c)) $$ G3
  iintro G3
  simp only [wp_ret]
  imodintro
  iapply Hk
  iframe

/-- The result rows of round 3 are stored and sent; those of round 2 have come in. -/
theorem part29 (c : Dev nD)  {Q : (Σ' (v927 : BitVec 32), BitVec 32) → sProp 𝕄} :
    iprop(Env (vals A) K ∗ OutB c 3 ∗ Out A 2 3 0 c ∗ Owed c 60 ∗ Rcv A 2 (.rcv 2 2) 0 c ∗ OwnR A c 2 ∗ Out A 3 2 0 c)
      ⊢ iprop(((OwnR A c 3 ∗ Out A 2 3 4 c ∗ Owed c 65 ∗ Done 2 (.rcv 2 2) c ∗ Halves A c 2 ∗ Src (vals A) 3 2 1 c ∗ Src (vals A) 3 2 2 c ∗ Src (vals A) 3 2 3 c ∗ Out A 3 2 1 c) -∗ Q ⟨Scalar.extui (Scalar.cmpi .ne (pw c) 1#32), 0#32⟩)
        -∗ run c (app (k0_part29_skel (F := F)) c (zw c) (pw c) (k0_pay48 (rdCg A c 3) (rdZb A c 3))) Q) := by
  unfold app k0_part29_skel
  simp (config := { zeta := false }) only [Prog.lift, Prog.bind_op, Prog.bind_ret, Prog.pure_eq_ret]
  iintro ⟨#HE, G3, O23, HO, R22, W2, O32⟩ Hk
  iapply (st_out A c 3 (off_out.2.2.2 c) ((pay48_49 _ _).trans (vOutBlk_eq A c 3))) $$ G3
  iintro ⟨H, W3⟩
  ihave H := (Entails.of_eq (all4_eq (fun j => Src (vals A) 2 3 j c))) $$ H
  icases H with ⟨S230, S231, S232, S233⟩
  iapply cnd
  iapply (send2 A K c 3 0 (n := 60) (m := 0) (m' := 1) rfl rfl rfl ok2_3.1 rfl rfl (fun h => ((ok2_3.1 c).2 h).1)) $$ [O23 S230 HO]
  · iframe O23 S230 HO; iexact HE
  iintro ⟨O23, HO⟩
  iapply cnd
  iapply (send2 A K c 3 1 (n := 61) (m := 1) (m' := 2) rfl rfl rfl ok2_3.2.1 rfl rfl (fun h => ((ok2_3.2.1 c).2 h).1)) $$ [O23 S231 HO]
  · iframe O23 S231 HO; iexact HE
  iintro ⟨O23, HO⟩
  iapply cnd
  iapply (send2 A K c 3 2 (n := 62) (m := 2) (m' := 3) rfl rfl rfl ok2_3.2.2.1 rfl rfl (fun h => ((ok2_3.2.2.1 c).2 h).1)) $$ [O23 S232 HO]
  · iframe O23 S232 HO; iexact HE
  iintro ⟨O23, HO⟩
  iapply cnd
  iapply (send2 A K c 3 3 (n := 63) (m := 3) (m' := 4) rfl rfl rfl ok2_3.2.2.2 rfl rfl (fun h => ((ok2_3.2.2.2 c).2 h).1)) $$ [O23 S233 HO]
  · iframe O23 S233 HO; iexact HE
  iintro ⟨O23, HO⟩
  iapply cnd
  iapply (rcv_step A K 0 (m := 0) (m' := 1) rfl rfl (wait_if A K c (amt_rcv 2 2) (card_rcv 2 2) 0 (n := 64) (.inr (by decide +kernel)) (wait2_2.1 c) amt2 rfl)) $$ [R22 HO]
  · iframe R22 HO; iexact HE
  iintro ⟨R22, HO⟩
  iapply cnd
  iapply (rcv_step A K 1 (m := 1) (m' := 2) rfl rfl (wait_if A K c (amt_rcv 2 2) (card_rcv 2 2) 1 (n := 64) (.inr (by decide +kernel)) (wait2_2.2.1 c) amt2 rfl)) $$ [R22 HO]
  · iframe R22 HO; iexact HE
  iintro ⟨R22, HO⟩
  iapply cnd
  iapply (rcv_step A K 2 (m := 2) (m' := 3) rfl rfl (wait_if A K c (amt_rcv 2 2) (card_rcv 2 2) 2 (n := 64) (.inr (by decide +kernel)) (wait2_2.2.2.1 c) amt2 rfl)) $$ [R22 HO]
  · iframe R22 HO; iexact HE
  iintro ⟨R22, HO⟩
  iapply cnd
  iapply (rcv_step A K 3 (m := 3) (m' := 4) rfl rfl (wait_if A K c (amt_rcv 2 2) (card_rcv 2 2) 3 (n := 64) (.inr (by decide +kernel)) (wait2_2.2.2.2 c) amt2 rfl)) $$ [R22 HO]
  · iframe R22 HO; iexact HE
  iintro ⟨R22, HO⟩
  ihave H := (to_rows A c 2) $$ [R22 W2]
  · iframe R22 W2
  icases H with ⟨D22, L2, S320, S321, S322, S323⟩
  iapply cnd
  iapply (send3 A K c 2 0 (n := 64) (m := 0) (m' := 1) rfl rfl rfl ok3_2.1 rfl rfl (fun h => ((ok3_2.1 c).2 h).1)) $$ [O32 S320 HO]
  · iframe O32 S320 HO; iexact HE
  iintro ⟨O32, HO⟩
  simp only [wp_ret]
  imodintro
  iapply Hk
  iframe

end Cert.Attn
-- ==== Proof.PartsE.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The slabs of rounds 2 and 3 go along the row, but for one message. -/
theorem part30 (c : Dev nD) (w1 w2 : BitVec 32) {Q : (Σ' (v957 : BitVec 32), BitVec 32) → sProp 𝕄} :
    iprop(Env (vals A) K ∗ Out A 3 2 1 c ∗ Src (vals A) 3 2 1 c ∗ Owed c 65 ∗ Src (vals A) 3 2 2 c ∗ Src (vals A) 3 2 3 c ∗ Rcv A 2 (.rcv 2 3) 0 c ∗ OwnR A c 3 ∗ Out A 3 3 0 c)
      ⊢ iprop(((Out A 3 2 4 c ∗ Owed c 71 ∗ Done 2 (.rcv 2 3) c ∗ Halves A c 3 ∗ Src (vals A) 3 3 3 c ∗ Out A 3 3 3 c) -∗ Q ⟨Scalar.extui (Scalar.cmpi .ne (pw c) 3#32), 0#32⟩)
        -∗ run c (app (k0_part30_skel (F := F)) c (zw c) (pw c) w1 w2) Q) := by
  unfold app k0_part30_skel
  simp (config := { zeta := false }) only [Prog.lift, Prog.bind_op, Prog.bind_ret, Prog.pure_eq_ret]
  iintro ⟨#HE, O32, S321, HO, S322, S323, R23, W3, O33⟩ Hk
  iapply cnd
  iapply (send3 A K c 2 1 (n := 65) (m := 1) (m' := 2) rfl rfl rfl ok3_2.2.1 rfl rfl (fun h => ((ok3_2.2.1 c).2 h).1)) $$ [O32 S321 HO]
  · iframe O32 S321 HO; iexact HE
  iintro ⟨O32, HO⟩
  iapply cnd
  iapply (send3 A K c 2 2 (n := 66) (m := 2) (m' := 3) rfl rfl rfl ok3_2.2.2.1 rfl rfl (fun h => ((ok3_2.2.2.1 c).2 h).1)) $$ [O32 S322 HO]
  · iframe O32 S322 HO; iexact HE
  iintro ⟨O32, HO⟩
  iapply cnd
  iapply (send3 A K c 2 3 (n := 67) (m := 3) (m' := 4) rfl rfl rfl ok3_2.2.2.2 rfl rfl (fun h => ((ok3_2.2.2.2 c).2 h).1)) $$ [O32 S323 HO]
  · iframe O32 S323 HO; iexact HE
  iintro ⟨O32, HO⟩
  iapply cnd
  iapply (rcv_step A K 0 (m := 0) (m' := 1) rfl rfl (wait_if A K c (amt_rcv 2 3) (card_rcv 2 3) 0 (n := 68) (.inr (by decide +kernel)) (wait2_3.1 c) amt2 rfl)) $$ [R23 HO]
  · iframe R23 HO; iexact HE
  iintro ⟨R23, HO⟩
  iapply cnd
  iapply (rcv_step A K 1 (m := 1) (m' := 2) rfl rfl (wait_if A K c (amt_rcv 2 3) (card_rcv 2 3) 1 (n := 68) (.inr (by decide +kernel)) (wait2_3.2.1 c) amt2 rfl)) $$ [R23 HO]
  · iframe R23 HO; iexact HE
  iintro ⟨R23, HO⟩
  iapply cnd
  iapply (rcv_step A K 2 (m := 2) (m' := 3) rfl rfl (wait_if A K c (amt_rcv 2 3) (card_rcv 2 3) 2 (n := 68) (.inr (by decide +kernel)) (wait2_3.2.2.1 c) amt2 rfl)) $$ [R23 HO]
  · iframe R23 HO; iexact HE
  iintro ⟨R23, HO⟩
  iapply cnd
  iapply (rcv_step A K 3 (m := 3) (m' := 4) rfl rfl (wait_if A K c (amt_rcv 2 3) (card_rcv 2 3) 3 (n := 68) (.inr (by decide +kernel)) (wait2_3.2.2.2 c) amt2 rfl)) $$ [R23 HO]
  · iframe R23 HO; iexact HE
  iintro ⟨R23, HO⟩
  ihave H := (to_rows A c 3) $$ [R23 W3]
  · iframe R23 W3
  icases H with ⟨D23, L3, S330, S331, S332, S333⟩
  iapply cnd
  iapply (send3 A K c 3 0 (n := 68) (m := 0) (m' := 1) rfl rfl rfl ok3_3.1 rfl rfl (fun h => ((ok3_3.1 c).2 h).1)) $$ [O33 S330 HO]
  · iframe O33 S330 HO; iexact HE
  iintro ⟨O33, HO⟩
  iapply cnd
  iapply (send3 A K c 3 1 (n := 69) (m := 1) (m' := 2) rfl rfl rfl ok3_3.2.1 rfl rfl (fun h => ((ok3_3.2.1 c).2 h).1)) $$ [O33 S331 HO]
  · iframe O33 S331 HO; iexact HE
  iintro ⟨O33, HO⟩
  iapply cnd
  iapply (send3 A K c 3 2 (n := 70) (m := 2) (m' := 3) rfl rfl rfl ok3_3.2.2.1 rfl rfl (fun h => ((ok3_3.2.2.1 c).2 h).1)) $$ [O33 S332 HO]
  · iframe O33 S332 HO; iexact HE
  iintro ⟨O33, HO⟩
  simp only [wp_ret]
  imodintro
  iapply Hk
  iframe

/-- The last message leaves, and slabs of rounds 0, 1 and 2 come in from the row. -/
theorem part31 (c : Dev nD) (w1 w2 : BitVec 32) {Q : (Σ' (v987 : BitVec 32), BitVec 32) → sProp 𝕄} :
    iprop(Env (vals A) K ∗ Out A 3 3 3 c ∗ Src (vals A) 3 3 3 c ∗ Owed c 71 ∗ Rcv A 3 (.rcv 3 0) 0 c ∗ Rcv A 3 (.rcv 3 1) 0 c ∗ Rcv A 3 (.rcv 3 2) 0 c)
      ⊢ iprop(((Out A 3 3 4 c ∗ Owed c 72 ∗ Rcv A 3 (.rcv 3 0) 4 c ∗ Rcv A 3 (.rcv 3 1) 4 c ∗ Rcv A 3 (.rcv 3 2) 1 c) -∗ Q ⟨Scalar.extui (Scalar.cmpi .ne (pw c) 1#32), 0#32⟩)
        -∗ run c (app (k0_part31_skel (F := F)) c (zw c) (pw c) w1 w2) Q) := by
  unfold app k0_part31_skel
  simp (config := { zeta := false }) only [Prog.lift, Prog.bind_op, Prog.bind_ret, Prog.pure_eq_ret]
  iintro ⟨#HE, O33, S333, HO, R30, R31, R32⟩ Hk
  iapply cnd
  iapply (send3 A K c 3 3 (n := 71) (m := 3) (m' := 4) rfl rfl rfl ok3_3.2.2.2 rfl rfl (fun h => ((ok3_3.2.2.2 c).2 h).1)) $$ [O33 S333 HO]
  · iframe O33 S333 HO; iexact HE
  iintro ⟨O33, HO⟩
  iapply cnd
  iapply (rcv_step A K 0 (m := 0) (m' := 1) rfl rfl (wait_if A K c (amt_rcv 3 0) (card_rcv 3 0) 0 (n := 72) (.inl rfl) (tp.1 c) amt3 rfl)) $$ [R30 HO]
  · iframe R30 HO; iexact HE
  iintro ⟨R30, HO⟩
  iapply cnd
  iapply (rcv_step A K 1 (m := 1) (m' := 2) rfl rfl (wait_if A K c (amt_rcv 3 0) (card_rcv 3 0) 1 (n := 72) (.inl rfl) (tp.2.1 c) amt3 rfl)) $$ [R30 HO]
  · iframe R30 HO; iexact HE
  iintro ⟨R30, HO⟩
  iapply cnd
  iapply (rcv_step A K 2 (m := 2) (m' := 3) rfl rfl (wait_if A K c (amt_rcv 3 0) (card_rcv 3 0) 2 (n := 72) (.inl rfl) (tp.2.2.1 c) amt3 rfl)) $$ [R30 HO]
  · iframe R30 HO; iexact HE
  iintro ⟨R30, HO⟩
  iapply cnd
  iapply (rcv_step A K 3 (m := 3) (m' := 4) rfl rfl (wait_if A K c (amt_rcv 3 0) (card_rcv 3 0) 3 (n := 72) (.inl rfl) (tp.2.2.2 c) amt3 rfl)) $$ [R30 HO]
  · iframe R30 HO; iexact HE
  iintro ⟨R30, HO⟩
  iapply cnd
  iapply (rcv_step A K 0 (m := 0) (m' := 1) rfl rfl (wait_if A K c (amt_rcv 3 1) (card_rcv 3 1) 0 (n := 72) (.inl rfl) (tp.1 c) amt3 rfl)) $$ [R31 HO]
  · iframe R31 HO; iexact HE
  iintro ⟨R31, HO⟩
  iapply cnd
  iapply (rcv_step A K 1 (m := 1) (m' := 2) rfl rfl (wait_if A K c (amt_rcv 3 1) (card_rcv 3 1) 1 (n := 72) (.inl rfl) (tp.2.1 c) amt3 rfl)) $$ [R31 HO]
  · iframe R31 HO; iexact HE
  iintro ⟨R31, HO⟩
  iapply cnd
  iapply (rcv_step A K 2 (m := 2) (m' := 3) rfl rfl (wait_if A K c (amt_rcv 3 1) (card_rcv 3 1) 2 (n := 72) (.inl rfl) (tp.2.2.1 c) amt3 rfl)) $$ [R31 HO]
  · iframe R31 HO; iexact HE
  iintro ⟨R31, HO⟩
  iapply cnd
  iapply (rcv_step A K 3 (m := 3) (m' := 4) rfl rfl (wait_if A K c (amt_rcv 3 1) (card_rcv 3 1) 3 (n := 72) (.inl rfl) (tp.2.2.2 c) amt3 rfl)) $$ [R31 HO]
  · iframe R31 HO; iexact HE
  iintro ⟨R31, HO⟩
  iapply cnd
  iapply (rcv_step A K 0 (m := 0) (m' := 1) rfl rfl (wait_if A K c (amt_rcv 3 2) (card_rcv 3 2) 0 (n := 72) (.inl rfl) (tp.1 c) amt3 rfl)) $$ [R32 HO]
  · iframe R32 HO; iexact HE
  iintro ⟨R32, HO⟩
  simp only [wp_ret]
  imodintro
  iapply Hk
  iframe

end Cert.Attn
-- ==== Proof.PartsF.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- The remaining slabs come in, and the messages of round 0 begin to be collected. -/
theorem part32 (c : Dev nD)  {Q : (Σ' (v1017 : BitVec 32), BitVec 32) → sProp 𝕄} :
    iprop(Env (vals A) K ∗ Rcv A 3 (.rcv 3 2) 1 c ∗ Owed c 72 ∗ Rcv A 3 (.rcv 3 3) 0 c ∗ Rcv A 0 (.snd 0 0) 0 c ∗ Rcv A 3 (.snd 3 0) 0 c)
      ⊢ iprop(((Rcv A 3 (.rcv 3 2) 4 c ∗ Owed c 72 ∗ Rcv A 3 (.rcv 3 3) 4 c ∗ Rcv A 0 (.snd 0 0) 3 c ∗ Rcv A 3 (.snd 3 0) 3 c) -∗ Q ⟨Scalar.extui (Scalar.cmpi .ne (pw c) 3#32), 0#32⟩)
        -∗ run c (app (k0_part32_skel (F := F)) c (zw c) (pw c) (Scalar.extui (Scalar.cmpi .ne (pw c) 1#32)) 0#32) Q) := by
  unfold app k0_part32_skel
  simp (config := { zeta := false }) only [Prog.lift, Prog.bind_op, Prog.bind_ret, Prog.pure_eq_ret]
  iintro ⟨#HE, R32, HO, R33, E00, E30⟩ Hk
  iapply cnd
  iapply (rcv_step A K 1 (m := 1) (m' := 2) rfl rfl (wait_if A K c (amt_rcv 3 2) (card_rcv 3 2) 1 (n := 72) (.inl rfl) (tp.2.1 c) amt3 rfl)) $$ [R32 HO]
  · iframe R32 HO; iexact HE
  iintro ⟨R32, HO⟩
  iapply cnd
  iapply (rcv_step A K 2 (m := 2) (m' := 3) rfl rfl (wait_if A K c (amt_rcv 3 2) (card_rcv 3 2) 2 (n := 72) (.inl rfl) (tp.2.2.1 c) amt3 rfl)) $$ [R32 HO]
  · iframe R32 HO; iexact HE
  iintro ⟨R32, HO⟩
  iapply cnd
  iapply (rcv_step A K 3 (m := 3) (m' := 4) rfl rfl (wait_if A K c (amt_rcv 3 2) (card_rcv 3 2) 3 (n := 72) (.inl rfl) (tp.2.2.2 c) amt3 rfl)) $$ [R32 HO]
  · iframe R32 HO; iexact HE
  iintro ⟨R32, HO⟩
  iapply cnd
  iapply (rcv_step A K 0 (m := 0) (m' := 1) rfl rfl (wait_if A K c (amt_rcv 3 3) (card_rcv 3 3) 0 (n := 72) (.inl rfl) (tp.1 c) amt3 rfl)) $$ [R33 HO]
  · iframe R33 HO; iexact HE
  iintro ⟨R33, HO⟩
  iapply cnd
  iapply (rcv_step A K 1 (m := 1) (m' := 2) rfl rfl (wait_if A K c (amt_rcv 3 3) (card_rcv 3 3) 1 (n := 72) (.inl rfl) (tp.2.1 c) amt3 rfl)) $$ [R33 HO]
  · iframe R33 HO; iexact HE
  iintro ⟨R33, HO⟩
  iapply cnd
  iapply (rcv_step A K 2 (m := 2) (m' := 3) rfl rfl (wait_if A K c (amt_rcv 3 3) (card_rcv 3 3) 2 (n := 72) (.inl rfl) (tp.2.2.1 c) amt3 rfl)) $$ [R33 HO]
  · iframe R33 HO; iexact HE
  iintro ⟨R33, HO⟩
  iapply cnd
  iapply (rcv_step A K 3 (m := 3) (m' := 4) rfl rfl (wait_if A K c (amt_rcv 3 3) (card_rcv 3 3) 3 (n := 72) (.inl rfl) (tp.2.2.2 c) amt3 rfl)) $$ [R33 HO]
  · iframe R33 HO; iexact HE
  iintro ⟨R33, HO⟩
  iapply cnd2
  iapply (rcv_step2 A K 0 (m := 0) (m' := 1) rfl rfl (wait2_if A K c (k := 0) (k' := 3) (fun _ => rfl) (amt_snd 0 0) (card_snd 0 0) (amt_snd 3 0) (card_snd 3 0) 0 (end0_0.1 c) amtS0 amt3 rfl rfl)) $$ [E00 E30 HO]
  · iframe E00 E30 HO; iexact HE
  iintro ⟨E00, E30, HO⟩
  iapply cnd2
  iapply (rcv_step2 A K 1 (m := 1) (m' := 2) rfl rfl (wait2_if A K c (k := 0) (k' := 3) (fun _ => rfl) (amt_snd 0 0) (card_snd 0 0) (amt_snd 3 0) (card_snd 3 0) 1 (end0_0.2.1 c) amtS0 amt3 rfl rfl)) $$ [E00 E30 HO]
  · iframe E00 E30 HO; iexact HE
  iintro ⟨E00, E30, HO⟩
  iapply cnd2
  iapply (rcv_step2 A K 2 (m := 2) (m' := 3) rfl rfl (wait2_if A K c (k := 0) (k' := 3) (fun _ => rfl) (amt_snd 0 0) (card_snd 0 0) (amt_snd 3 0) (card_snd 3 0) 2 (end0_0.2.2.1 c) amtS0 amt3 rfl rfl)) $$ [E00 E30 HO]
  · iframe E00 E30 HO; iexact HE
  iintro ⟨E00, E30, HO⟩
  simp only [wp_ret]
  imodintro
  iapply Hk
  iframe

end Cert.Attn
-- ==== Proof.PartsG.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- Completion of the messages of rounds 0 and 1 is collected. -/
theorem part33 (c : Dev nD) (w1 w2 : BitVec 32) {Q : (Σ' (v1047 : BitVec 32), BitVec 32) → sProp 𝕄} :
    iprop(Env (vals A) K ∗ Rcv A 0 (.snd 0 0) 3 c ∗ Rcv A 3 (.snd 3 0) 3 c ∗ Owed c 72 ∗ Rcv A 1 (.snd 1 0) 0 c ∗ Rcv A 2 (.snd 2 0) 0 c ∗ Rcv A 0 (.snd 0 1) 0 c ∗ Rcv A 3 (.snd 3 1) 0 c ∗ Rcv A 1 (.snd 1 1) 0 c ∗ Rcv A 2 (.snd 2 1) 0 c)
      ⊢ iprop(((Rcv A 0 (.snd 0 0) 4 c ∗ Rcv A 3 (.snd 3 0) 4 c ∗ Owed c 72 ∗ Rcv A 1 (.snd 1 0) 4 c ∗ Rcv A 2 (.snd 2 0) 4 c ∗ Rcv A 0 (.snd 0 1) 4 c ∗ Rcv A 3 (.snd 3 1) 4 c ∗ Rcv A 1 (.snd 1 1) 1 c ∗ Rcv A 2 (.snd 2 1) 1 c) -∗ Q ⟨Scalar.extui (Scalar.cmpi .ne (zw c) 1#32), 0#32⟩)
        -∗ run c (app (k0_part33_skel (F := F)) c (zw c) (pw c) w1 w2) Q) := by
  unfold app k0_part33_skel
  simp (config := { zeta := false }) only [Prog.lift, Prog.bind_op, Prog.bind_ret, Prog.pure_eq_ret]
  iintro ⟨#HE, E00, E30, HO, E10, E20, E01, E31, E11, E21⟩ Hk
  iapply cnd2
  iapply (rcv_step2 A K 3 (m := 3) (m' := 4) rfl rfl (wait2_if A K c (k := 0) (k' := 3) (fun _ => rfl) (amt_snd 0 0) (card_snd 0 0) (amt_snd 3 0) (card_snd 3 0) 3 (end0_0.2.2.2 c) amtS0 amt3 rfl rfl)) $$ [E00 E30 HO]
  · iframe E00 E30 HO; iexact HE
  iintro ⟨E00, E30, HO⟩
  iapply cnd2
  iapply (rcv_step2 A K 0 (m := 0) (m' := 1) rfl rfl (wait2_if A K c (k := 1) (k' := 2) (fun _ => rfl) (amt_snd 1 0) (card_snd 1 0) (amt_snd 2 0) (card_snd 2 0) 0 (end1_0.1 c) amtS1 amt2 rfl rfl)) $$ [E10 E20 HO]
  · iframe E10 E20 HO; iexact HE
  iintro ⟨E10, E20, HO⟩
  iapply cnd2
  iapply (rcv_step2 A K 1 (m := 1) (m' := 2) rfl rfl (wait2_if A K c (k := 1) (k' := 2) (fun _ => rfl) (amt_snd 1 0) (card_snd 1 0) (amt_snd 2 0) (card_snd 2 0) 1 (end1_0.2.1 c) amtS1 amt2 rfl rfl)) $$ [E10 E20 HO]
  · iframe E10 E20 HO; iexact HE
  iintro ⟨E10, E20, HO⟩
  iapply cnd2
  iapply (rcv_step2 A K 2 (m := 2) (m' := 3) rfl rfl (wait2_if A K c (k := 1) (k' := 2) (fun _ => rfl) (amt_snd 1 0) (card_snd 1 0) (amt_snd 2 0) (card_snd 2 0) 2 (end1_0.2.2.1 c) amtS1 amt2 rfl rfl)) $$ [E10 E20 HO]
  · iframe E10 E20 HO; iexact HE
  iintro ⟨E10, E20, HO⟩
  iapply cnd2
  iapply (rcv_step2 A K 3 (m := 3) (m' := 4) rfl rfl (wait2_if A K c (k := 1) (k' := 2) (fun _ => rfl) (amt_snd 1 0) (card_snd 1 0) (amt_snd 2 0) (card_snd 2 0) 3 (end1_0.2.2.2 c) amtS1 amt2 rfl rfl)) $$ [E10 E20 HO]
  · iframe E10 E20 HO; iexact HE
  iintro ⟨E10, E20, HO⟩
  iapply cnd2
  iapply (rcv_step2 A K 0 (m := 0) (m' := 1) rfl rfl (wait2_if A K c (k := 0) (k' := 3) (fun _ => rfl) (amt_snd 0 1) (card_snd 0 1) (amt_snd 3 1) (card_snd 3 1) 0 (end0_1.1 c) amtS0 amt3 rfl rfl)) $$ [E01 E31 HO]
  · iframe E01 E31 HO; iexact HE
  iintro ⟨E01, E31, HO⟩
  iapply cnd2
  iapply (rcv_step2 A K 1 (m := 1) (m' := 2) rfl rfl (wait2_if A K c (k := 0) (k' := 3) (fun _ => rfl) (amt_snd 0 1) (card_snd 0 1) (amt_snd 3 1) (card_snd 3 1) 1 (end0_1.2.1 c) amtS0 amt3 rfl rfl)) $$ [E01 E31 HO]
  · iframe E01 E31 HO; iexact HE
  iintro ⟨E01, E31, HO⟩
  iapply cnd2
  iapply (rcv_step2 A K 2 (m := 2) (m' := 3) rfl rfl (wait2_if A K c (k := 0) (k' := 3) (fun _ => rfl) (amt_snd 0 1) (card_snd 0 1) (amt_snd 3 1) (card_snd 3 1) 2 (end0_1.2.2.1 c) amtS0 amt3 rfl rfl)) $$ [E01 E31 HO]
  · iframe E01 E31 HO; iexact HE
  iintro ⟨E01, E31, HO⟩
  iapply cnd2
  iapply (rcv_step2 A K 3 (m := 3) (m' := 4) rfl rfl (wait2_if A K c (k := 0) (k' := 3) (fun _ => rfl) (amt_snd 0 1) (card_snd 0 1) (amt_snd 3 1) (card_snd 3 1) 3 (end0_1.2.2.2 c) amtS0 amt3 rfl rfl)) $$ [E01 E31 HO]
  · iframe E01 E31 HO; iexact HE
  iintro ⟨E01, E31, HO⟩
  iapply cnd2
  iapply (rcv_step2 A K 0 (m := 0) (m' := 1) rfl rfl (wait2_if A K c (k := 1) (k' := 2) (fun _ => rfl) (amt_snd 1 1) (card_snd 1 1) (amt_snd 2 1) (card_snd 2 1) 0 (end1_1.1 c) amtS1 amt2 rfl rfl)) $$ [E11 E21 HO]
  · iframe E11 E21 HO; iexact HE
  iintro ⟨E11, E21, HO⟩
  simp only [wp_ret]
  imodintro
  iapply Hk
  iframe

end Cert.Attn
-- ==== Proof.PartsH.lean ====
module

public import proofs.«01_k».proof.Proof.Trans

/-!
# The parts of the kernel
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

set_option maxRecDepth 10000
set_option maxHeartbeats 4000000

/-- Completion of the messages of rounds 1 and 2 is collected. -/
theorem part34 (c : Dev nD) (w1 w2 : BitVec 32) {Q : (Σ' (v1077 : BitVec 32), BitVec 32) → sProp 𝕄} :
    iprop(Env (vals A) K ∗ Rcv A 1 (.snd 1 1) 1 c ∗ Rcv A 2 (.snd 2 1) 1 c ∗ Owed c 72 ∗ Rcv A 0 (.snd 0 2) 0 c ∗ Rcv A 3 (.snd 3 2) 0 c ∗ Rcv A 1 (.snd 1 2) 0 c ∗ Rcv A 2 (.snd 2 2) 0 c)
      ⊢ iprop(((Rcv A 1 (.snd 1 1) 4 c ∗ Rcv A 2 (.snd 2 1) 4 c ∗ Owed c 72 ∗ Rcv A 0 (.snd 0 2) 4 c ∗ Rcv A 3 (.snd 3 2) 4 c ∗ Rcv A 1 (.snd 1 2) 3 c ∗ Rcv A 2 (.snd 2 2) 3 c) -∗ Q ⟨Scalar.extui (Scalar.cmpi .ne (zw c) 3#32), 0#32⟩)
        -∗ run c (app (k0_part34_skel (F := F)) c (zw c) (pw c) w1 w2) Q) := by
  unfold app k0_part34_skel
  simp (config := { zeta := false }) only [Prog.lift, Prog.bind_op, Prog.bind_ret, Prog.pure_eq_ret]
  iintro ⟨#HE, E11, E21, HO, E02, E32, E12, E22⟩ Hk
  iapply cnd2
  iapply (rcv_step2 A K 1 (m := 1) (m' := 2) rfl rfl (wait2_if A K c (k := 1) (k' := 2) (fun _ => rfl) (amt_snd 1 1) (card_snd 1 1) (amt_snd 2 1) (card_snd 2 1) 1 (end1_1.2.1 c) amtS1 amt2 rfl rfl)) $$ [E11 E21 HO]
  · iframe E11 E21 HO; iexact HE
  iintro ⟨E11, E21, HO⟩
  iapply cnd2
  iapply (rcv_step2 A K 2 (m := 2) (m' := 3) rfl rfl (wait2_if A K c (k := 1) (k' := 2) (fun _ => rfl) (amt_snd 1 1) (card_snd 1 1) (amt_snd 2 1) (card_snd 2 1) 2 (end1_1.2.2.1 c) amtS1 amt2 rfl rfl)) $$ [E11 E21 HO]
  · iframe E11 E21 HO; iexact HE
  iintro ⟨E11, E21, HO⟩
  iapply cnd2
  iapply (rcv_step2 A K 3 (m := 3) (m' := 4) rfl rfl (wait2_if A K c (k := 1) (k' := 2) (fun _ => rfl) (amt_snd 1 1) (card_snd 1 1) (amt_snd 2 1) (card_snd 2 1) 3 (end1_1.2.2.2 c) amtS1 amt2 rfl rfl)) $$ [E11 E21 HO]
  · iframe E11 E21 HO; iexact HE
  iintro ⟨E11, E21, HO⟩
  iapply cnd2
  iapply (rcv_step2 A K 0 (m := 0) (m' := 1) rfl rfl (wait2_if A K c (k := 0) (k' := 3) (fun _ => rfl) (amt_snd 0 2) (card_snd 0 2) (amt_snd 3 2) (card_snd 3 2) 0 (end0_2.1 c) amtS0 amt3 rfl rfl)) $$ [E02 E32 HO]
  · iframe E02 E32 HO; iexact HE
  iintro ⟨E02, E32, HO⟩
  iapply cnd2
  iapply (rcv_step2 A K 1 (m := 1) (m' := 2) rfl rfl (wait2_if A K c (k := 0) (k' := 3) (fun _ => rfl) (amt_snd 0 2) (card_snd 0 2) (amt_snd 3 2) (card_snd 3 2) 1 (end0_2.2.1 c) amtS0 amt3 rfl rfl)) $$ [E02 E32 HO]
  · iframe E02 E32 HO; iexact HE
  iintro ⟨E02, E32, HO⟩
  iapply cnd2
  iapply (rcv_step2 A K 2 (m := 2) (m' := 3) rfl rfl (wait2_if A K c (k := 0) (k' := 3) (fun _ => rfl) (amt_snd 0 2) (card_snd 0 2) (amt_snd 3 2) (card_snd 3 2) 2 (end0_2.2.2.1 c) amtS0 amt3 rfl rfl)) $$ [E02 E32 HO]
  · iframe E02 E32 HO; iexact HE
  iintro ⟨E02, E32, HO⟩
  iapply cnd2
  iapply (rcv_step2 A K 3 (m := 3) (m' := 4) rfl rfl (wait2_if A K c (k := 0) (k' := 3) (fun _ => rfl) (amt_snd 0 2) (card_snd 0 2) (amt_snd 3 2) (card_snd 3 2) 3 (end0_2.2.2.2 c) amtS0 amt3 rfl rfl)) $$ [E02 E32 HO]
  · iframe E02 E32 HO; iexact HE
  iintro ⟨E02, E32, HO⟩
  iapply cnd2
  iapply (rcv_step2 A K 0 (m := 0) (m' := 1) rfl rfl (wait2_if A K c (k := 1) (k' := 2) (fun _ => rfl) (amt_snd 1 2) (card_snd 1 2) (amt_snd 2 2) (card_snd 2 2) 0 (end1_2.1 c) amtS1 amt2 rfl rfl)) $$ [E12 E22 HO]
  · iframe E12 E22 HO; iexact HE
  iintro ⟨E12, E22, HO⟩
  iapply cnd2
  iapply (rcv_step2 A K 1 (m := 1) (m' := 2) rfl rfl (wait2_if A K c (k := 1) (k' := 2) (fun _ => rfl) (amt_snd 1 2) (card_snd 1 2) (amt_snd 2 2) (card_snd 2 2) 1 (end1_2.2.1 c) amtS1 amt2 rfl rfl)) $$ [E12 E22 HO]
  · iframe E12 E22 HO; iexact HE
  iintro ⟨E12, E22, HO⟩
  iapply cnd2
  iapply (rcv_step2 A K 2 (m := 2) (m' := 3) rfl rfl (wait2_if A K c (k := 1) (k' := 2) (fun _ => rfl) (amt_snd 1 2) (card_snd 1 2) (amt_snd 2 2) (card_snd 2 2) 2 (end1_2.2.2.1 c) amtS1 amt2 rfl rfl)) $$ [E12 E22 HO]
  · iframe E12 E22 HO; iexact HE
  iintro ⟨E12, E22, HO⟩
  simp only [wp_ret]
  imodintro
  iapply Hk
  iframe

end Cert.Attn
-- ==== Proof.Main.lean ====
module

public import proofs.«01_k».proof.Proof.Turn
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH

/-!
# The kernel on one device, from its first operation to its last
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

set_option maxHeartbeats 4000000

/-- A buffer of device `c` with anything in it. -/
abbrev Any (c : Dev nD) (b : Ref sig .tc) : sProp 𝕄 := iprop(∃ f, ptw (F := F) c b f)

/-- What a device holds when the kernel begins. -/
def Begin (c : Dev nD) : sProp 𝕄 :=
  iprop(ptw c cc0_stg0_0 (A.x c) ∗ ptw c cc0_stg1_0 (A.k c) ∗ ptw c cc0_stg2_0 (A.v c) ∗ Any (F := F) c cc0_stg3_0
    ∗ pt c main_arg1 (wqSet c) fullShare (A.wq c) ∗ pt c main_arg4 (woSet c) fullShare (A.wo c)
    ∗ Any (F := F) c cc0_scratch0 ∗ Any (F := F) c cc0_scratch1 ∗ Any (F := F) c cc0_scratch2 ∗ Any (F := F) c cc0_scratch3 ∗ Any (F := F) c cc0_scratch4
    ∗ Any (F := F) c cc0_scratch5 ∗ Any (F := F) c cc0_scratch6 ∗ Any (F := F) c cc0_scratch7 ∗ Any (F := F) c cc0_scratch8 ∗ Any (F := F) c cc0_scratch9
    ∗ dutyTok ER (gc c (.ld 0)) 0 (false, 0) ∗ dutyTok ER (gc c (.ld 1)) 0 (false, 0)
    ∗ (all4 fun j => other 0 c j (dutyTok ER (gc (peer 0 c j) .bar) 0 (false, own 0 c)))
    ∗ (all4 fun j => other 1 c j (dutyTok ER (gc (peer 1 c j) .bar) 0 (true, own 1 c)))
    ∗ cred (tallyAt (gc c .bar) () 6) ∗ atPos ER (gc c .bar) 0 ∅ 0 ∗ atPos ER (gc c (.ld 0)) 0 ∅ 0 ∗ atPos ER (gc c (.ld 1)) 0 ∅ 0
    ∗ (all4 fun k => all4 fun r => Msg k r c) ∗ Owed c 0)

/-- What is left of round `r` at the end. -/
def Left (c : Dev nD) (r : Fin 4) : sProp 𝕄 :=
  iprop(Done 0 (.rcv 0 r) c ∗ Done 1 (.rcv 1 r) c ∗ Done 2 (.rcv 2 r) c ∗ Rcv A 3 (.rcv 3 r) 4 c
    ∗ PB A c r ∗ ZB A c r ∗ Halves A c r
    ∗ Src (vals A) 0 r (own 0 c) c ∗ Src (vals A) 1 r (own 1 c) c ∗ Src (vals A) 2 r (own 2 c) c ∗ Src (vals A) 3 r (own 3 c) c
    ∗ Rcv A 0 (.snd 0 r) 4 c ∗ Rcv A 1 (.snd 1 r) 4 c ∗ Rcv A 2 (.snd 2 r) 4 c ∗ Rcv A 3 (.snd 3 r) 4 c)

/-- What a device holds when the kernel ends. -/
def End (c : Dev nD) : sProp 𝕄 :=
  iprop(ptw c cc0_stg0_0 (A.x c) ∗ ptw c cc0_stg1_0 (A.k c) ∗ ptw c cc0_stg2_0 (A.v c)
    ∗ pt c main_arg1 (wqSet c) fullShare (A.wq c) ∗ pt c main_arg4 (woSet c) fullShare (A.wo c)
    ∗ Any (F := F) c cc0_scratch0 ∗ Any (F := F) c cc0_scratch1 ∗ Any (F := F) c cc0_scratch2 ∗ Any (F := F) c cc0_scratch3
    ∗ Any (F := F) c cc0_scratch8 ∗ Any (F := F) c cc0_scratch9
    ∗ atPos ER (gc c .bar) 0 (dset .bar c) 6 ∗ atPos ER (gc c (.ld 0)) 0 (dset (.ld 0) c) ldBytes ∗ atPos ER (gc c (.ld 1)) 0 (dset (.ld 1) c) ldBytes
    ∗ (all4 fun r => Left A c r) ∗ Owed c 72)

/-- The parts that follow one another. -/
theorem seq {α β : Type} {c : Dev nD} {p : Prog (TpuEff nD τ sig (Elt F) Λ₀ .tc) α} {f : α → Prog (TpuEff nD τ sig (Elt F) Λ₀ .tc) β} {Q : β → sProp 𝕄} :
    run c p (fun x => run c (f x) Q) ⊢ run c (p >>= f) Q := bnd

/-- The kernel runs on device `c` from what it holds at the beginning to what it holds at the end. -/
theorem body_run (c : Dev nD) {Q : PUnit → sProp 𝕄} : iprop(Env (vals A) K ∗ Begin A c) ⊢ iprop((End A c -∗ Q ⟨⟩) -∗ run c (app (cc0_body (F := F))) Q) := by
  rw [show app (cc0_body (F := F)) = app (cc0_body_skel (F := F)) by rw [cc0_body_eq_skeleton]]
  unfold app cc0_body_skel Begin
  rw [k0_part35_eq_skeleton]
  unfold k0_part35_skel
  simp (config := { zeta := false }) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  iintro ⟨#HE, Hx, HKst, HVst, ⟨%fo, Ho⟩, Hq, Hw, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, HV⟩, T0, T1, TP, TZ, Cb, Pb, P0, P1, HM, HO⟩ Hk
  iapply seq
  iapply seq
  iapply (part1 A K c) $$ [H6 H7 Hq H0 T0]
  · iframe H6 H7 Hq H0 T0; iexact HE
  iintro ⟨H6, H7, L0⟩
  ihave H := (tell A c fo) $$ [H6 H7 Ho TP TZ]
  · iframe H6 H7 Ho TP TZ
  icases H with ⟨HP, HZ, HG, SP, SZ⟩
  ihave SP := (Entails.of_eq (all4_eq (fun j => Sig (F := F) false j c))) $$ SP
  icases SP with ⟨SP0, SP1, SP2, SP3⟩
  ihave SZ := (Entails.of_eq (all4_eq (fun j => Sig (F := F) true j c))) $$ SZ
  icases SZ with ⟨SZ0, SZ1, SZ2, SZ3⟩
  iapply seq
  iapply (part2 A K c) $$ [Hw H1 T1 SP0 SP1 SP2 SP3 SZ0 SZ1 SZ2 SZ3 Cb Pb HO]
  · iframe Hw H1 T1 SP0 SP1 SP2 SP3 SZ0 SZ1 SZ2 SZ3 Cb Pb HO; iexact HE
  iintro ⟨L1, Pb, HB, HO⟩
  ihave H := (go A c) $$ [HB HM]
  · iframe HB HM
  ihave H := (Entails.of_eq (all4_eq (fun k => all4 fun r => iprop(Out A k r 0 c ∗ Rcv A k (.rcv k r) 0 c)))) $$ H
  icases H with ⟨H0_, H1_, H2_, H3_⟩
  ihave H0_ := (Entails.of_eq (all4_eq (fun r => iprop(Out A 0 r 0 c ∗ Rcv A 0 (.rcv 0 r) 0 c)))) $$ H0_
  icases H0_ with ⟨⟨O00, R00⟩, ⟨O01, R01⟩, ⟨O02, R02⟩, ⟨O03, R03⟩⟩
  ihave H1_ := (Entails.of_eq (all4_eq (fun r => iprop(Out A 1 r 0 c ∗ Rcv A 1 (.rcv 1 r) 0 c)))) $$ H1_
  icases H1_ with ⟨⟨O10, R10⟩, ⟨O11, R11⟩, ⟨O12, R12⟩, ⟨O13, R13⟩⟩
  ihave H2_ := (Entails.of_eq (all4_eq (fun r => iprop(Out A 2 r 0 c ∗ Rcv A 2 (.rcv 2 r) 0 c)))) $$ H2_
  icases H2_ with ⟨⟨O20, R20⟩, ⟨O21, R21⟩, ⟨O22, R22⟩, ⟨O23, R23⟩⟩
  ihave H3_ := (Entails.of_eq (all4_eq (fun r => iprop(Out A 3 r 0 c ∗ Rcv A 3 (.rcv 3 r) 0 c)))) $$ H3_
  icases H3_ with ⟨⟨O30, R30⟩, ⟨O31, R31⟩, ⟨O32, R32⟩, ⟨O33, R33⟩⟩
  ihave HP := (Entails.of_eq (all4_eq (fun r => PS A c r))) $$ HP
  icases HP with ⟨Z00, Z01, Z02, Z03⟩
  ihave HZ := (Entails.of_eq (all4_eq (fun r => ZS A c r))) $$ HZ
  icases HZ with ⟨Z10, Z11, Z12, Z13⟩
  ihave HG := (Entails.of_eq (all4_eq (fun r => OutB (F := F) c r))) $$ HG
  icases HG with ⟨G0, G1, G2, G3⟩
  ihave HA := (acc_start c f4) $$ H4
  icases HA with ⟨HA, HA'⟩
  ihave HA := (Entails.of_eq (all4_eq (fun j => AccB (F := F) c 0 j))) $$ HA
  icases HA with ⟨A00, A01, A02, A03⟩
  ihave HA' := (Entails.of_eq (all4_eq (fun j => AccB (F := F) c 1 j))) $$ HA'
  icases HA' with ⟨A10, A11, A12, A13⟩
  ihave HC := (cg_start c f5) $$ H5
  ihave HC := (Entails.of_eq (all4_eq (fun r => CgB (F := F) c r))) $$ HC
  icases HC with ⟨C0, C1, C2, C3⟩
  ihave HC := (ctx_start A c f3) $$ H3
  iapply seq
  iapply (part3 A K c) $$ [L0 P0 L1 P1 HO Hx HKst H2 H8]
  · iframe L0 P0 L1 P1 HO Hx HKst H2 H8; iexact HE
  iintro ⟨P0, P1, Hq, Hw, H0, HW, HO, Hx, HKst, HQ, HK⟩
  iapply seq
  iapply (part4 A K c _) $$ [HVst HV HQ HK HC]
  · iframe HVst HV HQ HK HC; iexact HE
  iintro ⟨HVst, HV, HQ, HK, HC⟩
  iapply seq
  iapply (part5 A K c) $$ [HV HC HQ HK]
  · iframe HV HC HQ HK; iexact HE
  iintro ⟨HV, HC, HQ, HK⟩
  iapply seq
  iapply (part6 A K c) $$ [HV HC HQ HK]
  · iframe HV HC HQ HK; iexact HE
  iintro ⟨HV, HC, HQ, HK⟩
  iapply seq
  iapply (part7 A K c) $$ [HQ HK HV HC]
  · iframe HQ HK HV HC; iexact HE
  iintro ⟨HQ, HK, HV, HC⟩
  iapply seq
  iapply (part8 A K c) $$ [HC HQ HK HV HW A00]
  · iframe HC HQ HK HV HW A00; iexact HE
  iintro ⟨HC, HQ, HK, HV, HW, S000, S010⟩
  iapply seq
  iapply (part9 A K c _ _) $$ [O00 S000 HO O01 S010 HC HW A01 A02]
  · iframe O00 S000 HO O01 S010 HC HW A01 A02; iexact HE
  iintro ⟨O00, HO, O01, HC, HW, S002, S012⟩
  iapply seq
  iapply (part10 A K c _) $$ [O00 S002 HO O01 S012 HC HW A03 HKst HK]
  · iframe O00 S002 HO O01 S012 HC HW A03 HKst HK; iexact HE
  iintro ⟨O00, HO, O01, HC, HW, HKst, HK⟩
  iapply seq
  iapply (part11 A K c) $$ [HVst HV HQ HK HC]
  · iframe HVst HV HQ HK HC; iexact HE
  iintro ⟨HVst, HV, HQ, HK, HC⟩
  iapply seq
  iapply (part12 A K c) $$ [HV HC HQ HK]
  · iframe HV HC HQ HK; iexact HE
  iintro ⟨HV, HC, HQ, HK⟩
  iapply seq
  iapply (part13 A K c) $$ [HV HC HQ HK]
  · iframe HV HC HQ HK; iexact HE
  iintro ⟨HV, HC, HQ, HK⟩
  iapply seq
  iapply (part14 A K c) $$ [HK HV HC HQ]
  · iframe HK HV HC HQ; iexact HE
  iintro ⟨HK, HV, HC, HQ⟩
  iapply seq
  iapply (part15 A K c) $$ [HC HQ HK HV R00 HO]
  · iframe HC HQ HK HV R00 HO; iexact HE
  iintro ⟨HC, HQ, HK, HV, R00, HO⟩
  iapply seq
  iapply (part16 A K c _) $$ [R00 Z00 O00 C0 O10 HO R01]
  · iframe R00 Z00 O00 C0 O10 HO R01; iexact HE
  iintro ⟨D00, B00, E00, X00, O10, HO, R01⟩
  iapply seq
  iapply (part17 A K c) $$ [R01 HO Z01 O01 C1 O11]
  · iframe R01 HO Z01 O01 C1 O11; iexact HE
  iintro ⟨HO, D01, B01, E01, X01, S113, O11⟩
  iapply seq
  iapply (part18 A K c _ _) $$ [O11 S113 HO HC HW A10 O02 O03 A11]
  · iframe O11 S113 HO HC HW A10 O02 O03 A11; iexact HE
  iintro ⟨O11, HO, HC, HW, O02, O03, S031⟩
  iapply seq
  iapply (part19 A K c _) $$ [O03 S031 HO HC HW A12 O02 A13]
  · iframe O03 S031 HO HC HW A12 O02 A13; iexact HE
  iintro ⟨O03, HO, HC, HW, O02, S033⟩
  iapply seq
  iapply (part20 A K c) $$ [O03 S033 HO R10 Z10 O10 G0]
  · iframe O03 S033 HO R10 Z10 O10 G0; iexact HE
  iintro ⟨O03, HO, D10, B10, E10, X10, G0⟩
  iapply seq
  iapply (part21 A K c) $$ [G0 O20 HO R11 O11]
  · iframe G0 O20 HO R11 O11; iexact HE
  iintro ⟨W0, O20, HO, R11, E11, X11⟩
  iapply seq
  iapply (part22 A K c) $$ [R11 Z11 G1 O21 HO R02]
  · iframe R11 Z11 G1 O21 HO R02; iexact HE
  iintro ⟨D11, B11, W1, O21, HO, R02⟩
  iapply seq
  iapply (part23 A K c) $$ [R02 HO Z02 O02 C2 O12]
  · iframe R02 HO Z02 O02 C2 O12; iexact HE
  iintro ⟨HO, D02, B02, E02, X02, O12⟩
  iapply seq
  iapply (part24 A K c _) $$ [R20 HO W0 O30 R03]
  · iframe R20 HO W0 O30 R03; iexact HE
  iintro ⟨HO, D20, L0, O30, R03⟩
  iapply seq
  iapply (part25 A K c) $$ [R03 HO Z03 O03 C3 O13]
  · iframe R03 HO Z03 O03 C3 O13; iexact HE
  iintro ⟨HO, D03, B03, E03, X03, O13⟩
  iapply seq
  iapply (part26 A K c) $$ [R21 HO W1 O31 R12]
  · iframe R21 HO W1 O31 R12; iexact HE
  iintro ⟨HO, D21, L1, O31, R12⟩
  iapply seq
  iapply (part27 A K c) $$ [R12 HO Z12 O12 G2 O22]
  · iframe R12 HO Z12 O12 G2 O22; iexact HE
  iintro ⟨HO, D12, B12, E12, X12, W2, S222, S223, O22⟩
  iapply seq
  iapply (part28 A K c) $$ [O22 S222 HO S223 R13 Z13 O13 G3]
  · iframe O22 S222 HO S223 R13 Z13 O13 G3; iexact HE
  iintro ⟨O22, HO, D13, B13, E13, X13, G3⟩
  iapply seq
  iapply (part29 A K c) $$ [G3 O23 HO R22 W2 O32]
  · iframe G3 O23 HO R22 W2 O32; iexact HE
  iintro ⟨W3, O23, HO, D22, L2, S321, S322, S323, O32⟩
  iapply seq
  iapply (part30 A K c _ _) $$ [O32 S321 HO S322 S323 R23 W3 O33]
  · iframe O32 S321 HO S322 S323 R23 W3 O33; iexact HE
  iintro ⟨O32, HO, D23, L3, S333, O33⟩
  iapply seq
  iapply (part31 A K c _ _) $$ [O33 S333 HO R30 R31 R32]
  · iframe O33 S333 HO R30 R31 R32; iexact HE
  iintro ⟨O33, HO, R30, R31, R32⟩
  ihave H := (out_all A) $$ O30
  icases H with ⟨E30, X30⟩
  iapply seq
  iapply (part32 A K c) $$ [R32 HO R33 E00 E30]
  · iframe R32 HO R33 E00 E30; iexact HE
  iintro ⟨R32, HO, R33, E00, E30⟩
  ihave H := (out_all A) $$ O20
  icases H with ⟨E20, X20⟩
  ihave H := (out_all A) $$ O31
  icases H with ⟨E31, X31⟩
  ihave H := (out_all A) $$ O21
  icases H with ⟨E21, X21⟩
  iapply seq
  iapply (part33 A K c _ _) $$ [E00 E30 HO E10 E20 E01 E31 E11 E21]
  · iframe E00 E30 HO E10 E20 E01 E31 E11 E21; iexact HE
  iintro ⟨E00, E30, HO, E10, E20, E01, E31, E11, E21⟩
  ihave H := (out_all A) $$ O32
  icases H with ⟨E32, X32⟩
  ihave H := (out_all A) $$ O22
  icases H with ⟨E22, X22⟩
  iapply seq
  iapply (part34 A K c _ _) $$ [E11 E21 HO E02 E32 E12 E22]
  · iframe E11 E21 HO E02 E32 E12 E22; iexact HE
  iintro ⟨E11, E21, HO, E02, E32, E12, E22⟩
  ihave H := (out_all A) $$ O33
  icases H with ⟨E33, X33⟩
  simp (config := { zeta := false }) only [Prog.lift, Prog.bind_op, Prog.bind_ret, Prog.pure_eq_ret]
  iapply cnd2
  iapply (rcv_step2 A K 3 (m := 3) (m' := 4) rfl rfl (wait2_if A K c (k := 1) (k' := 2) (fun _ => rfl) (amt_snd 1 2) (card_snd 1 2) (amt_snd 2 2) (card_snd 2 2) 3 (end1_2.2.2.2 c) amtS1 amt2 rfl rfl)) $$ [E12 E22 HO]
  · iframe E12 E22 HO; iexact HE
  iintro ⟨E12, E22, HO⟩
  iapply cnd2
  iapply (rcv_step2 A K 0 (m := 0) (m' := 1) rfl rfl (wait2_if A K c (k := 0) (k' := 3) (fun _ => rfl) (amt_snd 0 3) (card_snd 0 3) (amt_snd 3 3) (card_snd 3 3) 0 (end0_3.1 c) amtS0 amt3 rfl rfl)) $$ [E03 E33 HO]
  · iframe E03 E33 HO; iexact HE
  iintro ⟨E03, E33, HO⟩
  iapply cnd2
  iapply (rcv_step2 A K 1 (m := 1) (m' := 2) rfl rfl (wait2_if A K c (k := 0) (k' := 3) (fun _ => rfl) (amt_snd 0 3) (card_snd 0 3) (amt_snd 3 3) (card_snd 3 3) 1 (end0_3.2.1 c) amtS0 amt3 rfl rfl)) $$ [E03 E33 HO]
  · iframe E03 E33 HO; iexact HE
  iintro ⟨E03, E33, HO⟩
  iapply cnd2
  iapply (rcv_step2 A K 2 (m := 2) (m' := 3) rfl rfl (wait2_if A K c (k := 0) (k' := 3) (fun _ => rfl) (amt_snd 0 3) (card_snd 0 3) (amt_snd 3 3) (card_snd 3 3) 2 (end0_3.2.2.1 c) amtS0 amt3 rfl rfl)) $$ [E03 E33 HO]
  · iframe E03 E33 HO; iexact HE
  iintro ⟨E03, E33, HO⟩
  iapply cnd2
  iapply (rcv_step2 A K 3 (m := 3) (m' := 4) rfl rfl (wait2_if A K c (k := 0) (k' := 3) (fun _ => rfl) (amt_snd 0 3) (card_snd 0 3) (amt_snd 3 3) (card_snd 3 3) 3 (end0_3.2.2.2 c) amtS0 amt3 rfl rfl)) $$ [E03 E33 HO]
  · iframe E03 E33 HO; iexact HE
  iintro ⟨E03, E33, HO⟩
  simp only [wp_ret]
  imodintro
  ihave H := (out_all A) $$ O23
  icases H with ⟨E23, X23⟩
  iapply cnd2
  iapply (rcv_step2 A K 0 (m := 0) (m' := 1) rfl rfl (wait2_if A K c (k := 1) (k' := 2) (fun _ => rfl) (amt_snd 1 3) (card_snd 1 3) (amt_snd 2 3) (card_snd 2 3) 0 (end1_3.1 c) amtS1 amt2 rfl rfl)) $$ [E13 E23 HO]
  · iframe E13 E23 HO; iexact HE
  iintro ⟨E13, E23, HO⟩
  iapply cnd2
  iapply (rcv_step2 A K 1 (m := 1) (m' := 2) rfl rfl (wait2_if A K c (k := 1) (k' := 2) (fun _ => rfl) (amt_snd 1 3) (card_snd 1 3) (amt_snd 2 3) (card_snd 2 3) 1 (end1_3.2.1 c) amtS1 amt2 rfl rfl)) $$ [E13 E23 HO]
  · iframe E13 E23 HO; iexact HE
  iintro ⟨E13, E23, HO⟩
  iapply cnd2
  iapply (rcv_step2 A K 2 (m := 2) (m' := 3) rfl rfl (wait2_if A K c (k := 1) (k' := 2) (fun _ => rfl) (amt_snd 1 3) (card_snd 1 3) (amt_snd 2 3) (card_snd 2 3) 2 (end1_3.2.2.1 c) amtS1 amt2 rfl rfl)) $$ [E13 E23 HO]
  · iframe E13 E23 HO; iexact HE
  iintro ⟨E13, E23, HO⟩
  iapply cnd2
  iapply (rcv_step2 A K 3 (m := 3) (m' := 4) rfl rfl (wait2_if A K c (k := 1) (k' := 2) (fun _ => rfl) (amt_snd 1 3) (card_snd 1 3) (amt_snd 2 3) (card_snd 2 3) 3 (end1_3.2.2.2 c) amtS1 amt2 rfl rfl)) $$ [E13 E23 HO]
  · iframe E13 E23 HO; iexact HE
  iintro ⟨E13, E23, HO⟩
  simp only [wp_ret]
  imodintro
  iapply Hk
  unfold End
  isplitl [Hx]; · iexact Hx
  isplitl [HKst]; · iexact HKst
  isplitl [HVst]; · iexact HVst
  isplitl [Hq]; · iexact Hq
  isplitl [Hw]; · iexact Hw
  isplitl [H0]; · iexists _; iexact H0
  isplitl [HW]; · iexists _; iexact HW
  isplitl [HQ]; · iexists _; iexact HQ
  isplitl [HC]; · unfold Ctx; icases HC with ⟨%f, -, HC⟩; iexists _; iexact HC
  isplitl [HK]; · iexists _; iexact HK
  isplitl [HV]; · iexists _; iexact HV
  isplitl [Pb]; · iexact Pb
  isplitl [P0]; · iexact P0
  isplitl [P1]; · iexact P1
  isplitr [HO]
  · unfold all4 Left
    isplitl [D00 D10 D20 R30 B00 B10 L0 X00 X10 X20 X30 E00 E10 E20 E30]; · iframe D00 D10 D20 R30 B00 B10 L0 X00 X10 X20 X30 E00 E10 E20 E30
    isplitl [D01 D11 D21 R31 B01 B11 L1 X01 X11 X21 X31 E01 E11 E21 E31]; · iframe D01 D11 D21 R31 B01 B11 L1 X01 X11 X21 X31 E01 E11 E21 E31
    isplitl [D02 D12 D22 R32 B02 B12 L2 X02 X12 X22 X32 E02 E12 E22 E32]; · iframe D02 D12 D22 R32 B02 B12 L2 X02 X12 X22 X32 E02 E12 E22 E32
    iframe D03 D13 D23 R33 B03 B13 L3 X03 X13 X23 X33 E03 E13 E23 E33
  · iexact HO

end Cert.Attn
-- ==== Proof.Close.lean ====
module

public import proofs.«01_k».proof.Proof.Main

/-!
# The end: the buffers are whole again and the counters are closed
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) (K : Dev nD × Cell → ℕ)

omit [FloatOps F] in
/-- All cells of a device, in groups. -/
theorem cells_eq (Ψ : Cell → sProp 𝕄) : bigSep Finset.univ Ψ
    = iprop(Ψ .bar ∗ (Ψ (.ld 0) ∗ Ψ (.ld 1)) ∗ (all4 fun k => all4 fun r => Ψ (.snd k r)) ∗ all4 fun k => all4 fun r => Ψ (.rcv k r)) := by
  rw [bigSep_univ_equiv cellEquiv.symm, BI.bigSep_univ_sum, BI.bigSep_univ_sum, BI.bigSep_univ_sum, bigSep_univ_prod, bigSep_univ_prod,
    bigSep_univ_eq_bigSepL (I := Unit) [()] (by decide) (by decide), bigSep_univ_eq_bigSepL (I := Fin 2) [0, 1] (by decide) (by decide), four_bigSep, four_bigSep]
  have e (Φ : Fin 4 → Fin 4 → sProp 𝕄) : (all4 fun k => bigSep Finset.univ fun r => Φ k r) = all4 fun k => all4 fun r => Φ k r := four_congr fun k => four_bigSep _
  rw [e, e]
  rfl

/-- The sent buffers of a round are whole again. -/
theorem src_whole (k r : Fin 4) (c : Dev nD) : iprop(Src (vals A) k r (own k c) c ∗ Rcv A k (.snd k r) 4 c) ⊢ iprop(Done k (.snd k r) c ∗ all4 fun j => Src (vals A) k r j c) := by
  rw [four_own k c]
  iintro ⟨H, HE⟩
  ihave HE := (snd_back A) $$ HE
  icases HE with ⟨HD, HE⟩
  iframe HD H HE

/-- A strip of the result is whole again. -/
theorem out_whole (c : Dev nD) (r : Fin 4) :
    iprop((all4 fun j => Src (vals A) 2 r j c) ∗ Halves A c r ∗ (all4 fun j => Src (vals A) 3 r j c) ∗ all4 fun j => other 3 c j (Got (vals A) 3 r j c))
      ⊢ all4 fun p => pt c cc0_stg3_0 (slab r p) fullShare (vOut A) := by
  have e2 : (all4 fun j => Src (vals A) 2 r j c) = (pt c cc0_stg3_0 (rows r (pOf c) (zOf c)) fullShare.left (vOut A) : sProp 𝕄) := pt_quarters.symm
  have e3 : (all4 fun j => Src (vals A) 3 r j c) = (pt c cc0_stg3_0 (slab r (pOf c)) fullShare.right (vOut A) : sProp 𝕄) := pt_quarters.symm
  have h := four_own (F := F) 2 c fun s => pt c cc0_stg3_0 (rows r (pOf c) s) fullShare.left (vOut A)
  rw [own2] at h
  rw [e2, e3, four_own 3 c fun p => pt c cc0_stg3_0 (slab r p) fullShare (vOut A), own3, pt_halves, slab_rows c r (pOf c) fullShare.left, h]
  unfold Halves
  iintro ⟨H0, H1, H2, H3⟩
  isplitr [H3]
  · isplitr [H2]
    · isplitl [H0]; · iexact H0
      iexact H1
    · iexact H2
  · iexact H3

/-- What a round leaves behind. -/
def Rest (c : Dev nD) (r : Fin 4) : sProp 𝕄 :=
  iprop((all4 fun k => Done k (.snd k r) c) ∗ (all4 fun k => Done k (.rcv k r) c) ∗ PB A c r ∗ ZB A c r
    ∗ (all4 fun j => Src (vals A) 0 r j c) ∗ (all4 fun j => Src (vals A) 1 r j c) ∗ all4 fun p => pt c cc0_stg3_0 (slab r p) fullShare (vOut A))

theorem left_rest (c : Dev nD) (r : Fin 4) : Left A c r ⊢ Rest A c r := by
  unfold Left Rest
  iintro ⟨D0, D1, D2, R3, HP, HZ, HL, X0, X1, X2, X3, E0, E1, E2, E3⟩
  ihave H0 := (src_whole A 0 r c) $$ [X0 E0]; · iframe X0 E0
  ihave H1 := (src_whole A 1 r c) $$ [X1 E1]; · iframe X1 E1
  ihave H2 := (src_whole A 2 r c) $$ [X2 E2]; · iframe X2 E2
  ihave H3 := (src_whole A 3 r c) $$ [X3 E3]; · iframe X3 E3
  icases H0 with ⟨C0, H0⟩
  icases H1 with ⟨C1, H1⟩
  icases H2 with ⟨C2, H2⟩
  icases H3 with ⟨C3, H3⟩
  ihave R3 := (rcv_got A) $$ R3
  icases R3 with ⟨D3, R3⟩
  ihave HO := (out_whole A c r) $$ [H2 HL H3 R3]; · iframe H2 HL H3 R3
  isplitl [C0 C1 C2 C3]; · unfold all4; iframe C0 C1 C2 C3
  isplitl [D0 D1 D2 D3]; · unfold all4; iframe D0 D1 D2 D3
  iframe HP HZ H0 H1 HO

/-- A cell whose messages have all come and been waited for. -/
def Full (c : Dev nD) (x : Cell) : sProp 𝕄 := atPos ER (gc c x) 0 (dset x c) ((dset x c).card * amt x)

omit [FloatOps F] in
theorem full_snd (c : Dev nD) (k r : Fin 4) : (Done k (.snd k r) c : sProp 𝕄) = Full c (.snd k r) := by unfold Done Full; rw [card_snd, amt_snd]
omit [FloatOps F] in
theorem full_rcv (c : Dev nD) (k r : Fin 4) : (Done k (.rcv k r) c : sProp 𝕄) = Full c (.rcv k r) := by unfold Done Full; rw [card_rcv, amt_rcv]
omit [FloatOps F] in
theorem full_bar (c : Dev nD) : (atPos ER (gc c .bar) 0 (dset .bar c) 6 : sProp 𝕄) = Full c .bar := by unfold Full; rw [card_bar]; rfl
omit [FloatOps F] in
theorem full_ld (c : Dev nD) (i : Fin 2) : (atPos ER (gc c (.ld i)) 0 (dset (.ld i) c) ldBytes : sProp 𝕄) = Full c (.ld i) := by
  unfold Full; exact congrArg (atPos ER (gc c (.ld i)) 0 (dset (.ld i) c)) (Nat.one_mul _).symm

/-- All counters are closed. -/
theorem close_all (c : Dev nD) : iprop(Env (vals A) K ∗ bigSep Finset.univ (Full c)) ⊢ iprop(|={Set.univ}=> bigSep Finset.univ fun x => semVal (gc c x) 0 : sProp 𝕄) := by
  have h : ∀ x ∈ (Finset.univ : Finset Cell), (iprop(Env (vals A) K ∗ Full c x) : sProp 𝕄) ⊢ iprop(|={Set.univ}=> semVal (gc c x) 0) := by
    intro x _
    unfold Full
    iintro ⟨#HE, H⟩
    ihave #HI := (env_inv (vals A) K c x) $$ HE
    imod (fupd_skip ER (Rd (vals A)) (κ := K (c, x)) (g := gc c x) (R := 0) (T := dset x c) (by rw [duties_gc]) (expect_gc (vals A) c x).symm (Set.mem_univ _)) $$ [H] with ⟨H, -⟩
    · isplitr; · iexact HI
      iexact H
    iapply (cell_close ER (Rd (vals A)) (Set.mem_univ (K (c, x))) (fun h => h) (R := 0 + 1) (duties_later (vals A) (gc c x)))
    isplitr; · iexact HI
    iexact H
  have h' : (bigSep Finset.univ fun x => iprop(Env (vals A) K ∗ Full c x) : sProp 𝕄) ⊢ iprop(|={Set.univ}=> bigSep Finset.univ fun x => semVal (gc c x) 0) :=
    (bigSep_mono h).trans (bigSep_fupd _ _)
  iintro ⟨#HE, H⟩
  iapply h'
  iapply (Entails.of_eq (bigSep_sep' Finset.univ (fun _ : Cell => Env (vals A) K) (Full c)).symm)
  isplitr; · iapply (BI.bigSep_of_persistent Finset.univ (Env (vals A) K)); iexact HE
  iexact H

/-- What a device holds when everything is closed. -/
def Closed (c : Dev nD) : sProp 𝕄 :=
  iprop(ptw c cc0_stg0_0 (A.x c) ∗ ptw c cc0_stg1_0 (A.k c) ∗ ptw c cc0_stg2_0 (A.v c) ∗ ptw c cc0_stg3_0 (vOut A)
    ∗ pt c main_arg1 (wqSet c) fullShare (A.wq c) ∗ pt c main_arg4 (woSet c) fullShare (A.wo c)
    ∗ Any (F := F) c cc0_scratch0 ∗ Any (F := F) c cc0_scratch1 ∗ Any (F := F) c cc0_scratch2 ∗ Any (F := F) c cc0_scratch3 ∗ Any (F := F) c cc0_scratch4
    ∗ Any (F := F) c cc0_scratch5 ∗ Any (F := F) c cc0_scratch6 ∗ Any (F := F) c cc0_scratch7 ∗ Any (F := F) c cc0_scratch8 ∗ Any (F := F) c cc0_scratch9
    ∗ (bigSep Finset.univ fun x => semVal (gc c x) 0) ∗ Owed c 72)

theorem acc_whole (c : Dev nD) : (all4 fun r => all4 fun j => Src (vals A) 0 r j c) ⊢ Any (F := F) c cc0_scratch4 := by
  have e := acc_slabs c (vAcc A c)
  iintro H; iexists (vAcc A c)
  iapply (Entails.of_eq e.symm); iexact H
theorem cg_whole (c : Dev nD) : (all4 fun r => all4 fun j => Src (vals A) 1 r j c) ⊢ Any (F := F) c cc0_scratch5 := by
  have e := (cg_slots c (vCg A c)).trans (four_congr fun r => cg_quarters c r (vCg A c))
  iintro H; iexists (vCg A c)
  iapply (Entails.of_eq e.symm); iexact H

/-- From the end of the kernel's operations to the end of the kernel. -/
theorem finish (c : Dev nD) : iprop(Env (vals A) K ∗ End A c) ⊢ iprop(|={Set.univ}=> Closed A c) := by
  have hL : (all4 fun r => Left A c r) ⊢ iprop((all4 fun k => all4 fun r => Full c (.snd k r)) ∗ (all4 fun k => all4 fun r => Full c (.rcv k r)) ∗ (all4 fun r => PB A c r) ∗ (all4 fun r => ZB A c r)
      ∗ (all4 fun r => all4 fun j => Src (vals A) 0 r j c) ∗ (all4 fun r => all4 fun j => Src (vals A) 1 r j c) ∗ all4 fun r => all4 fun p => pt c cc0_stg3_0 (slab r p) fullShare (vOut A)) := by
    refine (four_mono fun r => left_rest A c r).trans ?_
    unfold Rest
    rw [four_sep, four_sep, four_sep, four_sep, four_sep, four_sep, four_swap fun r k => Done k (.snd k r) c, four_swap fun r k => Done k (.rcv k r) c]
    rw [four_congr fun k => four_congr fun r => full_snd c k r, four_congr fun k => four_congr fun r => full_rcv c k r]
  unfold End Closed
  iintro ⟨#HE, Hx, Hk, Hv, Hq, Hw, H0, H1, H2, H3, H8, H9, Pb, P0, P1, HL, HO⟩
  ihave HL := hL $$ HL
  icases HL with ⟨HS, HR, H6, H7, H4, H5, HU⟩
  imod (close_all A K c) $$ [Pb P0 P1 HS HR] with Hz
  · isplitr; · iexact HE
    iapply (Entails.of_eq (cells_eq (Full c)).symm)
    isplitl [Pb]; · iapply (Entails.of_eq (full_bar c)); iexact Pb
    isplitl [P0 P1]
    · isplitl [P0]; · iapply (Entails.of_eq (full_ld c 0)); iexact P0
      iapply (Entails.of_eq (full_ld c 1)); iexact P1
    isplitl [HS]; · iexact HS
    iexact HR
  imodintro
  isplitl [Hx]; · iexact Hx
  isplitl [Hk]; · iexact Hk
  isplitl [Hv]; · iexact Hv
  isplitl [HU]; · iapply (Entails.of_eq (out_slabs c (vOut A)).symm); iexact HU
  isplitl [Hq]; · iexact Hq
  isplitl [Hw]; · iexact Hw
  isplitl [H0]; · iexact H0
  isplitl [H1]; · iexact H1
  isplitl [H2]; · iexact H2
  isplitl [H3]; · iexact H3
  isplitl [H4]; · iapply (acc_whole A c); iexact H4
  isplitl [H5]; · iapply (cg_whole A c); iexact H5
  isplitl [H6]; · iexists (vPb A c); iapply (Entails.of_eq (pb_rounds c (vPb A c)).symm); iexact H6
  isplitl [H7]; · iexists (vZb A c); iapply (Entails.of_eq (zb_rounds c (vZb A c)).symm); iexact H7
  isplitl [H8]; · iexact H8
  isplitl [H9]; · iexact H9
  isplitl [Hz]; · iexact Hz
  iexact HO

/-- The kernel on device `c`, from its beginning to where everything is closed. -/
theorem kernel_run (c : Dev nD) {Q : PUnit → sProp 𝕄} : iprop(Env (vals A) K ∗ Begin A c) ⊢ iprop((Closed A c -∗ Q ⟨⟩) -∗ run c (app (cc0_body (F := F))) (fun x => iprop(|={Set.univ}=> Q x))) := by
  iintro ⟨#HE, HB⟩ Hk
  iapply (body_run A K c) $$ [HB]
  · isplitr; · iexact HE
    iexact HB
  iintro HB
  imod (finish A K c) $$ [HB] with HB
  · isplitr; · iexact HE
    iexact HB
  imodintro
  iapply Hk; iexact HB

end Cert.Attn
-- ==== Proof.Deal.lean ====
module

public import proofs.«01_k».proof.Proof.Close

/-!
# The launch: ghost state, tokens and credits are dealt to the devices
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {F : FTy → Type} [FloatOps F]

local notation "𝕄" => MT nD τ sig Unit (Elt F) ℕ UU ℕ

variable (A : Args F) (K : Dev nD × Cell → ℕ)

/-! ## The semaphores -/

/-- The kernel's own semaphores but the barrier's. -/
def osem (i : Fin 2 ⊕ (Fin 4 × Fin 4) ⊕ (Fin 4 × Fin 4)) : SemLoc sig := csem (cellEquiv.symm (.inr i))

theorem osem_scoped : ∀ i, (osem i).isScoped .tc = true := by decide +kernel
theorem osem_fresh : ∀ i (w : Fin cfg0.W) (s : Fin _), osem i ≠ .dma ((cfg0.spec w).sem s) := by decide +kernel
theorem osem_inj : Function.Injective osem := fun a b h => Sum.inr_injective (cellEquiv.symm.injective (csem_inj _ _ h))

theorem ownSems : Pipeline.OwnSemFacts cfg0.spec osem := ⟨osem_scoped, osem_inj, osem_fresh⟩

omit [FloatOps F] in
/-- All cells of a device: the barrier's, and the others. -/
theorem cells_bar (Ψ : Cell → sProp 𝕄) : bigSep Finset.univ Ψ = iprop(Ψ .bar ∗ bigSep Finset.univ fun i => Ψ (cellEquiv.symm (.inr i))) := by
  rw [bigSep_univ_equiv cellEquiv.symm, BI.bigSep_univ_sum, bigSep_univ_eq_bigSepL (I := Unit) [()] (by decide) (by decide)]
  rfl

omit [FloatOps F] in
theorem bar_unscoped (c : Dev nD) : (unscopedSems0 c : sProp 𝕄) = semVal (gc c .bar) 0 := by
  unfold unscopedSems0
  rw [bigSep_eq_bigSepL_of_eq [SemLoc.reg barrier0] (by decide) (by decide)]
  rfl

omit [FloatOps F] in
/-- The counters of all cells of a device are the kernel's own semaphores. -/
theorem counters (c : Dev nD) : (bigSep Finset.univ fun x : Cell => semVal (gc c x) 0 : sProp 𝕄)
    = iprop(unscopedSems0 c ∗ Pipeline.ownSems0 (Ix := Unit) (Name := ℕ) (U := UU) (Lvl := ℕ) (Val := Elt F) (τ := τ) osem c) := by
  rw [cells_bar, bar_unscoped]
  rfl

/-! ## The tokens -/

omit [FloatOps F] in
theorem other_of (k : Fin 4) (c : Dev nD) (j : Fin 4) {P : sProp 𝕄} : P ⊢ other k c j P := by
  by_cases hj : j = own k c
  · rw [other_own hj]; iintro -; iempintro
  · rw [other_ne hj]

/-- The pairs of a device and an index: what one side names as it, the other side names as this. -/
def across (k : Fin 4) : Dev nD × Fin 4 ≃ Dev nD × Fin 4 where
  toFun x := (peer k x.1 x.2, own k x.1)
  invFun x := (peer k x.1 x.2, own k x.1)
  left_inv x := Prod.ext (peer_own k x.1 x.2) (own_peer k x.1 x.2)
  right_inv x := Prod.ext (peer_own k x.1 x.2) (own_peer k x.1 x.2)

omit [FloatOps F] in
/-- What every device has for each of its four indices goes to the device of that index. -/
theorem deal (k : Fin 4) (Φ : Dev nD → Fin 4 → sProp 𝕄) :
    (bigSep Finset.univ fun c => all4 fun j => Φ c j) ⊢ bigSep Finset.univ fun c => all4 fun j => other k c j (Φ (peer k c j) (own k c)) := by
  have e : (bigSep Finset.univ fun c => all4 fun j => Φ c j) = bigSep Finset.univ fun c => all4 fun j => Φ (peer k c j) (own k c) := by
    rw [bigSep_congr fun c _ => (four_bigSep (Φ c)).symm, ← bigSep_univ_prod (fun x : Dev nD × Fin 4 => Φ x.1 x.2), bigSep_univ_equiv (across k), bigSep_univ_prod]
    exact bigSep_congr fun c _ => four_bigSep (fun j => Φ (peer k c j) (own k c))
  rw [e]
  exact bigSep_mono fun c _ => four_mono fun j => other_of k c j

/-- The token of one duty at one of a device's cells. -/
def tok (c : Dev nD) (x : Cell) (b : Bool) (j : Fin 4) : sProp 𝕄 := dutyTok ER (gc c x) 0 (b, j)

/-- All tokens of a device's cells. -/
def Coins (c : Dev nD) : sProp 𝕄 := bigSep Finset.univ fun x : Cell => bigSep Finset.univ fun d : Duty => tok c x d.1 d.2

/-- The tokens of what a device is going to do. -/
def Purse (c : Dev nD) : sProp 𝕄 :=
  iprop(tok c (.ld 0) false 0 ∗ tok c (.ld 1) false 0
    ∗ (all4 fun j => other 0 c j (tok (peer 0 c j) .bar false (own 0 c)))
    ∗ (all4 fun j => other 1 c j (tok (peer 1 c j) .bar true (own 1 c)))
    ∗ (all4 fun k => all4 fun r => all4 fun j => other k c j (tok c (.snd k r) false j))
    ∗ (all4 fun k => all4 fun r => all4 fun j => other k c j (tok (peer k c j) (.rcv k r) false (own k c))))

omit [FloatOps F] in
theorem duty_split (Φ : Bool → Fin 4 → sProp 𝕄) : (bigSep Finset.univ fun d : Duty => Φ d.1 d.2) = iprop(all4 (Φ false) ∗ all4 (Φ true)) := by
  rw [bigSep_univ_prod, bigSep_univ_eq_bigSepL (I := Bool) [false, true] (by decide) (by decide)]
  show iprop(bigSep Finset.univ (Φ false) ∗ bigSep Finset.univ (Φ true)) = _
  rw [four_bigSep, four_bigSep]

/-- A device's tokens before they are dealt, without those nobody uses. -/
def Stock (c : Dev nD) : sProp 𝕄 :=
  iprop((tok c (.ld 0) false 0 ∗ tok c (.ld 1) false 0) ∗ all4 (tok c .bar false) ∗ all4 (tok c .bar true)
    ∗ (all4 fun k => all4 fun r => all4 fun j => other k c j (tok c (.snd k r) false j)) ∗ (all4 fun k => all4 fun r => all4 (tok c (.rcv k r) false)))

omit [FloatOps F] in
theorem coins_kept (c : Dev nD) : Coins c ⊢ (Stock c : sProp 𝕄) := by
  have h1 (x : Cell) : (bigSep Finset.univ fun d : Duty => tok c x d.1 d.2) ⊢ (all4 (tok c x false) : sProp 𝕄) := by
    rw [duty_split (tok c x)]; iintro ⟨H, -⟩; iexact H
  have h0 (x : Cell) : (bigSep Finset.univ fun d : Duty => tok c x d.1 d.2) ⊢ (tok c x false 0 : sProp 𝕄) := by
    refine (h1 x).trans ?_
    unfold all4; iintro ⟨H, -⟩; iexact H
  have hs : (all4 fun k => all4 fun r => bigSep Finset.univ fun d : Duty => tok c (.snd k r) d.1 d.2) ⊢ (all4 fun k => all4 fun r => all4 fun j => other k c j (tok c (.snd k r) false j) : sProp 𝕄) :=
    four_mono fun k => four_mono fun r => (h1 _).trans (four_mono fun j => other_of k c j)
  have hr : (all4 fun k => all4 fun r => bigSep Finset.univ fun d : Duty => tok c (.rcv k r) d.1 d.2) ⊢ (all4 fun k => all4 fun r => all4 (tok c (.rcv k r) false) : sProp 𝕄) :=
    four_mono fun k => four_mono fun r => h1 _
  unfold Coins Stock
  rw [cells_eq]
  iintro ⟨HB, ⟨H0, H1⟩, HS, HR⟩
  isplitl [H0 H1]
  · isplitl [H0]; · iapply (h0 (.ld 0)); iexact H0
    iapply (h0 (.ld 1)); iexact H1
  ihave HB := (Entails.of_eq (duty_split (tok c .bar))) $$ HB
  icases HB with ⟨Hf, Ht⟩
  isplitl [Hf]; · iexact Hf
  isplitl [Ht]; · iexact Ht
  isplitl [HS]; · iapply hs; iexact HS
  iapply hr; iexact HR

omit [FloatOps F] in
theorem four_across (Φ : Dev nD → Fin 4 → sProp 𝕄) : (bigSep Finset.univ fun c => all4 (Φ c)) = all4 fun k => bigSep Finset.univ fun c => Φ c k := by
  rw [bigSep_congr fun c _ => (four_bigSep (Φ c)).symm, bigSep_univ_comm, four_bigSep]

omit [FloatOps F] in
theorem deal_rcv (Φ : Fin 4 → Fin 4 → Dev nD → Fin 4 → sProp 𝕄) : (bigSep Finset.univ fun c => all4 fun k => all4 fun r => all4 fun j => Φ k r c j)
    ⊢ bigSep Finset.univ fun c => all4 fun k => all4 fun r => all4 fun j => other k c j (Φ k r (peer k c j) (own k c)) := by
  rw [four_across fun c k => all4 fun r => all4 fun j => Φ k r c j, four_across fun c k => all4 fun r => all4 fun j => other k c j (Φ k r (peer k c j) (own k c)),
    four_congr fun k => four_across fun c r => all4 fun j => Φ k r c j, four_congr fun k => four_across fun c r => all4 fun j => other k c j (Φ k r (peer k c j) (own k c))]
  exact four_mono fun k => four_mono fun r => deal k (Φ k r)

omit [FloatOps F] in
theorem stock_dealt : (bigSep Finset.univ fun c : Dev nD => Stock c) ⊢ (bigSep Finset.univ fun c : Dev nD => Purse c : sProp 𝕄) := by
  unfold Stock Purse
  rw [bigSep_sep', bigSep_sep', bigSep_sep', bigSep_sep', bigSep_sep', bigSep_sep', bigSep_sep', bigSep_sep', bigSep_sep', bigSep_sep']
  iintro ⟨⟨H0, H1⟩, HF, HT, HS, HR⟩
  isplitl [H0]; · iexact H0
  isplitl [H1]; · iexact H1
  isplitl [HF]; · iapply (deal 0 fun c j => tok c .bar false j); iexact HF
  isplitl [HT]; · iapply (deal 1 fun c j => tok c .bar true j); iexact HT
  isplitl [HS]; · iexact HS
  iapply (deal_rcv fun k r c j => tok c (.rcv k r) false j); iexact HR

omit [FloatOps F] in
/-- All devices' tokens, dealt. -/
theorem dealt : (bigSep Finset.univ fun c : Dev nD => Coins c) ⊢ (bigSep Finset.univ fun c : Dev nD => Purse c : sProp 𝕄) :=
  (bigSep_mono fun c _ => coins_kept c).trans stock_dealt

/-! ## The cells are opened -/

variable (V : Vals F)

instance place_storable (k r : Fin 4) (c' t : Dev nD) : BI.Storable (upEmb : UEmb _ 𝕄) (Place (F := F) k r c' t) := by
  unfold Place; split <;> infer_instance
instance src_storable (k r j : Fin 4) (c : Dev nD) : BI.Storable (upEmb : UEmb _ 𝕄) (Src V k r j c) := by
  unfold Src; split <;> infer_instance
instance got_storable (k r j : Fin 4) (c : Dev nD) : BI.Storable (upEmb : UEmb _ 𝕄) (Got V k r j c) := by
  unfold Got; split <;> infer_instance
instance loaded_storable (i : Fin 2) (c : Dev nD) : BI.Storable (upEmb : UEmb _ 𝕄) (Loaded V i c) := by
  unfold Loaded; split <;> infer_instance
instance places_storable (b : Bool) (c t : Dev nD) : BI.Storable (upEmb : UEmb _ 𝕄) (Places (F := F) b c t) := by
  unfold Places; infer_instance
instance pay_storable (x : Cell) (c : Dev nD) (d : Duty) : BI.Storable (upEmb : UEmb _ 𝕄) (pay V x c d) := by
  cases x with
  | bar => exact places_storable _ _ _
  | ld i => exact loaded_storable V i c
  | snd k r => exact src_storable V k r d.2 c
  | rcv k r => exact got_storable V k r d.2 c
/-- What a duty hands over can be stored. -/
instance payload_storable (g : GSem nD τ sig) (r : ℕ) (d : Duty) : BI.Storable (upEmb : UEmb _ 𝕄) ((Rd V).payload g r d) := by
  show BI.Storable upEmb (match decode g.2 with | some x => pay V x g.1.1 d | none => iprop(emp))
  cases decode g.2 with
  | some x => exact pay_storable V x g.1.1 d
  | none => exact (inferInstance : BI.Storable upEmb (iprop(emp) : sProp 𝕄))

theorem at_inj : Function.Injective fun x : Dev nD × Cell => gc x.1 x.2 := fun a b h => by
  have h1 : a.1 = b.1 := congrArg (fun g : GSem nD τ sig => g.1.1) h
  exact Prod.ext h1 (csem_inj _ _ (congrArg Prod.snd h))

/-- All cells of all devices. -/
def allCells : Finset (GSem nD τ sig) := Finset.univ.map ⟨fun x : Dev nD × Cell => gc x.1 x.2, at_inj⟩

theorem coin_inj : Function.Injective fun x : (Dev nD × Cell) × Duty => (gc x.1.1 x.1.2, (0 : ℕ), x.2) := fun a b h =>
  Prod.ext (at_inj (congrArg Prod.fst h)) (congrArg (fun y : GSem nD τ sig × ℕ × Duty => y.2.2) h)

/-- All tokens of all devices' cells. -/
def allCoins : Finset (GSem nD τ sig × ℕ × Duty) := Finset.univ.map ⟨fun x : (Dev nD × Cell) × Duty => (gc x.1.1 x.1.2, (0 : ℕ), x.2), coin_inj⟩

/-- The launch's ghost element: the pipeline's part and the protocol's. -/
def u₀ : UU := (initOf (Pipeline.cells cfgs cellOf_inj) (Pipeline.launchToks cfgs cellOf_inj), initOf allCells allCoins)

/-- What a device is dealt of it. -/
def Share (c : Dev nD) : sProp 𝕄 :=
  iprop((bigSep Finset.univ fun x : Cell => roundState ER (Rd V) (gc c x) 0) ∗ (bigSep Finset.univ fun x : Cell => reached ER (gc c x) 0)
    ∗ (bigSep Finset.univ fun x : Cell => atPos ER (gc c x) 0 ∅ 0) ∗ Coins c)

theorem fund_all : BI.own (ER (initOf allCells allCoins)) ⊢ (|==> bigSep Finset.univ (Share V) : sProp 𝕄) := by
  have hX (Φ : GSem nD τ sig → sProp 𝕄) : bigSep allCells Φ = bigSep Finset.univ fun c : Dev nD => bigSep Finset.univ fun x : Cell => Φ (gc c x) := by
    unfold allCells; rw [bigSep_map, bigSep_univ_prod]; rfl
  have hT : bigSep allCoins (fun x => (dutyTok ER x.1 x.2.1 x.2.2 : sProp 𝕄)) = bigSep Finset.univ fun c : Dev nD => Coins c := by
    unfold allCoins; rw [bigSep_map, bigSep_univ_prod, bigSep_univ_prod]; rfl
  unfold Share
  rw [bigSep_sep', bigSep_sep', bigSep_sep']
  iintro HX
  imod (Rounds.fund ER (Rd V) allCells allCoins) $$ HX with ⟨Hst, Hr, Hat, Htok⟩
  imodintro
  isplitl [Hst]; · iapply (Entails.of_eq (hX fun g => roundState ER (Rd V) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- What the launch leaves with a device: every cell's invariant, its own positions, its tokens. -/
def Furnished (c : Dev nD) : sProp 𝕄 :=
  iprop(∃ K : Dev nD × Cell → ℕ, ((bigSep Finset.univ fun x : Dev nD × Cell => cellInv ER (Rd V) (K x) (gc x.1 x.2))
      ∗ bigSep Finset.univ fun x : Dev nD × Cell => reached ER (gc x.1 x.2) 0)
    ∗ (bigSep Finset.univ fun x : Cell => atPos ER (gc c x) 0 ∅ 0) ∗ Purse c)

/-- A device's cells are opened. -/
theorem opened (c : Dev nD) :
    iprop(Pipeline.ownSems0 (Ix := Unit) (Name := ℕ) (U := UU) (Lvl := ℕ) (Val := Elt F) (τ := τ) osem c ∗ unscopedSems0 c ∗ Share V c)
      ⊢ |={Set.univ}=> iprop((bigSep Finset.univ fun x : Cell => iprop(∃ κ : ℕ, cellInv ER (Rd V) κ (gc c x))) ∗ (bigSep Finset.univ fun x : Cell => reached ER (gc c x) 0)
    ∗ (bigSep Finset.univ fun x : Cell => atPos ER (gc c x) 0 ∅ 0) ∗ Coins c) := by
  have ho : iprop((bigSep Finset.univ fun x : Cell => semVal (gc c x) 0) ∗ bigSep Finset.univ fun x : Cell => roundState ER (Rd V) (gc c x) 0)
      ⊢ (|={Set.univ}=> bigSep Finset.univ fun x : Cell => iprop(∃ κ : ℕ, cellInv ER (Rd V) κ (gc c x)) : sProp 𝕄) := by
    rw [← bigSep_sep']
    exact (bigSep_mono fun x _ => (Rounds.body_intro ER (Rd V) (gc c x)).trans inv_alloc).trans (bigSep_fupd _ _)
  unfold Share
  iintro ⟨Ho, Hu, Hst, Hr, Hat, Hc⟩
  imod ho $$ [Ho Hu Hst] with HI
  · isplitl [Ho Hu]
    · iapply (Entails.of_eq (counters (F := F) c).symm)
      isplitl [Hu] <;> iassumption
    iexact Hst
  imodintro
  isplitl [HI]; · iexact HI
  isplitl [Hr]; · iexact Hr
  isplitl [Hat]; · iexact Hat
  iexact Hc

omit [FloatOps F] in
/-- What everybody knows, every device knows. -/
theorem known {R : sProp 𝕄} [BI.Persistent R] {Φ : Dev nD → sProp 𝕄} : iprop(R ∗ bigSep Finset.univ Φ) ⊢ bigSep Finset.univ fun c => iprop(R ∗ Φ c) := by
  rw [bigSep_sep']
  iintro ⟨HR, HΦ⟩
  isplitl [HR]; · iapply (BI.bigSep_of_persistent Finset.univ R); iexact HR
  iexact HΦ

theorem furnish (K : Dev nD × Cell → ℕ) (c : Dev nD) : iprop(((bigSep Finset.univ fun x : Dev nD × Cell => cellInv ER (Rd V) (K x) (gc x.1 x.2)) ∗ bigSep Finset.univ fun x : Dev nD × Cell => reached ER (gc x.1 x.2) 0)
    ∗ (bigSep Finset.univ fun x : Cell => atPos ER (gc c x) 0 ∅ 0) ∗ Purse c) ⊢ (Furnished V c : sProp 𝕄) := by
  unfold Furnished
  iintro H; iexists K; iexact H

/-- All devices' cells together. -/
theorem gathered :
    (bigSep Finset.univ fun c : Dev nD => iprop((bigSep Finset.univ fun x : Cell => iprop(∃ κ : ℕ, cellInv ER (Rd V) κ (gc c x))) ∗ (bigSep Finset.univ fun x : Cell => reached ER (gc c x) 0)
    ∗ (bigSep Finset.univ fun x : Cell => atPos ER (gc c x) 0 ∅ 0) ∗ Coins c)) ⊢ (bigSep Finset.univ (Furnished V) : sProp 𝕄) := by
  rw [bigSep_sep', bigSep_sep', bigSep_sep', ← bigSep_univ_prod (fun x : Dev nD × Cell => iprop(∃ κ : ℕ, cellInv ER (Rd V) κ (gc x.1 x.2))),
    ← bigSep_univ_prod (fun x : Dev nD × Cell => (reached ER (gc x.1 x.2) 0 : sProp 𝕄))]
  iintro ⟨HI, HR, Hat, Hc⟩
  ihave HK := (BI.bigSep_exists_pi Finset.univ (fun (x : Dev nD × Cell) (κ : ℕ) => (cellInv ER (Rd V) κ (gc x.1 x.2) : sProp 𝕄))) $$ HI
  icases HK with ⟨%K, HI⟩
  ihave Hp := (dealt (F := F)) $$ Hc
  have hk : iprop(((bigSep Finset.univ fun x : Dev nD × Cell => cellInv ER (Rd V) (K x) (gc x.1 x.2)) ∗ bigSep Finset.univ fun x : Dev nD × Cell => reached ER (gc x.1 x.2) 0)
      ∗ bigSep Finset.univ fun c : Dev nD => iprop((bigSep Finset.univ fun x : Cell => atPos ER (gc c x) 0 ∅ 0) ∗ Purse c)) ⊢ (bigSep Finset.univ (Furnished V) : sProp 𝕄) := by
    exact known.trans (bigSep_mono fun c _ => furnish V K c)
  iapply hk
  isplitl [HI HR]
  · isplitl [HI] <;> iassumption
  iapply (Entails.of_eq (bigSep_sep' Finset.univ (fun c : Dev nD => bigSep Finset.univ fun x : Cell => (atPos ER (gc c x) 0 ∅ 0 : sProp 𝕄)) Purse).symm)
  isplitl [Hat] <;> iassumption

theorem all_ready : (bigSep Finset.univ fun c => iprop(Pipeline.ownSems0 (Ix := Unit) (Name := ℕ) (U := UU) (Lvl := ℕ) (Val := Elt F) (τ := τ) osem c ∗ unscopedSems0 c ∗ Share V c) : sProp 𝕄)
    ⊢ |={Set.univ}=> bigSep Finset.univ (Furnished V) :=
  ((bigSep_mono fun c _ => opened V c).trans (bigSep_fupd _ _)).trans (BI.fupd_mono (gathered V))

/-! ## The credits -/

theorem three : ∀ k j c, (Finset.univ.filter fun d : Dev nD => j ≠ own k d ∧ peer k d j = c).card = if own k c = j then 3 else 0 := by decide +kernel

theorem gc_iff {c c' : Dev nD} {x x' : Cell} : gc c x = gc c' x' ↔ c = c' ∧ x = x' :=
  ⟨fun h => by have := at_inj (a₁ := (c, x)) (a₂ := (c', x')) h; exact ⟨congrArg Prod.fst this, congrArg Prod.snd this⟩, fun ⟨h, h'⟩ => by rw [h, h']⟩

/-- What all devices together pay a cell for one item. -/
theorem paid (k : Fin 4) (j : Fin 4) (y : Cell) (n : ℕ) (c : Dev nD) (x : Cell) :
    (∑ d : Dev nD, (if j = own k d then (0 : CellTallies nD τ sig Unit) else tallyAt (gc (peer k d j) y) () n) (gc c x) ()) = if x = y ∧ own k c = j then 3 * n else 0 := by
  have e (d : Dev nD) : (if j = own k d then (0 : CellTallies nD τ sig Unit) else tallyAt (gc (peer k d j) y) () n) (gc c x) ()
      = if (j ≠ own k d ∧ peer k d j = c) then (if x = y then n else 0) else 0 := by
    by_cases h : j = own k d
    · rw [if_pos h, if_neg (fun h' => h'.1 h)]; rfl
    · rw [if_neg h, tallyAt_apply]
      by_cases h1 : peer k d j = c <;> by_cases h2 : x = y
      · rw [if_pos ⟨by rw [h1, h2], rfl⟩, if_pos ⟨h, h1⟩, if_pos h2]
      · rw [if_neg (fun h' => h2 (gc_iff.mp h'.1).2), if_pos ⟨h, h1⟩, if_neg h2]
      · rw [if_neg (fun h' => h1 (gc_iff.mp h'.1).1.symm), if_neg (fun h' => h1 h'.2)]
      · rw [if_neg (fun h' => h2 (gc_iff.mp h'.1).2), if_neg (fun h' => h1 h'.2)]
  rw [Finset.sum_congr rfl fun d _ => e d, Finset.sum_ite, Finset.sum_const, Finset.sum_const_zero, three, smul_eq_mul, add_zero]
  by_cases h2 : x = y
  · by_cases h3 : own k c = j
    · rw [if_pos h3, if_pos h2, if_pos ⟨h2, h3⟩]
    · rw [if_neg h3, if_neg (fun h : x = y ∧ own k c = j => h3 h.2), zero_mul]
  · rw [if_neg h2, mul_zero, if_neg (fun h : x = y ∧ own k c = j => h2 h.1)]

/-- The same, as a number. -/
def paidN (c : Dev nD) (x : Cell) : Item → ℕ
  | .sig b j => if x = .bar ∧ own (barKind b) c = j then 3 else 0
  | .msg k r j => if x = .rcv k r ∧ own k c = j then 3 * bytes k else 0

theorem paid_item (c : Dev nD) (x : Cell) (i : Item) : (∑ d : Dev nD, tal d i (gc c x) ()) = paidN c x i := by
  cases i with
  | sig b j => exact paid (barKind b) j .bar 1 c x
  | msg k r j => exact paid k j (.rcv k r) (bytes k) c x

theorem paid_list (c : Dev nD) (x : Cell) (l : List Item) : (∑ d : Dev nD, ((l.map (tal d)).sum : CellTallies nD τ sig Unit) (gc c x) ()) = (l.map (paidN c x)).sum := by
  induction l with
  | nil => exact Finset.sum_const_zero
  | cons i l ih =>
    rw [List.map_cons, List.sum_cons, ← ih, ← paid_item, ← Finset.sum_add_distrib]
    exact Finset.sum_congr rfl fun d _ => by rw [List.map_cons, List.sum_cons]; rfl

theorem paid_bar : ∀ c, (sched.map (paidN c .bar)).sum = 6 := by decide +kernel
theorem paid_rcv : ∀ c k r, (sched.map (paidN c (.rcv k r))).sum = 3 * bytes k := by decide +kernel

/-- What a cell is credited at the launch. -/
theorem credit (c : Dev nD) (x : Cell) {n : ℕ} (h : (sched.map (paidN c x)).sum = n) :
    tallyOn (gc c x) (launchCredit (Pipeline.owing fun d => due d 0) 0 (gc c x)) = (tallyAt (gc c x) () n : CellTallies nD τ sig Unit) := by
  unfold tallyAt
  refine congrArg _ (Finsupp.ext fun u => ?_)
  cases u
  rw [Pipeline.launchCredit_owing, Finsupp.single_eq_same, ← h]
  exact paid_list c x sched

omit [FloatOps F] in
theorem cred_two (g : GSem nD τ sig) (a b : ℕ) : (cred (tallyAt g () (a + b)) : sProp 𝕄) ⊢ iprop(cred (tallyAt g () a) ∗ cred (tallyAt g () b)) := by
  rw [← tallyAt_add]; exact (cred_add _ _).1

omit [FloatOps F] in
theorem cred_others (k r : Fin 4) (c : Dev nD) : (cred (tallyAt (gc c (.rcv k r)) () (3 * bytes k)) : sProp 𝕄) ⊢ all4 fun j => Cr k (.rcv k r) j c := by
  have h3 : (cred (tallyAt (gc c (.rcv k r)) () (3 * bytes k)) : sProp 𝕄)
      ⊢ iprop(cred (tallyAt (gc c (.rcv k r)) () (bytes k)) ∗ cred (tallyAt (gc c (.rcv k r)) () (bytes k)) ∗ cred (tallyAt (gc c (.rcv k r)) () (bytes k))) := by
    rw [show 3 * bytes k = bytes k + (bytes k + bytes k) by omega]
    iintro H
    ihave H := (cred_two _ _ _) $$ H
    icases H with ⟨H1, H⟩
    ihave H := (cred_two _ _ _) $$ H
    icases H with ⟨H2, H3⟩
    isplitl [H1]; · iexact H1
    isplitl [H2] <;> iassumption
  have h4 (P : sProp 𝕄) : ∀ o : Fin 4, iprop(P ∗ P ∗ P) ⊢ all4 fun j => if j = o then iprop(emp) else P
    | 0 => by show _ ⊢ iprop(emp ∗ P ∗ P ∗ P); iintro ⟨H1, H2, H3⟩; isplitr; · iempintro
              isplitl [H1]; · iexact H1
              isplitl [H2] <;> iassumption
    | 1 => by show _ ⊢ iprop(P ∗ emp ∗ P ∗ P); iintro ⟨H1, H2, H3⟩; isplitl [H1]; · iexact H1
              isplitr; · iempintro
              isplitl [H2] <;> iassumption
    | 2 => by show _ ⊢ iprop(P ∗ P ∗ emp ∗ P); iintro ⟨H1, H2, H3⟩; isplitl [H1]; · iexact H1
              isplitl [H2]; · iexact H2
              isplitr; · iempintro
              iexact H3
    | 3 => by show _ ⊢ iprop(P ∗ P ∗ P ∗ emp); iintro ⟨H1, H2, H3⟩; isplitl [H1]; · iexact H1
              isplitl [H2]; · iexact H2
              isplitl [H3]; · iexact H3
              iempintro
  exact h3.trans (h4 _ (own k c))

/-- A device's credits at the launch. -/
theorem credits (c : Dev nD) : (Pipeline.launchCred (fun d => due d 0) c : sProp 𝕄)
    ⊢ iprop(cred (tallyAt (gc c .bar) () 6) ∗ all4 fun k => all4 fun r => all4 fun j => Cr k (.rcv k r) j c) := by
  have e : (Pipeline.launchCred (fun d => due d 0) c : sProp 𝕄) ⊢ bigSep Finset.univ fun x : Cell => cred (tallyOn (gc c x) (launchCredit (Pipeline.owing fun d => due d 0) 0 (gc c x))) := by
    unfold Pipeline.launchCred
    have h := bigSep_subset (Φ := fun s : SemLoc sig => (cred (tallyOn ((c.tc : Thread nD τ), s) (launchCredit (Pipeline.owing fun d => due d 0) 0 ((c.tc : Thread nD τ), s))) : sProp 𝕄))
      (Finset.subset_univ (Finset.univ.map ⟨csem, fun a b h => csem_inj a b h⟩))
    rw [bigSep_map] at h
    exact h
  rw [cells_eq] at e
  iintro H
  ihave H := e $$ H
  icases H with ⟨HB, -, -, HR⟩
  isplitl [HB]; · rw [credit c .bar (paid_bar c)]; iexact HB
  have hr : (all4 fun k => all4 fun r => cred (tallyOn (gc c (.rcv k r)) (launchCredit (Pipeline.owing fun d => due d 0) 0 (gc c (.rcv k r)))))
      ⊢ (all4 fun k => all4 fun r => all4 fun j => Cr k (.rcv k r) j c : sProp 𝕄) :=
    four_mono fun k => four_mono fun r => by rw [credit c (.rcv k r) (paid_rcv c k r)]; exact cred_others k r c
  iapply hr; iexact HR

end Cert.Attn
-- ==== Proof.Run.lean ====
module

public import proofs.«01_k».proof.Proof.Deal
public import Idealize.ShloMosaic.Lib.Pipeline.CollectiveSegs

/-!
# The run of the whole program, on all devices, for any float values
-/

@[expose] public section

set_option maxRecDepth 10000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- The arguments of all devices, as a memory has them. -/
def argsOf : Args F where
  x c := iblk m c 0 t0_0
  wq c := m ((c : Thread nD τ).loc main_arg1)
  k c := iblk m c 1 t0_0
  v c := iblk m c 2 t0_0
  wo c := m ((c : Thread nD τ).loc main_arg4)

/-- The weights of a device. -/
def Weights (c : Dev nD) : sProp 𝕄 :=
  iprop(ptw c main_arg1 (m ((c : Thread nD τ).loc main_arg1)) ∗ ptw c main_arg4 (m ((c : Thread nD τ).loc main_arg4)))

/-- What a device has when it enters the kernel, next to the buffers. -/
def Entry (c : Dev nD) : sProp 𝕄 :=
  iprop(Furnished (vals (argsOf m)) c ∗ levAts L lv ∗ (cred (tallyAt (gc c .bar) () 6) ∗ all4 fun k => all4 fun r => all4 fun j => Cr k (.rcv k r) j c) ∗ Weights m c)

/-- The scratch buffers of a device, holding something. -/
def Scratch (c : Dev nD) : sProp 𝕄 :=
  iprop(Any (F := F) c cc0_scratch0 ∗ Any (F := F) c cc0_scratch1 ∗ Any (F := F) c cc0_scratch2 ∗ Any (F := F) c cc0_scratch3 ∗ Any (F := F) c cc0_scratch4 ∗ Any (F := F) c cc0_scratch5 ∗ Any (F := F) c cc0_scratch6 ∗ Any (F := F) c cc0_scratch7 ∗ Any (F := F) c cc0_scratch8 ∗ Any (F := F) c cc0_scratch9)

/-- What a device has when it leaves the kernel, next to the staging buffers. -/
def Exit (c : Dev nD) : sProp 𝕄 := iprop((bigSep Finset.univ fun x : Cell => semVal (gc c x) 0) ∗ Weights m c ∗ Scratch c)

/-- The launch's data: what the arrays hold, what the kernel leaves in the staging buffers, and what a device has and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).x c
    | ⟨1, _⟩ => (argsOf m).k c
    | ⟨2, _⟩ => (argsOf m).v c
    | ⟨3, _⟩ => vOut (argsOf m)
  Φ t := match t with
    | ⟨0, _⟩ => iprop(Entry m c ∗ Scratch c)
    | ⟨_ + 1, _⟩ => Exit m c
  q _ := fullShare
  owed t := match t with
    | ⟨0, _⟩ => due c 0
    | ⟨_ + 1, _⟩ => 0

theorem share_full (c : Dev nD) (w : Fin cfg0.W) : (dats m ρ 0 c).share w = fullShare := by unfold Dat.share; split <;> rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ptw c b f) := by
  unfold owns; simp only [Memref.view_whole, View.read_whole, View.set_whole]

/-- A staging buffer whose contents are known. -/
abbrev Staged (c : Dev nD) (b : Ref sig .tc) (X : b.ty.Contents (Elt F)) : sProp 𝕄 :=
  iprop(∃ f : Buf (Elt F) (((c : Dev nD) : Thread nD τ).loc b), ⌜f = X⌝ ∗ ptw c b f)

omit [FloatOps F] in
/-- The part of a buffer that is borrowed, and the rest of it. -/
theorem borrow (c : Dev nD) (b : Ref sig .tc) (I : Finset b.ty.shape.Idx) (f : b.ty.shape.Idx → Elt F b.ty.elt) :
    (ptw c b f : sProp 𝕄) = iprop(pt c b I fullShare f ∗ pt c b (Finset.univ \ I) fullShare f) :=
  pt_union (Finset.union_sdiff_of_subset (Finset.subset_univ I)).symm Finset.disjoint_sdiff

/-! ## The kernel on one device -/

/-- What the launch hands to the kernel. -/
def Before (c : Dev nD) : sProp 𝕄 :=
  iprop((Entry m c ∗ Scratch c) ∗ (dats m ρ 0 c).owesAt () t0_0.castSucc
    ∗ (∃ d, Staged c cc0_stg0_0 ((dats m ρ 0 c).before (0 : Fin 4) t0_0 d))
    ∗ (∃ d, Staged c cc0_stg1_0 ((dats m ρ 0 c).before (1 : Fin 4) t0_0 d))
    ∗ (∃ d, Staged c cc0_stg2_0 ((dats m ρ 0 c).before (2 : Fin 4) t0_0 d))
    ∗ (∃ d, Staged c cc0_stg3_0 ((dats m ρ 0 c).before (3 : Fin 4) t0_0 d)))

/-- What it takes back. -/
def After (c : Dev nD) : sProp 𝕄 :=
  iprop(Exit m c ∗ (dats m ρ 0 c).owesAt () t0_0.succ
    ∗ Staged c cc0_stg0_0 ((argsOf m).x c) ∗ Staged c cc0_stg1_0 ((argsOf m).k c) ∗ Staged c cc0_stg2_0 ((argsOf m).v c) ∗ Staged c cc0_stg3_0 (vOut (argsOf m)))

theorem before_x (c : Dev nD) (d) : (dats m ρ 0 c).before (0 : Fin 4) t0_0 d = (argsOf m).x c := by
  unfold Dat.before; rw [if_pos (fetch0_0 t0_0)]; rfl
theorem before_k (c : Dev nD) (d) : (dats m ρ 0 c).before (1 : Fin 4) t0_0 d = (argsOf m).k c := by
  unfold Dat.before; rw [if_pos (fetch0_1 t0_0)]; rfl
theorem before_v (c : Dev nD) (d) : (dats m ρ 0 c).before (2 : Fin 4) t0_0 d = (argsOf m).v c := by
  unfold Dat.before; rw [if_pos (fetch0_2 t0_0)]; rfl

/-- What stays outside the kernel: the weights it does not load. -/
def Aside (c : Dev nD) : sProp 𝕄 :=
  iprop(pt c main_arg1 (Finset.univ \ wqSet c) fullShare (m ((c : Thread nD τ).loc main_arg1)) ∗ pt c main_arg4 (Finset.univ \ woSet c) fullShare (m ((c : Thread nD τ).loc main_arg4)))

omit [FloatOps F] in
theorem purse_split (c : Dev nD) : (Purse c : sProp 𝕄) ⊢
    iprop(dutyTok ER (gc c (.ld 0)) 0 (false, 0) ∗ dutyTok ER (gc c (.ld 1)) 0 (false, 0)
    ∗ (all4 fun j => other 0 c j (dutyTok ER (gc (peer 0 c j) .bar) 0 (false, own 0 c)))
    ∗ (all4 fun j => other 1 c j (dutyTok ER (gc (peer 1 c j) .bar) 0 (true, own 1 c)))
    ∗ (all4 fun k => all4 fun r => all4 fun j => other k c j (Toks k r j c))) := by
  have e : (all4 fun k => all4 fun r => all4 fun j => other k c j (Toks k r j c) : sProp 𝕄)
      = iprop((all4 fun k => all4 fun r => all4 fun j => other k c j (tok c (.snd k r) false j))
        ∗ (all4 fun k => all4 fun r => all4 fun j => other k c j (tok (peer k c j) (.rcv k r) false (own k c)))) := by
    rw [← four_sep]
    refine four_congr fun k => ?_
    rw [← four_sep]
    refine four_congr fun r => ?_
    rw [← four_sep]
    exact four_congr fun j => by rw [← other_sep]; rfl
  rw [e]
  unfold Purse tok
  iintro H; iexact H

omit [FloatOps F] in
theorem msgs_of (c : Dev nD) : iprop((all4 fun k => all4 fun r => atPos ER (gc c (.snd k r)) 0 ∅ 0) ∗ (all4 fun k => all4 fun r => all4 fun j => other k c j (Toks k r j c))
    ∗ (all4 fun k => all4 fun r => atPos ER (gc c (.rcv k r)) 0 ∅ 0) ∗ (all4 fun k => all4 fun r => all4 fun j => Cr k (.rcv k r) j c)) ⊢ (all4 fun k => all4 fun r => Msg k r c : sProp 𝕄) := by
  unfold Msg
  rw [← four_sep, ← four_sep, ← four_sep]
  refine four_mono fun k => ?_
  rw [← four_sep, ← four_sep, ← four_sep]

/-- The kernel begins with what the launch hands over, and the rest of the weights stays aside. -/
theorem before_begin (c : Dev nD) : Before m ρ c ⊢ iprop(∃ K, Env (vals (argsOf m)) K ∗ Begin (argsOf m) c ∗ Aside m c) := by
  unfold Before Entry Scratch Furnished Weights Begin Aside Env
  rw [cells_eq, borrow c main_arg1 (wqSet c), borrow c main_arg4 (woSet c)]
  iintro ⟨⟨⟨⟨%K, ⟨HI, HR⟩, ⟨PB, ⟨P0, P1⟩, PS, PR⟩, Hp⟩, Hl, ⟨HcB, HcR⟩, ⟨Hq, Hq'⟩, Hw, Hw'⟩, S0, S1, S2, S3, S4, S5, S6, S7, S8, S9⟩,
    Ho, ⟨%d0, %g0, %h0, Hx⟩, ⟨%d1, %g1, %h1, Hk⟩, ⟨%d2, %g2, %h2, Hv⟩, ⟨%d3, %g3, %h3, Hu⟩⟩
  have hx : g0 = (argsOf m).x c := h0.trans (before_x m ρ c d0)
  have hk : g1 = (argsOf m).k c := h1.trans (before_k m ρ c d1)
  have hv : g2 = (argsOf m).v c := h2.trans (before_v m ρ c d2)
  subst hx; subst hk; subst hv
  unfold Dat.owesAt Pipeline.owesWithin
  icases Ho with ⟨%W, %hW, HO⟩
  ihave Hp := (purse_split (F := F) c) $$ Hp
  icases Hp with ⟨T0, T1, TF, TT, TM⟩
  iexists K
  isplitl [HI HR Hl]
  · isplitl [HI]; · iexact HI
    isplitl [HR] <;> iassumption
  isplitr [Hq' Hw']
  · isplitl [Hx]; · iexact Hx
    isplitl [Hk]; · iexact Hk
    isplitl [Hv]; · iexact Hv
    isplitl [Hu]; · iexists g3; iexact Hu
    isplitl [Hq]; · iexact Hq
    isplitl [Hw]; · iexact Hw
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [T0]; · iexact T0
    isplitl [T1]; · iexact T1
    isplitl [TF]; · iexact TF
    isplitl [TT]; · iexact TT
    isplitl [HcB]; · iexact HcB
    isplitl [PB]; · iexact PB
    isplitl [P0]; · iexact P0
    isplitl [P1]; · iexact P1
    isplitl [PS PR TM HcR]
    · iapply (msgs_of (F := F) c)
      isplitl [PS]; · iexact PS
      isplitl [TM]; · iexact TM
      isplitl [PR]; · iexact PR
      iexact HcR
    unfold Owed
    iexists W; iexact HO
  isplitl [Hq'] <;> iassumption

/-- The kernel ends with what the launch takes back. -/
theorem closed_after (c : Dev nD) : iprop(Closed (argsOf m) c ∗ Aside m c) ⊢ After m ρ c := by
  unfold After Exit Scratch Weights Closed Aside
  rw [borrow c main_arg1 (wqSet c), borrow c main_arg4 (woSet c)]
  unfold Owed Dat.owesAt Pipeline.owesWithin
  iintro ⟨⟨Hx, Hk, Hv, Hu, Hq, Hw, S0, S1, S2, S3, S4, S5, S6, S7, S8, S9, Hz, ⟨%W, HO⟩⟩, Hq', Hw'⟩
  isplitl [Hq Hw S0 S1 S2 S3 S4 S5 S6 S7 S8 S9 Hz Hq' Hw']
  · isplitl [Hz]; · iexact Hz
    isplitl [Hq Hw Hq' Hw']
    · isplitl [Hq Hq']
      · isplitl [Hq]; · iexact Hq
        iexact Hq'
      isplitl [Hw]; · iexact Hw
      iexact Hw'
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]
  · iexists W
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  isplitl [Hv]
  · iexists _; isplitr; · (ipureintro; rfl)
    iexact Hv
  iexists _; isplitr; · (ipureintro; rfl)
  iexact Hu

/-- The kernel on one device, as the launch asks for it. -/
theorem body_ok (c : Dev nD) : Before m ρ c ⊢ run c (app (cc0_body (F := F))) (fun _ => After m ρ c) := by
  iintro H
  ihave H := (before_begin m ρ c) $$ H
  icases H with ⟨%K, HE, HB, HA⟩
  iapply (Sem.wp_fupd _ _ _)
  iapply (kernel_run (argsOf m) K c (Q := fun _ => After m ρ c)) $$ [HE HB]
  · isplitl [HE] <;> iassumption
  iintro HC
  iapply (closed_after m ρ c)
  isplitl [HC] <;> iassumption

/-- The program of the launch's one point is the kernel. -/
theorem at_point : (defs₀ (F := F)) Proc.tc 0 (t0_0, cfg0.slots t0_0) = app (cc0_body (F := F)) := by
  show bodyAt0 t0_0 = _
  unfold bodyAt0 app
  rfl

theorem after_x (c : Dev nD) : (dats m ρ 0 c).after (0 : Fin 4) t0_0 = (argsOf m).x c := rfl
theorem after_k (c : Dev nD) : (dats m ρ 0 c).after (1 : Fin 4) t0_0 = (argsOf m).k c := rfl
theorem after_v (c : Dev nD) : (dats m ρ 0 c).after (2 : Fin 4) t0_0 = (argsOf m).v c := rfl
theorem after_out (c : Dev nD) : (dats m ρ 0 c).after (3 : Fin 4) t0_0 = vOut (argsOf m) := rfl

set_option maxHeartbeats 4000000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  rw [after_x, after_k, after_v, after_out]
  have h := body_ok m ρ c
  unfold Before After run at h
  rw [← at_point] at h
  exact h

/-! ## The launch's conditions -/

theorem entry_intro (c : Dev nD) :
    iprop(Pipeline.unscopedRestP Pipeline.Prefetch.none cfg0.spec c (fun b => m ((c : Thread nD τ).loc b)) ∗ levAts L lv
        ∗ Pipeline.launchCred (fun d => due d 0) c ∗ prngReg c (ρ c) ∗ Furnished (vals (argsOf m)) c)
      ⊢ |={Set.univ}=> iprop(Entry m c ∗ emp) := by
  rw [Pipeline.unscopedRestP_none, unscopedRest0_eq]
  unfold Entry Weights
  iintro ⟨Hw, Hl, Hc, -, HF⟩
  ihave Hc := (credits (F := F) c) $$ Hc
  imodintro
  isplitl
  · isplitl [HF]; · iexact HF
    isplitl [Hl]; · iexact Hl
    isplitl [Hc]; · iexact Hc
    iexact Hw
  iempintro

theorem first_intro (c : Dev nD) :
    iprop(Entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Entry m c ∗ Scratch c) from rfl, scopedRest0_eq]
  unfold Scratch
  iintro ⟨HE, -, HS⟩
  isplitl [HE] <;> iassumption

theorem last_exit (c : Dev nD) :
    (dats m ρ 0 c).Φ (Fin.last cfg0.N) ⊢ iprop((unscopedSems0 c ∗ Weights m c) ∗ Pipeline.ownSems0 osem c ∗ Pipeline.scopedRest cfg0.spec c) := by
  rw [show (dats m ρ 0 c).Φ (Fin.last cfg0.N) = Exit m c from rfl, scopedRest0_eq]
  unfold Exit Scratch
  rw [counters]
  iintro ⟨⟨Hu, Ho⟩, Hw, HS⟩
  isplitl [Hu Hw]
  · isplitl [Hu] <;> iassumption
  isplitl [Ho] <;> iassumption

theorem stage_low : ∀ (w : Fin cfg0.W) (s : Fin (cfg0.win w).nbuf), decode (.dma ((cfg0.win w).sem s)) = none := by decide +kernel
theorem sched_high : ∀ i ∈ sched.drop 0, 0 < lvl i.cell := by decide

theorem may_wait (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_due c _ 0 0 (by
        show (match decode (.dma ((cfg0.win w).sem s)) with | some x => lvl x | none => 0) ≤ 0
        rw [stage_low w s]) sched_high
    · show _ ⊢ MayWait _ _ _ 0
      rw [MayWait_zero]
      iintro -; iempintro

/-- What is read off the memory at the end, next to the arrays the launch reads itself. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg4) = m ((c : Thread nD τ).loc main_arg4)

theorem seen (c : Dev nD) (s' : Phys nD τ sig (Elt F)) : iprop((unscopedSems0 c ∗ Weights m c) ∗ emp ∗ SI s') ⊢ |={Set.univ}=> iprop(⌜Seen m c s'.mem⌝ ∗ SI s' : sProp 𝕄) := by
  unfold Weights
  iintro ⟨⟨Hu, Hq, Hw⟩, -, HSI⟩
  icombine HSI Hq gives %hq
  icombine HSI Hw gives %hw
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ hq, Buf.eq_of_forall_mem_univ hw⟩
  iexact HSI

/-! ## The run -/

/-- What an array of a device holds at the end. -/
def finalA (c : Dev nD) (w : Fin cfg0.W) : Buf (Elt F) ((cfg0.win w).arr.view.loc (c : Thread nD τ)) := (dats m ρ 0 c).arrAt w cfg0.N

set_option maxHeartbeats 4000000 in
/-- On sixteen devices, for any float values, from any memory with zero counters: every weakly fair execution ends, every array then holds its contents
    of `finalA`, the weights are unchanged and every semaphore counter is zero. -/
theorem run_all : θ_run defs (onTc (τ := τ) (main (F := F))) (s₀ m ρ)
    (fun r => (∀ c : Dev nD, (∀ w, r.2.mem ((cfg0.win w).arr.view.loc (c : Thread nD τ)) = finalA m ρ c w) ∧ Seen m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => due d 0) (howed₀ := fun _ => rfl) (howedN := fun _ => rfl)
    (L := L) (lv := lv) (hL := L_of_ne) (hwaits := may_wait m ρ)
    (G := Share (vals (argsOf m))) (G' := Furnished (vals (argsOf m))) (u₀ := u₀)
    (hu₀ := by
      unfold u₀
      iintro Hu
      ihave H := (ownU_pair _ _) $$ Hu
      icases H with ⟨HP, HX⟩
      imod (fund_all (vals (argsOf m))) $$ HX with HG
      imodintro
      isplitl [HP] <;> iassumption)
    (hglob := all_ready (vals (argsOf m)))
    (hA := fun _ _ => rfl) (hpf := fun _ k => k.elim0)
    (X := Entry m) (Y := fun c => iprop(unscopedSems0 c ∗ Weights m c)) (Z := fun _ => iprop(emp))
    (hX := entry_intro m ρ) (hin := first_intro m ρ) (hout := last_exit m ρ)
    (QY := Seen m) (hY := seen m)
    (hQ := fun _ h hs => ⟨fun c => ⟨fun w => (h c).1 w, (h c).2.2⟩, sem_eq_zero hs fun c => (h c).2.2.1⟩)

end Cert.Attn
-- ==== Proof.Frames.lean ====
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

/-!
  The frames of the three programs.  The kernel and its ideal form are one text, so the run of Run.lean, which holds for any
  float values, gives both; the reference declares no semaphore and its frame is its own run.
-/

@[expose] public section

noncomputable section

namespace Cert.Attn

open Idealize.ShloMosaic Idealize.ShloMosaic.TcCoe Idealize.SL.Sem
open Cert.KernelIdeal Cert.KernelIdeal.Gen
open Idealize.ShloMosaic.Pipeline (Dat Cfg Window)

variable {F : FTy → Type} [FloatOps F] (m : (ℓ : Loc nD τ sig) → Buf (Elt F) ℓ) (ρ : Dev nD → PrngReg)

/-- The kernel's run read at its five arguments and its result: the arguments end unchanged, the result ends with the contents of
    the result's window, and every semaphore counter is zero. -/
theorem run_main : θ_run (defs (F := F)) (onTc (τ := τ) (main (F := F))) ⟨m, fun _ => 0, ρ⟩
    (fun r => (∀ c : Dev nD, r.2.mem ((c.tc : Thread nD τ).loc main_v1) = finalA m ρ c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 3, ((h.1 c).1 0).trans ((dats m ρ 0 c).arrAt_in 0 rfl _), (h.1 c).2.2.1,
    ((h.1 c).1 1).trans ((dats m ρ 0 c).arrAt_in 1 rfl _), ((h.1 c).1 2).trans ((dats m ρ 0 c).arrAt_in 2 rfl _), (h.1 c).2.2.2⟩, h.2⟩) (run_all m ρ)

/-- The run of `run_main` without the result. -/
theorem run_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_main m ρ)

set_option maxRecDepth 100000 in
set_option smartUnfolding false in
/-- The kernel at its own float values: it ends, its arguments are unchanged and every counter is zero. -/
theorem frame_kernel : @Cert.quiescent_Kernel Cert.Kernel.Gen.facts := by
  intro m ρ _
  have hs : Cert.Kernel.sig = Cert.KernelIdeal.sig := rfl
  have hd : Cert.Kernel.defs (F := Bits) = Cert.KernelIdeal.defs (F := Bits) := rfl
  have hm : Cert.Kernel.main (F := Bits) = Cert.KernelIdeal.main (F := Bits) := rfl
  exact run_frame (F := Bits) m ρ

/-- The kernel over the extended reals: it ends, its arguments are unchanged and every counter is zero. -/
theorem frame_ideal : @Cert.quiescent_KernelIdeal Cert.KernelIdeal.Gen.facts := fun m ρ _ =>
  (θ_run Cert.KernelIdeal.defs _ _).mono (fun _ h => ⟨fun c => (h.1 c).2, h.2⟩) (run_main (F := Ideal) m ρ)

/-- The reference over the extended reals: it ends, its arguments are unchanged, and it declares no semaphore. -/
theorem frame_reference : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Attn
-- ==== Proof.Soft.lean ====
module

public import Idealize.ShloMosaic.Lib.Pointwise
public import Idealize.ShloMosaic.Lib.IdealHost

/-!
# A row of softmax over the extended reals

The reference takes the greatest score of a row away before it exponentiates, divides the weights and then averages the
values; the kernel exponentiates the scores as they are, averages, and divides at the end. Over real scores both give the
same, whatever the values.
-/

@[expose] public section

noncomputable section

namespace Cert.Soft

open Idealize.ShloMosaic

/-! ## Real numbers among the extended reals -/

/-- Is `a` a real number? -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The real numbers' sum, read among the extended reals. -/
theorem coe_sum {n : ℕ} (f : Fin n → ℝ) : ((∑ i, f i : ℝ) : EReal) = ∑ i, (f i : EReal) := by
  have : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact this _

theorem IsReal.sum {n : ℕ} {f : Fin n → EReal} (h : ∀ i, IsReal (f i)) : IsReal (∑ i, f i) := by
  choose g hg using h
  refine ⟨∑ i, g i, ?_⟩
  rw [coe_sum]
  exact Finset.sum_congr rfl fun i _ => hg i

theorem isReal_of_ne {a : EReal} (h : a ≠ ⊤) (h' : a ≠ ⊥) : IsReal a := ⟨a.toReal, (EReal.coe_toReal h h').symm⟩

/-- A factor that is a real number and not negative goes through a sum. -/
theorem sum_mul {n : ℕ} (f : Fin n → EReal) (r : ℝ) (hr : 0 ≤ r) : (∑ i, f i) * (r : EReal) = ∑ i, f i * (r : EReal) := by
  have : ∀ s : Finset (Fin n), (∑ i ∈ s, f i) * (r : EReal) = ∑ i ∈ s, f i * (r : EReal) := by
    intro s
    induction s using Finset.induction_on with
    | empty => simp
    | insert a s ha ih =>
      rw [Finset.sum_insert ha, Finset.sum_insert ha, EReal.right_distrib_of_nonneg_of_ne_top (EReal.coe_nonneg.2 hr) (EReal.coe_ne_top r), ih]
  exact this _

/-! ## The constants of the programs -/

theorem eighth : Ideal.ofBits .f32 0x3E000000#32 = (((1 : ℝ) / 8 : ℝ) : EReal) := by
  simp [Ideal.ofBits, Ideal.ieee, -EReal.coe_mul]
  norm_num

theorem minus_inf : Ideal.ofBits .f32 0xFF800000#32 = ⊥ := by
  simp [Ideal.ofBits, Ideal.ieee]

theorem plus_inf : Ideal.ofBits .f32 0x7F800000#32 = ⊤ := by
  simp [Ideal.ofBits, Ideal.ieee]

/-! ## One row -/

variable {n : ℕ} (s v : Fin n → EReal) (p : Fin n → Prop) [DecidablePred p]

/-- The greatest score of the window. -/
def top : EReal := Finset.fold max ⊥ (fun j => if p j then s j else ⊥) Finset.univ

/-- The weights before they are divided. -/
def raw (j : Fin n) : EReal := Ideal.exp ((if p j then s j else ⊥) - top s p)

theorem top_real (hs : ∀ j, IsReal (s j)) (j₀ : Fin n) (h₀ : p j₀) : IsReal (top s p) := by
  refine isReal_of_ne ?_ ?_
  · refine ne_of_lt ((Finset.fold_max_lt _).2 ⟨bot_lt_top, fun j _ => ?_⟩)
    by_cases h : p j
    · obtain ⟨r, hr⟩ := hs j
      simp only [h, if_true, hr]
      exact EReal.coe_lt_top r
    · simp only [h, if_false]
      exact bot_lt_top
  · obtain ⟨r, hr⟩ := hs j₀
    refine ne_of_gt (lt_of_lt_of_le (EReal.bot_lt_coe r) (Finset.le_fold_max _ |>.2 (Or.inr ⟨j₀, Finset.mem_univ _, ?_⟩)))
    simp only [h₀, if_true, hr]
    exact le_refl _

/-- **A row.** Over real scores with a column in the window, the average of the values under the divided weights is the
quotient of the sums that the kernel takes. -/
theorem row (hs : ∀ j, IsReal (s j)) (j₀ : Fin n) (h₀ : p j₀) :
    ∑ j, v j * Ideal.div (raw s p j) (∑ j, raw s p j)
      = Ideal.div (∑ j, if p j then Ideal.exp (s j) * v j else 0) (∑ j, if p j then Ideal.exp (s j) else 0) := by
  obtain ⟨μ, hμ⟩ := top_real s p hs j₀ h₀
  choose r hr using hs
  let e : Fin n → ℝ := fun j => if p j then Real.exp (r j) else 0
  have he : ∀ j, 0 ≤ e j := fun j => by
    by_cases h : p j
    · simp only [e, h, if_true]; exact (Real.exp_pos _).le
    · simp only [e, h, if_false]; exact le_refl _
  have hE : 0 < ∑ j, e j := by
    refine Finset.sum_pos' (fun j _ => he j) ⟨j₀, Finset.mem_univ _, ?_⟩
    simp only [e, h₀, if_true]
    exact Real.exp_pos _
  have hc : 0 < Real.exp (-μ) := Real.exp_pos _
  have hraw : ∀ j, raw s p j = ((e j * Real.exp (-μ) : ℝ) : EReal) := by
    intro j
    rw [raw, hμ]
    by_cases h : p j
    · simp only [e, h, if_true, hr j]
      rw [← EReal.coe_sub]
      show ((Real.exp (r j - μ) : ℝ) : EReal) = _
      rw [sub_eq_add_neg, Real.exp_add]
    · simp only [e, h, if_false, zero_mul, EReal.bot_sub]
      rfl
  have hsum : ∑ j, raw s p j = (((∑ j, e j) * Real.exp (-μ) : ℝ) : EReal) := by
    rw [Finset.sum_mul, coe_sum]
    exact Finset.sum_congr rfl fun j _ => hraw j
  have hdiv : ∀ (a : EReal) (t : ℝ), 0 < t → Ideal.div a (t : EReal) = a * ((t⁻¹ : ℝ) : EReal) := by
    intro a t ht
    have : (t : EReal) ≠ 0 := fun h => ht.ne' (EReal.coe_eq_zero.1 h)
    rw [Ideal.div, if_neg this, EReal.coe_inv]
  have hden : (∑ j, if p j then Ideal.exp (s j) else 0) = ((∑ j, e j : ℝ) : EReal) := by
    rw [coe_sum]
    refine Finset.sum_congr rfl fun j _ => ?_
    by_cases h : p j
    · simp only [e, h, if_true, hr j]; rfl
    · simp only [e, h, if_false]; rfl
  rw [hsum, hden, hdiv _ _ hE, sum_mul _ _ (inv_nonneg.2 hE.le)]
  refine Finset.sum_congr rfl fun j _ => ?_
  rw [hdiv _ _ (mul_pos hE hc), hraw j, ← EReal.coe_mul]
  have hq : e j * Real.exp (-μ) * ((∑ j, e j) * Real.exp (-μ))⁻¹ = e j * (∑ j, e j)⁻¹ := by
    field_simp
  rw [hq, EReal.coe_mul, ← mul_assoc]
  congr 1
  rw [mul_comm]
  by_cases h : p j
  · simp only [e, h, if_true, hr j]; rfl
  · simp only [e, h, if_false]; simp

end Cert.Soft
end
-- ==== Proof.Ref.lean ====
module

public import proofs.«01_k».proof.Proof.Gen.ReferenceIdeal
public import proofs.«01_k».proof.Proof.Gen.ReferenceIdeal.Run
public import Idealize.ShloMosaic.Lib.Pointwise
public import proofs.«01_k».proof.Proof.Soft

/-!
# The reference's arrays, one after the other, and their entries over the extended reals
-/

@[expose] public section

set_option maxRecDepth 10000

noncomputable section

namespace Cert.Ref

open Cert.ReferenceIdeal Cert.ReferenceIdeal.Gen
open Idealize.ShloMosaic Idealize.ShloMosaic.TcCoe

variable (x : FVec Ideal S2x512x768 .f32) (wq : FVec Ideal S768x8192 .f32) (k v : FVec Ideal S2x512x128x64 .f32) (wo : FVec Ideal S8192x768 .f32)

/-- The window: rows and columns at most 128 apart. -/
def mask : IVec S512x512 1 :=
  cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))

/-- Does a row have a column in its window? -/
def keep : IVec S512 1 := Host.reduce IntOp.ori mask (constantI S_ 1 0#1) reducesTo_S512x512_S512_d1 h_S_

/-- The scores. -/
def score : FVec Ideal S2x128x512x512 .f32 :=
  mulf (Host.dotGeneral dot_S2x512x128x64_S2x512x128x64_S2x128x512x512_3_3_1_1_02_02 none (shapeCast _ (Host.dotGeneral dot_S2x512x768_S768x8192_S2x512x8192_2_0_01_1_n_n none x wq) shapeCasts_S2x512x8192_S2x512x128x64) k) (broadcastInDim S2x128x512x512 ![] bcast_S_S2x128x512x512 (constant S_ .f32 0x3E000000#32))

/-- The scores outside the window set to minus infinity. -/
def masked : FVec Ideal S2x128x512x512 .f32 :=
  select (broadcastInDim S2x128x512x512 ![0, 1, 2, 3] bcast_S1x1x512x512_S2x128x512x512_0_1_2_3 (broadcastInDim S1x1x512x512 ![2, 3] bcast_S512x512_S1x1x512x512_2_3 mask)) (score x wq k) (broadcastInDim S2x128x512x512 ![] bcast_S_S2x128x512x512 (id (constant S_ .f32 0xFF800000#32)))

/-- A row's greatest score. -/
def top : FVec Ideal S2x128x512 .f32 :=
  Host.reduce FloatOps.maximumf (masked x wq k) (constant S_ .f32 0xFF800000#32) reducesTo_S2x128x512x512_S2x128x512_d3 h_S_

/-- The weights before they are divided. -/
def raw : FVec Ideal S2x128x512x512 .f32 :=
  Host.exp (subf (masked x wq k) (broadcastInDim S2x128x512x512 ![0, 1, 2, 3] bcast_S2x128x512x1_S2x128x512x512_0_1_2_3 (broadcastInDim S2x128x512x1 ![0, 1, 2] bcast_S2x128x512_S2x128x512x1_0_1_2 (top x wq k))))

/-- A row's divisor. -/
def total : FVec Ideal S2x128x512x1 .f32 :=
  select (broadcastInDim S2x128x512x1 ![0, 1, 2, 3] bcast_S1x1x512x1_S2x128x512x1_0_1_2_3 (broadcastInDim S1x1x512x1 ![2] bcast_S512_S1x1x512x1_2 keep)) (broadcastInDim S2x128x512x1 ![0, 1, 2] bcast_S2x128x512_S2x128x512x1_0_1_2 (Host.reduceAdd (raw x wq k) (constant S_ .f32 0x00000000#32) reducesTo_S2x128x512x512_S2x128x512_d3 h_S_)) (broadcastInDim S2x128x512x1 ![] bcast_S_S2x128x512x1 (id (constant S_ .f32 0x3F800000#32)))

/-- The weights. -/
def weight : FVec Ideal S2x128x512x512 .f32 :=
  select (broadcastInDim S2x128x512x512 ![0, 1, 2, 3] bcast_S1x1x512x1_S2x128x512x512_0_1_2_3 (broadcastInDim S1x1x512x1 ![2] bcast_S512_S1x1x512x1_2 keep)) (Host.divf (raw x wq k) (broadcastInDim S2x128x512x512 ![0, 1, 2, 3] bcast_S2x128x512x1_S2x128x512x512_0_1_2_3 (total x wq k))) (broadcastInDim S2x128x512x512 ![] bcast_S_S2x128x512x512 (id (constant S_ .f32 0x00000000#32)))

/-- The attention output. -/
def ctx : FVec Ideal S2x512x8192 .f32 :=
  shapeCast _ (transpose S2x512x128x64 [0, 3, 1, 2] (Host.dotGeneral dot_S2x512x128x64_S2x128x512x512_S2x128x64x512_1_3_3_2_02_01 none v (weight x wq k)) transposes_S2x128x64x512_S2x512x128x64_0_3_1_2) shapeCasts_S2x512x128x64_S2x512x8192

/-- The result. -/
def out : FVec Ideal S2x512x768 .bf16 :=
  truncf .bf16 (Host.dotGeneral dot_S2x512x8192_S8192x768_S2x512x768_2_0_01_1_n_n none (ctx x wq k v) wo) bitsLt_bf16_f32

/-- The reference's result is `out` of its arguments. -/
theorem res_eq (m : (ℓ : Loc nD τ sig) → Buf (Elt Ideal) ℓ) (c : Dev nD) :
    Cert.ReferenceIdeal.Value.res_main_v35 m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## The entries -/

/-- Is column `j` in the window of row `i`? -/
def near (i j : Fin 512) : BitVec 1 :=
  IntOp.cmpi .sle (IntOp.absi (IntOp.subi (BitVec.ofNat 32 i.val) (BitVec.ofNat 32 j.val))) 128#32

theorem near_self (i : Fin 512) : near i i = 1#1 := by
  unfold near
  have : IntOp.subi (BitVec.ofNat 32 i.val) (BitVec.ofNat 32 i.val) = 0#32 := BitVec.sub_self _
  rw [this]
  rfl

theorem mask_at (i j : Fin 512) : mask (ix2 i j) = near i j := by
  pointwise [mask]
  rfl

theorem keep_at (i : Fin 512) : keep (ix1 i) = 1#1 := by
  pointwise [keep]
  simp only [mask_at]
  have h : ∀ s : Finset (Fin 512), i ∈ s → Finset.fold IntOp.ori (0#1) (fun j => near i j) s = 1#1 := by
    intro s hi
    rw [← Finset.insert_erase hi, Finset.fold_insert (Finset.notMem_erase _ _), near_self]
    generalize Finset.fold IntOp.ori (0#1) (fun j => near i j) _ = t
    revert t
    decide
  exact h _ (Finset.mem_univ _)

theorem score_at (b : Fin 2) (h : Fin 128) (i j : Fin 512) : score x wq k (ix4 b h i j)
    = (∑ d : Fin 64, (∑ n : Fin 768, x (ix3 b i n) * wq (ix2 n ⟨h.val * 64 + d.val, by omega⟩)) * k (ix4 b j h d)) * Ideal.ofBits .f32 0x3E000000#32 := by
  pointwise [score]

theorem masked_at (b : Fin 2) (h : Fin 128) (i j : Fin 512) :
    masked x wq k (ix4 b h i j) = if near i j = 1#1 then score x wq k (ix4 b h i j) else ⊥ := by
  pointwise [masked]
  rw [mask_at, ← Soft.minus_inf]
  rfl

theorem top_at (b : Fin 2) (h : Fin 128) (i : Fin 512) :
    top x wq k (ix3 b h i) = Soft.top (fun j => score x wq k (ix4 b h i j)) (fun j => near i j = 1#1) := by
  pointwise [top]
  rw [Soft.minus_inf]
  simp only [masked_at]
  rfl

theorem raw_at (b : Fin 2) (h : Fin 128) (i j : Fin 512) :
    raw x wq k (ix4 b h i j) = Soft.raw (fun j => score x wq k (ix4 b h i j)) (fun j => near i j = 1#1) j := by
  pointwise [raw]
  rw [masked_at, top_at]
  rfl

theorem total_at (b : Fin 2) (h : Fin 128) (i : Fin 512) :
    total x wq k (ix4 b h i 0) = ∑ j, Soft.raw (fun j => score x wq k (ix4 b h i j)) (fun j => near i j = 1#1) j := by
  pointwise [total]
  rw [keep_at]
  simp only [raw_at]
  rfl

theorem weight_at (b : Fin 2) (h : Fin 128) (i j : Fin 512) : weight x wq k (ix4 b h i j)
    = Ideal.div (Soft.raw (fun j => score x wq k (ix4 b h i j)) (fun j => near i j = 1#1) j)
      (∑ j, Soft.raw (fun j => score x wq k (ix4 b h i j)) (fun j => near i j = 1#1) j) := by
  pointwise [weight]
  rw [keep_at, raw_at, total_at]
  rfl

/-- The attention output's entries, over real scores: the quotient of two sums over the window. -/
theorem ctx_at (hs : ∀ b h i j, Soft.IsReal (score x wq k (ix4 b h i j))) (b : Fin 2) (i : Fin 512) (c : Fin 8192) :
    ctx x wq k v (ix3 b i c) = Ideal.div
      (∑ j, if near i j = 1#1 then Ideal.exp (score x wq k (ix4 b ⟨c.val / 64, by omega⟩ i j))
        * v (ix4 b j ⟨c.val / 64, by omega⟩ ⟨c.val % 64, by omega⟩) else 0)
      (∑ j, if near i j = 1#1 then Ideal.exp (score x wq k (ix4 b ⟨c.val / 64, by omega⟩ i j)) else 0) := by
  pointwise [ctx]
  simp only [weight_at]
  exact Soft.row (fun j => score x wq k (ix4 b ⟨c.val / 64, by omega⟩ i j))
    (fun j => v (ix4 b j ⟨c.val / 64, by omega⟩ ⟨c.val % 64, by omega⟩)) (fun j => near i j = 1#1)
    (fun j => hs _ _ _ _) i (near_self i)

theorem out_at (b : Fin 2) (i : Fin 512) (c : Fin 768) :
    out x wq k v wo (ix3 b i c) = ∑ J : Fin 8192, ctx x wq k v (ix3 b i J) * wo (ix2 J c) := by
  pointwise [out]

/-- The scores are real where the queries' and keys' inputs are. -/
theorem score_real (hx : ∀ i, Soft.IsReal (x i)) (hw : ∀ i, Soft.IsReal (wq i)) (hk : ∀ i, Soft.IsReal (k i)) (b h i j) :
    Soft.IsReal (score x wq k (ix4 b h i j)) := by
  rw [score_at, Soft.eighth]
  exact (Soft.IsReal.sum fun d => (Soft.IsReal.sum fun n => (hx _).mul (hw _)).mul (hk _)).mul ⟨_, rfl⟩

end Cert.Ref
end
-- ==== Proof.Pay.lean ====
module

public import proofs.«01_k».proof.Proof.Values
public import Idealize.ShloMosaic.Lib.Pointwise
public import proofs.«01_k».proof.Proof.Ref

/-!
# The entries of the arrays that the kernel stores, over the extended reals
-/

@[expose] public section

set_option maxRecDepth 10000

noncomputable section

namespace Cert.Attn

open Cert.KernelIdeal Cert.KernelIdeal.Gen
open Idealize.ShloMosaic

theorem pay3_at (x : S2x512x768.Idx → Ideal .f32) (w : S768x512.Idx → Ideal .f32) (b : Fin 2) (i c : Fin 512) :
    k0_pay3 (F := Ideal) x w (ix3 b i c) = ∑ n : Fin 768, x (ix3 b i n) * (w (ix2 n c) * Ideal.ofBits .f32 0x3E000000#32) := by
  pointwise [k0_pay3]

theorem pay6_at (k : S1x512x8x64.Idx → Ideal .f32) (i c : Fin 512) :
    k0_pay6 (F := Ideal) k (ix2 i c) = k (ix4 0 c ⟨i.val / 64, by omega⟩ ⟨i.val % 64, by omega⟩) := by
  pointwise [k0_pay6]

theorem pay7_at (k : S1x512x8x64.Idx → Ideal .f32) (i c : Fin 512) :
    k0_pay7 (F := Ideal) k (ix2 i c) = k (ix4 0 i ⟨c.val / 64, by omega⟩ ⟨c.val % 64, by omega⟩) := by
  pointwise [k0_pay7]

theorem pay8_at (q : S1x512x64.Idx → Ideal .bf16) (k : S64x512.Idx → Ideal .bf16) (v : S512x64.Idx → Ideal .bf16) (i : Fin 512) (c : Fin 64) :
    k0_pay8 (F := Ideal) k0_pay4 k0_pay5 q k v (ix3 0 i c) = Ideal.div
      (∑ j : Fin 512, if Ref.near i j = 1#1 then Ideal.exp (∑ d : Fin 64, q (ix3 0 i d) * k (ix2 d j)) * v (ix2 j c) else 0)
      (∑ j : Fin 512, if Ref.near i j = 1#1 then Ideal.exp (∑ d : Fin 64, q (ix3 0 i d) * k (ix2 d j)) else 0) := by
  pointwise [k0_pay8, k0_pay4, k0_pay5]
  rfl

theorem pay19_at (q : S1x128x512.Idx → Ideal .bf16) (k : S512x768.Idx → Ideal .f32) (i : Fin 128) (c : Fin 768) :
    k0_pay19 (F := Ideal) q k (ix3 0 i c) = ∑ n : Fin 512, q (ix3 0 i n) * k (ix2 n c) := by
  pointwise [k0_pay19]

theorem pay36_at (q : S1x64x768.Idx → Ideal .bf16) (k : S4x64x768.Idx → Ideal .bf16) (i : Fin 64) (c : Fin 768) :
    k0_pay36 (F := Ideal) q k (ix3 0 i c) = q (ix3 0 i c) + ∑ s : Fin 4, k (ix3 s i c) := by
  pointwise [k0_pay36]

theorem pay42_at (q : S1x16x768.Idx → Ideal .bf16) (k : S4x16x768.Idx → Ideal .bf16) (i : Fin 16) (c : Fin 768) :
    k0_pay42 (F := Ideal) q k (ix3 0 i c) = q (ix3 0 i c) + ∑ s : Fin 4, k (ix3 s i c) := by
  pointwise [k0_pay42]

theorem pay1_at (i : S16x64x768.Idx) : k0_pay1 (F := Ideal) i = 0 := by pointwise [k0_pay1]

theorem pay2_at (i : S16x16x768.Idx) : k0_pay2 (F := Ideal) i = 0 := by pointwise [k0_pay2]

end Cert.Attn
end
-- ==== Proof.Net.lean ====
module

public import proofs.«01_k».proof.Proof.Pay

/-!
# The kernel's result over the extended reals is the reference's

Each array that a device computes is read at an index, from the queries to the attention output, from there to the device's
partial result, and from the partial results to the sums over a row and a column of devices.
-/

@[expose] public section

set_option maxRecDepth 10000

noncomputable section

namespace Cert.Attn

open Cert.KernelIdeal Cert.KernelIdeal.Gen
open Idealize.ShloMosaic

/-! ## Reading a rectangle at an index -/

/-- A rectangle's entry is the array's, at the index that adds the offset. -/
theorem rd_at {s : Shape} {α : Type} (off size : Fin s.rank → ℕ) (inb : ∀ a, off a + size a ≤ s.size a) (f : s.Idx → α)
    (x : (Rect.unit (s := s) off size inb).shape.Idx) (y : s.Idx) (h : ∀ a, (y a).val = off a + (x a).val) :
    rd off size inb f x = f y := by
  refine congrArg f (funext fun a => Fin.ext ?_)
  rw [emb_val, h]

theorem rd2 {α : Type} {s0 s1 t0 t1 o0 o1 : ℕ} (inb : ∀ a, (![o0, o1] : Fin 2 → ℕ) a + (![t0, t1] : Fin 2 → ℕ) a ≤ (![s0, s1] : Fin 2 → ℕ) a)
    (f : (⟨2, ![s0, s1]⟩ : Shape).Idx → α) (a : Fin t0) (b : Fin t1) (a' : Fin s0) (b' : Fin s1) (h0 : a'.val = o0 + a.val)
    (h1 : b'.val = o1 + b.val) : rd (s := ⟨2, ![s0, s1]⟩) ![o0, o1] ![t0, t1] inb f (ix2 a b) = f (ix2 a' b') :=
  rd_at _ _ _ _ _ _ fun i => match i with
    | ⟨0, _⟩ => h0
    | ⟨1, _⟩ => h1

theorem rd3 {α : Type} {s0 s1 s2 t0 t1 t2 o0 o1 o2 : ℕ}
    (inb : ∀ a, (![o0, o1, o2] : Fin 3 → ℕ) a + (![t0, t1, t2] : Fin 3 → ℕ) a ≤ (![s0, s1, s2] : Fin 3 → ℕ) a)
    (f : (⟨3, ![s0, s1, s2]⟩ : Shape).Idx → α) (a : Fin t0) (b : Fin t1) (c : Fin t2) (a' : Fin s0) (b' : Fin s1) (c' : Fin s2)
    (h0 : a'.val = o0 + a.val) (h1 : b'.val = o1 + b.val) (h2 : c'.val = o2 + c.val) :
    rd (s := ⟨3, ![s0, s1, s2]⟩) ![o0, o1, o2] ![t0, t1, t2] inb f (ix3 a b c) = f (ix3 a' b' c') :=
  rd_at _ _ _ _ _ _ fun i => match i with
    | ⟨0, _⟩ => h0
    | ⟨1, _⟩ => h1
    | ⟨2, _⟩ => h2

theorem rd4 {α : Type} {s0 s1 s2 s3 t0 t1 t2 t3 o0 o1 o2 o3 : ℕ}
    (inb : ∀ a, (![o0, o1, o2, o3] : Fin 4 → ℕ) a + (![t0, t1, t2, t3] : Fin 4 → ℕ) a ≤ (![s0, s1, s2, s3] : Fin 4 → ℕ) a)
    (f : (⟨4, ![s0, s1, s2, s3]⟩ : Shape).Idx → α) (a : Fin t0) (b : Fin t1) (c : Fin t2) (d : Fin t3) (a' : Fin s0) (b' : Fin s1)
    (c' : Fin s2) (d' : Fin s3) (h0 : a'.val = o0 + a.val) (h1 : b'.val = o1 + b.val) (h2 : c'.val = o2 + c.val)
    (h3 : d'.val = o3 + d.val) :
    rd (s := ⟨4, ![s0, s1, s2, s3]⟩) ![o0, o1, o2, o3] ![t0, t1, t2, t3] inb f (ix4 a b c d) = f (ix4 a' b' c' d') :=
  rd_at _ _ _ _ _ _ fun i => match i with
    | ⟨0, _⟩ => h0
    | ⟨1, _⟩ => h1
    | ⟨2, _⟩ => h2
    | ⟨3, _⟩ => h3

/-! ## One device's attention -/

variable (x : S2x512x768.Idx → EReal) (wq : S768x8192.Idx → EReal) (k v : Cert.ReferenceIdeal.S2x512x128x64.Idx → EReal)
  (wo : S8192x768.Idx → EReal) (A : Args Ideal)

/-- The devices' arguments are the reference's: the keys and values by blocks of eight heads, the others whole. -/
structure Same : Prop where
  hx : ∀ c, A.x c = x
  hwq : ∀ c, A.wq c = wq
  hk : ∀ (c : Dev nD) (b : Fin 2) (j : Fin 512) (h : Fin 8) (d : Fin 64) (h' : Fin 128), h'.val = 8 * c.val + h.val →
    A.k c (ix4 b j h d) = k (ix4 b j h' d)
  hv : ∀ (c : Dev nD) (b : Fin 2) (j : Fin 512) (h : Fin 8) (d : Fin 64) (h' : Fin 128), h'.val = 8 * c.val + h.val →
    A.v c (ix4 b j h d) = v (ix4 b j h' d)
  hwo : ∀ c, A.wo c = wo

variable {x wq k v wo A} (S : Same x wq k v wo A)

theorem dev_lt (c : Dev nD) : c.val < 16 := c.isLt

include S in
theorem vQ_at (c : Dev nD) (b : Fin 2) (i n : Fin 512) (n' : Fin 8192) (h : n'.val = 512 * c.val + n.val) :
    vQ A c (ix3 b i n) = ∑ m : Fin 768, x (ix3 b i m) * (wq (ix2 m n') * Ideal.ofBits .f32 0x3E000000#32) := by
  unfold vQ
  rw [pay3_at]
  refine Finset.sum_congr rfl fun m _ => ?_
  have h1 := (rd3 inb_S2x512x768_S2x512x768_0_0_0 (A.x c) b i m b i m (Nat.zero_add _).symm (Nat.zero_add _).symm (Nat.zero_add _).symm).trans (congrFun (S.hx c) _)
  have h2 := (rd2 inb_S768x512_S768x512_0_0 (vWq A c) m n m n (Nat.zero_add _).symm (Nat.zero_add _).symm).trans
    ((rd2 (inb_wq c) (A.wq c) m n m n' (Nat.zero_add _).symm h).trans (congrFun (S.hwq c) _))
  exact Ideal.mul_congr h1 (Ideal.mul_congr h2 rfl)

include S in
theorem vKt_at (c : Dev nD) (b : Fin 2) (h : Fin 8) (d : Fin 64) (j n : Fin 512) (h' : Fin 128) (hn : n.val = 64 * h.val + d.val)
    (hh : h'.val = 8 * c.val + h.val) : vKt A c b (ix2 n j) = k (ix4 b j h' d) := by
  unfold vKt
  rw [pay6_at]
  have e1 : (⟨n.val / 64, by omega⟩ : Fin 8) = h := Fin.ext (show n.val / 64 = h.val by omega)
  have e2 : (⟨n.val % 64, by omega⟩ : Fin 64) = d := Fin.ext (show n.val % 64 = d.val by omega)
  rw [e1, e2]
  exact (rd4 (inb_kv b) (A.k c) 0 j h d b j h d rfl (Nat.zero_add _).symm (Nat.zero_add _).symm (Nat.zero_add _).symm).trans (S.hk c b j h d h' hh)

include S in
theorem vVp_at (c : Dev nD) (b : Fin 2) (h : Fin 8) (d : Fin 64) (j n : Fin 512) (h' : Fin 128) (hn : n.val = 64 * h.val + d.val)
    (hh : h'.val = 8 * c.val + h.val) : vVp A c b (ix2 j n) = v (ix4 b j h' d) := by
  unfold vVp
  rw [pay7_at]
  have e1 : (⟨n.val / 64, by omega⟩ : Fin 8) = h := Fin.ext (show n.val / 64 = h.val by omega)
  have e2 : (⟨n.val % 64, by omega⟩ : Fin 64) = d := Fin.ext (show n.val % 64 = d.val by omega)
  rw [e1, e2]
  exact (rd4 (inb_kv b) (A.v c) 0 j h d b j h d rfl (Nat.zero_add _).symm (Nat.zero_add _).symm (Nat.zero_add _).symm).trans (S.hv c b j h d h' hh)

include S in
/-- The kernel's scores, with the weights scaled first, are the reference's. -/
theorem score_eq (c : Dev nD) (b : Fin 2) (h : Fin 8) (h' : Fin 128) (hh : h'.val = 8 * c.val + h.val) (i j : Fin 512) :
    ∑ d : Fin 64, rd (s := S2x512x512) ![b.val, 0, 64 * h.val] S1x512x64.size (inb_hq b h) (vQ A c) (ix3 0 i d)
        * rd (s := S512x512) ![64 * h.val, 0] S64x512.size (inb_hk h) (vKt A c b) (ix2 d j)
      = Ref.score x wq k (ix4 b h' i j) := by
  rw [Ref.score_at, Soft.eighth, Soft.sum_mul _ _ (by norm_num)]
  refine Finset.sum_congr rfl fun d _ => ?_
  have hc := dev_lt c
  have h1 := (rd3 (inb_hq b h) (vQ A c) 0 i d b i ⟨64 * h.val + d.val, by omega⟩ rfl (Nat.zero_add _).symm rfl).trans
    (vQ_at S c b i ⟨64 * h.val + d.val, by omega⟩ ⟨h'.val * 64 + d.val, by omega⟩ (by show h'.val * 64 + d.val = 512 * c.val + (64 * h.val + d.val); omega))
  have h2 := (rd2 (inb_hk h) (vKt A c b) d j ⟨64 * h.val + d.val, by omega⟩ j rfl (Nat.zero_add _).symm).trans
    (vKt_at S c b h d j ⟨64 * h.val + d.val, by omega⟩ h' rfl hh)
  refine (Ideal.mul_congr h1 h2).trans ?_
  rw [Soft.eighth, mul_assoc, mul_comm (k _), ← mul_assoc, Soft.sum_mul _ _ (by norm_num)]
  refine Ideal.mul_congr (Finset.sum_congr rfl fun m _ => ?_) rfl
  rw [mul_assoc]

variable (hs : ∀ b h i j, Soft.IsReal (Ref.score x wq k (ix4 b h i j)))

include S hs in
/-- A head's output is the reference's, in the columns of that head. -/
theorem vHead_at (c : Dev nD) (b : Fin 2) (h : Fin 8) (i : Fin 512) (d : Fin 64) (J : Fin 8192) (hJ : J.val = 512 * c.val + (64 * h.val + d.val)) :
    vHead A c b h (ix3 0 i d) = Ref.ctx x wq k v (ix3 b i J) := by
  have hc := dev_lt c
  have hh : J.val / 64 = 8 * c.val + h.val := by omega
  have e : (⟨J.val % 64, by omega⟩ : Fin 64) = d := Fin.ext (show J.val % 64 = d.val by omega)
  rw [Ref.ctx_at x wq k v hs, e, vHead, pay8_at]
  have hsc := fun j => score_eq S c b h ⟨J.val / 64, by omega⟩ hh i j
  have hv := fun j => (rd2 (inb_hv h) (vVp A c b) j d j ⟨64 * h.val + d.val, by omega⟩ (Nat.zero_add _).symm rfl).trans
    (vVp_at S c b h d j ⟨64 * h.val + d.val, by omega⟩ ⟨J.val / 64, by omega⟩ rfl hh)
  refine app2 Ideal.div (Finset.sum_congr rfl fun j _ => ?_) (Finset.sum_congr rfl fun j _ => ?_)
  · rw [hsc j]
    exact congrArg (fun t => if Ref.near i j = 1#1 then _ * t else 0) (hv j)
  · rw [hsc j]

include S hs in
theorem vCtx_at (c : Dev nD) (b : Fin 2) (i n : Fin 512) (J : Fin 8192) (hJ : J.val = 512 * c.val + n.val) :
    vCtx A c (ix3 b i n) = Ref.ctx x wq k v (ix3 b i J) := by
  refine Eq.trans ?_ (vHead_at S hs c b ⟨n.val / 64, by omega⟩ i ⟨n.val % 64, by omega⟩ J
    (by show J.val = 512 * c.val + (64 * (n.val / 64) + n.val % 64); omega))
  exact app3 (vHead A c) (Fin.ext (Nat.div_one _)) rfl (funext fun a => match a with
    | ⟨0, _⟩ => Fin.ext (Nat.mod_one _)
    | ⟨1, _⟩ => Fin.ext (Nat.mod_eq_of_lt i.isLt)
    | ⟨2, _⟩ => rfl)

include S hs in
/-- A device's partial result: the contraction over its eight heads' columns. -/
theorem vAcc_at (c : Dev nD) (b : Fin 2) (i : Fin 512) (f : Fin 768) :
    vAcc A c (ix3 b i f) = ∑ n : Fin 512, Ref.ctx x wq k v (ix3 b i ⟨512 * c.val + n.val, by have := dev_lt c; omega⟩)
      * wo (ix2 ⟨512 * c.val + n.val, by have := dev_lt c; omega⟩ f) := by
  have hc := dev_lt c
  have h0 : vAcc A c (ix3 b i f) = vAccBlk A c b ⟨i.val / 128, by omega⟩ (ix3 0 ⟨i.val % 128, by omega⟩ f) :=
    app3 (vAccBlk A c) (Fin.ext (Nat.div_one _)) rfl (funext fun a => match a with
      | ⟨0, _⟩ => Fin.ext (Nat.mod_one _)
      | ⟨1, _⟩ => rfl
      | ⟨2, _⟩ => Fin.ext (Nat.mod_eq_of_lt f.isLt))
  rw [h0, vAccBlk, pay19_at]
  refine Finset.sum_congr rfl fun n _ => ?_
  have h1 := (rd3 (inb_ab b ⟨i.val / 128, by omega⟩) (vCtx A c) 0 ⟨i.val % 128, by omega⟩ n b i n rfl
    (show i.val = 128 * (i.val / 128) + i.val % 128 by omega) (Nat.zero_add _).symm).trans
    (vCtx_at S hs c b i n ⟨512 * c.val + n.val, by omega⟩ rfl)
  have h2 := (rd2 inb_S512x768_S512x768_0_0 (vWo A c) n f n f (Nat.zero_add _).symm (Nat.zero_add _).symm).trans
    ((rd2 (inb_wo c) (A.wo c) n f ⟨512 * c.val + n.val, by omega⟩ f rfl (Nat.zero_add _).symm).trans (congrFun (S.hwo c) _))
  exact Ideal.mul_congr h1 h2

/-! ## The sums over the devices -/

/-- One's own term, and the others' from four slots of which one's own holds zero: the sum of all four. -/
theorem own_add (g : Fin 4 → EReal) (p : Fin 4) : g p + ∑ s, (if s = p then 0 else g s) = ∑ s, g s := by
  rw [← Finset.add_sum_erase _ _ (Finset.mem_univ p), ← Finset.add_sum_erase _ _ (Finset.mem_univ p)]
  rw [if_pos rfl, zero_add]
  congr 1
  exact Finset.sum_congr rfl fun s hs => if_neg (Finset.ne_of_mem_erase hs)

variable (A)

theorem vPb_at (c : Dev nD) (r s : Fin 4) (q : Fin 16) (hq : q.val = 4 * r.val + s.val) (i : Fin 64) (f : Fin 768) (b : Fin 2) (i' : Fin 512)
    (hb : b.val = r.val / 2) (hi : i'.val = 128 * (pOf c).val + 64 * (r.val % 2) + i.val) :
    vPb A c (ix3 q i f) = if s = pOf c then 0 else vAcc A (devAt (zOf c) s) (ix3 b i' f) := by
  have h0 : vPb A c (ix3 q i f) = vPbBlk A c r s (ix3 0 i f) :=
    app3 (vPbBlk A c) (Fin.ext (show q.val / 1 / 4 = r.val by omega)) (Fin.ext (show q.val / 1 % 4 = s.val by omega)) (funext fun a => match a with
      | ⟨0, _⟩ => Fin.ext (Nat.mod_one _)
      | ⟨1, _⟩ => Fin.ext (Nat.mod_eq_of_lt i.isLt)
      | ⟨2, _⟩ => Fin.ext (Nat.mod_eq_of_lt f.isLt))
  rw [h0, vPbBlk]
  split
  · exact pay1_at _
  · exact rd3 (inb_sl r (pOf c)) (vAcc A (peer 0 c s)) 0 i f b i' f hb hi (Nat.zero_add _).symm

/-- After the first exchange: the sum over the device's row. -/
theorem vCg_at (c : Dev nD) (r : Fin 4) (i : Fin 64) (f : Fin 768) (b : Fin 2) (i' : Fin 512)
    (hb : b.val = r.val / 2) (hi : i'.val = 128 * (pOf c).val + 64 * (r.val % 2) + i.val) :
    vCg A c (ix3 r i f) = ∑ s, vAcc A (devAt (zOf c) s) (ix3 b i' f) := by
  have h0 : vCg A c (ix3 r i f) = vCgBlk A c r (ix3 0 i f) :=
    app2 (vCgBlk A c) (Fin.ext (Nat.div_one _)) (funext fun a => match a with
      | ⟨0, _⟩ => Fin.ext (Nat.mod_one _)
      | ⟨1, _⟩ => Fin.ext (Nat.mod_eq_of_lt i.isLt)
      | ⟨2, _⟩ => Fin.ext (Nat.mod_eq_of_lt f.isLt))
  rw [h0, vCgBlk, pay36_at, ← own_add (fun s => vAcc A (devAt (zOf c) s) (ix3 b i' f)) (pOf c)]
  refine Ideal.add_congr ?_ (Finset.sum_congr rfl fun s _ => ?_)
  · refine (rd3 (inb_sl r (pOf c)) (vAcc A c) 0 i f b i' f hb hi (Nat.zero_add _).symm).trans ?_
    show _ = vAcc A (devAt (zOf c) (pOf c)) _
    rw [devAt_self]
  · exact (rd3 (inb_p4 r) (vPb A c) s i f ⟨4 * r.val + s.val, by omega⟩ i f rfl (Nat.zero_add _).symm (Nat.zero_add _).symm).trans
      (vPb_at A c r s _ rfl i f b i' hb hi)

theorem vZb_at (c : Dev nD) (r s : Fin 4) (q : Fin 16) (hq : q.val = 4 * r.val + s.val) (i : Fin 16) (f : Fin 768) (i' : Fin 64)
    (hi : i'.val = 16 * (zOf c).val + i.val) :
    vZb A c (ix3 q i f) = if s = zOf c then 0 else vCg A (devAt s (pOf c)) (ix3 r i' f) := by
  have h0 : vZb A c (ix3 q i f) = vZbBlk A c r s (ix3 0 i f) :=
    app3 (vZbBlk A c) (Fin.ext (show q.val / 1 / 4 = r.val by omega)) (Fin.ext (show q.val / 1 % 4 = s.val by omega)) (funext fun a => match a with
      | ⟨0, _⟩ => Fin.ext (Nat.mod_one _)
      | ⟨1, _⟩ => Fin.ext (Nat.mod_eq_of_lt i.isLt)
      | ⟨2, _⟩ => Fin.ext (Nat.mod_eq_of_lt f.isLt))
  rw [h0, vZbBlk]
  split
  · exact pay2_at _
  · exact rd3 (inb_qu r (zOf c)) (vCg A (peer 1 c s)) 0 i f r i' f rfl hi (Nat.zero_add _).symm

/-- After the second exchange: the sum over the device's column of the sums over the rows. -/
theorem vOutBlk_at (c : Dev nD) (r : Fin 4) (i : Fin 16) (f : Fin 768) (b : Fin 2) (i' : Fin 512)
    (hb : b.val = r.val / 2) (hi : i'.val = 128 * (pOf c).val + 64 * (r.val % 2) + (16 * (zOf c).val + i.val)) :
    vOutBlk A c r (ix3 0 i f) = ∑ z, ∑ p, vAcc A (devAt z p) (ix3 b i' f) := by
  have hz : (zOf c).val < 4 := (zOf c).isLt
  rw [vOutBlk, pay42_at]
  refine Eq.trans ?_ ((own_add (fun s => vCg A (devAt s (pOf c)) (ix3 r ⟨16 * (zOf c).val + i.val, by omega⟩ f)) (zOf c)).trans
    (Finset.sum_congr rfl fun z _ => ?_))
  · refine Ideal.add_congr ?_ (Finset.sum_congr rfl fun s _ => ?_)
    · refine (rd3 (inb_qu r (zOf c)) (vCg A c) 0 i f r ⟨16 * (zOf c).val + i.val, by omega⟩ f rfl rfl (Nat.zero_add _).symm).trans ?_
      show _ = vCg A (devAt (zOf c) (pOf c)) _
      rw [devAt_self]
    · exact (rd3 (inb_z4 r) (vZb A c) s i f ⟨4 * r.val + s.val, by omega⟩ i f rfl (Nat.zero_add _).symm (Nat.zero_add _).symm).trans
        (vZb_at A c r s _ rfl i f _ rfl)
  · refine (vCg_at A (devAt z (pOf c)) r ⟨16 * (zOf c).val + i.val, by omega⟩ f b i' hb ?_).trans ?_
    · rw [pOf_devAt]; exact hi
    · rw [zOf_devAt]

/-- The result: the sum of all devices' partial results. -/
theorem vOut_at (b : Fin 2) (i : Fin 512) (f : Fin 768) : vOut A (ix3 b i f) = ∑ z, ∑ p, vAcc A (devAt z p) (ix3 b i f) := by
  have h0 : vOut A (ix3 b i f) = vOutBlk A (devAt ⟨i.val / 16 % 4, Nat.mod_lt _ (by decide)⟩ ⟨i.val / 16 / 8, by omega⟩)
      ⟨2 * b.val + i.val / 16 / 4 % 2, by omega⟩ (ix3 0 ⟨i.val % 16, by omega⟩ f) :=
    app3 (vOutBlk A) rfl (Fin.ext (by show 2 * (b.val / 1) + i.val / 16 / 4 % 2 = _; rw [Nat.div_one])) (funext fun a => match a with
      | ⟨0, _⟩ => Fin.ext (Nat.mod_one _)
      | ⟨1, _⟩ => rfl
      | ⟨2, _⟩ => Fin.ext (Nat.mod_eq_of_lt f.isLt))
  rw [h0]
  refine vOutBlk_at A _ _ _ f b i ?_ ?_
  · show b.val = (2 * b.val + i.val / 16 / 4 % 2) / 2
    omega
  · rw [pOf_devAt, zOf_devAt]
    show i.val = 128 * (i.val / 16 / 8) + 64 * ((2 * b.val + i.val / 16 / 4 % 2) % 2) + (16 * (i.val / 16 % 4) + i.val % 16)
    omega

/-- A sum over all heads' columns, device by device. -/
theorem sum_dev (g : Fin 8192 → EReal) :
    ∑ J, g J = ∑ z : Fin 4, ∑ p : Fin 4, ∑ n : Fin 512, g ⟨512 * (devAt z p).val + n.val, by have := dev_lt (devAt z p); omega⟩ := by
  refine (Fin.sum_univ_tiles (N := 8192) 16 512 rfl g).trans ?_
  refine (Fin.sum_univ_tiles (N := 16) 4 4 rfl _).trans ?_
  refine Finset.sum_congr rfl fun z _ => Finset.sum_congr rfl fun p _ => Finset.sum_congr rfl fun n _ => congrArg g (Fin.ext ?_)
  show (z.val * 4 + p.val) * 512 + n.val = 512 * (4 * z.val + p.val) + n.val
  omega

variable {A}

include S hs in
/-- **The values.** The kernel's result is the reference's. -/
theorem vOut_eq : vOut A = Ref.out x wq k v wo := by
  funext t
  obtain ⟨b, i, f, rfl⟩ : ∃ (b : Fin 2) (i : Fin 512) (f : Fin 768), t = ix3 b i f :=
    ⟨t 0, t 1, t 2, funext fun a => match a with
      | ⟨0, _⟩ => rfl
      | ⟨1, _⟩ => rfl
      | ⟨2, _⟩ => rfl⟩
  refine (vOut_at A b i f).trans (Eq.trans ?_ (Ref.out_at x wq k v wo b i f).symm)
  rw [sum_dev]
  exact Finset.sum_congr rfl fun z _ => Finset.sum_congr rfl fun p _ => vAcc_at S hs (devAt z p) b i f

end Cert.Attn
end
-- ==== Proof.Agree.lean ====
module

public import proofs.«01_k».proof.Defs
public import proofs.«01_k».proof.Proof.Frames
public import proofs.«01_k».proof.Proof.Net
public import proofs.«01_k».proof.Proof.Gen.Pre_finite_KernelIdeal
public import proofs.«01_k».proof.Proof.Gen.Pre_finite_ReferenceIdeal
public import Idealize.ShloMosaic.Lib.ReduceAll
public import Idealize.ShloMosaic.Lib.Affine
public import Idealize.ShloMosaic.Lib.Pipeline.ValueKit

/-!
# The value claim

What the run leaves in the result's array is the reference's result, on every device.
-/

@[expose] public section

set_option maxRecDepth 10000

noncomputable section

namespace Cert.Attn

open Cert.KernelIdeal Cert.KernelIdeal.Gen
open Idealize Idealize.ShloMosaic Idealize.ShloMosaic.TcCoe Idealize.SL.Sem

/-! ## The arrays around the kernel -/

section
variable {F : FTy → Type} [FloatOps F] (m : (ℓ : Loc nD τ sig) → Buf (Elt F) ℓ) (ρ : Dev nD → PrngReg)

theorem index0 : win0_0.index t0_0 = ![0, 0, 0] := by decide +kernel
theorem index1 : win0_1.index t0_0 = ![0, 0, 0, 0] := by decide +kernel
theorem index2 : win0_2.index t0_0 = ![0, 0, 0, 0] := by decide +kernel
theorem index3 : win0_3.index t0_0 = ![0, 0, 0] := by decide +kernel

/-- The blocks that the kernel's inputs are staged by are the whole arrays. -/
theorem args_x (c : Dev nD) : (argsOf m).x c = m ((c.tc : Thread nD τ).loc main_arg0) := by
  funext t
  show iblk m c 0 t0_0 t = _
  blk_ext [iblk, V, index0]

theorem args_k (c : Dev nD) : (argsOf m).k c = m ((c.tc : Thread nD τ).loc main_arg2) := by
  funext t
  show iblk m c 1 t0_0 t = _
  blk_ext [iblk, V, index1]

theorem args_v (c : Dev nD) : (argsOf m).v c = m ((c.tc : Thread nD τ).loc main_arg3) := by
  funext t
  show iblk m c 2 t0_0 t = _
  blk_ext [iblk, V, index2]

/-- The result's array holds `vOut` at the end. -/
theorem final_out (c : Dev nD) : finalA m ρ c 3 = vOut (argsOf m) := by
  refine (dats m ρ 0 c).arrAt_eq_of_covers 3 _ (by decide +kernel) fun t hf y => ?_
  obtain rfl : t = t0_0 := fin_N0 t
  blk_simp
  show vOut (argsOf m) _ = vOut (argsOf m) _
  congr 1
  blk_ext [index3]
end

/-! ## The precondition -/

/-- Less than plus infinity in absolute value: a real number. -/
theorem real_of_lt {a : EReal} (h : Ideal.cmp .olt (max a (-a)) (Ideal.ofBits .f32 0x7F800000#32) = 1#1) : Soft.IsReal a := by
  have h := (Ideal.cmp_olt_eq_one _ _).1 h
  rw [Soft.plus_inf] at h
  obtain ⟨h1, h2⟩ := max_lt_iff.1 h
  refine Soft.isReal_of_ne h1.ne fun e => ?_
  rw [e, EReal.neg_bot] at h2
  exact lt_irrefl _ h2

instance : Subsingleton Cert.Pre_finite_KernelIdeal.S_.Idx := ⟨fun a b => funext fun i => i.elim0⟩

/-- Under the precondition the entries of the first three arguments are real. -/
theorem pre_real (x : FVec Ideal S2x512x768 .f32) (wq : FVec Ideal S768x8192 .f32) (k v : FVec Ideal S2x512x8x64 .f32) (wo : FVec Ideal S8192x768 .f32)
    (h : Cert.Pre_finite_KernelIdeal.fn (F := Ideal) x wq k v wo = fun _ => 1#1) :
    (∀ i, Soft.IsReal (x i)) ∧ (∀ i, Soft.IsReal (wq i)) ∧ ∀ i, Soft.IsReal (k i) := by
  have h := congrFun h ix0
  dsimp only [Cert.Pre_finite_KernelIdeal.fn] at h
  obtain ⟨h01, h2⟩ := IntOp.andi_eq_one.1 h
  obtain ⟨h0, h1⟩ := IntOp.andi_eq_one.1 h01
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

/-! ## The claim -/

/-- A device's entry of keys or values, in the whole array. -/
theorem block_at (T : Cert.ReferenceIdeal.S2x512x128x64.Idx → EReal) (c : Dev nD) (b : Fin 2) (j : Fin 512) (h : Fin 8) (d : Fin 64) (h' : Fin 128)
    (hh : h'.val = 8 * c.val + h.val) :
    (Layout.block ⟨4, ![2, 512, 8, 64]⟩ ⟨4, ![2, 512, 128, 64]⟩ 2 16 c T) (ix4 b j h d) = T (ix4 b j h' d) := by
  have ht : Layout.Tiles ⟨4, ![2, 512, 8, 64]⟩ ⟨4, ![2, 512, 128, 64]⟩ 2 16 := by decide
  rw [Layout.block_apply (h := ht)]
  refine congrArg T (funext fun a => Fin.ext ?_)
  have e := ht.idx_val c (ix4 b j h d) a
  refine e.trans ?_
  match a with
  | ⟨0, _⟩ => rfl
  | ⟨1, _⟩ => rfl
  | ⟨2, _⟩ =>
    show c.val * 8 + h.val = h'.val
    omega
  | ⟨3, _⟩ => rfl

/-- All entries are real when those of every device's heads are. -/
theorem heads_real (T : Cert.ReferenceIdeal.S2x512x128x64.Idx → EReal)
    (h : ∀ (c : Dev nD) (b : Fin 2) (j : Fin 512) (h : Fin 8) (d : Fin 64) (h' : Fin 128), h'.val = 8 * c.val + h.val → Soft.IsReal (T (ix4 b j h' d)))
    (i : Cert.ReferenceIdeal.S2x512x128x64.Idx) : Soft.IsReal (T i) := by
  have e : i = ix4 (i 0) (i 1) (i 2) (i 3) := funext fun a => match a with
    | ⟨0, _⟩ => rfl
    | ⟨1, _⟩ => rfl
    | ⟨2, _⟩ => rfl
    | ⟨3, _⟩ => rfl
  have h2 : (i 2).val < 128 := (i 2).isLt
  rw [e]
  exact h ⟨(i 2).val / 8, by show (i 2).val / 8 < 16; omega⟩ (i 0) (i 1) ⟨(i 2).val % 8, by omega⟩ (i 3) (i 2)
    (by show (i 2).val = 8 * ((i 2).val / 8) + (i 2).val % 8; omega)

/-- **The value claim.** Over the extended reals, from finite inputs, queries' weights and keys: every device's result is the reference's. -/
theorem agree : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  have S : Same (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (argsOf (F := Ideal) m) :=
    { hx := fun c => (args_x m c).trans (hargs c).1
      hwq := fun c => (hargs c).2.1
      hk := fun c b j h d h' hh => (congrFun ((args_k m c).trans (hargs c).2.2.1) _).trans (block_at _ c b j h d h' hh)
      hv := fun c b j h d h' hh => (congrFun ((args_v m c).trans (hargs c).2.2.2.1) _).trans (block_at _ c b j h d h' hh)
      hwo := fun c => (hargs c).2.2.2.2 }
  have real := fun c => pre_real _ _ _ _ _ (hpre c)
  have hs := Ref.score_real (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)) (fun i => (congrFun (hargs 0).1 i) ▸ (real 0).1 i) (fun i => (congrFun (hargs 0).2.1 i) ▸ (real 0).2.1 i)
    (heads_real _ fun c b j h d h' hh => by
      have e := (congrFun (hargs c).2.2.1 _).trans (block_at _ c b j h d h' hh)
      rw [← e]
      exact (real c).2.2 _)
  have hv := vOut_eq S hs
  refine ⟨_, (θ_run Cert.KernelIdeal.defs _ _).mono (fun r h c => ⟨(h.1 c).1.trans ((final_out m g c).trans hv), (h.1 c).2⟩) (run_main m g),
    (θ_run Cert.ReferenceIdeal.defs _ _).mono (fun r h => ⟨(h 0).1.trans (Ref.res_eq m' 0), (h 0).2⟩) (Cert.ReferenceIdeal.Value.run m' g')⟩

end Cert.Attn
end
-- ==== Proof.lean ====
module

public import proofs.«01_k».proof.Defs
public import proofs.«01_k».proof.Proof.Frames
public import proofs.«01_k».proof.Proof.Agree
public import proofs.«01_k».proof.Proof.Gen.Pre_finite_KernelIdeal
public import proofs.«01_k».proof.Proof.Gen.Pre_finite_ReferenceIdeal

@[expose] public section

noncomputable section

namespace Cert.Proof

/-- The certificate: the kernel, its reading over the extended reals, and the reference each end with their arguments unchanged
    and their counters zero (the last two also from memories that meet the precondition); no operation was rewritten; and from
    finite inputs, queries' weights and keys, the kernel's result on every device is the reference's. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Attn.frame_kernel, Cert.Attn.frame_ideal, fun m ρ _ => Cert.Attn.frame_ideal m ρ trivial,
    Cert.Attn.frame_reference, fun m ρ _ => Cert.Attn.frame_reference m ρ trivial, trivial, Cert.Attn.agree⟩

end Cert.Proof

end
